-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_lb_at_most_one [hPre_lb_at_most_one : Cert.Pre_lb_at_most_one.Facts] (m : (ℓ : Loc Cert.KernelIdeal.nD Cert.KernelIdeal.τ Cert.KernelIdeal.sig) → Buf (Elt Ideal) ℓ) : Prop :=
  ∀ c : Dev Cert.KernelIdeal.nD,
    (Cert.Pre_lb_at_most_one.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_lb_at_most_one [hPre_lb_at_most_one : Cert.Pre_lb_at_most_one.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_lb_at_most_one.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojReferenceIdeal (m : (ℓ : Loc Cert.InprojReferenceIdeal.nD Cert.InprojReferenceIdeal.τ Cert.InprojReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Qkrope (m : (ℓ : Loc Cert.Qkrope.nD Cert.Qkrope.τ Cert.Qkrope.sig) → Buf (Elt Bits) ℓ) : Prop :=
  True

def Pre_QkropeIdeal (m : (ℓ : Loc Cert.QkropeIdeal.nD Cert.QkropeIdeal.τ Cert.QkropeIdeal.sig) → Buf (Elt Ideal) ℓ) : Prop :=
  True

def Pre_QkropeIdeal_qk_is_finite [hPre_qk_is_finite : Cert.Pre_qk_is_finite.Facts] (m : (ℓ : Loc Cert.QkropeIdeal.nD Cert.QkropeIdeal.τ Cert.QkropeIdeal.sig) → Buf (Elt Ideal) ℓ) : Prop :=
  ∀ c : Dev Cert.QkropeIdeal.nD,
    (Cert.Pre_qk_is_finite.fn (F := Ideal) (m ((c.tc : Thread Cert.QkropeIdeal.nD Cert.QkropeIdeal.τ).loc Cert.QkropeIdeal.main_arg0)) (m ((c.tc : Thread Cert.QkropeIdeal.nD Cert.QkropeIdeal.τ).loc Cert.QkropeIdeal.main_arg1)) (m ((c.tc : Thread Cert.QkropeIdeal.nD Cert.QkropeIdeal.τ).loc Cert.QkropeIdeal.main_arg2))) = (fun _ => 1#1)

def Pre_QkropeReferenceIdeal (m : (ℓ : Loc Cert.QkropeReferenceIdeal.nD Cert.QkropeReferenceIdeal.τ Cert.QkropeReferenceIdeal.sig) → Buf (Elt Ideal) ℓ) : Prop :=
  True

def Pre_QkropeReferenceIdeal_qk_is_finite [hPre_qk_is_finite : Cert.Pre_qk_is_finite.Facts] (m : (ℓ : Loc Cert.QkropeReferenceIdeal.nD Cert.QkropeReferenceIdeal.τ Cert.QkropeReferenceIdeal.sig) → Buf (Elt Ideal) ℓ) : Prop :=
  ∀ c : Dev Cert.QkropeReferenceIdeal.nD,
    (Cert.Pre_qk_is_finite.fn (F := Ideal) (m ((c.tc : Thread Cert.QkropeReferenceIdeal.nD Cert.QkropeReferenceIdeal.τ).loc Cert.QkropeReferenceIdeal.main_arg0)) (m ((c.tc : Thread Cert.QkropeReferenceIdeal.nD Cert.QkropeReferenceIdeal.τ).loc Cert.QkropeReferenceIdeal.main_arg1)) (m ((c.tc : Thread Cert.QkropeReferenceIdeal.nD Cert.QkropeReferenceIdeal.τ).loc Cert.QkropeReferenceIdeal.main_arg2))) = (fun _ => 1#1)

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvReferenceIdeal (m : (ℓ : Loc Cert.ConvReferenceIdeal.nD Cert.ConvReferenceIdeal.τ Cert.ConvReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_lb_at_most_one [hKernelIdeal : Cert.KernelIdeal.Facts] [hPre_lb_at_most_one : Cert.Pre_lb_at_most_one.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_lb_at_most_one m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_lb_at_most_one [hReferenceIdeal : Cert.ReferenceIdeal.Facts] [hPre_lb_at_most_one : Cert.Pre_lb_at_most_one.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_lb_at_most_one m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1))
      ∧ r.2.sem = fun _ => 0)

def quiescent_InprojReferenceIdeal [hInprojReferenceIdeal : Cert.InprojReferenceIdeal.Facts] : Prop :=
  ∀ (m : (ℓ : Loc Cert.InprojReferenceIdeal.nD Cert.InprojReferenceIdeal.τ Cert.InprojReferenceIdeal.sig) → Buf (Elt Ideal) ℓ) (g : Dev Cert.InprojReferenceIdeal.nD → PrngReg), Pre_InprojReferenceIdeal m →
    θ_run (Cert.InprojReferenceIdeal.defs (F := Ideal)) (onTc (τ := Cert.InprojReferenceIdeal.τ) (Cert.InprojReferenceIdeal.main (F := Ideal))) ⟨m, fun _ => 0, g⟩ (fun r => (∀ c : Dev Cert.InprojReferenceIdeal.nD,
      r.2.mem ((c.tc : Thread Cert.InprojReferenceIdeal.nD Cert.InprojReferenceIdeal.τ).loc Cert.InprojReferenceIdeal.main_arg0) = m ((c.tc : Thread Cert.InprojReferenceIdeal.nD Cert.InprojReferenceIdeal.τ).loc Cert.InprojReferenceIdeal.main_arg0)
      ∧ r.2.mem ((c.tc : Thread Cert.InprojReferenceIdeal.nD Cert.InprojReferenceIdeal.τ).loc Cert.InprojReferenceIdeal.main_arg1) = m ((c.tc : Thread Cert.InprojReferenceIdeal.nD Cert.InprojReferenceIdeal.τ).loc Cert.InprojReferenceIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9))
      ∧ r.2.sem = fun _ => 0)

def quiescent_Qkrope [hQkrope : Cert.Qkrope.Facts] : Prop :=
  ∀ (m : (ℓ : Loc Cert.Qkrope.nD Cert.Qkrope.τ Cert.Qkrope.sig) → Buf (Elt Bits) ℓ) (g : Dev Cert.Qkrope.nD → PrngReg), Pre_Qkrope m →
    θ_run (Cert.Qkrope.defs (F := Bits)) (onTc (τ := Cert.Qkrope.τ) (Cert.Qkrope.main (F := Bits))) ⟨m, fun _ => 0, g⟩ (fun r => (∀ c : Dev Cert.Qkrope.nD,
      r.2.mem ((c.tc : Thread Cert.Qkrope.nD Cert.Qkrope.τ).loc Cert.Qkrope.main_arg0) = m ((c.tc : Thread Cert.Qkrope.nD Cert.Qkrope.τ).loc Cert.Qkrope.main_arg0)
      ∧ r.2.mem ((c.tc : Thread Cert.Qkrope.nD Cert.Qkrope.τ).loc Cert.Qkrope.main_arg1) = m ((c.tc : Thread Cert.Qkrope.nD Cert.Qkrope.τ).loc Cert.Qkrope.main_arg1)
      ∧ r.2.mem ((c.tc : Thread Cert.Qkrope.nD Cert.Qkrope.τ).loc Cert.Qkrope.main_arg2) = m ((c.tc : Thread Cert.Qkrope.nD Cert.Qkrope.τ).loc Cert.Qkrope.main_arg2))
      ∧ r.2.sem = fun _ => 0)

def quiescent_QkropeIdeal [hQkropeIdeal : Cert.QkropeIdeal.Facts] : Prop :=
  ∀ (m : (ℓ : Loc Cert.QkropeIdeal.nD Cert.QkropeIdeal.τ Cert.QkropeIdeal.sig) → Buf (Elt Ideal) ℓ) (g : Dev Cert.QkropeIdeal.nD → PrngReg), Pre_QkropeIdeal m →
    θ_run (Cert.QkropeIdeal.defs (F := Ideal)) (onTc (τ := Cert.QkropeIdeal.τ) (Cert.QkropeIdeal.main (F := Ideal))) ⟨m, fun _ => 0, g⟩ (fun r => (∀ c : Dev Cert.QkropeIdeal.nD,
      r.2.mem ((c.tc : Thread Cert.QkropeIdeal.nD Cert.QkropeIdeal.τ).loc Cert.QkropeIdeal.main_arg0) = m ((c.tc : Thread Cert.QkropeIdeal.nD Cert.QkropeIdeal.τ).loc Cert.QkropeIdeal.main_arg0)
      ∧ r.2.mem ((c.tc : Thread Cert.QkropeIdeal.nD Cert.QkropeIdeal.τ).loc Cert.QkropeIdeal.main_arg1) = m ((c.tc : Thread Cert.QkropeIdeal.nD Cert.QkropeIdeal.τ).loc Cert.QkropeIdeal.main_arg1)
      ∧ r.2.mem ((c.tc : Thread Cert.QkropeIdeal.nD Cert.QkropeIdeal.τ).loc Cert.QkropeIdeal.main_arg2) = m ((c.tc : Thread Cert.QkropeIdeal.nD Cert.QkropeIdeal.τ).loc Cert.QkropeIdeal.main_arg2))
      ∧ r.2.sem = fun _ => 0)

def quiescent_QkropeIdeal_pre_qk_is_finite [hQkropeIdeal : Cert.QkropeIdeal.Facts] [hPre_qk_is_finite : Cert.Pre_qk_is_finite.Facts] : Prop :=
  ∀ (m : (ℓ : Loc Cert.QkropeIdeal.nD Cert.QkropeIdeal.τ Cert.QkropeIdeal.sig) → Buf (Elt Ideal) ℓ) (g : Dev Cert.QkropeIdeal.nD → PrngReg), Pre_QkropeIdeal_qk_is_finite m →
    θ_run (Cert.QkropeIdeal.defs (F := Ideal)) (onTc (τ := Cert.QkropeIdeal.τ) (Cert.QkropeIdeal.main (F := Ideal))) ⟨m, fun _ => 0, g⟩ (fun r => (∀ c : Dev Cert.QkropeIdeal.nD,
      r.2.mem ((c.tc : Thread Cert.QkropeIdeal.nD Cert.QkropeIdeal.τ).loc Cert.QkropeIdeal.main_arg0) = m ((c.tc : Thread Cert.QkropeIdeal.nD Cert.QkropeIdeal.τ).loc Cert.QkropeIdeal.main_arg0)
      ∧ r.2.mem ((c.tc : Thread Cert.QkropeIdeal.nD Cert.QkropeIdeal.τ).loc Cert.QkropeIdeal.main_arg1) = m ((c.tc : Thread Cert.QkropeIdeal.nD Cert.QkropeIdeal.τ).loc Cert.QkropeIdeal.main_arg1)
      ∧ r.2.mem ((c.tc : Thread Cert.QkropeIdeal.nD Cert.QkropeIdeal.τ).loc Cert.QkropeIdeal.main_arg2) = m ((c.tc : Thread Cert.QkropeIdeal.nD Cert.QkropeIdeal.τ).loc Cert.QkropeIdeal.main_arg2))
      ∧ r.2.sem = fun _ => 0)

def quiescent_QkropeReferenceIdeal [hQkropeReferenceIdeal : Cert.QkropeReferenceIdeal.Facts] : Prop :=
  ∀ (m : (ℓ : Loc Cert.QkropeReferenceIdeal.nD Cert.QkropeReferenceIdeal.τ Cert.QkropeReferenceIdeal.sig) → Buf (Elt Ideal) ℓ) (g : Dev Cert.QkropeReferenceIdeal.nD → PrngReg), Pre_QkropeReferenceIdeal m →
    θ_run (Cert.QkropeReferenceIdeal.defs (F := Ideal)) (onTc (τ := Cert.QkropeReferenceIdeal.τ) (Cert.QkropeReferenceIdeal.main (F := Ideal))) ⟨m, fun _ => 0, g⟩ (fun r => (∀ c : Dev Cert.QkropeReferenceIdeal.nD,
      r.2.mem ((c.tc : Thread Cert.QkropeReferenceIdeal.nD Cert.QkropeReferenceIdeal.τ).loc Cert.QkropeReferenceIdeal.main_arg0) = m ((c.tc : Thread Cert.QkropeReferenceIdeal.nD Cert.QkropeReferenceIdeal.τ).loc Cert.QkropeReferenceIdeal.main_arg0)
      ∧ r.2.mem ((c.tc : Thread Cert.QkropeReferenceIdeal.nD Cert.QkropeReferenceIdeal.τ).loc Cert.QkropeReferenceIdeal.main_arg1) = m ((c.tc : Thread Cert.QkropeReferenceIdeal.nD Cert.QkropeReferenceIdeal.τ).loc Cert.QkropeReferenceIdeal.main_arg1)
      ∧ r.2.mem ((c.tc : Thread Cert.QkropeReferenceIdeal.nD Cert.QkropeReferenceIdeal.τ).loc Cert.QkropeReferenceIdeal.main_arg2) = m ((c.tc : Thread Cert.QkropeReferenceIdeal.nD Cert.QkropeReferenceIdeal.τ).loc Cert.QkropeReferenceIdeal.main_arg2))
      ∧ r.2.sem = fun _ => 0)

def quiescent_QkropeReferenceIdeal_pre_qk_is_finite [hQkropeReferenceIdeal : Cert.QkropeReferenceIdeal.Facts] [hPre_qk_is_finite : Cert.Pre_qk_is_finite.Facts] : Prop :=
  ∀ (m : (ℓ : Loc Cert.QkropeReferenceIdeal.nD Cert.QkropeReferenceIdeal.τ Cert.QkropeReferenceIdeal.sig) → Buf (Elt Ideal) ℓ) (g : Dev Cert.QkropeReferenceIdeal.nD → PrngReg), Pre_QkropeReferenceIdeal_qk_is_finite m →
    θ_run (Cert.QkropeReferenceIdeal.defs (F := Ideal)) (onTc (τ := Cert.QkropeReferenceIdeal.τ) (Cert.QkropeReferenceIdeal.main (F := Ideal))) ⟨m, fun _ => 0, g⟩ (fun r => (∀ c : Dev Cert.QkropeReferenceIdeal.nD,
      r.2.mem ((c.tc : Thread Cert.QkropeReferenceIdeal.nD Cert.QkropeReferenceIdeal.τ).loc Cert.QkropeReferenceIdeal.main_arg0) = m ((c.tc : Thread Cert.QkropeReferenceIdeal.nD Cert.QkropeReferenceIdeal.τ).loc Cert.QkropeReferenceIdeal.main_arg0)
      ∧ r.2.mem ((c.tc : Thread Cert.QkropeReferenceIdeal.nD Cert.QkropeReferenceIdeal.τ).loc Cert.QkropeReferenceIdeal.main_arg1) = m ((c.tc : Thread Cert.QkropeReferenceIdeal.nD Cert.QkropeReferenceIdeal.τ).loc Cert.QkropeReferenceIdeal.main_arg1)
      ∧ r.2.mem ((c.tc : Thread Cert.QkropeReferenceIdeal.nD Cert.QkropeReferenceIdeal.τ).loc Cert.QkropeReferenceIdeal.main_arg2) = m ((c.tc : Thread Cert.QkropeReferenceIdeal.nD Cert.QkropeReferenceIdeal.τ).loc Cert.QkropeReferenceIdeal.main_arg2))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4)
      ∧ r.2.mem ((c.tc : Thread Cert.Conv.nD Cert.Conv.τ).loc Cert.Conv.main_arg5) = m ((c.tc : Thread Cert.Conv.nD Cert.Conv.τ).loc Cert.Conv.main_arg5))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
      ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5))
      ∧ r.2.sem = fun _ => 0)

def quiescent_ConvReferenceIdeal [hConvReferenceIdeal : Cert.ConvReferenceIdeal.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2)
      ∧ r.2.mem ((c.tc : Thread Cert.ConvReferenceIdeal.nD Cert.ConvReferenceIdeal.τ).loc Cert.ConvReferenceIdeal.main_arg3) = m ((c.tc : Thread Cert.ConvReferenceIdeal.nD Cert.ConvReferenceIdeal.τ).loc Cert.ConvReferenceIdeal.main_arg3)
      ∧ r.2.mem ((c.tc : Thread Cert.ConvReferenceIdeal.nD Cert.ConvReferenceIdeal.τ).loc Cert.ConvReferenceIdeal.main_arg4) = m ((c.tc : Thread Cert.ConvReferenceIdeal.nD Cert.ConvReferenceIdeal.τ).loc Cert.ConvReferenceIdeal.main_arg4)
      ∧ r.2.mem ((c.tc : Thread Cert.ConvReferenceIdeal.nD Cert.ConvReferenceIdeal.τ).loc Cert.ConvReferenceIdeal.main_arg5) = m ((c.tc : Thread Cert.ConvReferenceIdeal.nD Cert.ConvReferenceIdeal.τ).loc Cert.ConvReferenceIdeal.main_arg5))
      ∧ r.2.sem = fun _ => 0)

def preserves_Kernel_KernelIdeal : Prop :=
  True

def algebraic_KernelIdeal_ReferenceIdeal_pre_lb_at_most_one [hKernelIdeal : Cert.KernelIdeal.Facts] [hReferenceIdeal : Cert.ReferenceIdeal.Facts] [hPre_lb_at_most_one : Cert.Pre_lb_at_most_one.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_lb_at_most_one m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_v67_6) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Inproj_InprojIdeal : Prop :=
  True

def algebraic_InprojIdeal_InprojReferenceIdeal [hInprojIdeal : Cert.InprojIdeal.Facts] [hInprojReferenceIdeal : Cert.InprojReferenceIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojReferenceIdeal.nD Cert.InprojReferenceIdeal.τ Cert.InprojReferenceIdeal.sig) → Buf (Elt Ideal) ℓ) (g' : Dev Cert.InprojReferenceIdeal.nD → PrngReg), Pre_InprojIdeal m →
    (∀ c : Dev Cert.InprojIdeal.nD,
      m' ((c.tc : Thread Cert.InprojReferenceIdeal.nD Cert.InprojReferenceIdeal.τ).loc Cert.InprojReferenceIdeal.main_arg0) = m ((c.tc : Thread Cert.InprojIdeal.nD Cert.InprojIdeal.τ).loc Cert.InprojIdeal.main_arg0)
      ∧ m' ((c.tc : Thread Cert.InprojReferenceIdeal.nD Cert.InprojReferenceIdeal.τ).loc Cert.InprojReferenceIdeal.main_arg1) = m ((c.tc : Thread Cert.InprojIdeal.nD Cert.InprojIdeal.τ).loc Cert.InprojIdeal.main_arg1)) →
    ∃ (v0 : (c : Dev Cert.InprojIdeal.nD) → Buf (Elt Ideal) ((c.tc : Thread Cert.InprojIdeal.nD Cert.InprojIdeal.τ).loc Cert.InprojIdeal.main_v0)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v0) = v0 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1))
      ∧ θ_run (Cert.InprojReferenceIdeal.defs (F := Ideal)) (onTc (τ := Cert.InprojReferenceIdeal.τ) (Cert.InprojReferenceIdeal.main (F := Ideal))) ⟨m', fun _ => 0, g'⟩ (fun r => ∀ c : Dev Cert.InprojReferenceIdeal.nD,
          r.2.mem ((c.tc : Thread Cert.InprojReferenceIdeal.nD Cert.InprojReferenceIdeal.τ).loc Cert.InprojReferenceIdeal.main_v3) = v0 c
          ∧ r.2.mem ((c.tc : Thread Cert.InprojReferenceIdeal.nD Cert.InprojReferenceIdeal.τ).loc Cert.InprojReferenceIdeal.main_arg0) = m' ((c.tc : Thread Cert.InprojReferenceIdeal.nD Cert.InprojReferenceIdeal.τ).loc Cert.InprojReferenceIdeal.main_arg0)
          ∧ r.2.mem ((c.tc : Thread Cert.InprojReferenceIdeal.nD Cert.InprojReferenceIdeal.τ).loc Cert.InprojReferenceIdeal.main_arg1) = m' ((c.tc : Thread Cert.InprojReferenceIdeal.nD Cert.InprojReferenceIdeal.τ).loc Cert.InprojReferenceIdeal.main_arg1))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v37) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9))

def preserves_Qkrope_QkropeIdeal : Prop :=
  True

def algebraic_QkropeIdeal_QkropeReferenceIdeal_pre_qk_is_finite [hQkropeIdeal : Cert.QkropeIdeal.Facts] [hQkropeReferenceIdeal : Cert.QkropeReferenceIdeal.Facts] [hPre_qk_is_finite : Cert.Pre_qk_is_finite.Facts] : Prop :=
  ∀ (m : (ℓ : Loc Cert.QkropeIdeal.nD Cert.QkropeIdeal.τ Cert.QkropeIdeal.sig) → Buf (Elt Ideal) ℓ) (g : Dev Cert.QkropeIdeal.nD → PrngReg)
    (m' : (ℓ : Loc Cert.QkropeReferenceIdeal.nD Cert.QkropeReferenceIdeal.τ Cert.QkropeReferenceIdeal.sig) → Buf (Elt Ideal) ℓ) (g' : Dev Cert.QkropeReferenceIdeal.nD → PrngReg), Pre_QkropeIdeal_qk_is_finite m →
    (∀ c : Dev Cert.QkropeIdeal.nD,
      m' ((c.tc : Thread Cert.QkropeReferenceIdeal.nD Cert.QkropeReferenceIdeal.τ).loc Cert.QkropeReferenceIdeal.main_arg0) = m ((c.tc : Thread Cert.QkropeIdeal.nD Cert.QkropeIdeal.τ).loc Cert.QkropeIdeal.main_arg0)
      ∧ m' ((c.tc : Thread Cert.QkropeReferenceIdeal.nD Cert.QkropeReferenceIdeal.τ).loc Cert.QkropeReferenceIdeal.main_arg1) = m ((c.tc : Thread Cert.QkropeIdeal.nD Cert.QkropeIdeal.τ).loc Cert.QkropeIdeal.main_arg1)
      ∧ m' ((c.tc : Thread Cert.QkropeReferenceIdeal.nD Cert.QkropeReferenceIdeal.τ).loc Cert.QkropeReferenceIdeal.main_arg2) = m ((c.tc : Thread Cert.QkropeIdeal.nD Cert.QkropeIdeal.τ).loc Cert.QkropeIdeal.main_arg2)) →
    ∃ (v0 : (c : Dev Cert.QkropeIdeal.nD) → Buf (Elt Ideal) ((c.tc : Thread Cert.QkropeIdeal.nD Cert.QkropeIdeal.τ).loc Cert.QkropeIdeal.main_v32_0)) (v1 : (c : Dev Cert.QkropeIdeal.nD) → Buf (Elt Ideal) ((c.tc : Thread Cert.QkropeIdeal.nD Cert.QkropeIdeal.τ).loc Cert.QkropeIdeal.main_v32_1)) (v2 : (c : Dev Cert.QkropeIdeal.nD) → Buf (Elt Ideal) ((c.tc : Thread Cert.QkropeIdeal.nD Cert.QkropeIdeal.τ).loc Cert.QkropeIdeal.main_v32_2)) (v3 : (c : Dev Cert.QkropeIdeal.nD) → Buf (Elt Ideal) ((c.tc : Thread Cert.QkropeIdeal.nD Cert.QkropeIdeal.τ).loc Cert.QkropeIdeal.main_v32_3)) (v4 : (c : Dev Cert.QkropeIdeal.nD) → Buf (Elt Ideal) ((c.tc : Thread Cert.QkropeIdeal.nD Cert.QkropeIdeal.τ).loc Cert.QkropeIdeal.main_v32_4)) (v5 : (c : Dev Cert.QkropeIdeal.nD) → Buf (Elt Ideal) ((c.tc : Thread Cert.QkropeIdeal.nD Cert.QkropeIdeal.τ).loc Cert.QkropeIdeal.main_v32_5)) (v6 : (c : Dev Cert.QkropeIdeal.nD) → Buf (Elt Ideal) ((c.tc : Thread Cert.QkropeIdeal.nD Cert.QkropeIdeal.τ).loc Cert.QkropeIdeal.main_v32_6)) (v7 : (c : Dev Cert.QkropeIdeal.nD) → Buf (Elt Ideal) ((c.tc : Thread Cert.QkropeIdeal.nD Cert.QkropeIdeal.τ).loc Cert.QkropeIdeal.main_v32_7)),
      θ_run (Cert.QkropeIdeal.defs (F := Ideal)) (onTc (τ := Cert.QkropeIdeal.τ) (Cert.QkropeIdeal.main (F := Ideal))) ⟨m, fun _ => 0, g⟩ (fun r => ∀ c : Dev Cert.QkropeIdeal.nD,
          r.2.mem ((c.tc : Thread Cert.QkropeIdeal.nD Cert.QkropeIdeal.τ).loc Cert.QkropeIdeal.main_v32_0) = v0 c
          ∧ r.2.mem ((c.tc : Thread Cert.QkropeIdeal.nD Cert.QkropeIdeal.τ).loc Cert.QkropeIdeal.main_v32_1) = v1 c
          ∧ r.2.mem ((c.tc : Thread Cert.QkropeIdeal.nD Cert.QkropeIdeal.τ).loc Cert.QkropeIdeal.main_v32_2) = v2 c
          ∧ r.2.mem ((c.tc : Thread Cert.QkropeIdeal.nD Cert.QkropeIdeal.τ).loc Cert.QkropeIdeal.main_v32_3) = v3 c
          ∧ r.2.mem ((c.tc : Thread Cert.QkropeIdeal.nD Cert.QkropeIdeal.τ).loc Cert.QkropeIdeal.main_v32_4) = v4 c
          ∧ r.2.mem ((c.tc : Thread Cert.QkropeIdeal.nD Cert.QkropeIdeal.τ).loc Cert.QkropeIdeal.main_v32_5) = v5 c
          ∧ r.2.mem ((c.tc : Thread Cert.QkropeIdeal.nD Cert.QkropeIdeal.τ).loc Cert.QkropeIdeal.main_v32_6) = v6 c
          ∧ r.2.mem ((c.tc : Thread Cert.QkropeIdeal.nD Cert.QkropeIdeal.τ).loc Cert.QkropeIdeal.main_v32_7) = v7 c
          ∧ r.2.mem ((c.tc : Thread Cert.QkropeIdeal.nD Cert.QkropeIdeal.τ).loc Cert.QkropeIdeal.main_arg0) = m ((c.tc : Thread Cert.QkropeIdeal.nD Cert.QkropeIdeal.τ).loc Cert.QkropeIdeal.main_arg0)
          ∧ r.2.mem ((c.tc : Thread Cert.QkropeIdeal.nD Cert.QkropeIdeal.τ).loc Cert.QkropeIdeal.main_arg1) = m ((c.tc : Thread Cert.QkropeIdeal.nD Cert.QkropeIdeal.τ).loc Cert.QkropeIdeal.main_arg1)
          ∧ r.2.mem ((c.tc : Thread Cert.QkropeIdeal.nD Cert.QkropeIdeal.τ).loc Cert.QkropeIdeal.main_arg2) = m ((c.tc : Thread Cert.QkropeIdeal.nD Cert.QkropeIdeal.τ).loc Cert.QkropeIdeal.main_arg2))
      ∧ θ_run (Cert.QkropeReferenceIdeal.defs (F := Ideal)) (onTc (τ := Cert.QkropeReferenceIdeal.τ) (Cert.QkropeReferenceIdeal.main (F := Ideal))) ⟨m', fun _ => 0, g'⟩ (fun r => ∀ c : Dev Cert.QkropeReferenceIdeal.nD,
          r.2.mem ((c.tc : Thread Cert.QkropeReferenceIdeal.nD Cert.QkropeReferenceIdeal.τ).loc Cert.QkropeReferenceIdeal.main_v116) = v0 c
          ∧ r.2.mem ((c.tc : Thread Cert.QkropeReferenceIdeal.nD Cert.QkropeReferenceIdeal.τ).loc Cert.QkropeReferenceIdeal.main_v118) = v1 c
          ∧ r.2.mem ((c.tc : Thread Cert.QkropeReferenceIdeal.nD Cert.QkropeReferenceIdeal.τ).loc Cert.QkropeReferenceIdeal.main_v119) = v2 c
          ∧ r.2.mem ((c.tc : Thread Cert.QkropeReferenceIdeal.nD Cert.QkropeReferenceIdeal.τ).loc Cert.QkropeReferenceIdeal.main_v120) = v3 c
          ∧ r.2.mem ((c.tc : Thread Cert.QkropeReferenceIdeal.nD Cert.QkropeReferenceIdeal.τ).loc Cert.QkropeReferenceIdeal.main_v122) = v4 c
          ∧ r.2.mem ((c.tc : Thread Cert.QkropeReferenceIdeal.nD Cert.QkropeReferenceIdeal.τ).loc Cert.QkropeReferenceIdeal.main_v124) = v5 c
          ∧ r.2.mem ((c.tc : Thread Cert.QkropeReferenceIdeal.nD Cert.QkropeReferenceIdeal.τ).loc Cert.QkropeReferenceIdeal.main_v126) = v6 c
          ∧ r.2.mem ((c.tc : Thread Cert.QkropeReferenceIdeal.nD Cert.QkropeReferenceIdeal.τ).loc Cert.QkropeReferenceIdeal.main_v128) = v7 c
          ∧ r.2.mem ((c.tc : Thread Cert.QkropeReferenceIdeal.nD Cert.QkropeReferenceIdeal.τ).loc Cert.QkropeReferenceIdeal.main_arg0) = m' ((c.tc : Thread Cert.QkropeReferenceIdeal.nD Cert.QkropeReferenceIdeal.τ).loc Cert.QkropeReferenceIdeal.main_arg0)
          ∧ r.2.mem ((c.tc : Thread Cert.QkropeReferenceIdeal.nD Cert.QkropeReferenceIdeal.τ).loc Cert.QkropeReferenceIdeal.main_arg1) = m' ((c.tc : Thread Cert.QkropeReferenceIdeal.nD Cert.QkropeReferenceIdeal.τ).loc Cert.QkropeReferenceIdeal.main_arg1)
          ∧ r.2.mem ((c.tc : Thread Cert.QkropeReferenceIdeal.nD Cert.QkropeReferenceIdeal.τ).loc Cert.QkropeReferenceIdeal.main_arg2) = m' ((c.tc : Thread Cert.QkropeReferenceIdeal.nD Cert.QkropeReferenceIdeal.τ).loc Cert.QkropeReferenceIdeal.main_arg2))

def preserves_Conv_ConvIdeal : Prop :=
  True

def algebraic_ConvIdeal_ConvReferenceIdeal [hConvIdeal : Cert.ConvIdeal.Facts] [hConvReferenceIdeal : Cert.ConvReferenceIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvReferenceIdeal.nD Cert.ConvReferenceIdeal.τ Cert.ConvReferenceIdeal.sig) → Buf (Elt Ideal) ℓ) (g' : Dev Cert.ConvReferenceIdeal.nD → PrngReg), Pre_ConvIdeal m →
    (∀ c : Dev Cert.ConvIdeal.nD,
      m' ((c.tc : Thread Cert.ConvReferenceIdeal.nD Cert.ConvReferenceIdeal.τ).loc Cert.ConvReferenceIdeal.main_arg0) = m ((c.tc : Thread Cert.ConvIdeal.nD Cert.ConvIdeal.τ).loc Cert.ConvIdeal.main_arg0)
      ∧ m' ((c.tc : Thread Cert.ConvReferenceIdeal.nD Cert.ConvReferenceIdeal.τ).loc Cert.ConvReferenceIdeal.main_arg1) = m ((c.tc : Thread Cert.ConvIdeal.nD Cert.ConvIdeal.τ).loc Cert.ConvIdeal.main_arg1)
      ∧ m' ((c.tc : Thread Cert.ConvReferenceIdeal.nD Cert.ConvReferenceIdeal.τ).loc Cert.ConvReferenceIdeal.main_arg2) = m ((c.tc : Thread Cert.ConvIdeal.nD Cert.ConvIdeal.τ).loc Cert.ConvIdeal.main_arg2)
      ∧ m' ((c.tc : Thread Cert.ConvReferenceIdeal.nD Cert.ConvReferenceIdeal.τ).loc Cert.ConvReferenceIdeal.main_arg3) = m ((c.tc : Thread Cert.ConvIdeal.nD Cert.ConvIdeal.τ).loc Cert.ConvIdeal.main_arg3)
      ∧ m' ((c.tc : Thread Cert.ConvReferenceIdeal.nD Cert.ConvReferenceIdeal.τ).loc Cert.ConvReferenceIdeal.main_arg4) = m ((c.tc : Thread Cert.ConvIdeal.nD Cert.ConvIdeal.τ).loc Cert.ConvIdeal.main_arg4)
      ∧ m' ((c.tc : Thread Cert.ConvReferenceIdeal.nD Cert.ConvReferenceIdeal.τ).loc Cert.ConvReferenceIdeal.main_arg5) = m ((c.tc : Thread Cert.ConvIdeal.nD Cert.ConvIdeal.τ).loc Cert.ConvIdeal.main_arg5)) →
    ∃ (v0 : (c : Dev Cert.ConvIdeal.nD) → Buf (Elt Ideal) ((c.tc : Thread Cert.ConvIdeal.nD Cert.ConvIdeal.τ).loc Cert.ConvIdeal.main_v4_0)) (v1 : (c : Dev Cert.ConvIdeal.nD) → Buf (Elt Ideal) ((c.tc : Thread Cert.ConvIdeal.nD Cert.ConvIdeal.τ).loc Cert.ConvIdeal.main_v4_1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v4_0) = v0 c
          ∧ r.2.mem ((c.tc : Thread Cert.ConvIdeal.nD Cert.ConvIdeal.τ).loc Cert.ConvIdeal.main_v4_1) = v1 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
          ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5))
      ∧ θ_run (Cert.ConvReferenceIdeal.defs (F := Ideal)) (onTc (τ := Cert.ConvReferenceIdeal.τ) (Cert.ConvReferenceIdeal.main (F := Ideal))) ⟨m', fun _ => 0, g'⟩ (fun r => ∀ c : Dev Cert.ConvReferenceIdeal.nD,
          r.2.mem ((c.tc : Thread Cert.ConvReferenceIdeal.nD Cert.ConvReferenceIdeal.τ).loc Cert.ConvReferenceIdeal.main_v259) = v0 c
          ∧ r.2.mem ((c.tc : Thread Cert.ConvReferenceIdeal.nD Cert.ConvReferenceIdeal.τ).loc Cert.ConvReferenceIdeal.main_v260) = v1 c
          ∧ r.2.mem ((c.tc : Thread Cert.ConvReferenceIdeal.nD Cert.ConvReferenceIdeal.τ).loc Cert.ConvReferenceIdeal.main_arg0) = m' ((c.tc : Thread Cert.ConvReferenceIdeal.nD Cert.ConvReferenceIdeal.τ).loc Cert.ConvReferenceIdeal.main_arg0)
          ∧ r.2.mem ((c.tc : Thread Cert.ConvReferenceIdeal.nD Cert.ConvReferenceIdeal.τ).loc Cert.ConvReferenceIdeal.main_arg1) = m' ((c.tc : Thread Cert.ConvReferenceIdeal.nD Cert.ConvReferenceIdeal.τ).loc Cert.ConvReferenceIdeal.main_arg1)
          ∧ r.2.mem ((c.tc : Thread Cert.ConvReferenceIdeal.nD Cert.ConvReferenceIdeal.τ).loc Cert.ConvReferenceIdeal.main_arg2) = m' ((c.tc : Thread Cert.ConvReferenceIdeal.nD Cert.ConvReferenceIdeal.τ).loc Cert.ConvReferenceIdeal.main_arg2)
          ∧ r.2.mem ((c.tc : Thread Cert.ConvReferenceIdeal.nD Cert.ConvReferenceIdeal.τ).loc Cert.ConvReferenceIdeal.main_arg3) = m' ((c.tc : Thread Cert.ConvReferenceIdeal.nD Cert.ConvReferenceIdeal.τ).loc Cert.ConvReferenceIdeal.main_arg3)
          ∧ r.2.mem ((c.tc : Thread Cert.ConvReferenceIdeal.nD Cert.ConvReferenceIdeal.τ).loc Cert.ConvReferenceIdeal.main_arg4) = m' ((c.tc : Thread Cert.ConvReferenceIdeal.nD Cert.ConvReferenceIdeal.τ).loc Cert.ConvReferenceIdeal.main_arg4)
          ∧ r.2.mem ((c.tc : Thread Cert.ConvReferenceIdeal.nD Cert.ConvReferenceIdeal.τ).loc Cert.ConvReferenceIdeal.main_arg5) = m' ((c.tc : Thread Cert.ConvReferenceIdeal.nD Cert.ConvReferenceIdeal.τ).loc Cert.ConvReferenceIdeal.main_arg5))

def Claim : Prop :=
  ∃ (hKernel : Cert.Kernel.Facts) (hKernelIdeal : Cert.KernelIdeal.Facts) (hReferenceIdeal : Cert.ReferenceIdeal.Facts) (hInproj : Cert.Inproj.Facts) (hInprojIdeal : Cert.InprojIdeal.Facts) (hInprojReferenceIdeal : Cert.InprojReferenceIdeal.Facts) (hMerge : Cert.Merge.Facts) (hMergeIdeal : Cert.MergeIdeal.Facts) (hMergeReferenceIdeal : Cert.MergeReferenceIdeal.Facts) (hQkrope : Cert.Qkrope.Facts) (hQkropeIdeal : Cert.QkropeIdeal.Facts) (hQkropeReferenceIdeal : Cert.QkropeReferenceIdeal.Facts) (hConv : Cert.Conv.Facts) (hConvIdeal : Cert.ConvIdeal.Facts) (hConvReferenceIdeal : Cert.ConvReferenceIdeal.Facts) (hPre_lb_at_most_one : Cert.Pre_lb_at_most_one.Facts) (hPre_qk_is_finite : Cert.Pre_qk_is_finite.Facts),
    quiescent_Kernel (hKernel := hKernel)
    ∧ quiescent_KernelIdeal (hKernelIdeal := hKernelIdeal)
    ∧ quiescent_KernelIdeal_pre_lb_at_most_one (hKernelIdeal := hKernelIdeal) (hPre_lb_at_most_one := hPre_lb_at_most_one)
    ∧ quiescent_ReferenceIdeal (hReferenceIdeal := hReferenceIdeal)
    ∧ quiescent_ReferenceIdeal_pre_lb_at_most_one (hReferenceIdeal := hReferenceIdeal) (hPre_lb_at_most_one := hPre_lb_at_most_one)
    ∧ quiescent_Inproj (hInproj := hInproj)
    ∧ quiescent_InprojIdeal (hInprojIdeal := hInprojIdeal)
    ∧ quiescent_InprojReferenceIdeal (hInprojReferenceIdeal := hInprojReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_Qkrope (hQkrope := hQkrope)
    ∧ quiescent_QkropeIdeal (hQkropeIdeal := hQkropeIdeal)
    ∧ quiescent_QkropeIdeal_pre_qk_is_finite (hQkropeIdeal := hQkropeIdeal) (hPre_qk_is_finite := hPre_qk_is_finite)
    ∧ quiescent_QkropeReferenceIdeal (hQkropeReferenceIdeal := hQkropeReferenceIdeal)
    ∧ quiescent_QkropeReferenceIdeal_pre_qk_is_finite (hQkropeReferenceIdeal := hQkropeReferenceIdeal) (hPre_qk_is_finite := hPre_qk_is_finite)
    ∧ quiescent_Conv (hConv := hConv)
    ∧ quiescent_ConvIdeal (hConvIdeal := hConvIdeal)
    ∧ quiescent_ConvReferenceIdeal (hConvReferenceIdeal := hConvReferenceIdeal)
    ∧ preserves_Kernel_KernelIdeal
    ∧ algebraic_KernelIdeal_ReferenceIdeal_pre_lb_at_most_one (hKernelIdeal := hKernelIdeal) (hReferenceIdeal := hReferenceIdeal) (hPre_lb_at_most_one := hPre_lb_at_most_one)
    ∧ preserves_Inproj_InprojIdeal
    ∧ algebraic_InprojIdeal_InprojReferenceIdeal (hInprojIdeal := hInprojIdeal) (hInprojReferenceIdeal := hInprojReferenceIdeal)
    ∧ preserves_Merge_MergeIdeal
    ∧ algebraic_MergeIdeal_MergeReferenceIdeal (hMergeIdeal := hMergeIdeal) (hMergeReferenceIdeal := hMergeReferenceIdeal)
    ∧ preserves_Qkrope_QkropeIdeal
    ∧ algebraic_QkropeIdeal_QkropeReferenceIdeal_pre_qk_is_finite (hQkropeIdeal := hQkropeIdeal) (hQkropeReferenceIdeal := hQkropeReferenceIdeal) (hPre_qk_is_finite := hPre_qk_is_finite)
    ∧ preserves_Conv_ConvIdeal
    ∧ algebraic_ConvIdeal_ConvReferenceIdeal (hConvIdeal := hConvIdeal) (hConvReferenceIdeal := hConvReferenceIdeal)
-- ==== Pre_lb_at_most_one.lean ====
abbrev S8x2048x8448 : Shape := ⟨3, ![8, 2048, 8448]⟩
abbrev S512 : Shape := ⟨1, ![512]⟩
abbrev S128 : Shape := ⟨1, ![128]⟩
abbrev S8x4x128x128 : Shape := ⟨4, ![8, 4, 128, 128]⟩
abbrev S_ : Shape := ⟨0, ![]⟩

class Facts : Prop where
  bcast_S_S512 : S_.BroadcastsInDim S512 (![] : Fin 0 → Fin S512.rank)
  reducesTo_S512_S_d0 : S512.ReducesTo [0] S_
  h_S_ : 0 < S_.numel

variable [Facts]

def fn {F : FTy → Type} [FloatOps F] (main_arg0 : FVec F S8x2048x8448 .f32) (main_arg1 : FVec F S512 .f32) (main_arg2 : FVec F S128 .f32) (main_arg3 : FVec F S8x4x128x128 .f32) : IVec S_ 1 :=
  let main_cst : FVec F S_ .f32 := constant S_ .f32 0xFF800000#32
  let main_v0 : FVec F S512 .f32 := broadcastInDim S512 ![] bcast_S_S512 main_cst
  let main_v1 : IVec S512 1 := cmpf .ogt main_arg1 main_v0
  let main_cst_0 : FVec F S_ .f32 := constant S_ .f32 0x3F800000#32
  let main_v2 : FVec F S512 .f32 := broadcastInDim S512 ![] bcast_S_S512 main_cst_0
  let main_v3 : IVec S512 1 := cmpf .ole main_arg1 main_v2
  let main_v4 : IVec S512 1 := andi main_v1 main_v3
  let main_c : IVec S_ 1 := constantI S_ 1 1#1
  let main_v5 : IVec S_ 1 := (fun x v => Host.reduce IntOp.andi x v reducesTo_S512_S_d0 h_S_) main_v4 main_c
  main_v5
-- ==== Pre_qk_is_finite.lean ====
abbrev S16384x8448 : Shape := ⟨2, ![16384, 8448]⟩
abbrev S64 : Shape := ⟨1, ![64]⟩
abbrev S16384x512 : Shape := ⟨2, ![16384, 512]⟩
abbrev S_ : Shape := ⟨0, ![]⟩
abbrev S16384x128 : Shape := ⟨2, ![16384, 128]⟩
abbrev S16384x64 : Shape := ⟨2, ![16384, 64]⟩

class Facts : Prop where
  slices_S16384x8448_S16384x512_0_4608 : S16384x8448.Slices ![0, 4608] S16384x512
  bcast_S_S16384x512 : S_.BroadcastsInDim S16384x512 (![] : Fin 0 → Fin S16384x512.rank)
  reducesTo_S16384x512_S_d0_1 : S16384x512.ReducesTo [0, 1] S_
  h_S_ : 0 < S_.numel
  slices_S16384x8448_S16384x128_0_7936 : S16384x8448.Slices ![0, 7936] S16384x128
  bcast_S_S16384x128 : S_.BroadcastsInDim S16384x128 (![] : Fin 0 → Fin S16384x128.rank)
  reducesTo_S16384x128_S_d0_1 : S16384x128.ReducesTo [0, 1] S_
  slices_S16384x8448_S16384x64_0_8192 : S16384x8448.Slices ![0, 8192] S16384x64
  bcast_S_S16384x64 : S_.BroadcastsInDim S16384x64 (![] : Fin 0 → Fin S16384x64.rank)
  reducesTo_S16384x64_S_d0_1 : S16384x64.ReducesTo [0, 1] S_

variable [Facts]

def fn {F : FTy → Type} [FloatOps F] (main_arg0 : FVec F S16384x8448 .f32) (main_arg1 : FVec F S64 .f32) (main_arg2 : FVec F S64 .f32) : IVec S_ 1 :=
  let main_v0 : FVec F S16384x512 .f32 := (extractStridedSlice S16384x512 ![0, 4608] · slices_S16384x8448_S16384x512_0_4608) main_arg0
  let main_v1 : FVec F S16384x512 .f32 := Host.absf main_v0
  let main_cst : FVec F S_ .f32 := constant S_ .f32 0x7F800000#32
  let main_v2 : FVec F S16384x512 .f32 := broadcastInDim S16384x512 ![] bcast_S_S16384x512 main_cst
  let main_v3 : IVec S16384x512 1 := cmpf .olt main_v1 main_v2
  let main_c : IVec S_ 1 := constantI S_ 1 1#1
  let main_v4 : IVec S_ 1 := (fun x v => Host.reduce IntOp.andi x v reducesTo_S16384x512_S_d0_1 h_S_) main_v3 main_c
  let main_v5 : FVec F S16384x128 .f32 := (extractStridedSlice S16384x128 ![0, 7936] · slices_S16384x8448_S16384x128_0_7936) main_arg0
  let main_v6 : FVec F S16384x128 .f32 := Host.absf main_v5
  let main_cst_0 : FVec F S_ .f32 := constant S_ .f32 0x7F800000#32
  let main_v7 : FVec F S16384x128 .f32 := broadcastInDim S16384x128 ![] bcast_S_S16384x128 main_cst_0
  let main_v8 : IVec S16384x128 1 := cmpf .olt main_v6 main_v7
  let main_c_1 : IVec S_ 1 := constantI S_ 1 1#1
  let main_v9 : IVec S_ 1 := (fun x v => Host.reduce IntOp.andi x v reducesTo_S16384x128_S_d0_1 h_S_) main_v8 main_c_1
  let main_v10 : IVec S_ 1 := andi main_v4 main_v9
  let main_v11 : FVec F S16384x64 .f32 := (extractStridedSlice S16384x64 ![0, 8192] · slices_S16384x8448_S16384x64_0_8192) main_arg0
  let main_v12 : FVec F S16384x64 .f32 := Host.absf main_v11
  let main_cst_2 : FVec F S_ .f32 := constant S_ .f32 0x7F800000#32
  let main_v13 : FVec F S16384x64 .f32 := broadcastInDim S16384x64 ![] bcast_S_S16384x64 main_cst_2
  let main_v14 : IVec S16384x64 1 := cmpf .olt main_v12 main_v13
  let main_c_3 : IVec S_ 1 := constantI S_ 1 1#1
  let main_v15 : IVec S_ 1 := (fun x v => Host.reduce IntOp.andi x v reducesTo_S16384x64_S_d0_1 h_S_) main_v14 main_c_3
  let main_v16 : IVec S_ 1 := andi main_v10 main_v15
  main_v16
-- ==== Kernel.lean ====
abbrev S8x2048x8448 : Shape := ⟨3, ![8, 2048, 8448]⟩
abbrev S512 : Shape := ⟨1, ![512]⟩
abbrev S128 : Shape := ⟨1, ![128]⟩
abbrev S8x4x128x128 : Shape := ⟨4, ![8, 4, 128, 128]⟩
abbrev S1x512 : Shape := ⟨2, ![1, 512]⟩
abbrev S1x128 : Shape := ⟨2, ![1, 128]⟩
abbrev S8x2048x512 : Shape := ⟨3, ![8, 2048, 512]⟩
abbrev S8x64x512 : Shape := ⟨3, ![8, 64, 512]⟩
abbrev S1x64x512 : Shape := ⟨3, ![1, 64, 512]⟩
abbrev S64x512 : Shape := ⟨2, ![64, 512]⟩
abbrev S64x1 : Shape := ⟨2, ![64, 1]⟩
abbrev S64x64 : Shape := ⟨2, ![64, 64]⟩
abbrev S64x128 : Shape := ⟨2, ![64, 128]⟩
abbrev S128x128 : Shape := ⟨2, ![128, 128]⟩
abbrev S64 : Shape := ⟨1, ![64]⟩
abbrev S1x1x128x128 : Shape := ⟨4, ![1, 1, 128, 128]⟩
abbrev S128x1 : Shape := ⟨2, ![128, 1]⟩

abbrev nBuf : Space → Nat
  | .hbm => 8
  | .vmem => 14
  | .smem => 0
  | _ => 0

abbrev bufTy : (tb : Table) → Fin (tcTables nBuf tb) → BufTy
  | .hbm, ⟨0, _⟩ => ⟨S8x2048x8448, .f32⟩
  | .hbm, ⟨1, _⟩ => ⟨S512, .f32⟩
  | .hbm, ⟨2, _⟩ => ⟨S128, .f32⟩
  | .hbm, ⟨3, _⟩ => ⟨S8x4x128x128, .f32⟩
  | .hbm, ⟨4, _⟩ => ⟨S1x512, .f32⟩
  | .hbm, ⟨5, _⟩ => ⟨S1x128, .f32⟩
  | .hbm, ⟨6, _⟩ => ⟨S8x2048x512, .f32⟩
  | .hbm, ⟨7, _⟩ => ⟨S8x4x128x128, .f32⟩
  | .local _ .vmem, ⟨0, _⟩ => ⟨S8x64x512, .f32⟩
  | .local _ .vmem, ⟨1, _⟩ => ⟨S8x64x512, .f32⟩
  | .local _ .vmem, ⟨2, _⟩ => ⟨S8x64x512, .f32⟩
  | .local _ .vmem, ⟨3, _⟩ => ⟨S8x64x512, .f32⟩
  | .local _ .vmem, ⟨4, _⟩ => ⟨S8x64x512, .f32⟩
  | .local _ .vmem, ⟨5, _⟩ => ⟨S8x64x512, .f32⟩
  | .local _ .vmem, ⟨6, _⟩ => ⟨S8x64x512, .f32⟩
  | .local _ .vmem, ⟨7, _⟩ => ⟨S8x64x512, .f32⟩
  | .local _ .vmem, ⟨8, _⟩ => ⟨S1x512, .f32⟩
  | .local _ .vmem, ⟨9, _⟩ => ⟨S1x128, .f32⟩
  | .local _ .vmem, ⟨10, _⟩ => ⟨S8x4x128x128, .f32⟩
  | .local _ .vmem, ⟨11, _⟩ => ⟨S8x64x512, .f32⟩
  | .local _ .vmem, ⟨12, _⟩ => ⟨S8x64x512, .f32⟩
  | .local _ .vmem, ⟨13, _⟩ => ⟨S8x4x128x128, .f32⟩
  | _, _ => ⟨S8x2048x8448, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨2, ![1, 32], ![false, false]⟩

def cc0_transform_0 (i : grid0.Coords) : Fin 3 → Nat :=
  let arg0 : BitVec 32 := BitVec.ofNat 32 (i 0).val
  let arg1 : BitVec 32 := BitVec.ofNat 32 (i 1).val
  let c11_i32 : BitVec 32 := 11#32
  let c0_i32 : BitVec 32 := 0#32
  ![arg0.toNat, arg1.toNat, c11_i32.toNat]

def cc0_transform_1 (i : grid0.Coords) : Fin 3 → Nat :=
  let arg0 : BitVec 32 := BitVec.ofNat 32 (i 0).val
  let arg1 : BitVec 32 := BitVec.ofNat 32 (i 1).val
  let c12_i32 : BitVec 32 := 12#32
  let c0_i32 : BitVec 32 := 0#32
  ![arg0.toNat, arg1.toNat, c12_i32.toNat]

def cc0_transform_2 (i : grid0.Coords) : Fin 3 → Nat :=
  let arg0 : BitVec 32 := BitVec.ofNat 32 (i 0).val
  let arg1 : BitVec 32 := BitVec.ofNat 32 (i 1).val
  let c13_i32 : BitVec 32 := 13#32
  let c0_i32 : BitVec 32 := 0#32
  ![arg0.toNat, arg1.toNat, c13_i32.toNat]

def cc0_transform_3 (i : grid0.Coords) : Fin 3 → Nat :=
  let arg0 : BitVec 32 := BitVec.ofNat 32 (i 0).val
  let arg1 : BitVec 32 := BitVec.ofNat 32 (i 1).val
  let c14_i32 : BitVec 32 := 14#32
  let c0_i32 : BitVec 32 := 0#32
  ![arg0.toNat, arg1.toNat, c14_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 2 → Memref sig .tc .vmem S8x64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S8x4x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]
-- ==== ReferenceIdeal.lean ====
abbrev S8x2048x8448 : Shape := ⟨3, ![8, 2048, 8448]⟩
abbrev S512 : Shape := ⟨1, ![512]⟩
abbrev S128 : Shape := ⟨1, ![128]⟩
abbrev S8x4x128x128 : Shape := ⟨4, ![8, 4, 128, 128]⟩
abbrev S8x2048x512 : Shape := ⟨3, ![8, 2048, 512]⟩
abbrev S4x128 : Shape := ⟨2, ![4, 128]⟩
abbrev S8x2048x4x128 : Shape := ⟨4, ![8, 2048, 4, 128]⟩
abbrev S_ : Shape := ⟨0, ![]⟩
abbrev S1x1x4x128 : Shape := ⟨4, ![1, 1, 4, 128]⟩
abbrev S64x64 : Shape := ⟨2, ![64, 64]⟩
abbrev S8x32x64x4x128 : Shape := ⟨5, ![8, 32, 64, 4, 128]⟩
abbrev S32x8x4x64x128 : Shape := ⟨5, ![32, 8, 4, 64, 128]⟩
abbrev S1x8x4x64x128 : Shape := ⟨5, ![1, 8, 4, 64, 128]⟩
abbrev S8x4x64x128 : Shape := ⟨4, ![8, 4, 64, 128]⟩
abbrev S8x4x64x1x128 : Shape := ⟨5, ![8, 4, 64, 1, 128]⟩
abbrev S8x4x1x64x128 : Shape := ⟨5, ![8, 4, 1, 64, 128]⟩
abbrev S8x4x64x64x128 : Shape := ⟨5, ![8, 4, 64, 64, 128]⟩
abbrev S1x1x64x64x1 : Shape := ⟨5, ![1, 1, 64, 64, 1]⟩
abbrev S8x4x64x64 : Shape := ⟨4, ![8, 4, 64, 64]⟩
abbrev S8x4x1x128 : Shape := ⟨4, ![8, 4, 1, 128]⟩
abbrev S8x4x128 : Shape := ⟨3, ![8, 4, 128]⟩
abbrev S8x4x128x1 : Shape := ⟨4, ![8, 4, 128, 1]⟩
abbrev S8x2048x4 : Shape := ⟨3, ![8, 2048, 4]⟩
abbrev S8x2048x4x1 : Shape := ⟨4, ![8, 2048, 4, 1]⟩
abbrev S1x1x1x128 : Shape := ⟨4, ![1, 1, 1, 128]⟩

abbrev nBuf : Space → Nat
  | .hbm => 207
  | .vmem => 0
  | .smem => 0
  | _ => 0

abbrev hbmTy0_0 (i : Nat) : BufTy := match i % 128 with
  | 0 => ⟨S8x2048x8448, .f32⟩
  | 1 => ⟨S512, .f32⟩
  | 2 => ⟨S128, .f32⟩
  | 3 => ⟨S8x4x128x128, .f32⟩
  | 4 => ⟨S8x2048x512, .f32⟩
  | 5 => ⟨S8x2048x512, .f32⟩
  | 6 => ⟨S8x2048x512, .f32⟩
  | 7 => ⟨S4x128, .f32⟩
  | 8 => ⟨S8x2048x4x128, .f32⟩
  | 9 => ⟨S_, .f32⟩
  | 10 => ⟨S4x128, .f32⟩
  | 11 => ⟨S4x128, .f32⟩
  | 12 => ⟨S4x128, .f32⟩
  | 13 => ⟨S4x128, .f32⟩
  | 14 => ⟨S4x128, .f32⟩
  | 15 => ⟨S8x2048x4x128, .f32⟩
  | 16 => ⟨S_, .f32⟩
  | 17 => ⟨S8x2048x4x128, .f32⟩
  | 18 => ⟨S8x2048x4x128, .f32⟩
  | 19 => ⟨S8x2048x4x128, .f32⟩
  | 20 => ⟨S8x2048x4x128, .f32⟩
  | 21 => ⟨S8x2048x4x128, .i1⟩
  | 22 => ⟨S8x2048x4x128, .f32⟩
  | 23 => ⟨S8x2048x4x128, .f32⟩
  | 24 => ⟨S8x2048x4x128, .f32⟩
  | 25 => ⟨S8x2048x4x128, .f32⟩
  | 26 => ⟨S8x2048x4x128, .f32⟩
  | 27 => ⟨S8x2048x4x128, .f32⟩
  | 28 => ⟨S8x2048x4x128, .f32⟩
  | 29 => ⟨S8x2048x4x128, .f32⟩
  | 30 => ⟨S1x1x4x128, .f32⟩
  | 31 => ⟨S8x2048x4x128, .f32⟩
  | 32 => ⟨S8x2048x4x128, .f32⟩
  | 33 => ⟨S1x1x4x128, .f32⟩
  | 34 => ⟨S8x2048x4x128, .f32⟩
  | 35 => ⟨S8x2048x4x128, .f32⟩
  | 36 => ⟨S8x2048x4x128, .f32⟩
  | 37 => ⟨S8x2048x4x128, .f32⟩
  | 38 => ⟨S8x2048x4x128, .i1⟩
  | 39 => ⟨S8x2048x4x128, .f32⟩
  | 40 => ⟨S8x2048x4x128, .f32⟩
  | 41 => ⟨S8x2048x4x128, .f32⟩
  | 42 => ⟨S8x2048x4x128, .f32⟩
  | 43 => ⟨S8x2048x4x128, .f32⟩
  | 44 => ⟨S8x2048x4x128, .f32⟩
  | 45 => ⟨S8x2048x4x128, .f32⟩
  | 46 => ⟨S8x2048x4x128, .f32⟩
  | 47 => ⟨S_, .f32⟩
  | 48 => ⟨S4x128, .f32⟩
  | 49 => ⟨S4x128, .f32⟩
  | 50 => ⟨S8x2048x4x128, .f32⟩
  | 51 => ⟨S8x2048x4x128, .f32⟩
  | 52 => ⟨S8x2048x4x128, .f32⟩
  | 53 => ⟨S_, .f32⟩
  | 54 => ⟨S8x2048x4x128, .f32⟩
  | 55 => ⟨S8x2048x4x128, .f32⟩
  | 56 => ⟨S_, .f32⟩
  | 57 => ⟨S8x2048x4x128, .f32⟩
  | 58 => ⟨S8x2048x4x128, .f32⟩
  | 59 => ⟨S1x1x4x128, .f32⟩
  | 60 => ⟨S8x2048x4x128, .f32⟩
  | 61 => ⟨S8x2048x4x128, .f32⟩
  | 62 => ⟨S8x2048x512, .f32⟩
  | 63 => ⟨S8x2048x512, .f32⟩
  | 64 => ⟨S_, .f32⟩
  | 65 => ⟨S8x2048x512, .f32⟩
  | 66 => ⟨S8x2048x512, .f32⟩
  | 67 => ⟨S_, .f32⟩
  | 68 => ⟨S8x2048x512, .f32⟩
  | 69 => ⟨S8x2048x512, .f32⟩
  | 70 => ⟨S8x2048x512, .f32⟩
  | 71 => ⟨S8x2048x4x128, .f32⟩
  | 72 => ⟨S_, .i1⟩
  | 73 => ⟨S64x64, .i1⟩
  | 74 => ⟨S64x64, .i32⟩
  | 75 => ⟨S_, .i32⟩
  | 76 => ⟨S64x64, .i32⟩
  | 77 => ⟨S64x64, .i32⟩
  | 78 => ⟨S64x64, .i32⟩
  | 79 => ⟨S64x64, .i1⟩
  | 80 => ⟨S_, .i1⟩
  | 81 => ⟨S64x64, .i1⟩
  | 82 => ⟨S64x64, .i1⟩
  | 83 => ⟨S8x32x64x4x128, .f32⟩
  | 84 => ⟨S32x8x4x64x128, .f32⟩
  | 85 => ⟨S8x32x64x4x128, .f32⟩
  | 86 => ⟨S32x8x4x64x128, .f32⟩
  | 87 => ⟨S8x32x64x4x128, .f32⟩
  | 88 => ⟨S32x8x4x64x128, .f32⟩
  | 89 => ⟨S8x2048x4x128, .f32⟩
  | 90 => ⟨S8x32x64x4x128, .f32⟩
  | 91 => ⟨S32x8x4x64x128, .f32⟩
  | 92 => ⟨S_, .f32⟩
  | 93 => ⟨S32x8x4x64x128, .f32⟩
  | 94 => ⟨S_, .i32⟩
  | 95 => ⟨S32x8x4x64x128, .f32⟩
  | 96 => ⟨S32x8x4x64x128, .f32⟩
  | 97 => ⟨S32x8x4x64x128, .f32⟩
  | 98 => ⟨S32x8x4x64x128, .f32⟩
  | 99 => ⟨S64x64, .i1⟩
  | 100 => ⟨S_, .i32⟩
  | 101 => ⟨S8x4x128x128, .f32⟩
  | 102 => ⟨S32x8x4x64x128, .f32⟩
  | 103 => ⟨S_, .i32⟩
  | 104 => ⟨S_, .i1⟩
  | 105 => ⟨S_, .i32⟩
  | 106 => ⟨S_, .i32⟩
  | 107 => ⟨S_, .i32⟩
  | 108 => ⟨S_, .i32⟩
  | 109 => ⟨S1x8x4x64x128, .f32⟩
  | 110 => ⟨S8x4x64x128, .f32⟩
  | 111 => ⟨S_, .i32⟩
  | 112 => ⟨S_, .i32⟩
  | 113 => ⟨S_, .i32⟩
  | 114 => ⟨S_, .i32⟩
  | 115 => ⟨S1x8x4x64x128, .f32⟩
  | 116 => ⟨S8x4x64x128, .f32⟩
  | 117 => ⟨S_, .i32⟩
  | 118 => ⟨S_, .i32⟩
  | 119 => ⟨S_, .i32⟩
  | 120 => ⟨S_, .i32⟩
  | 121 => ⟨S1x8x4x64x128, .f32⟩
  | 122 => ⟨S8x4x64x128, .f32⟩
  | 123 => ⟨S_, .i32⟩
  | 124 => ⟨S_, .i32⟩
  | 125 => ⟨S_, .i32⟩
  | 126 => ⟨S_, .i32⟩
  | 127 => ⟨S1x8x4x64x128, .f32⟩
  | _ => ⟨S8x2048x8448, .f32⟩

abbrev hbmTy0_1 (i : Nat) : BufTy := match i % 128 with
  | 0 => ⟨S8x4x64x128, .f32⟩
  | 1 => ⟨S_, .f32⟩
  | 2 => ⟨S_, .f32⟩
  | 3 => ⟨S8x4x64x128, .f32⟩
  | 4 => ⟨S8x4x64x128, .f32⟩
  | 5 => ⟨S8x4x64x128, .f32⟩
  | 6 => ⟨S8x4x64x128, .f32⟩
  | 7 => ⟨S8x4x64x1x128, .f32⟩
  | 8 => ⟨S8x4x1x64x128, .f32⟩
  | 9 => ⟨S8x4x64x64x128, .f32⟩
  | 10 => ⟨S8x4x64x64x128, .f32⟩
  | 11 => ⟨S8x4x64x64x128, .f32⟩
  | 12 => ⟨S1x1x64x64x1, .i1⟩
  | 13 => ⟨S_, .f32⟩
  | 14 => ⟨S_, .f32⟩
  | 15 => ⟨S8x4x64x64x128, .i1⟩
  | 16 => ⟨S8x4x64x64x128, .f32⟩
  | 17 => ⟨S8x4x64x64x128, .f32⟩
  | 18 => ⟨S8x4x64x64x128, .f32⟩
  | 19 => ⟨S8x4x64x1x128, .f32⟩
  | 20 => ⟨S8x4x64x64x128, .f32⟩
  | 21 => ⟨S8x4x64x64x128, .f32⟩
  | 22 => ⟨S8x4x1x64x128, .f32⟩
  | 23 => ⟨S8x4x64x64x128, .f32⟩
  | 24 => ⟨S8x4x64x64x128, .f32⟩
  | 25 => ⟨S_, .f32⟩
  | 26 => ⟨S8x4x64x64, .f32⟩
  | 27 => ⟨S8x4x64x128, .f32⟩
  | 28 => ⟨S8x4x64x128, .f32⟩
  | 29 => ⟨S8x4x1x128, .f32⟩
  | 30 => ⟨S8x4x128, .f32⟩
  | 31 => ⟨S8x4x128, .f32⟩
  | 32 => ⟨S8x4x128x1, .f32⟩
  | 33 => ⟨S8x4x128x128, .f32⟩
  | 34 => ⟨S8x4x128x128, .f32⟩
  | 35 => ⟨S8x4x64x128, .f32⟩
  | 36 => ⟨S8x4x64x128, .f32⟩
  | 37 => ⟨S8x4x64x128, .f32⟩
  | 38 => ⟨S8x4x64x128, .f32⟩
  | 39 => ⟨S8x4x128x128, .f32⟩
  | 40 => ⟨S8x4x128x128, .f32⟩
  | 41 => ⟨S1x8x4x64x128, .f32⟩
  | 42 => ⟨S_, .i32⟩
  | 43 => ⟨S_, .i32⟩
  | 44 => ⟨S_, .i32⟩
  | 45 => ⟨S_, .i32⟩
  | 46 => ⟨S32x8x4x64x128, .f32⟩
  | 47 => ⟨S_, .i32⟩
  | 48 => ⟨S_, .i32⟩
  | 49 => ⟨S8x32x64x4x128, .f32⟩
  | 50 => ⟨S8x2048x4x128, .f32⟩
  | 51 => ⟨S8x2048x4x128, .f32⟩
  | 52 => ⟨S_, .f32⟩
  | 53 => ⟨S8x2048x4, .f32⟩
  | 54 => ⟨S8x2048x4x1, .f32⟩
  | 55 => ⟨S_, .f32⟩
  | 56 => ⟨S8x2048x4x1, .f32⟩
  | 57 => ⟨S8x2048x4x1, .f32⟩
  | 58 => ⟨S_, .f32⟩
  | 59 => ⟨S8x2048x4x1, .f32⟩
  | 60 => ⟨S8x2048x4x1, .f32⟩
  | 61 => ⟨S8x2048x4x1, .f32⟩
  | 62 => ⟨S8x2048x4x128, .f32⟩
  | 63 => ⟨S8x2048x4x128, .f32⟩
  | 64 => ⟨S1x1x1x128, .f32⟩
  | 65 => ⟨S8x2048x4x128, .f32⟩
  | 66 => ⟨S8x2048x4x128, .f32⟩
  | 67 => ⟨S8x2048x512, .f32⟩
  | 68 => ⟨S8x2048x512, .f32⟩
  | 69 => ⟨S8x2048x512, .f32⟩
  | 70 => ⟨S8x2048x512, .f32⟩
  | 71 => ⟨S_, .f32⟩
  | 72 => ⟨S8x2048x512, .f32⟩
  | 73 => ⟨S8x2048x512, .f32⟩
  | 74 => ⟨S_, .f32⟩
  | 75 => ⟨S8x2048x512, .f32⟩
  | 76 => ⟨S8x2048x512, .f32⟩
  | 77 => ⟨S8x2048x512, .f32⟩
  | 78 => ⟨S8x2048x512, .f32⟩
  | _ => ⟨S8x2048x8448, .f32⟩

abbrev hbmTy (i : Nat) : BufTy := match i / 128 with
  | 0 => hbmTy0_0 i
  | 1 => hbmTy0_1 i
  | _ => ⟨S8x2048x8448, .f32⟩

abbrev bufTy : (tb : Table) → Fin (tcTables nBuf tb) → BufTy
  | .hbm, ⟨i, _⟩ => hbmTy i
  | _, _ => ⟨S8x2048x8448, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_cst_1 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_cst_2 : Ref sig .tc := ⟨.hbm, 53, rfl⟩
abbrev main_v46 : Ref sig .tc := ⟨.hbm, 54, rfl⟩
abbrev main_v47 : Ref sig .tc := ⟨.hbm, 55, rfl⟩
abbrev main_cst_3 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_call0_v0 : Ref sig .tc := ⟨.hbm, 62, rfl⟩
abbrev main_call0_v1 : Ref sig .tc := ⟨.hbm, 63, rfl⟩
abbrev main_call0_cst : Ref sig .tc := ⟨.hbm, 64, rfl⟩
abbrev main_call0_v2 : Ref sig .tc := ⟨.hbm, 65, rfl⟩
abbrev main_call0_v3 : Ref sig .tc := ⟨.hbm, 66, rfl⟩
abbrev main_call0_cst_0 : Ref sig .tc := ⟨.hbm, 67, rfl⟩
abbrev main_call0_v4 : Ref sig .tc := ⟨.hbm, 68, rfl⟩
abbrev main_call0_v5 : Ref sig .tc := ⟨.hbm, 69, rfl⟩
abbrev main_v53 : Ref sig .tc := ⟨.hbm, 70, rfl⟩
abbrev main_v54 : Ref sig .tc := ⟨.hbm, 71, rfl⟩
abbrev main_c : Ref sig .tc := ⟨.hbm, 72, rfl⟩
abbrev main_v55 : Ref sig .tc := ⟨.hbm, 73, rfl⟩
abbrev main_call1_v0 : Ref sig .tc := ⟨.hbm, 74, rfl⟩
abbrev main_call1_c : Ref sig .tc := ⟨.hbm, 75, rfl⟩
abbrev main_call1_v1 : Ref sig .tc := ⟨.hbm, 76, rfl⟩
abbrev main_call1_v2 : Ref sig .tc := ⟨.hbm, 77, rfl⟩
abbrev main_call1_v3 : Ref sig .tc := ⟨.hbm, 78, rfl⟩
abbrev main_call1_v4 : Ref sig .tc := ⟨.hbm, 79, rfl⟩
abbrev main_call1_c_0 : Ref sig .tc := ⟨.hbm, 80, rfl⟩
abbrev main_call1_v5 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_4 : Ref sig .tc := ⟨.hbm, 92, rfl⟩
abbrev main_v66 : Ref sig .tc := ⟨.hbm, 93, rfl⟩
abbrev main_c_5 : Ref sig .tc := ⟨.hbm, 94, rfl⟩
abbrev main_v67_0 : Ref sig .tc := ⟨.hbm, 95, rfl⟩
abbrev main_v67_1 : Ref sig .tc := ⟨.hbm, 96, rfl⟩
abbrev main_v67_2 : Ref sig .tc := ⟨.hbm, 97, rfl⟩
abbrev main_v67_3 : Ref sig .tc := ⟨.hbm, 98, rfl⟩
abbrev main_v67_4 : Ref sig .tc := ⟨.hbm, 99, rfl⟩
abbrev main_v67_5 : Ref sig .tc := ⟨.hbm, 100, rfl⟩
abbrev main_v67_6 : Ref sig .tc := ⟨.hbm, 101, rfl⟩
abbrev main_v67_7 : Ref sig .tc := ⟨.hbm, 102, rfl⟩
abbrev main_while0c_c_16 : Ref sig .tc := ⟨.hbm, 103, rfl⟩
abbrev main_while0c_v87 : Ref sig .tc := ⟨.hbm, 104, rfl⟩
abbrev main_while0b_call2_c : Ref sig .tc := ⟨.hbm, 105, rfl⟩
abbrev main_while0b_call2_c_0 : Ref sig .tc := ⟨.hbm, 106, rfl⟩
abbrev main_while0b_call2_c_1 : Ref sig .tc := ⟨.hbm, 107, rfl⟩
abbrev main_while0b_call2_c_2 : Ref sig .tc := ⟨.hbm, 108, rfl⟩
abbrev main_while0b_call2_v0 : Ref sig .tc := ⟨.hbm, 109, rfl⟩
abbrev main_while0b_v87 : Ref sig .tc := ⟨.hbm, 110, rfl⟩
abbrev main_while0b_call3_c : Ref sig .tc := ⟨.hbm, 111, rfl⟩
abbrev main_while0b_call3_c_0 : Ref sig .tc := ⟨.hbm, 112, rfl⟩
abbrev main_while0b_call3_c_1 : Ref sig .tc := ⟨.hbm, 113, rfl⟩
abbrev main_while0b_call3_c_2 : Ref sig .tc := ⟨.hbm, 114, rfl⟩
abbrev main_while0b_call3_v0 : Ref sig .tc := ⟨.hbm, 115, rfl⟩
abbrev main_while0b_v88 : Ref sig .tc := ⟨.hbm, 116, rfl⟩
abbrev main_while0b_call4_c : Ref sig .tc := ⟨.hbm, 117, rfl⟩
abbrev main_while0b_call4_c_0 : Ref sig .tc := ⟨.hbm, 118, rfl⟩
abbrev main_while0b_call4_c_1 : Ref sig .tc := ⟨.hbm, 119, rfl⟩
abbrev main_while0b_call4_c_2 : Ref sig .tc := ⟨.hbm, 120, rfl⟩
abbrev main_while0b_call4_v0 : Ref sig .tc := ⟨.hbm, 121, rfl⟩
abbrev main_while0b_v89 : Ref sig .tc := ⟨.hbm, 122, rfl⟩
abbrev main_while0b_call5_c : Ref sig .tc := ⟨.hbm, 123, rfl⟩
abbrev main_while0b_call5_c_0 : Ref sig .tc := ⟨.hbm, 124, rfl⟩
abbrev main_while0b_call5_c_1 : Ref sig .tc := ⟨.hbm, 125, rfl⟩
abbrev main_while0b_call5_c_2 : Ref sig .tc := ⟨.hbm, 126, rfl⟩
abbrev main_while0b_call5_v0 : Ref sig .tc := ⟨.hbm, 127, rfl⟩
abbrev main_while0b_v90 : Ref sig .tc := ⟨.hbm, 128, rfl⟩
abbrev main_while0b_call6_call0_cst : Ref sig .tc := ⟨.hbm, 129, rfl⟩
abbrev main_while0b_call6_call0_v0 : Ref sig .tc := ⟨.hbm, 130, rfl⟩
abbrev main_while0b_v91 : Ref sig .tc := ⟨.hbm, 131, rfl⟩
abbrev main_while0b_v92 : Ref sig .tc := ⟨.hbm, 132, rfl⟩
abbrev main_while0b_v93 : Ref sig .tc := ⟨.hbm, 133, rfl⟩
abbrev main_while0b_v94 : Ref sig .tc := ⟨.hbm, 134, rfl⟩
abbrev main_while0b_v95 : Ref sig .tc := ⟨.hbm, 135, rfl⟩
abbrev main_while0b_v96 : Ref sig .tc := ⟨.hbm, 136, rfl⟩
abbrev main_while0b_v97 : Ref sig .tc := ⟨.hbm, 137, rfl⟩
abbrev main_while0b_v98 : Ref sig .tc := ⟨.hbm, 138, rfl⟩
abbrev main_while0b_v99 : Ref sig .tc := ⟨.hbm, 139, rfl⟩
abbrev main_while0b_v100 : Ref sig .tc := ⟨.hbm, 140, rfl⟩
abbrev main_while0b_cst_16 : Ref sig .tc := ⟨.hbm, 141, rfl⟩
abbrev main_while0b_call7_v0 : Ref sig .tc := ⟨.hbm, 142, rfl⟩
abbrev main_while0b_call7_v1 : Ref sig .tc := ⟨.hbm, 143, rfl⟩
abbrev main_while0b_call7_v2 : Ref sig .tc := ⟨.hbm, 144, rfl⟩
abbrev main_while0b_v101 : Ref sig .tc := ⟨.hbm, 145, rfl⟩
abbrev main_while0b_v102 : Ref sig .tc := ⟨.hbm, 146, rfl⟩
abbrev main_while0b_v103 : Ref sig .tc := ⟨.hbm, 147, rfl⟩
abbrev main_while0b_v104 : Ref sig .tc := ⟨.hbm, 148, rfl⟩
abbrev main_while0b_v105 : Ref sig .tc := ⟨.hbm, 149, rfl⟩
abbrev main_while0b_v106 : Ref sig .tc := ⟨.hbm, 150, rfl⟩
abbrev main_while0b_v107 : Ref sig .tc := ⟨.hbm, 151, rfl⟩
abbrev main_while0b_v108 : Ref sig .tc := ⟨.hbm, 152, rfl⟩
abbrev main_while0b_cst_17 : Ref sig .tc := ⟨.hbm, 153, rfl⟩
abbrev main_while0b_v109 : Ref sig .tc := ⟨.hbm, 154, rfl⟩
abbrev main_while0b_v110 : Ref sig .tc := ⟨.hbm, 155, rfl⟩
abbrev main_while0b_v111 : Ref sig .tc := ⟨.hbm, 156, rfl⟩
abbrev main_while0b_v112 : Ref sig .tc := ⟨.hbm, 157, rfl⟩
abbrev main_while0b_v113 : Ref sig .tc := ⟨.hbm, 158, rfl⟩
abbrev main_while0b_v114 : Ref sig .tc := ⟨.hbm, 159, rfl⟩
abbrev main_while0b_v115 : Ref sig .tc := ⟨.hbm, 160, rfl⟩
abbrev main_while0b_v116 : Ref sig .tc := ⟨.hbm, 161, rfl⟩
abbrev main_while0b_v117 : Ref sig .tc := ⟨.hbm, 162, rfl⟩
abbrev main_while0b_v118 : Ref sig .tc := ⟨.hbm, 163, rfl⟩
abbrev main_while0b_v119 : Ref sig .tc := ⟨.hbm, 164, rfl⟩
abbrev main_while0b_v120 : Ref sig .tc := ⟨.hbm, 165, rfl⟩
abbrev main_while0b_v121 : Ref sig .tc := ⟨.hbm, 166, rfl⟩
abbrev main_while0b_v122 : Ref sig .tc := ⟨.hbm, 167, rfl⟩
abbrev main_while0b_v123 : Ref sig .tc := ⟨.hbm, 168, rfl⟩
abbrev main_while0b_call8_v0 : Ref sig .tc := ⟨.hbm, 169, rfl⟩
abbrev main_while0b_call8_c : Ref sig .tc := ⟨.hbm, 170, rfl⟩
abbrev main_while0b_call8_c_0 : Ref sig .tc := ⟨.hbm, 171, rfl⟩
abbrev main_while0b_call8_c_1 : Ref sig .tc := ⟨.hbm, 172, rfl⟩
abbrev main_while0b_call8_c_2 : Ref sig .tc := ⟨.hbm, 173, rfl⟩
abbrev main_while0b_v124 : Ref sig .tc := ⟨.hbm, 174, rfl⟩
abbrev main_while0b_c_18 : Ref sig .tc := ⟨.hbm, 175, rfl⟩
abbrev main_while0b_v125 : Ref sig .tc := ⟨.hbm, 176, rfl⟩
abbrev main_v68 : Ref sig .tc := ⟨.hbm, 177, rfl⟩
abbrev main_v69 : Ref sig .tc := ⟨.hbm, 178, rfl⟩
abbrev main_v70 : Ref sig .tc := ⟨.hbm, 179, rfl⟩
abbrev main_cst_6 : Ref sig .tc := ⟨.hbm, 180, rfl⟩
abbrev main_v71 : Ref sig .tc := ⟨.hbm, 181, rfl⟩
abbrev main_v72 : Ref sig .tc := ⟨.hbm, 182, rfl⟩
abbrev main_cst_7 : Ref sig .tc := ⟨.hbm, 183, rfl⟩
abbrev main_v73 : Ref sig .tc := ⟨.hbm, 184, rfl⟩
abbrev main_v74 : Ref sig .tc := ⟨.hbm, 185, rfl⟩
abbrev main_cst_8 : Ref sig .tc := ⟨.hbm, 186, rfl⟩
abbrev main_v75 : Ref sig .tc := ⟨.hbm, 187, rfl⟩
abbrev main_v76 : Ref sig .tc := ⟨.hbm, 188, rfl⟩
abbrev main_v77 : Ref sig .tc := ⟨.hbm, 189, rfl⟩
abbrev main_v78 : Ref sig .tc := ⟨.hbm, 190, rfl⟩
abbrev main_v79 : Ref sig .tc := ⟨.hbm, 191, rfl⟩
abbrev main_v80 : Ref sig .tc := ⟨.hbm, 192, rfl⟩
abbrev main_v81 : Ref sig .tc := ⟨.hbm, 193, rfl⟩
abbrev main_v82 : Ref sig .tc := ⟨.hbm, 194, rfl⟩
abbrev main_v83 : Ref sig .tc := ⟨.hbm, 195, rfl⟩
abbrev main_v84 : Ref sig .tc := ⟨.hbm, 196, rfl⟩
abbrev main_call9_v0 : Ref sig .tc := ⟨.hbm, 197, rfl⟩
abbrev main_call9_v1 : Ref sig .tc := ⟨.hbm, 198, rfl⟩
abbrev main_call9_cst : Ref sig .tc := ⟨.hbm, 199, rfl⟩
abbrev main_call9_v2 : Ref sig .tc := ⟨.hbm, 200, rfl⟩
abbrev main_call9_v3 : Ref sig .tc := ⟨.hbm, 201, rfl⟩
abbrev main_call9_cst_0 : Ref sig .tc := ⟨.hbm, 202, rfl⟩
abbrev main_call9_v4 : Ref sig .tc := ⟨.hbm, 203, rfl⟩
abbrev main_call9_v5 : Ref sig .tc := ⟨.hbm, 204, rfl⟩
abbrev main_v85 : Ref sig .tc := ⟨.hbm, 205, rfl⟩
abbrev main_v86 : Ref sig .tc := ⟨.hbm, 206, rfl⟩

abbrev nD : Nat := 1
abbrev τ : Topo := Topo.v7x

variable {F : FTy → Type} [FloatOps F]

abbrev main_while0_count : Scf.Loop 32 := ⟨0#32, 32#32, 1#32⟩
-- ==== Inproj.lean ====
abbrev S16384x1024 : Shape := ⟨2, ![16384, 1024]⟩
abbrev S8448x1024 : Shape := ⟨2, ![8448, 1024]⟩
abbrev S16384x8448 : Shape := ⟨2, ![16384, 8448]⟩
abbrev S2048x1024 : Shape := ⟨2, ![2048, 1024]⟩
abbrev S1408x1024 : Shape := ⟨2, ![1408, 1024]⟩
abbrev S2048x1408 : Shape := ⟨2, ![2048, 1408]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S8448x1024, .bf16⟩
  | .hbm, ⟨2, _⟩ => ⟨S16384x8448, .f32⟩
  | .local _ .vmem, ⟨0, _⟩ => ⟨S2048x1024, .bf16⟩
  | .local _ .vmem, ⟨1, _⟩ => ⟨S2048x1024, .bf16⟩
  | .local _ .vmem, ⟨2, _⟩ => ⟨S1408x1024, .bf16⟩
  | .local _ .vmem, ⟨3, _⟩ => ⟨S1408x1024, .bf16⟩
  | .local _ .vmem, ⟨4, _⟩ => ⟨S2048x1408, .f32⟩
  | .local _ .vmem, ⟨5, _⟩ => ⟨S2048x1408, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InprojReferenceIdeal.lean ====
abbrev S16384x1024 : Shape := ⟨2, ![16384, 1024]⟩
abbrev S8448x1024 : Shape := ⟨2, ![8448, 1024]⟩
abbrev S1024x8448 : Shape := ⟨2, ![1024, 8448]⟩
abbrev S16384x8448 : Shape := ⟨2, ![16384, 8448]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S8448x1024, .bf16⟩
  | .hbm, ⟨2, _⟩ => ⟨S16384x1024, .f32⟩
  | .hbm, ⟨3, _⟩ => ⟨S8448x1024, .f32⟩
  | .hbm, ⟨4, _⟩ => ⟨S1024x8448, .f32⟩
  | .hbm, ⟨5, _⟩ => ⟨S16384x8448, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Merge.lean ====
abbrev S16384x1024 : Shape := ⟨2, ![16384, 1024]⟩
abbrev S16384x512 : Shape := ⟨2, ![16384, 512]⟩
abbrev S16384x8448 : Shape := ⟨2, ![16384, 8448]⟩
abbrev S8x1x1024 : Shape := ⟨3, ![8, 1, 1024]⟩
abbrev S512x1024 : Shape := ⟨2, ![512, 1024]⟩
abbrev S1024x1024 : Shape := ⟨2, ![1024, 1024]⟩
abbrev S512x512 : Shape := ⟨2, ![512, 512]⟩
abbrev S1x1x1024 : Shape := ⟨3, ![1, 1, 1024]⟩
abbrev S1x1024 : Shape := ⟨2, ![1, 1024]⟩

abbrev nBuf : Space → Nat
  | .hbm => 11
  | .vmem => 22
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S16384x8448, .f32⟩
  | .hbm, ⟨5, _⟩ => ⟨S8x1x1024, .f32⟩
  | .hbm, ⟨6, _⟩ => ⟨S512x1024, .bf16⟩
  | .hbm, ⟨7, _⟩ => ⟨S512x1024, .bf16⟩
  | .hbm, ⟨8, _⟩ => ⟨S512x1024, .bf16⟩
  | .hbm, ⟨9, _⟩ => ⟨S1024x1024, .bf16⟩
  | .hbm, ⟨10, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S1x1x1024, .f32⟩
  | .local _ .vmem, ⟨15, _⟩ => ⟨S1x1x1024, .f32⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S1024x1024, .bf16⟩
  | .local _ .vmem, ⟨20, _⟩ => ⟨S512x1024, .f32⟩
  | .local _ .vmem, ⟨21, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_6 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_7 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MergeReferenceIdeal.lean ====
abbrev S16384x1024 : Shape := ⟨2, ![16384, 1024]⟩
abbrev S16384x512 : Shape := ⟨2, ![16384, 512]⟩
abbrev S16384x8448 : Shape := ⟨2, ![16384, 8448]⟩
abbrev S8x1x1024 : Shape := ⟨3, ![8, 1, 1024]⟩
abbrev S512x1024 : Shape := ⟨2, ![512, 1024]⟩
abbrev S1024x1024 : Shape := ⟨2, ![1024, 1024]⟩
abbrev S_ : Shape := ⟨0, ![]⟩
abbrev S8x2048x1024 : Shape := ⟨3, ![8, 2048, 1024]⟩

abbrev nBuf : Space → Nat
  | .hbm => 54
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S16384x8448, .f32⟩
  | .hbm, ⟨5, _⟩ => ⟨S8x1x1024, .f32⟩
  | .hbm, ⟨6, _⟩ => ⟨S512x1024, .bf16⟩
  | .hbm, ⟨7, _⟩ => ⟨S512x1024, .bf16⟩
  | .hbm, ⟨8, _⟩ => ⟨S512x1024, .bf16⟩
  | .hbm, ⟨9, _⟩ => ⟨S1024x1024, .bf16⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S_, .f32⟩
  | .hbm, ⟨16, _⟩ => ⟨S16384x1024, .f32⟩
  | .hbm, ⟨17, _⟩ => ⟨S16384x1024, .f32⟩
  | .hbm, ⟨18, _⟩ => ⟨S_, .f32⟩
  | .hbm, ⟨19, _⟩ => ⟨S16384x1024, .f32⟩
  | .hbm, ⟨20, _⟩ => ⟨S16384x1024, .f32⟩
  | .hbm, ⟨21, _⟩ => ⟨S512x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384x1024, .f32⟩
  | .hbm, ⟨31, _⟩ => ⟨S16384x1024, .f32⟩
  | .hbm, ⟨32, _⟩ => ⟨S512x1024, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S_, .f32⟩
  | .hbm, ⟨39, _⟩ => ⟨S16384x1024, .f32⟩
  | .hbm, ⟨40, _⟩ => ⟨S16384x1024, .f32⟩
  | .hbm, ⟨41, _⟩ => ⟨S_, .f32⟩
  | .hbm, ⟨42, _⟩ => ⟨S16384x1024, .f32⟩
  | .hbm, ⟨43, _⟩ => ⟨S16384x1024, .f32⟩
  | .hbm, ⟨44, _⟩ => ⟨S512x1024, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S8x2048x1024, .f32⟩
  | .hbm, ⟨49, _⟩ => ⟨S16384x1024, .f32⟩
  | .hbm, ⟨50, _⟩ => ⟨S1024x1024, .f32⟩
  | .hbm, ⟨51, _⟩ => ⟨S16384x1024, .f32⟩
  | .hbm, ⟨52, _⟩ => ⟨S16384x1024, .f32⟩
  | .hbm, ⟨53, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩

abbrev nD : Nat := 1
abbrev τ : Topo := Topo.v7x

variable {F : FTy → Type} [FloatOps F]
-- ==== Qkrope.lean ====
abbrev S16384x8448 : Shape := ⟨2, ![16384, 8448]⟩
abbrev S64 : Shape := ⟨1, ![64]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S16384x512 : Shape := ⟨2, ![16384, 512]⟩
abbrev S8x128x2048 : Shape := ⟨3, ![8, 128, 2048]⟩
abbrev S16384x256 : Shape := ⟨2, ![16384, 256]⟩
abbrev S8x64x2048 : Shape := ⟨3, ![8, 64, 2048]⟩
abbrev S16384x128 : Shape := ⟨2, ![16384, 128]⟩
abbrev S16384x64 : Shape := ⟨2, ![16384, 64]⟩
abbrev S1024x512 : Shape := ⟨2, ![1024, 512]⟩
abbrev S1024x128 : Shape := ⟨2, ![1024, 128]⟩
abbrev S1024x256 : Shape := ⟨2, ![1024, 256]⟩
abbrev S1x128x1024 : Shape := ⟨3, ![1, 128, 1024]⟩
abbrev S1x64x1024 : Shape := ⟨3, ![1, 64, 1024]⟩
abbrev S1024x64 : Shape := ⟨2, ![1024, 64]⟩
abbrev S128x128 : Shape := ⟨2, ![128, 128]⟩
abbrev S1x512 : Shape := ⟨2, ![1, 512]⟩
abbrev S128x1024 : Shape := ⟨2, ![128, 1024]⟩
abbrev S64x1024 : Shape := ⟨2, ![64, 1024]⟩

abbrev nBuf : Space → Nat
  | .hbm => 45
  | .vmem => 32
  | .smem => 0
  | _ => 0

abbrev bufTy : (tb : Table) → Fin (tcTables nBuf tb) → BufTy
  | .hbm, ⟨0, _⟩ => ⟨S16384x8448, .f32⟩
  | .hbm, ⟨1, _⟩ => ⟨S64, .f32⟩
  | .hbm, ⟨2, _⟩ => ⟨S64, .f32⟩
  | .hbm, ⟨3, _⟩ => ⟨S2048, .i32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S2048, .f32⟩
  | .hbm, ⟨13, _⟩ => ⟨S2048x1, .f32⟩
  | .hbm, ⟨14, _⟩ => ⟨S1x32, .f32⟩
  | .hbm, ⟨15, _⟩ => ⟨S2048x32, .f32⟩
  | .hbm, ⟨16, _⟩ => ⟨S2048x32, .f32⟩
  | .hbm, ⟨17, _⟩ => ⟨S2048x32, .f32⟩
  | .hbm, ⟨18, _⟩ => ⟨S2048x32, .f32⟩
  | .hbm, ⟨19, _⟩ => ⟨S2048x32, .f32⟩
  | .hbm, ⟨20, _⟩ => ⟨S2048x64, .f32⟩
  | .hbm, ⟨21, _⟩ => ⟨S2048x32, .f32⟩
  | .hbm, ⟨22, _⟩ => ⟨S2048x64, .f32⟩
  | .hbm, ⟨23, _⟩ => ⟨S1x2048x1x64, .f32⟩
  | .hbm, ⟨24, _⟩ => ⟨S1x2048x2x64, .f32⟩
  | .hbm, ⟨25, _⟩ => ⟨S2048x128, .f32⟩
  | .hbm, ⟨26, _⟩ => ⟨S1x2048x1x64, .f32⟩
  | .hbm, ⟨27, _⟩ => ⟨S1x2048x2x64, .f32⟩
  | .hbm, ⟨28, _⟩ => ⟨S2048x128, .f32⟩
  | .hbm, ⟨29, _⟩ => ⟨S1x64, .f32⟩
  | .hbm, ⟨30, _⟩ => ⟨S2x64, .f32⟩
  | .hbm, ⟨31, _⟩ => ⟨S128, .f32⟩
  | .hbm, ⟨32, _⟩ => ⟨S1x128, .f32⟩
  | .hbm, ⟨33, _⟩ => ⟨S1x64, .f32⟩
  | .hbm, ⟨34, _⟩ => ⟨S2x64, .f32⟩
  | .hbm, ⟨35, _⟩ => ⟨S128, .f32⟩
  | .hbm, ⟨36, _⟩ => ⟨S1x128, .f32⟩
  | .hbm, ⟨37, _⟩ => ⟨S16384x512, .f32⟩
  | .hbm, ⟨38, _⟩ => ⟨S8x128x2048, .f32⟩
  | .hbm, ⟨39, _⟩ => ⟨S16384x256, .f32⟩
  | .hbm, ⟨40, _⟩ => ⟨S8x64x2048, .f32⟩
  | .hbm, ⟨41, _⟩ => ⟨S8x128x2048, .f32⟩
  | .hbm, ⟨42, _⟩ => ⟨S16384x128, .bf16⟩
  | .hbm, ⟨43, _⟩ => ⟨S16384x128, .bf16⟩
  | .hbm, ⟨44, _⟩ => ⟨S16384x64, .bf16⟩
  | .local _ .vmem, ⟨0, _⟩ => ⟨S1024x512, .f32⟩
  | .local _ .vmem, ⟨1, _⟩ => ⟨S1024x512, .f32⟩
  | .local _ .vmem, ⟨2, _⟩ => ⟨S1024x128, .f32⟩
  | .local _ .vmem, ⟨3, _⟩ => ⟨S1024x128, .f32⟩
  | .local _ .vmem, ⟨4, _⟩ => ⟨S1024x256, .f32⟩
  | .local _ .vmem, ⟨5, _⟩ => ⟨S1024x256, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1x128, .f32⟩
  | .local _ .vmem, ⟨15, _⟩ => ⟨S1x128, .f32⟩
  | .local _ .vmem, ⟨16, _⟩ => ⟨S1024x512, .f32⟩
  | .local _ .vmem, ⟨17, _⟩ => ⟨S1024x512, .f32⟩
  | .local _ .vmem, ⟨18, _⟩ => ⟨S1x128x1024, .f32⟩
  | .local _ .vmem, ⟨19, _⟩ => ⟨S1x128x1024, .f32⟩
  | .local _ .vmem, ⟨20, _⟩ => ⟨S1024x256, .f32⟩
  | .local _ .vmem, ⟨21, _⟩ => ⟨S1024x256, .f32⟩
  | .local _ .vmem, ⟨22, _⟩ => ⟨S1x64x1024, .f32⟩
  | .local _ .vmem, ⟨23, _⟩ => ⟨S1x64x1024, .f32⟩
  | .local _ .vmem, ⟨24, _⟩ => ⟨S1x128x1024, .f32⟩
  | .local _ .vmem, ⟨25, _⟩ => ⟨S1x128x1024, .f32⟩
  | .local _ .vmem, ⟨26, _⟩ => ⟨S1024x128, .bf16⟩
  | .local _ .vmem, ⟨27, _⟩ => ⟨S1024x128, .bf16⟩
  | .local _ .vmem, ⟨28, _⟩ => ⟨S1024x128, .bf16⟩
  | .local _ .vmem, ⟨29, _⟩ => ⟨S1024x128, .bf16⟩
  | .local _ .vmem, ⟨30, _⟩ => ⟨S1024x64, .bf16⟩
  | .local _ .vmem, ⟨31, _⟩ => ⟨S1024x64, .bf16⟩
  | _, _ => ⟨S16384x8448, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32_0 : Ref sig .tc := ⟨.hbm, 37, rfl⟩
abbrev main_v32_1 : Ref sig .tc := ⟨.hbm, 38, rfl⟩
abbrev main_v32_2 : Ref sig .tc := ⟨.hbm, 39, rfl⟩
abbrev main_v32_3 : Ref sig .tc := ⟨.hbm, 40, rfl⟩
abbrev main_v32_4 : Ref sig .tc := ⟨.hbm, 41, rfl⟩
abbrev main_v32_5 : Ref sig .tc := ⟨.hbm, 42, rfl⟩
abbrev main_v32_6 : Ref sig .tc := ⟨.hbm, 43, rfl⟩
abbrev main_v32_7 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_1 (i : grid0.Coords) : Fin 2 → Nat :=
  let arg0 : BitVec 32 := BitVec.ofNat 32 (i 0).val
  let c62_i32 : BitVec 32 := 62#32
  let c0_i32 : BitVec 32 := 0#32
  ![arg0.toNat, c62_i32.toNat]

def cc0_transform_2 (i : grid0.Coords) : Fin 2 → Nat :=
  let arg0 : BitVec 32 := BitVec.ofNat 32 (i 0).val
  let c30_i32 : BitVec 32 := 30#32
  let c0_i32 : BitVec 32 := 0#32
  ![arg0.toNat, c30_i32.toNat]

def cc0_transform_3 (i : grid0.Coords) : Fin 2 → Nat :=
  let arg0 : BitVec 32 := BitVec.ofNat 32 (i 0).val
  let c64_i32 : BitVec 32 := 64#32
  let c0_i32 : BitVec 32 := 0#32
  ![arg0.toNat, c64_i32.toNat]

def cc0_transform_4 (i : grid0.Coords) : Fin 2 → Nat :=
  let arg0 : BitVec 32 := BitVec.ofNat 32 (i 0).val
  let c63_i32 : BitVec 32 := 63#32
  let c0_i32 : BitVec 32 := 0#32
  ![arg0.toNat, c63_i32.toNat]

def cc0_transform_5 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_13 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x64x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x128x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1024x64 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== QkropeReferenceIdeal.lean ====
abbrev S16384x8448 : Shape := ⟨2, ![16384, 8448]⟩
abbrev S64 : Shape := ⟨1, ![64]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S1x2048x1x32 : Shape := ⟨4, ![1, 2048, 1, 32]⟩
abbrev S16384x512 : Shape := ⟨2, ![16384, 512]⟩
abbrev S8x2048x8x64 : Shape := ⟨4, ![8, 2048, 8, 64]⟩
abbrev S8x2048x8 : Shape := ⟨3, ![8, 2048, 8]⟩
abbrev S8x2048x8x1 : Shape := ⟨4, ![8, 2048, 8, 1]⟩
abbrev S1x1x1x64 : Shape := ⟨4, ![1, 1, 1, 64]⟩
abbrev S8x2048x8x32 : Shape := ⟨4, ![8, 2048, 8, 32]⟩
abbrev S16384x128 : Shape := ⟨2, ![16384, 128]⟩
abbrev S8x2048x2x64 : Shape := ⟨4, ![8, 2048, 2, 64]⟩
abbrev S8x2048x2 : Shape := ⟨3, ![8, 2048, 2]⟩
abbrev S8x2048x2x1 : Shape := ⟨4, ![8, 2048, 2, 1]⟩
abbrev S8x2048x2x32 : Shape := ⟨4, ![8, 2048, 2, 32]⟩
abbrev S16384x256 : Shape := ⟨2, ![16384, 256]⟩
abbrev S8x2048x4x64 : Shape := ⟨4, ![8, 2048, 4, 64]⟩
abbrev S8x2048x4x32 : Shape := ⟨4, ![8, 2048, 4, 32]⟩
abbrev S16384x64 : Shape := ⟨2, ![16384, 64]⟩
abbrev S8x2048x1x64 : Shape := ⟨4, ![8, 2048, 1, 64]⟩
abbrev S8x2048x1 : Shape := ⟨3, ![8, 2048, 1]⟩
abbrev S8x2048x1x1 : Shape := ⟨4, ![8, 2048, 1, 1]⟩
abbrev S8x2048x1x32 : Shape := ⟨4, ![8, 2048, 1, 32]⟩
abbrev S8x2048x64 : Shape := ⟨3, ![8, 2048, 64]⟩
abbrev S8x2048x128 : Shape := ⟨3, ![8, 2048, 128]⟩
abbrev S8x128x2048 : Shape := ⟨3, ![8, 128, 2048]⟩
abbrev S8x64x2048 : Shape := ⟨3, ![8, 64, 2048]⟩

abbrev nBuf : Space → Nat
  | .hbm => 143
  | .vmem => 0
  | .smem => 0
  | _ => 0

abbrev hbmTy0_0 (i : Nat) : BufTy := match i % 128 with
  | 0 => ⟨S16384x8448, .f32⟩
  | 1 => ⟨S64, .f32⟩
  | 2 => ⟨S64, .f32⟩
  | 3 => ⟨S32, .f32⟩
  | 4 => ⟨S32, .f32⟩
  | 5 => ⟨S_, .f32⟩
  | 6 => ⟨S32, .f32⟩
  | 7 => ⟨S32, .f32⟩
  | 8 => ⟨S_, .f32⟩
  | 9 => ⟨S32, .f32⟩
  | 10 => ⟨S32, .f32⟩
  | 11 => ⟨S2048, .i32⟩
  | 12 => ⟨S2048, .f32⟩
  | 13 => ⟨S2048x1, .f32⟩
  | 14 => ⟨S1x32, .f32⟩
  | 15 => ⟨S2048x32, .f32⟩
  | 16 => ⟨S2048x32, .f32⟩
  | 17 => ⟨S2048x32, .f32⟩
  | 18 => ⟨S2048x32, .f32⟩
  | 19 => ⟨S1x2048x1x32, .f32⟩
  | 20 => ⟨S2048x32, .f32⟩
  | 21 => ⟨S1x2048x1x32, .f32⟩
  | 22 => ⟨S16384x512, .f32⟩
  | 23 => ⟨S8x2048x8x64, .f32⟩
  | 24 => ⟨S8x2048x8x64, .f32⟩
  | 25 => ⟨S_, .f32⟩
  | 26 => ⟨S8x2048x8, .f32⟩
  | 27 => ⟨S8x2048x8x1, .f32⟩
  | 28 => ⟨S_, .f32⟩
  | 29 => ⟨S8x2048x8x1, .f32⟩
  | 30 => ⟨S8x2048x8x1, .f32⟩
  | 31 => ⟨S_, .f32⟩
  | 32 => ⟨S8x2048x8x1, .f32⟩
  | 33 => ⟨S8x2048x8x1, .f32⟩
  | 34 => ⟨S8x2048x8x1, .f32⟩
  | 35 => ⟨S8x2048x8x64, .f32⟩
  | 36 => ⟨S8x2048x8x64, .f32⟩
  | 37 => ⟨S1x1x1x64, .f32⟩
  | 38 => ⟨S8x2048x8x64, .f32⟩
  | 39 => ⟨S8x2048x8x64, .f32⟩
  | 40 => ⟨S8x2048x8x32, .f32⟩
  | 41 => ⟨S8x2048x8x32, .f32⟩
  | 42 => ⟨S8x2048x8x32, .f32⟩
  | 43 => ⟨S8x2048x8x32, .f32⟩
  | 44 => ⟨S8x2048x8x32, .f32⟩
  | 45 => ⟨S8x2048x8x32, .f32⟩
  | 46 => ⟨S8x2048x8x32, .f32⟩
  | 47 => ⟨S8x2048x8x32, .f32⟩
  | 48 => ⟨S8x2048x8x32, .f32⟩
  | 49 => ⟨S8x2048x8x32, .f32⟩
  | 50 => ⟨S8x2048x8x32, .f32⟩
  | 51 => ⟨S8x2048x8x32, .f32⟩
  | 52 => ⟨S8x2048x8x64, .f32⟩
  | 53 => ⟨S16384x128, .f32⟩
  | 54 => ⟨S8x2048x2x64, .f32⟩
  | 55 => ⟨S8x2048x2x64, .f32⟩
  | 56 => ⟨S_, .f32⟩
  | 57 => ⟨S8x2048x2, .f32⟩
  | 58 => ⟨S8x2048x2x1, .f32⟩
  | 59 => ⟨S_, .f32⟩
  | 60 => ⟨S8x2048x2x1, .f32⟩
  | 61 => ⟨S8x2048x2x1, .f32⟩
  | 62 => ⟨S_, .f32⟩
  | 63 => ⟨S8x2048x2x1, .f32⟩
  | 64 => ⟨S8x2048x2x1, .f32⟩
  | 65 => ⟨S8x2048x2x1, .f32⟩
  | 66 => ⟨S8x2048x2x64, .f32⟩
  | 67 => ⟨S8x2048x2x64, .f32⟩
  | 68 => ⟨S1x1x1x64, .f32⟩
  | 69 => ⟨S8x2048x2x64, .f32⟩
  | 70 => ⟨S8x2048x2x64, .f32⟩
  | 71 => ⟨S8x2048x2x32, .f32⟩
  | 72 => ⟨S8x2048x2x32, .f32⟩
  | 73 => ⟨S8x2048x2x32, .f32⟩
  | 74 => ⟨S8x2048x2x32, .f32⟩
  | 75 => ⟨S8x2048x2x32, .f32⟩
  | 76 => ⟨S8x2048x2x32, .f32⟩
  | 77 => ⟨S8x2048x2x32, .f32⟩
  | 78 => ⟨S8x2048x2x32, .f32⟩
  | 79 => ⟨S8x2048x2x32, .f32⟩
  | 80 => ⟨S8x2048x2x32, .f32⟩
  | 81 => ⟨S8x2048x2x32, .f32⟩
  | 82 => ⟨S8x2048x2x32, .f32⟩
  | 83 => ⟨S8x2048x2x64, .f32⟩
  | 84 => ⟨S16384x128, .f32⟩
  | 85 => ⟨S8x2048x2x64, .f32⟩
  | 86 => ⟨S16384x256, .f32⟩
  | 87 => ⟨S8x2048x4x64, .f32⟩
  | 88 => ⟨S8x2048x4x32, .f32⟩
  | 89 => ⟨S8x2048x4x32, .f32⟩
  | 90 => ⟨S8x2048x4x32, .f32⟩
  | 91 => ⟨S8x2048x4x32, .f32⟩
  | 92 => ⟨S8x2048x4x32, .f32⟩
  | 93 => ⟨S8x2048x4x32, .f32⟩
  | 94 => ⟨S8x2048x4x32, .f32⟩
  | 95 => ⟨S8x2048x4x32, .f32⟩
  | 96 => ⟨S8x2048x4x32, .f32⟩
  | 97 => ⟨S8x2048x4x32, .f32⟩
  | 98 => ⟨S8x2048x4x32, .f32⟩
  | 99 => ⟨S8x2048x4x32, .f32⟩
  | 100 => ⟨S8x2048x4x64, .f32⟩
  | 101 => ⟨S16384x64, .f32⟩
  | 102 => ⟨S8x2048x1x64, .f32⟩
  | 103 => ⟨S8x2048x1x64, .f32⟩
  | 104 => ⟨S_, .f32⟩
  | 105 => ⟨S8x2048x1, .f32⟩
  | 106 => ⟨S8x2048x1x1, .f32⟩
  | 107 => ⟨S_, .f32⟩
  | 108 => ⟨S8x2048x1x1, .f32⟩
  | 109 => ⟨S8x2048x1x1, .f32⟩
  | 110 => ⟨S_, .f32⟩
  | 111 => ⟨S8x2048x1x1, .f32⟩
  | 112 => ⟨S8x2048x1x1, .f32⟩
  | 113 => ⟨S8x2048x1x1, .f32⟩
  | 114 => ⟨S8x2048x1x64, .f32⟩
  | 115 => ⟨S8x2048x1x64, .f32⟩
  | 116 => ⟨S8x2048x1x32, .f32⟩
  | 117 => ⟨S8x2048x1x32, .f32⟩
  | 118 => ⟨S8x2048x1x32, .f32⟩
  | 119 => ⟨S8x2048x1x32, .f32⟩
  | 120 => ⟨S8x2048x1x32, .f32⟩
  | 121 => ⟨S8x2048x1x32, .f32⟩
  | 122 => ⟨S8x2048x1x32, .f32⟩
  | 123 => ⟨S8x2048x1x32, .f32⟩
  | 124 => ⟨S8x2048x1x32, .f32⟩
  | 125 => ⟨S8x2048x1x32, .f32⟩
  | 126 => ⟨S8x2048x1x32, .f32⟩
  | 127 => ⟨S8x2048x1x32, .f32⟩
  | _ => ⟨S16384x8448, .f32⟩

abbrev hbmTy0_1 (i : Nat) : BufTy := match i % 128 with
  | 0 => ⟨S8x2048x1x64, .f32⟩
  | 1 => ⟨S8x2048x64, .f32⟩
  | 2 => ⟨S16384x512, .f32⟩
  | 3 => ⟨S8x2048x128, .f32⟩
  | 4 => ⟨S8x128x2048, .f32⟩
  | 5 => ⟨S16384x256, .f32⟩
  | 6 => ⟨S8x64x2048, .f32⟩
  | 7 => ⟨S8x2048x128, .f32⟩
  | 8 => ⟨S8x128x2048, .f32⟩
  | 9 => ⟨S16384x128, .f32⟩
  | 10 => ⟨S16384x128, .bf16⟩
  | 11 => ⟨S16384x128, .f32⟩
  | 12 => ⟨S16384x128, .bf16⟩
  | 13 => ⟨S16384x64, .f32⟩
  | 14 => ⟨S16384x64, .bf16⟩
  | _ => ⟨S16384x8448, .f32⟩

abbrev hbmTy (i : Nat) : BufTy := match i / 128 with
  | 0 => hbmTy0_0 i
  | 1 => hbmTy0_1 i
  | _ => ⟨S16384x8448, .f32⟩

abbrev bufTy : (tb : Table) → Fin (tcTables nBuf tb) → BufTy
  | .hbm, ⟨i, _⟩ => hbmTy i
  | _, _ => ⟨S16384x8448, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_1 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_cst_4 : Ref sig .tc := ⟨.hbm, 56, rfl⟩
abbrev main_v48 : Ref sig .tc := ⟨.hbm, 57, rfl⟩
abbrev main_v49 : Ref sig .tc := ⟨.hbm, 58, rfl⟩
abbrev main_cst_5 : Ref sig .tc := ⟨.hbm, 59, rfl⟩
abbrev main_v50 : Ref sig .tc := ⟨.hbm, 60, rfl⟩
abbrev main_v51 : Ref sig .tc := ⟨.hbm, 61, rfl⟩
abbrev main_cst_6 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_cst_7 : Ref sig .tc := ⟨.hbm, 104, rfl⟩
abbrev main_v93 : Ref sig .tc := ⟨.hbm, 105, rfl⟩
abbrev main_v94 : Ref sig .tc := ⟨.hbm, 106, rfl⟩
abbrev main_cst_8 : Ref sig .tc := ⟨.hbm, 107, rfl⟩
abbrev main_v95 : Ref sig .tc := ⟨.hbm, 108, rfl⟩
abbrev main_v96 : Ref sig .tc := ⟨.hbm, 109, rfl⟩
abbrev main_cst_9 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩

abbrev nD : Nat := 1
abbrev τ : Topo := Topo.v7x

variable {F : FTy → Type} [FloatOps F]
-- ==== Conv.lean ====
abbrev S8x2048x8448 : Shape := ⟨3, ![8, 2048, 8448]⟩
abbrev S8x32x512 : Shape := ⟨3, ![8, 32, 512]⟩
abbrev S31x512 : Shape := ⟨2, ![31, 512]⟩
abbrev S512 : Shape := ⟨1, ![512]⟩
abbrev S_ : Shape := ⟨0, ![]⟩
abbrev S32x512 : Shape := ⟨2, ![32, 512]⟩
abbrev S1x512 : Shape := ⟨2, ![1, 512]⟩
abbrev S8x2048x512 : Shape := ⟨3, ![8, 2048, 512]⟩
abbrev S1x512x512 : Shape := ⟨3, ![1, 512, 512]⟩
abbrev S1x32x512 : Shape := ⟨3, ![1, 32, 512]⟩
abbrev S544x512 : Shape := ⟨2, ![544, 512]⟩
abbrev S7x536x512 : Shape := ⟨3, ![7, 536, 512]⟩
abbrev S512x512 : Shape := ⟨2, ![512, 512]⟩
abbrev S536x512 : Shape := ⟨2, ![536, 512]⟩
abbrev S1x536x512 : Shape := ⟨3, ![1, 536, 512]⟩
abbrev S512x1 : Shape := ⟨2, ![512, 1]⟩

abbrev nBuf : Space → Nat
  | .hbm => 14
  | .vmem => 22
  | .smem => 0
  | _ => 0

abbrev bufTy : (tb : Table) → Fin (tcTables nBuf tb) → BufTy
  | .hbm, ⟨0, _⟩ => ⟨S8x2048x8448, .f32⟩
  | .hbm, ⟨1, _⟩ => ⟨S8x32x512, .f32⟩
  | .hbm, ⟨2, _⟩ => ⟨S31x512, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S_, .i32⟩
  | .hbm, ⟨7, _⟩ => ⟨S_, .f32⟩
  | .hbm, ⟨8, _⟩ => ⟨S32x512, .f32⟩
  | .hbm, ⟨9, _⟩ => ⟨S1x512, .f32⟩
  | .hbm, ⟨10, _⟩ => ⟨S1x512, .f32⟩
  | .hbm, ⟨11, _⟩ => ⟨S1x512, .f32⟩
  | .hbm, ⟨12, _⟩ => ⟨S8x2048x512, .f32⟩
  | .hbm, ⟨13, _⟩ => ⟨S8x32x512, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x32x512, .f32⟩
  | .local _ .vmem, ⟨7, _⟩ => ⟨S1x32x512, .f32⟩
  | .local _ .vmem, ⟨8, _⟩ => ⟨S1x32x512, .f32⟩
  | .local _ .vmem, ⟨9, _⟩ => ⟨S1x32x512, .f32⟩
  | .local _ .vmem, ⟨10, _⟩ => ⟨S1x32x512, .f32⟩
  | .local _ .vmem, ⟨11, _⟩ => ⟨S1x32x512, .f32⟩
  | .local _ .vmem, ⟨12, _⟩ => ⟨S32x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S1x512x512, .f32⟩
  | .local _ .vmem, ⟨17, _⟩ => ⟨S1x512x512, .f32⟩
  | .local _ .vmem, ⟨18, _⟩ => ⟨S1x32x512, .f32⟩
  | .local _ .vmem, ⟨19, _⟩ => ⟨S1x32x512, .f32⟩
  | .local _ .vmem, ⟨20, _⟩ => ⟨S544x512, .f32⟩
  | .local _ .vmem, ⟨21, _⟩ => ⟨S7x536x512, .f32⟩
  | _, _ => ⟨S8x2048x8448, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c3_i32 : BitVec 32 := 3#32
  let v302 : BitVec 1 := Scalar.cmpi .eq arg1 c3_i32
  let v303 : BitVec 32 := Scalar.extui v302
  let c0_i32_190 : BitVec 32 := 0#32
  let v304 : BitVec 1 := Scalar.cmpi .ne v303 c0_i32_190
  v304

def cc0_transform_0 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_1 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  ![arg0.toNat, arg1.toNat, c7_i32.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  ![arg0.toNat, arg1.toNat, c8_i32.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c6_i32 : BitVec 32 := 6#32
  let c0_i32_0 : BitVec 32 := 0#32
  ![arg0.toNat, v2.toNat, c6_i32.toNat]

def cc0_transform_4 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c7_i32 : BitVec 32 := 7#32
  let c0_i32_0 : BitVec 32 := 0#32
  ![arg0.toNat, v2.toNat, c7_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x32x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x32x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S32x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x32x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== ConvReferenceIdeal.lean ====
abbrev S8x2048x8448 : Shape := ⟨3, ![8, 2048, 8448]⟩
abbrev S8x32x512 : Shape := ⟨3, ![8, 32, 512]⟩
abbrev S31x512 : Shape := ⟨2, ![31, 512]⟩
abbrev S512 : Shape := ⟨1, ![512]⟩
abbrev S8x2048x512 : Shape := ⟨3, ![8, 2048, 512]⟩
abbrev S_ : Shape := ⟨0, ![]⟩
abbrev S8x30x512 : Shape := ⟨3, ![8, 30, 512]⟩
abbrev S8x2078x512 : Shape := ⟨3, ![8, 2078, 512]⟩
abbrev S1x512 : Shape := ⟨2, ![1, 512]⟩
abbrev S1x1x512 : Shape := ⟨3, ![1, 1, 512]⟩
abbrev S8x2048 : Shape := ⟨2, ![8, 2048]⟩
abbrev S8x2048x1 : Shape := ⟨3, ![8, 2048, 1]⟩

abbrev nBuf : Space → Nat
  | .hbm => 291
  | .vmem => 0
  | .smem => 0
  | _ => 0

abbrev hbmTy0_0 (i : Nat) : BufTy := match i % 128 with
  | 0 => ⟨S8x2048x8448, .f32⟩
  | 1 => ⟨S8x32x512, .f32⟩
  | 2 => ⟨S31x512, .f32⟩
  | 3 => ⟨S512, .f32⟩
  | 4 => ⟨S512, .f32⟩
  | 5 => ⟨S512, .f32⟩
  | 6 => ⟨S8x2048x512, .f32⟩
  | 7 => ⟨S8x2048x512, .f32⟩
  | 8 => ⟨S8x2048x512, .f32⟩
  | 9 => ⟨S8x2048x512, .f32⟩
  | 10 => ⟨S8x2048x512, .f32⟩
  | 11 => ⟨S_, .f32⟩
  | 12 => ⟨S8x2048x512, .f32⟩
  | 13 => ⟨S8x2048x512, .f32⟩
  | 14 => ⟨S_, .f32⟩
  | 15 => ⟨S8x2048x512, .f32⟩
  | 16 => ⟨S8x2048x512, .f32⟩
  | 17 => ⟨S8x2048x512, .f32⟩
  | 18 => ⟨S8x30x512, .f32⟩
  | 19 => ⟨S8x2078x512, .f32⟩
  | 20 => ⟨S1x512, .f32⟩
  | 21 => ⟨S512, .f32⟩
  | 22 => ⟨S8x2048x512, .f32⟩
  | 23 => ⟨S1x1x512, .f32⟩
  | 24 => ⟨S8x2048x512, .f32⟩
  | 25 => ⟨S8x2048x512, .f32⟩
  | 26 => ⟨S_, .f32⟩
  | 27 => ⟨S8x2048x512, .f32⟩
  | 28 => ⟨S8x2048x512, .f32⟩
  | 29 => ⟨S1x512, .f32⟩
  | 30 => ⟨S512, .f32⟩
  | 31 => ⟨S8x2048x512, .f32⟩
  | 32 => ⟨S1x1x512, .f32⟩
  | 33 => ⟨S8x2048x512, .f32⟩
  | 34 => ⟨S8x2048x512, .f32⟩
  | 35 => ⟨S8x2048x512, .f32⟩
  | 36 => ⟨S1x512, .f32⟩
  | 37 => ⟨S512, .f32⟩
  | 38 => ⟨S8x2048x512, .f32⟩
  | 39 => ⟨S1x1x512, .f32⟩
  | 40 => ⟨S8x2048x512, .f32⟩
  | 41 => ⟨S8x2048x512, .f32⟩
  | 42 => ⟨S8x2048x512, .f32⟩
  | 43 => ⟨S1x512, .f32⟩
  | 44 => ⟨S512, .f32⟩
  | 45 => ⟨S8x2048x512, .f32⟩
  | 46 => ⟨S1x1x512, .f32⟩
  | 47 => ⟨S8x2048x512, .f32⟩
  | 48 => ⟨S8x2048x512, .f32⟩
  | 49 => ⟨S8x2048x512, .f32⟩
  | 50 => ⟨S1x512, .f32⟩
  | 51 => ⟨S512, .f32⟩
  | 52 => ⟨S8x2048x512, .f32⟩
  | 53 => ⟨S1x1x512, .f32⟩
  | 54 => ⟨S8x2048x512, .f32⟩
  | 55 => ⟨S8x2048x512, .f32⟩
  | 56 => ⟨S8x2048x512, .f32⟩
  | 57 => ⟨S1x512, .f32⟩
  | 58 => ⟨S512, .f32⟩
  | 59 => ⟨S8x2048x512, .f32⟩
  | 60 => ⟨S1x1x512, .f32⟩
  | 61 => ⟨S8x2048x512, .f32⟩
  | 62 => ⟨S8x2048x512, .f32⟩
  | 63 => ⟨S8x2048x512, .f32⟩
  | 64 => ⟨S1x512, .f32⟩
  | 65 => ⟨S512, .f32⟩
  | 66 => ⟨S8x2048x512, .f32⟩
  | 67 => ⟨S1x1x512, .f32⟩
  | 68 => ⟨S8x2048x512, .f32⟩
  | 69 => ⟨S8x2048x512, .f32⟩
  | 70 => ⟨S8x2048x512, .f32⟩
  | 71 => ⟨S1x512, .f32⟩
  | 72 => ⟨S512, .f32⟩
  | 73 => ⟨S8x2048x512, .f32⟩
  | 74 => ⟨S1x1x512, .f32⟩
  | 75 => ⟨S8x2048x512, .f32⟩
  | 76 => ⟨S8x2048x512, .f32⟩
  | 77 => ⟨S8x2048x512, .f32⟩
  | 78 => ⟨S1x512, .f32⟩
  | 79 => ⟨S512, .f32⟩
  | 80 => ⟨S8x2048x512, .f32⟩
  | 81 => ⟨S1x1x512, .f32⟩
  | 82 => ⟨S8x2048x512, .f32⟩
  | 83 => ⟨S8x2048x512, .f32⟩
  | 84 => ⟨S8x2048x512, .f32⟩
  | 85 => ⟨S1x512, .f32⟩
  | 86 => ⟨S512, .f32⟩
  | 87 => ⟨S8x2048x512, .f32⟩
  | 88 => ⟨S1x1x512, .f32⟩
  | 89 => ⟨S8x2048x512, .f32⟩
  | 90 => ⟨S8x2048x512, .f32⟩
  | 91 => ⟨S8x2048x512, .f32⟩
  | 92 => ⟨S1x512, .f32⟩
  | 93 => ⟨S512, .f32⟩
  | 94 => ⟨S8x2048x512, .f32⟩
  | 95 => ⟨S1x1x512, .f32⟩
  | 96 => ⟨S8x2048x512, .f32⟩
  | 97 => ⟨S8x2048x512, .f32⟩
  | 98 => ⟨S8x2048x512, .f32⟩
  | 99 => ⟨S1x512, .f32⟩
  | 100 => ⟨S512, .f32⟩
  | 101 => ⟨S8x2048x512, .f32⟩
  | 102 => ⟨S1x1x512, .f32⟩
  | 103 => ⟨S8x2048x512, .f32⟩
  | 104 => ⟨S8x2048x512, .f32⟩
  | 105 => ⟨S8x2048x512, .f32⟩
  | 106 => ⟨S1x512, .f32⟩
  | 107 => ⟨S512, .f32⟩
  | 108 => ⟨S8x2048x512, .f32⟩
  | 109 => ⟨S1x1x512, .f32⟩
  | 110 => ⟨S8x2048x512, .f32⟩
  | 111 => ⟨S8x2048x512, .f32⟩
  | 112 => ⟨S8x2048x512, .f32⟩
  | 113 => ⟨S1x512, .f32⟩
  | 114 => ⟨S512, .f32⟩
  | 115 => ⟨S8x2048x512, .f32⟩
  | 116 => ⟨S1x1x512, .f32⟩
  | 117 => ⟨S8x2048x512, .f32⟩
  | 118 => ⟨S8x2048x512, .f32⟩
  | 119 => ⟨S8x2048x512, .f32⟩
  | 120 => ⟨S1x512, .f32⟩
  | 121 => ⟨S512, .f32⟩
  | 122 => ⟨S8x2048x512, .f32⟩
  | 123 => ⟨S1x1x512, .f32⟩
  | 124 => ⟨S8x2048x512, .f32⟩
  | 125 => ⟨S8x2048x512, .f32⟩
  | 126 => ⟨S8x2048x512, .f32⟩
  | 127 => ⟨S1x512, .f32⟩
  | _ => ⟨S8x2048x8448, .f32⟩

abbrev hbmTy0_1 (i : Nat) : BufTy := match i % 128 with
  | 0 => ⟨S512, .f32⟩
  | 1 => ⟨S8x2048x512, .f32⟩
  | 2 => ⟨S1x1x512, .f32⟩
  | 3 => ⟨S8x2048x512, .f32⟩
  | 4 => ⟨S8x2048x512, .f32⟩
  | 5 => ⟨S8x2048x512, .f32⟩
  | 6 => ⟨S1x512, .f32⟩
  | 7 => ⟨S512, .f32⟩
  | 8 => ⟨S8x2048x512, .f32⟩
  | 9 => ⟨S1x1x512, .f32⟩
  | 10 => ⟨S8x2048x512, .f32⟩
  | 11 => ⟨S8x2048x512, .f32⟩
  | 12 => ⟨S8x2048x512, .f32⟩
  | 13 => ⟨S1x512, .f32⟩
  | 14 => ⟨S512, .f32⟩
  | 15 => ⟨S8x2048x512, .f32⟩
  | 16 => ⟨S1x1x512, .f32⟩
  | 17 => ⟨S8x2048x512, .f32⟩
  | 18 => ⟨S8x2048x512, .f32⟩
  | 19 => ⟨S8x2048x512, .f32⟩
  | 20 => ⟨S1x512, .f32⟩
  | 21 => ⟨S512, .f32⟩
  | 22 => ⟨S8x2048x512, .f32⟩
  | 23 => ⟨S1x1x512, .f32⟩
  | 24 => ⟨S8x2048x512, .f32⟩
  | 25 => ⟨S8x2048x512, .f32⟩
  | 26 => ⟨S8x2048x512, .f32⟩
  | 27 => ⟨S1x512, .f32⟩
  | 28 => ⟨S512, .f32⟩
  | 29 => ⟨S8x2048x512, .f32⟩
  | 30 => ⟨S1x1x512, .f32⟩
  | 31 => ⟨S8x2048x512, .f32⟩
  | 32 => ⟨S8x2048x512, .f32⟩
  | 33 => ⟨S8x2048x512, .f32⟩
  | 34 => ⟨S1x512, .f32⟩
  | 35 => ⟨S512, .f32⟩
  | 36 => ⟨S8x2048x512, .f32⟩
  | 37 => ⟨S1x1x512, .f32⟩
  | 38 => ⟨S8x2048x512, .f32⟩
  | 39 => ⟨S8x2048x512, .f32⟩
  | 40 => ⟨S8x2048x512, .f32⟩
  | 41 => ⟨S1x512, .f32⟩
  | 42 => ⟨S512, .f32⟩
  | 43 => ⟨S8x2048x512, .f32⟩
  | 44 => ⟨S1x1x512, .f32⟩
  | 45 => ⟨S8x2048x512, .f32⟩
  | 46 => ⟨S8x2048x512, .f32⟩
  | 47 => ⟨S8x2048x512, .f32⟩
  | 48 => ⟨S1x512, .f32⟩
  | 49 => ⟨S512, .f32⟩
  | 50 => ⟨S8x2048x512, .f32⟩
  | 51 => ⟨S1x1x512, .f32⟩
  | 52 => ⟨S8x2048x512, .f32⟩
  | 53 => ⟨S8x2048x512, .f32⟩
  | 54 => ⟨S8x2048x512, .f32⟩
  | 55 => ⟨S1x512, .f32⟩
  | 56 => ⟨S512, .f32⟩
  | 57 => ⟨S8x2048x512, .f32⟩
  | 58 => ⟨S1x1x512, .f32⟩
  | 59 => ⟨S8x2048x512, .f32⟩
  | 60 => ⟨S8x2048x512, .f32⟩
  | 61 => ⟨S8x2048x512, .f32⟩
  | 62 => ⟨S1x512, .f32⟩
  | 63 => ⟨S512, .f32⟩
  | 64 => ⟨S8x2048x512, .f32⟩
  | 65 => ⟨S1x1x512, .f32⟩
  | 66 => ⟨S8x2048x512, .f32⟩
  | 67 => ⟨S8x2048x512, .f32⟩
  | 68 => ⟨S8x2048x512, .f32⟩
  | 69 => ⟨S1x512, .f32⟩
  | 70 => ⟨S512, .f32⟩
  | 71 => ⟨S8x2048x512, .f32⟩
  | 72 => ⟨S1x1x512, .f32⟩
  | 73 => ⟨S8x2048x512, .f32⟩
  | 74 => ⟨S8x2048x512, .f32⟩
  | 75 => ⟨S8x2048x512, .f32⟩
  | 76 => ⟨S1x512, .f32⟩
  | 77 => ⟨S512, .f32⟩
  | 78 => ⟨S8x2048x512, .f32⟩
  | 79 => ⟨S1x1x512, .f32⟩
  | 80 => ⟨S8x2048x512, .f32⟩
  | 81 => ⟨S8x2048x512, .f32⟩
  | 82 => ⟨S8x2048x512, .f32⟩
  | 83 => ⟨S1x512, .f32⟩
  | 84 => ⟨S512, .f32⟩
  | 85 => ⟨S8x2048x512, .f32⟩
  | 86 => ⟨S1x1x512, .f32⟩
  | 87 => ⟨S8x2048x512, .f32⟩
  | 88 => ⟨S8x2048x512, .f32⟩
  | 89 => ⟨S8x2048x512, .f32⟩
  | 90 => ⟨S1x512, .f32⟩
  | 91 => ⟨S512, .f32⟩
  | 92 => ⟨S8x2048x512, .f32⟩
  | 93 => ⟨S1x1x512, .f32⟩
  | 94 => ⟨S8x2048x512, .f32⟩
  | 95 => ⟨S8x2048x512, .f32⟩
  | 96 => ⟨S8x2048x512, .f32⟩
  | 97 => ⟨S1x512, .f32⟩
  | 98 => ⟨S512, .f32⟩
  | 99 => ⟨S8x2048x512, .f32⟩
  | 100 => ⟨S1x1x512, .f32⟩
  | 101 => ⟨S8x2048x512, .f32⟩
  | 102 => ⟨S8x2048x512, .f32⟩
  | 103 => ⟨S8x2048x512, .f32⟩
  | 104 => ⟨S1x512, .f32⟩
  | 105 => ⟨S512, .f32⟩
  | 106 => ⟨S8x2048x512, .f32⟩
  | 107 => ⟨S1x1x512, .f32⟩
  | 108 => ⟨S8x2048x512, .f32⟩
  | 109 => ⟨S8x2048x512, .f32⟩
  | 110 => ⟨S8x2048x512, .f32⟩
  | 111 => ⟨S1x1x512, .f32⟩
  | 112 => ⟨S8x2048x512, .f32⟩
  | 113 => ⟨S8x2048x512, .f32⟩
  | 114 => ⟨S_, .f32⟩
  | 115 => ⟨S8x2048, .f32⟩
  | 116 => ⟨S8x2048x1, .f32⟩
  | 117 => ⟨S_, .f32⟩
  | 118 => ⟨S8x2048x1, .f32⟩
  | 119 => ⟨S8x2048x1, .f32⟩
  | 120 => ⟨S8x2048x512, .f32⟩
  | 121 => ⟨S8x2048x512, .f32⟩
  | 122 => ⟨S8x2048x512, .f32⟩
  | 123 => ⟨S_, .f32⟩
  | 124 => ⟨S8x2048, .f32⟩
  | 125 => ⟨S8x2048x1, .f32⟩
  | 126 => ⟨S_, .f32⟩
  | 127 => ⟨S8x2048x1, .f32⟩
  | _ => ⟨S8x2048x8448, .f32⟩

abbrev hbmTy0_2 (i : Nat) : BufTy := match i % 128 with
  | 0 => ⟨S8x2048x1, .f32⟩
  | 1 => ⟨S8x2048x512, .f32⟩
  | 2 => ⟨S8x2048x512, .f32⟩
  | 3 => ⟨S_, .f32⟩
  | 4 => ⟨S8x2048x1, .f32⟩
  | 5 => ⟨S8x2048x1, .f32⟩
  | 6 => ⟨S8x2048x1, .f32⟩
  | 7 => ⟨S8x2048x512, .f32⟩
  | 8 => ⟨S8x2048x512, .f32⟩
  | 9 => ⟨S1x1x512, .f32⟩
  | 10 => ⟨S8x2048x512, .f32⟩
  | 11 => ⟨S8x2048x512, .f32⟩
  | 12 => ⟨S1x1x512, .f32⟩
  | 13 => ⟨S8x2048x512, .f32⟩
  | 14 => ⟨S8x2048x512, .f32⟩
  | 15 => ⟨S8x2048x512, .f32⟩
  | 16 => ⟨S8x2048x512, .f32⟩
  | 17 => ⟨S_, .f32⟩
  | 18 => ⟨S8x2048x512, .f32⟩
  | 19 => ⟨S8x2048x512, .f32⟩
  | 20 => ⟨S_, .f32⟩
  | 21 => ⟨S8x2048x512, .f32⟩
  | 22 => ⟨S8x2048x512, .f32⟩
  | 23 => ⟨S8x2048x512, .f32⟩
  | 24 => ⟨S8x2048x512, .f32⟩
  | 25 => ⟨S8x2048x512, .f32⟩
  | 26 => ⟨S_, .f32⟩
  | 27 => ⟨S8x2048x512, .f32⟩
  | 28 => ⟨S8x2048x512, .f32⟩
  | 29 => ⟨S_, .f32⟩
  | 30 => ⟨S8x2048x512, .f32⟩
  | 31 => ⟨S8x2048x512, .f32⟩
  | 32 => ⟨S8x2048x512, .f32⟩
  | 33 => ⟨S8x2048x512, .f32⟩
  | 34 => ⟨S8x32x512, .f32⟩
  | _ => ⟨S8x2048x8448, .f32⟩

abbrev hbmTy (i : Nat) : BufTy := match i / 128 with
  | 0 => hbmTy0_0 i
  | 1 => hbmTy0_1 i
  | 2 => hbmTy0_2 i
  | _ => ⟨S8x2048x8448, .f32⟩

abbrev bufTy : (tb : Table) → Fin (tcTables nBuf tb) → BufTy
  | .hbm, ⟨i, _⟩ => hbmTy i
  | _, _ => ⟨S8x2048x8448, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_v145 : Ref sig .tc := ⟨.hbm, 154, rfl⟩
abbrev main_v146 : Ref sig .tc := ⟨.hbm, 155, rfl⟩
abbrev main_v147 : Ref sig .tc := ⟨.hbm, 156, rfl⟩
abbrev main_v148 : Ref sig .tc := ⟨.hbm, 157, rfl⟩
abbrev main_v149 : Ref sig .tc := ⟨.hbm, 158, rfl⟩
abbrev main_v150 : Ref sig .tc := ⟨.hbm, 159, rfl⟩
abbrev main_v151 : Ref sig .tc := ⟨.hbm, 160, rfl⟩
abbrev main_v152 : Ref sig .tc := ⟨.hbm, 161, rfl⟩
abbrev main_v153 : Ref sig .tc := ⟨.hbm, 162, rfl⟩
abbrev main_v154 : Ref sig .tc := ⟨.hbm, 163, rfl⟩
abbrev main_v155 : Ref sig .tc := ⟨.hbm, 164, rfl⟩
abbrev main_v156 : Ref sig .tc := ⟨.hbm, 165, rfl⟩
abbrev main_v157 : Ref sig .tc := ⟨.hbm, 166, rfl⟩
abbrev main_v158 : Ref sig .tc := ⟨.hbm, 167, rfl⟩
abbrev main_v159 : Ref sig .tc := ⟨.hbm, 168, rfl⟩
abbrev main_v160 : Ref sig .tc := ⟨.hbm, 169, rfl⟩
abbrev main_v161 : Ref sig .tc := ⟨.hbm, 170, rfl⟩
abbrev main_v162 : Ref sig .tc := ⟨.hbm, 171, rfl⟩
abbrev main_v163 : Ref sig .tc := ⟨.hbm, 172, rfl⟩
abbrev main_v164 : Ref sig .tc := ⟨.hbm, 173, rfl⟩
abbrev main_v165 : Ref sig .tc := ⟨.hbm, 174, rfl⟩
abbrev main_v166 : Ref sig .tc := ⟨.hbm, 175, rfl⟩
abbrev main_v167 : Ref sig .tc := ⟨.hbm, 176, rfl⟩
abbrev main_v168 : Ref sig .tc := ⟨.hbm, 177, rfl⟩
abbrev main_v169 : Ref sig .tc := ⟨.hbm, 178, rfl⟩
abbrev main_v170 : Ref sig .tc := ⟨.hbm, 179, rfl⟩
abbrev main_v171 : Ref sig .tc := ⟨.hbm, 180, rfl⟩
abbrev main_v172 : Ref sig .tc := ⟨.hbm, 181, rfl⟩
abbrev main_v173 : Ref sig .tc := ⟨.hbm, 182, rfl⟩
abbrev main_v174 : Ref sig .tc := ⟨.hbm, 183, rfl⟩
abbrev main_v175 : Ref sig .tc := ⟨.hbm, 184, rfl⟩
abbrev main_v176 : Ref sig .tc := ⟨.hbm, 185, rfl⟩
abbrev main_v177 : Ref sig .tc := ⟨.hbm, 186, rfl⟩
abbrev main_v178 : Ref sig .tc := ⟨.hbm, 187, rfl⟩
abbrev main_v179 : Ref sig .tc := ⟨.hbm, 188, rfl⟩
abbrev main_v180 : Ref sig .tc := ⟨.hbm, 189, rfl⟩
abbrev main_v181 : Ref sig .tc := ⟨.hbm, 190, rfl⟩
abbrev main_v182 : Ref sig .tc := ⟨.hbm, 191, rfl⟩
abbrev main_v183 : Ref sig .tc := ⟨.hbm, 192, rfl⟩
abbrev main_v184 : Ref sig .tc := ⟨.hbm, 193, rfl⟩
abbrev main_v185 : Ref sig .tc := ⟨.hbm, 194, rfl⟩
abbrev main_v186 : Ref sig .tc := ⟨.hbm, 195, rfl⟩
abbrev main_v187 : Ref sig .tc := ⟨.hbm, 196, rfl⟩
abbrev main_v188 : Ref sig .tc := ⟨.hbm, 197, rfl⟩
abbrev main_v189 : Ref sig .tc := ⟨.hbm, 198, rfl⟩
abbrev main_v190 : Ref sig .tc := ⟨.hbm, 199, rfl⟩
abbrev main_v191 : Ref sig .tc := ⟨.hbm, 200, rfl⟩
abbrev main_v192 : Ref sig .tc := ⟨.hbm, 201, rfl⟩
abbrev main_v193 : Ref sig .tc := ⟨.hbm, 202, rfl⟩
abbrev main_v194 : Ref sig .tc := ⟨.hbm, 203, rfl⟩
abbrev main_v195 : Ref sig .tc := ⟨.hbm, 204, rfl⟩
abbrev main_v196 : Ref sig .tc := ⟨.hbm, 205, rfl⟩
abbrev main_v197 : Ref sig .tc := ⟨.hbm, 206, rfl⟩
abbrev main_v198 : Ref sig .tc := ⟨.hbm, 207, rfl⟩
abbrev main_v199 : Ref sig .tc := ⟨.hbm, 208, rfl⟩
abbrev main_v200 : Ref sig .tc := ⟨.hbm, 209, rfl⟩
abbrev main_v201 : Ref sig .tc := ⟨.hbm, 210, rfl⟩
abbrev main_v202 : Ref sig .tc := ⟨.hbm, 211, rfl⟩
abbrev main_v203 : Ref sig .tc := ⟨.hbm, 212, rfl⟩
abbrev main_v204 : Ref sig .tc := ⟨.hbm, 213, rfl⟩
abbrev main_v205 : Ref sig .tc := ⟨.hbm, 214, rfl⟩
abbrev main_v206 : Ref sig .tc := ⟨.hbm, 215, rfl⟩
abbrev main_v207 : Ref sig .tc := ⟨.hbm, 216, rfl⟩
abbrev main_v208 : Ref sig .tc := ⟨.hbm, 217, rfl⟩
abbrev main_v209 : Ref sig .tc := ⟨.hbm, 218, rfl⟩
abbrev main_v210 : Ref sig .tc := ⟨.hbm, 219, rfl⟩
abbrev main_v211 : Ref sig .tc := ⟨.hbm, 220, rfl⟩
abbrev main_v212 : Ref sig .tc := ⟨.hbm, 221, rfl⟩
abbrev main_v213 : Ref sig .tc := ⟨.hbm, 222, rfl⟩
abbrev main_v214 : Ref sig .tc := ⟨.hbm, 223, rfl⟩
abbrev main_v215 : Ref sig .tc := ⟨.hbm, 224, rfl⟩
abbrev main_v216 : Ref sig .tc := ⟨.hbm, 225, rfl⟩
abbrev main_v217 : Ref sig .tc := ⟨.hbm, 226, rfl⟩
abbrev main_v218 : Ref sig .tc := ⟨.hbm, 227, rfl⟩
abbrev main_v219 : Ref sig .tc := ⟨.hbm, 228, rfl⟩
abbrev main_v220 : Ref sig .tc := ⟨.hbm, 229, rfl⟩
abbrev main_v221 : Ref sig .tc := ⟨.hbm, 230, rfl⟩
abbrev main_v222 : Ref sig .tc := ⟨.hbm, 231, rfl⟩
abbrev main_v223 : Ref sig .tc := ⟨.hbm, 232, rfl⟩
abbrev main_v224 : Ref sig .tc := ⟨.hbm, 233, rfl⟩
abbrev main_v225 : Ref sig .tc := ⟨.hbm, 234, rfl⟩
abbrev main_v226 : Ref sig .tc := ⟨.hbm, 235, rfl⟩
abbrev main_v227 : Ref sig .tc := ⟨.hbm, 236, rfl⟩
abbrev main_v228 : Ref sig .tc := ⟨.hbm, 237, rfl⟩
abbrev main_v229 : Ref sig .tc := ⟨.hbm, 238, rfl⟩
abbrev main_v230 : Ref sig .tc := ⟨.hbm, 239, rfl⟩
abbrev main_v231 : Ref sig .tc := ⟨.hbm, 240, rfl⟩
abbrev main_v232 : Ref sig .tc := ⟨.hbm, 241, rfl⟩
abbrev main_cst_2 : Ref sig .tc := ⟨.hbm, 242, rfl⟩
abbrev main_v233 : Ref sig .tc := ⟨.hbm, 243, rfl⟩
abbrev main_v234 : Ref sig .tc := ⟨.hbm, 244, rfl⟩
abbrev main_cst_3 : Ref sig .tc := ⟨.hbm, 245, rfl⟩
abbrev main_v235 : Ref sig .tc := ⟨.hbm, 246, rfl⟩
abbrev main_v236 : Ref sig .tc := ⟨.hbm, 247, rfl⟩
abbrev main_v237 : Ref sig .tc := ⟨.hbm, 248, rfl⟩
abbrev main_v238 : Ref sig .tc := ⟨.hbm, 249, rfl⟩
abbrev main_v239 : Ref sig .tc := ⟨.hbm, 250, rfl⟩
abbrev main_cst_4 : Ref sig .tc := ⟨.hbm, 251, rfl⟩
abbrev main_v240 : Ref sig .tc := ⟨.hbm, 252, rfl⟩
abbrev main_v241 : Ref sig .tc := ⟨.hbm, 253, rfl⟩
abbrev main_cst_5 : Ref sig .tc := ⟨.hbm, 254, rfl⟩
abbrev main_v242 : Ref sig .tc := ⟨.hbm, 255, rfl⟩
abbrev main_v243 : Ref sig .tc := ⟨.hbm, 256, rfl⟩
abbrev main_v244 : Ref sig .tc := ⟨.hbm, 257, rfl⟩
abbrev main_v245 : Ref sig .tc := ⟨.hbm, 258, rfl⟩
abbrev main_cst_6 : Ref sig .tc := ⟨.hbm, 259, rfl⟩
abbrev main_v246 : Ref sig .tc := ⟨.hbm, 260, rfl⟩
abbrev main_v247 : Ref sig .tc := ⟨.hbm, 261, rfl⟩
abbrev main_v248 : Ref sig .tc := ⟨.hbm, 262, rfl⟩
abbrev main_v249 : Ref sig .tc := ⟨.hbm, 263, rfl⟩
abbrev main_v250 : Ref sig .tc := ⟨.hbm, 264, rfl⟩
abbrev main_v251 : Ref sig .tc := ⟨.hbm, 265, rfl⟩
abbrev main_v252 : Ref sig .tc := ⟨.hbm, 266, rfl⟩
abbrev main_v253 : Ref sig .tc := ⟨.hbm, 267, rfl⟩
abbrev main_v254 : Ref sig .tc := ⟨.hbm, 268, rfl⟩
abbrev main_v255 : Ref sig .tc := ⟨.hbm, 269, rfl⟩
abbrev main_v256 : Ref sig .tc := ⟨.hbm, 270, rfl⟩
abbrev main_call0_v0 : Ref sig .tc := ⟨.hbm, 271, rfl⟩
abbrev main_call0_v1 : Ref sig .tc := ⟨.hbm, 272, rfl⟩
abbrev main_call0_cst : Ref sig .tc := ⟨.hbm, 273, rfl⟩
abbrev main_call0_v2 : Ref sig .tc := ⟨.hbm, 274, rfl⟩
abbrev main_call0_v3 : Ref sig .tc := ⟨.hbm, 275, rfl⟩
abbrev main_call0_cst_0 : Ref sig .tc := ⟨.hbm, 276, rfl⟩
abbrev main_call0_v4 : Ref sig .tc := ⟨.hbm, 277, rfl⟩
abbrev main_call0_v5 : Ref sig .tc := ⟨.hbm, 278, rfl⟩
abbrev main_v257 : Ref sig .tc := ⟨.hbm, 279, rfl⟩
abbrev main_call1_v0 : Ref sig .tc := ⟨.hbm, 280, rfl⟩
abbrev main_call1_v1 : Ref sig .tc := ⟨.hbm, 281, rfl⟩
abbrev main_call1_cst : Ref sig .tc := ⟨.hbm, 282, rfl⟩
abbrev main_call1_v2 : Ref sig .tc := ⟨.hbm, 283, rfl⟩
abbrev main_call1_v3 : Ref sig .tc := ⟨.hbm, 284, rfl⟩
abbrev main_call1_cst_0 : Ref sig .tc := ⟨.hbm, 285, rfl⟩
abbrev main_call1_v4 : Ref sig .tc := ⟨.hbm, 286, rfl⟩
abbrev main_call1_v5 : Ref sig .tc := ⟨.hbm, 287, rfl⟩
abbrev main_v258 : Ref sig .tc := ⟨.hbm, 288, rfl⟩
abbrev main_v259 : Ref sig .tc := ⟨.hbm, 289, rfl⟩
abbrev main_v260 : Ref sig .tc := ⟨.hbm, 290, rfl⟩

abbrev nD : Nat := 1
abbrev τ : Topo := Topo.v7x

variable {F : FTy → Type} [FloatOps F]
-- ==== Proof.Chunk.lean ====
module
public import proofs.«01_k».proof.Proof.Gen.KernelIdeal.Value

@[expose] public section

set_option maxRecDepth 16384

noncomputable section

/-! # One sequence's chunk, as the kernel computes it

The recurrence kernel's body treats eight sequences one after the other, each with the same operations on its own rows.
Here those operations are written once, over the values that a sequence's loads give. -/

namespace Cert.Proof.Chunk

open Idealize.ShloMosaic Cert.KernelIdeal Cert.KernelIdeal.Gen

variable {F : FTy → Type} [FloatOps F]

/-- Row numbers as a column, row numbers of a square, column numbers of a square. -/
def row : IVec S64x1 32 := iota .tc S64x1 32 [0] iota_S64x1_d0_w32
def rr : IVec S64x64 32 := iota .tc S64x64 32 [0] iota_S64x64_d0_w32
def cc : IVec S64x64 32 := iota .tc S64x64 32 [1] iota_S64x64_d1_w32

/-- Floor division by a constant, as the kernel writes it: truncating division, one less where the signs differ and the
    remainder is not zero. -/
def fdiv (s : Shape) (x : IVec s 32) (d : BitVec 32) : IVec s 32 :=
  select (andi (cmpi .ne (subi (extui 32 (cmpi .sgt x (broadcast s 0#32)) natLt_1_32) (extui 32 (cmpi .slt x (broadcast s 0#32)) natLt_1_32))
      (broadcast s (Scalar.subi (Scalar.extui (Scalar.cmpi .sgt d 0#32)) (Scalar.extui (Scalar.cmpi .slt d 0#32)))))
    (cmpi .ne (remsi x (broadcast s d)) (broadcast s 0#32)))
    (subi (divsi x (broadcast s d)) (broadcast s 1#32)) (divsi x (broadcast s d))

/-- The divisor two, guarded against zero as the kernel writes it. -/
def two : BitVec 32 := Scalar.select (Scalar.cmpi .eq 2#32 0#32) 1#32 2#32

/-- Rows in the right half of their block of `2 m`. -/
def right (m : BitVec 32) : IVec S64x1 1 :=
  have q : IVec S64x1 32 := remsi (fdiv S64x1 row m) (broadcast S64x1 two)
  cmpi .eq (select (andi (xori (cmpi .slt q (broadcast S64x1 0#32))
      (broadcastTo S64x1 (broadcast S64x1 (Scalar.cmpi .slt two 0#32)) broadcasts_S64x1_S64x1))
    (cmpi .ne q (broadcast S64x1 0#32))) (addi q (broadcast S64x1 two)) q) (broadcast S64x1 1#32)

/-- The same rows, along 512 columns. -/
def rightB (m : BitVec 32) : IVec S64x512 1 :=
  broadcastTo S64x512 (shapeCast S64x1 (right m) shapeCasts_S64x1_S64x1) broadcasts_S64x1_S64x512

/-- Pairs of rows in one block of `d`. -/
def pair (d : BitVec 32) : IVec S64x64 1 := cmpi .eq (fdiv S64x64 rr d) (fdiv S64x64 cc d)

/-- The logarithm of the forget gate. -/
def lf (f : Vec F S1x64x512 .f32) (lb : Vec F S1x512 .f32) : FVec F S64x512 .f32 :=
  log (addf (broadcastTo S64x512 (maximumf (shapeCast S1x512 lb shapeCasts_S1x512_S1x512) (broadcast S1x512 (Scalar.ofBits .f32 0x0DA24260#32))) broadcasts_S1x512_S64x512)
    (mulf (broadcastTo S64x512 (subf (broadcast S1x512 (Scalar.ofBits .f32 0x3F800000#32)) (shapeCast S1x512 lb shapeCasts_S1x512_S1x512)) broadcasts_S1x512_S64x512)
      (logistic (shapeCast S64x512 f shapeCasts_S1x64x512_S64x512))))

/-- The keys. -/
def kk (f : Vec F S1x64x512 .f32) (lb : Vec F S1x512 .f32) : FVec F S64x512 .f32 :=
  mulf (broadcastTo S64x512 (subf (broadcast S1x512 (Scalar.ofBits .f32 0x3F800000#32)) (shapeCast S1x512 lb shapeCasts_S1x512_S1x512)) broadcasts_S1x512_S64x512)
    (logistic (subf (broadcast S64x512 (Scalar.ofBits .f32 0x00000000#32)) (shapeCast S64x512 f shapeCasts_S1x64x512_S64x512)))

/-- `x` times its logistic. -/
def silu (x : Vec F S1x64x512 .f32) : FVec F S64x512 .f32 :=
  mulf (shapeCast S64x512 x shapeCasts_S1x64x512_S64x512) (logistic (shapeCast S64x512 x shapeCasts_S1x64x512_S64x512))

/-- The sibling block's total. -/
def sib (m m' : BitVec 32) (tot : FVec F S64x512 .f32) : FVec F S64x512 .f32 :=
  select (rightB m) (dynamicRotate 0 m none tot rotates_S64x512_d0) (dynamicRotate 0 m' none tot rotates_S64x512_d0)

/-- Sums within blocks of `2 m`, up to each row, from those within blocks of `m` and the blocks' totals. -/
def csN (m m' : BitVec 32) (cs tot : FVec F S64x512 .f32) : FVec F S64x512 .f32 :=
  select (rightB m) (addf cs (sib m m' tot)) cs

/-- The totals of blocks of `2 m`. -/
def totN (m m' : BitVec 32) (tot : FVec F S64x512 .f32) : FVec F S64x512 .f32 := addf tot (sib m m' tot)

def tot1 (l : FVec F S64x512 .f32) : FVec F S64x512 .f32 := totN 1#32 63#32 l
def cs1 (l : FVec F S64x512 .f32) : FVec F S64x512 .f32 := csN 1#32 63#32 l l
def tot2 (l : FVec F S64x512 .f32) : FVec F S64x512 .f32 := totN 2#32 62#32 (tot1 l)
def cs2 (l : FVec F S64x512 .f32) : FVec F S64x512 .f32 := csN 2#32 62#32 (cs1 l) (tot1 l)
def tot3 (l : FVec F S64x512 .f32) : FVec F S64x512 .f32 := totN 4#32 60#32 (tot2 l)
def cs3 (l : FVec F S64x512 .f32) : FVec F S64x512 .f32 := csN 4#32 60#32 (cs2 l) (tot2 l)
def tot4 (l : FVec F S64x512 .f32) : FVec F S64x512 .f32 := totN 8#32 56#32 (tot3 l)
def cs4 (l : FVec F S64x512 .f32) : FVec F S64x512 .f32 := csN 8#32 56#32 (cs3 l) (tot3 l)
def tot5 (l : FVec F S64x512 .f32) : FVec F S64x512 .f32 := totN 16#32 48#32 (tot4 l)
def cs5 (l : FVec F S64x512 .f32) : FVec F S64x512 .f32 := csN 16#32 48#32 (cs4 l) (tot4 l)
def tot6 (l : FVec F S64x512 .f32) : FVec F S64x512 .f32 := totN 32#32 32#32 (tot5 l)
def cs6 (l : FVec F S64x512 .f32) : FVec F S64x512 .f32 := csN 32#32 32#32 (cs5 l) (tot5 l)

/-- Queries scaled by the decay since their block's start, in right halves. -/
def qm (m : BitVec 32) (q cs : FVec F S64x512 .f32) : FVec F S64x512 .bf16 :=
  truncf .bf16 (select (rightB m) (mulf q (exp cs)) (broadcast S64x512 (Scalar.ofBits .f32 0x00000000#32))) bitsLt_bf16_f32

/-- Keys scaled by the decay to their block's end, in left halves. -/
def km (m : BitVec 32) (k cs tot : FVec F S64x512 .f32) : FVec F S64x512 .bf16 :=
  truncf .bf16 (select (rightB m) (broadcast S64x512 (Scalar.ofBits .f32 0x00000000#32)) (mulf k (exp (subf tot cs)))) bitsLt_bf16_f32

/-- One level's scores of the head whose columns begin at `o`, added. -/
def attN (o : Nat) (ho : S64x512.Slices ![0, o] S64x128) (m d : BitVec 32) (q k cs tot : FVec F S64x512 .f32) (a : FVec F S64x64 .f32) : FVec F S64x64 .f32 :=
  addf a (select (pair d)
    (matmul dot_S64x128_S64x128_S64x64_1_1_0_0_n_n none (extractStridedSlice S64x128 ![0, o] (qm m q cs) ho) (extractStridedSlice S64x128 ![0, o] (km m k cs tot) ho) (constant S64x64 .f32 0x00000000#32))
    (broadcast S64x64 (Scalar.ofBits .f32 0x00000000#32)))

/-- The scores before the diagonal. -/
def att (o : Nat) (ho : S64x512.Slices ![0, o] S64x128) (q k l : FVec F S64x512 .f32) : FVec F S64x64 .f32 :=
  attN o ho 32#32 64#32 q k (cs5 l) (tot5 l) (attN o ho 16#32 32#32 q k (cs4 l) (tot4 l) (attN o ho 8#32 16#32 q k (cs3 l) (tot3 l)
    (attN o ho 4#32 8#32 q k (cs2 l) (tot2 l) (attN o ho 2#32 4#32 q k (cs1 l) (tot1 l) (attN o ho 1#32 2#32 q k l l
      (broadcast S64x64 (Scalar.ofBits .f32 0x00000000#32)))))))

/-- The scores with the diagonal. -/
def attD (o : Nat) (ho : S64x512.Slices ![0, o] S64x128) (q k l : FVec F S64x512 .f32) : FVec F S64x64 .f32 :=
  addf (att o ho q k l) (select (cmpi .eq rr cc)
    (broadcastTo S64x64 (shapeCast S64x1 (shapeCast S64x1 (multiReduction .add [1] S64 (mulf (extractStridedSlice S64x128 ![0, o] q ho) (extractStridedSlice S64x128 ![0, o] k ho)) 0x00000000#32 reduces_S64x128_S64 (.inl rfl) rfl) shapeCasts_S64_S64x1) shapeCasts_S64x1_S64x1) broadcasts_S64x1_S64x64)
    (broadcast S64x64 (Scalar.ofBits .f32 0x00000000#32)))

/-- The head's output before the norm. -/
def out (o : Nat) (ho : S64x512.Slices ![0, o] S64x128) (q k l i : FVec F S64x512 .f32) (s : Vec F S1x1x128x128 .f32) : FVec F S64x128 .f32 :=
  addf (matmul dot_S64x64_S64x128_S64x128_1_0_0_1_n_n none (truncf .bf16 (attD o ho q k l) bitsLt_bf16_f32)
      (extractStridedSlice S64x128 ![0, o] (truncf .bf16 i bitsLt_bf16_f32) ho) (constant S64x128 .f32 0x00000000#32))
    (matmul dot_S64x128_S128x128_S64x128_1_0_0_1_n_n none (extractStridedSlice S64x128 ![0, o] (truncf .bf16 (mulf q (exp (cs6 l))) bitsLt_bf16_f32) ho)
      (truncf .bf16 (shapeCast S128x128 s shapeCasts_S1x1x128x128_S128x128) bitsLt_bf16_f32) (constant S64x128 .f32 0x00000000#32))

/-- The head's output, normed. -/
def normed (x : FVec F S64x128 .f32) (ng : Vec F S1x128 .f32) : FVec F S64x128 .f32 :=
  mulf (mulf x (broadcastTo S64x128 (rsqrt (addf (divf (shapeCast S64x1 (multiReduction .add [1] S64 (mulf x x) 0x00000000#32 reduces_S64x128_S64 (.inl rfl) rfl) shapeCasts_S64_S64x1) (broadcast S64x1 (Scalar.ofBits .f32 0x43000000#32))) (broadcast S64x1 (Scalar.ofBits .f32 0x358637BD#32)))) broadcasts_S64x1_S64x128))
    (broadcastTo S64x128 (shapeCast S1x128 ng shapeCasts_S1x128_S1x128) broadcasts_S1x128_S64x128)

/-- The head's state after the chunk. -/
def stateN (o : Nat) (ho : S64x512.Slices ![0, o] S64x128) (h1 : S64x512.Slices ![0, o] S1x128) (k l i : FVec F S64x512 .f32) (s : Vec F S1x1x128x128 .f32) : FVec F S1x1x128x128 .f32 :=
  shapeCast S1x1x128x128 (addf
    (mulf (broadcastTo S128x128 (shapeCast S128x1 (multiReduction .add [1] S128
        (select (cmpi .eq (iota .tc S128x128 32 [0] iota_S128x128_d0_w32) (iota .tc S128x128 32 [1] iota_S128x128_d1_w32))
          (broadcastTo S128x128 (shapeCast S1x128 (exp (extractStridedSlice S1x128 ![0, o] (tot6 l) h1)) shapeCasts_S1x128_S1x128) broadcasts_S1x128_S128x128)
          (broadcast S128x128 (Scalar.ofBits .f32 0x00000000#32))) 0x00000000#32 reduces_S128x128_S128 (.inl rfl) rfl) shapeCasts_S128_S128x1) broadcasts_S128x1_S128x128)
      (shapeCast S128x128 s shapeCasts_S1x1x128x128_S128x128))
    (matmul dot_S64x128_S64x128_S128x128_0_0_1_1_n_n none (extractStridedSlice S64x128 ![0, o] (truncf .bf16 (mulf k (exp (subf (tot6 l) (cs6 l)))) bitsLt_bf16_f32) ho)
      (extractStridedSlice S64x128 ![0, o] (truncf .bf16 i bitsLt_bf16_f32) ho) (constant S128x128 .f32 0x00000000#32)))
    shapeCasts_S128x128_S1x1x128x128

/-- The four heads' outputs side by side, gated. -/
def gated (y0 y1 y2 y3 : FVec F S64x128 .f32) (g : Vec F S1x64x512 .f32) : FVec F S1x64x512 .f32 :=
  shapeCast S1x64x512 (mulf (concatenate S64x512 1 [⟨S64x128, y0⟩, ⟨S64x128, y1⟩, ⟨S64x128, y2⟩, ⟨S64x128, y3⟩] concatenates_S64x128_S64x128_S64x128_S64x128_S64x512_d1) (silu g)) shapeCasts_S64x512_S1x64x512

/-- What a sequence's chunk stores to the output. -/
def chunkY (xq xf xi xg : Vec F S1x64x512 .f32) (lb : Vec F S1x512 .f32) (ng : Vec F S1x128 .f32) (s0 s1 s2 s3 : Vec F S1x1x128x128 .f32) : FVec F S1x64x512 .f32 :=
  gated (normed (out 0 slices_S64x512_o0_0_S64x128 (silu xq) (kk xf lb) (lf xf lb) (shapeCast S64x512 xi shapeCasts_S1x64x512_S64x512) s0) ng)
    (normed (out 128 slices_S64x512_o0_128_S64x128 (silu xq) (kk xf lb) (lf xf lb) (shapeCast S64x512 xi shapeCasts_S1x64x512_S64x512) s1) ng)
    (normed (out 256 slices_S64x512_o0_256_S64x128 (silu xq) (kk xf lb) (lf xf lb) (shapeCast S64x512 xi shapeCasts_S1x64x512_S64x512) s2) ng)
    (normed (out 384 slices_S64x512_o0_384_S64x128 (silu xq) (kk xf lb) (lf xf lb) (shapeCast S64x512 xi shapeCasts_S1x64x512_S64x512) s3) ng) xg

/-- What a sequence's chunk stores to the state of the head whose columns begin at `o`. -/
def chunkS (o : Nat) (ho : S64x512.Slices ![0, o] S64x128) (h1 : S64x512.Slices ![0, o] S1x128) (xf xi : Vec F S1x64x512 .f32) (lb : Vec F S1x512 .f32) (s : Vec F S1x1x128x128 .f32) : FVec F S1x1x128x128 .f32 :=
  stateN o ho h1 (kk xf lb) (lf xf lb) (shapeCast S64x512 xi shapeCasts_S1x64x512_S64x512) s

end Cert.Proof.Chunk
-- ==== Proof.Pieces.lean ====
module
public import proofs.«01_k».proof.Proof.Chunk

@[expose] public section

set_option maxRecDepth 65536

noncomputable section

/-! # What the recurrence kernel's body stores, piece by piece

The body's stores to its two outputs are those of eight chunks, one per sequence. -/

namespace Cert.Proof.Chunk

open Idealize.ShloMosaic Cert.KernelIdeal Cert.KernelIdeal.Gen

variable {F : FTy → Type} [FloatOps F]

/-- A sequence's block lies in the array. -/
theorem inbY (r : Nat) : ∀ a, (![r % 8, 0, 0] : Fin 3 → Nat) a + S1x64x512.size a ≤ S8x64x512.size a := by
  intro a; have := Nat.mod_lt r (show 0 < 8 by decide)
  fin_cases a <;> simp [S1x64x512, S8x64x512] <;> omega

/-- A head's state lies in the states. -/
theorem inbS (n : Nat) : ∀ a, (![n / 4 % 8, n % 4, 0, 0] : Fin 4 → Nat) a + S1x1x128x128.size a ≤ S8x4x128x128.size a := by
  intro a; have := Nat.mod_lt (n / 4) (show 0 < 8 by decide); have := Nat.mod_lt n (show 0 < 4 by decide)
  fin_cases a <;> simp [S1x1x128x128, S8x4x128x128] <;> omega

/-- Sequence `r`'s rows of a block. -/
abbrev rectY (r : Nat) : Rect S8x64x512 := Rect.unit ![r % 8, 0, 0] S1x64x512.size (inbY r)

/-- The state of head `n % 4` of sequence `n / 4`. -/
abbrev rectS (n : Nat) : Rect S8x4x128x128 := Rect.unit ![n / 4 % 8, n % 4, 0, 0] S1x1x128x128.size (inbS n)

/-- A head's columns lie in the block. -/
theorem slicesN (h : Nat) : S64x512.Slices ![0, 128 * (h % 4)] S64x128 := by
  refine ⟨rfl, ?_⟩
  intro a; have := Nat.mod_lt h (show 0 < 4 by decide)
  fin_cases a <;> simp [S64x128, S64x512] <;> omega

/-- A head's columns lie in a row. -/
theorem slices1 (h : Nat) : S64x512.Slices ![0, 128 * (h % 4)] S1x128 := by
  refine ⟨rfl, ?_⟩
  intro a; have := Nat.mod_lt h (show 0 < 4 by decide)
  fin_cases a <;> simp [S1x128, S64x512] <;> omega

/-- The piece that sequence `r` stores to the output. -/
def pieceY (q f i g : Nat → Vec F S1x64x512 .f32) (lb : Vec F S1x512 .f32) (ng : Vec F S1x128 .f32) (s : Nat → Vec F S1x1x128x128 .f32) (r : Nat) :
    View.Piece (Elt F) S8x64x512 .f32 :=
  ⟨rectY r, chunkY (q r) (f r) (i r) (g r) lb ng (s (4 * r)) (s (4 * r + 1)) (s (4 * r + 2)) (s (4 * r + 3))⟩

/-- The eight pieces of the output, last first. -/
def piecesY (q f i g : Nat → Vec F S1x64x512 .f32) (lb : Vec F S1x512 .f32) (ng : Vec F S1x128 .f32) (s : Nat → Vec F S1x1x128x128 .f32) :
    List (View.Piece (Elt F) S8x64x512 .f32) :=
  have p := pieceY q f i g lb ng s
  [p 7, p 6, p 5, p 4, p 3, p 2, p 1, p 0]

/-- The piece that head `n % 4` of sequence `n / 4` stores to the state. -/
def pieceS (f i : Nat → Vec F S1x64x512 .f32) (lb : Vec F S1x512 .f32) (n : Nat) (s : Vec F S1x1x128x128 .f32) : View.Piece (Elt F) S8x4x128x128 .f32 :=
  ⟨rectS n, chunkS (128 * (n % 4)) (slicesN n) (slices1 n) (f (n / 4)) (i (n / 4)) lb s⟩

/-- The first `n` pieces of the state where each head's state is given, last first, over earlier ones. -/
def piecesS (L : List (View.Piece (Elt F) S8x4x128x128 .f32)) (f i : Nat → Vec F S1x64x512 .f32) (lb : Vec F S1x512 .f32) (s : Nat → Vec F S1x1x128x128 .f32) : Nat → List (View.Piece (Elt F) S8x4x128x128 .f32)
  | 0 => L
  | n + 1 => pieceS f i lb n (s n) :: piecesS L f i lb s n

/-- The first `n` pieces of the state at the first point, which copies the initial state and then reads each head's back. -/
def piecesA (v : View sig .tc .vmem S8x4x128x128 .f32) (f i : Nat → Vec F S1x64x512 .f32) (lb : Vec F S1x512 .f32) (s0 : Vec F S8x4x128x128 .f32) : Nat → List (View.Piece (Elt F) S8x4x128x128 .f32)
  | 0 => [⟨Rect.unit ![0, 0, 0, 0] S8x4x128x128.size inb_S8x4x128x128_S8x4x128x128_0_0_0_0, s0⟩]
  | n + 1 => pieceS f i lb n (v.readCov (piecesA v f i lb s0 n) (rectS n).toLoadRect) :: piecesA v f i lb s0 n

section B
variable (c : Dev nD) (i : grid0.Coords) (arg2 : Memref sig .tc .vmem S8x64x512 .f32) (harg2 : arg2.IsWhole) (arg3 : Memref sig .tc .vmem S8x64x512 .f32) (harg3 : arg3.IsWhole)
  (arg4 : Memref sig .tc .vmem S8x64x512 .f32) (harg4 : arg4.IsWhole) (arg5 : Memref sig .tc .vmem S8x64x512 .f32) (harg5 : arg5.IsWhole)
  (arg6 : Memref sig .tc .vmem S1x512 .f32) (harg6 : arg6.IsWhole) (arg7 : Memref sig .tc .vmem S1x128 .f32) (harg7 : arg7.IsWhole)
  (arg8 : Memref sig .tc .vmem S8x4x128x128 .f32) (harg8 : arg8.IsWhole) (arg9 : Memref sig .tc .vmem S8x64x512 .f32) (harg9 : arg9.IsWhole)
  (arg10 : Memref sig .tc .vmem S8x4x128x128 .f32) (harg10 : arg10.IsWhole)
  (x0 x1 x2 x3 : Vec F S8x64x512 .f32) (x4 : Vec F S1x512 .f32) (x5 : Vec F S1x128 .f32) (x6 xo8 : Vec F S8x4x128x128 .f32)

/-- A later point's pieces of the output. -/
theorem runB_fst (h) :
    (kernelRun0_B (F := F) c i arg2 harg2 arg3 harg3 arg4 harg4 arg5 harg5 arg6 harg6 arg7 harg7 arg8 harg8 arg9 harg9 arg10 harg10 h x0 x1 x2 x3 x4 x5 x6 xo8).1 =
    piecesY (fun r => arg2.view.readAt (Elt F) (rectY r).toLoadRect (harg2.unread x0)) (fun r => arg3.view.readAt (Elt F) (rectY r).toLoadRect (harg3.unread x1))
      (fun r => arg4.view.readAt (Elt F) (rectY r).toLoadRect (harg4.unread x2)) (fun r => arg5.view.readAt (Elt F) (rectY r).toLoadRect (harg5.unread x3))
      (arg6.view.readAt (Elt F) (Rect.unit (s := S1x512) ![0, 0] S1x512.size inb_S1x512_S1x512_0_0).toLoadRect (harg6.unread x4))
      (arg7.view.readAt (Elt F) (Rect.unit (s := S1x128) ![0, 0] S1x128.size inb_S1x128_S1x128_0_0).toLoadRect (harg7.unread x5))
      (fun n => arg10.view.readAt (Elt F) (rectS n).toLoadRect (harg10.unread xo8)) := by
  sl_kernel_rfl

/-- A later point's pieces of the state. -/
theorem runB_snd (h) :
    (kernelRun0_B (F := F) c i arg2 harg2 arg3 harg3 arg4 harg4 arg5 harg5 arg6 harg6 arg7 harg7 arg8 harg8 arg9 harg9 arg10 harg10 h x0 x1 x2 x3 x4 x5 x6 xo8).2.1 =
    piecesS [] (fun r => arg3.view.readAt (Elt F) (rectY r).toLoadRect (harg3.unread x1)) (fun r => arg4.view.readAt (Elt F) (rectY r).toLoadRect (harg4.unread x2))
      (arg6.view.readAt (Elt F) (Rect.unit (s := S1x512) ![0, 0] S1x512.size inb_S1x512_S1x512_0_0).toLoadRect (harg6.unread x4))
      (fun n => arg10.view.readAt (Elt F) (rectS n).toLoadRect (harg10.unread xo8)) 32 := by
  sl_kernel_rfl

/-- The first point's pieces of the state. -/
theorem runA_snd (h) :
    (kernelRun0_A (F := F) c i arg2 harg2 arg3 harg3 arg4 harg4 arg5 harg5 arg6 harg6 arg7 harg7 arg8 harg8 arg9 harg9 arg10 harg10 h x0 x1 x2 x3 x4 x5 x6).2.1 =
    piecesA arg10.view (fun r => arg3.view.readAt (Elt F) (rectY r).toLoadRect (harg3.unread x1)) (fun r => arg4.view.readAt (Elt F) (rectY r).toLoadRect (harg4.unread x2))
      (arg6.view.readAt (Elt F) (Rect.unit (s := S1x512) ![0, 0] S1x512.size inb_S1x512_S1x512_0_0).toLoadRect (harg6.unread x4))
      (arg8.view.readAt (Elt F) (Rect.unit (s := S8x4x128x128) ![0, 0, 0, 0] S8x4x128x128.size inb_S8x4x128x128_S8x4x128x128_0_0_0_0).toLoadRect (harg8.unread x6)) 32 := by
  sl_kernel_rfl

/-- The first point's pieces of the output. -/
theorem runA_fst (h) :
    (kernelRun0_A (F := F) c i arg2 harg2 arg3 harg3 arg4 harg4 arg5 harg5 arg6 harg6 arg7 harg7 arg8 harg8 arg9 harg9 arg10 harg10 h x0 x1 x2 x3 x4 x5 x6).1 =
    piecesY (fun r => arg2.view.readAt (Elt F) (rectY r).toLoadRect (harg2.unread x0)) (fun r => arg3.view.readAt (Elt F) (rectY r).toLoadRect (harg3.unread x1))
      (fun r => arg4.view.readAt (Elt F) (rectY r).toLoadRect (harg4.unread x2)) (fun r => arg5.view.readAt (Elt F) (rectY r).toLoadRect (harg5.unread x3))
      (arg6.view.readAt (Elt F) (Rect.unit (s := S1x512) ![0, 0] S1x512.size inb_S1x512_S1x512_0_0).toLoadRect (harg6.unread x4))
      (arg7.view.readAt (Elt F) (Rect.unit (s := S1x128) ![0, 0] S1x128.size inb_S1x128_S1x128_0_0).toLoadRect (harg7.unread x5))
      (fun n => arg10.view.readCov (piecesA arg10.view (fun r => arg3.view.readAt (Elt F) (rectY r).toLoadRect (harg3.unread x1)) (fun r => arg4.view.readAt (Elt F) (rectY r).toLoadRect (harg4.unread x2))
      (arg6.view.readAt (Elt F) (Rect.unit (s := S1x512) ![0, 0] S1x512.size inb_S1x512_S1x512_0_0).toLoadRect (harg6.unread x4))
      (arg8.view.readAt (Elt F) (Rect.unit (s := S8x4x128x128) ![0, 0, 0, 0] S8x4x128x128.size inb_S8x4x128x128_S8x4x128x128_0_0_0_0).toLoadRect (harg8.unread x6)) n) (rectS n).toLoadRect) := by
  sl_kernel_rfl

end B

end Cert.Proof.Chunk
-- ==== Proof.PointsK.lean ====
module
public import proofs.«01_k».proof.Proof.Pieces
public import Idealize.ShloMosaic.Lib.Pointwise

@[expose] public section

set_option maxRecDepth 65536

noncomputable section

/-! # What a point of the recurrence kernel leaves in its outputs' buffers

Every element of the two outputs' blocks lies in one piece, and the piece is its sequence's chunk. -/

namespace Cert.Proof.Chunk

open Idealize.ShloMosaic Cert.KernelIdeal Cert.KernelIdeal.Gen

variable {F : FTy → Type} [FloatOps F]

/-- The output's block, of a point's input blocks and the state it finds. -/
def yAt (x0 x1 x2 x3 : Vec F S8x64x512 .f32) (lb : Vec F S1x512 .f32) (ng : Vec F S1x128 .f32) (s : Vec F S8x4x128x128 .f32) (y : S8x64x512.Idx) : F .f32 :=
  chunkY (View.ld x0 (rectY (y 0).val)) (View.ld x1 (rectY (y 0).val)) (View.ld x2 (rectY (y 0).val)) (View.ld x3 (rectY (y 0).val)) lb ng
    (View.ld s (rectS (4 * (y 0).val))) (View.ld s (rectS (4 * (y 0).val + 1))) (View.ld s (rectS (4 * (y 0).val + 2))) (View.ld s (rectS (4 * (y 0).val + 3)))
    (ix3 0 (y 1) (y 2))

/-- The number of an element's head, counted through all sequences. -/
def headNo (y : S8x4x128x128.Idx) : ℕ := 4 * (y 0).val + (y 1).val

/-- Head number `n`'s new state. -/
def sN (x1 x2 : Vec F S8x64x512 .f32) (lb : Vec F S1x512 .f32) (s : Vec F S8x4x128x128 .f32) (n : ℕ) (j : S1x1x128x128.Idx) : F .f32 :=
  chunkS (128 * (n % 4)) (slicesN _) (slices1 _) (View.ld x1 (rectY (n / 4))) (View.ld x2 (rectY (n / 4))) lb (View.ld s (rectS n)) j

/-- The state's block. -/
def sAt (x1 x2 : Vec F S8x64x512 .f32) (lb : Vec F S1x512 .f32) (s : Vec F S8x4x128x128 .f32) (y : S8x4x128x128.Idx) : F .f32 :=
  sN x1 x2 lb s (headNo y) (ix4 0 0 (y 2) (y 3))

/-- A state belongs to the piece of its head. -/
theorem mem_rectS {n : ℕ} (hn : n < 32) (y : S8x4x128x128.Idx) : y ∈ (rectS n).set ↔ headNo y = n := by
  rw [Rect.mem_set_unit]
  have h0 : (y 0).val < 8 := (y 0).isLt
  have h1 : (y 1).val < 4 := (y 1).isLt
  constructor
  · intro h
    have a0 : n / 4 % 8 ≤ (y 0).val ∧ (y 0).val < n / 4 % 8 + 1 := h 0
    have a1 : n % 4 ≤ (y 1).val ∧ (y 1).val < n % 4 + 1 := h 1
    unfold headNo; omega
  · intro h a
    unfold headNo at h
    fin_cases a
    · show n / 4 % 8 ≤ (y 0).val ∧ (y 0).val < n / 4 % 8 + 1; omega
    · show n % 4 ≤ (y 1).val ∧ (y 1).val < n % 4 + 1; omega
    · show 0 ≤ (y 2).val ∧ (y 2).val < 0 + 128; have : (y 2).val < 128 := (y 2).isLt; omega
    · show 0 ≤ (y 3).val ∧ (y 3).val < 0 + 128; have : (y 3).val < 128 := (y 3).isLt; omega

/-- After the first `n` heads' stores: those heads' new states, and the earlier contents elsewhere. -/
theorem canon_piecesS (L : List (View.Piece (Elt F) S8x4x128x128 .f32)) (x1 x2 : Vec F S8x64x512 .f32) (lb : Vec F S1x512 .f32) (s : Vec F S8x4x128x128 .f32) (y : S8x4x128x128.Idx) :
    ∀ n ≤ 32, View.canon (piecesS L (fun r => View.ld x1 (rectY r)) (fun r => View.ld x2 (rectY r)) lb (fun n => View.ld s (rectS n)) n) y =
      if headNo y < n then sAt x1 x2 lb s y else View.canon L y
  | 0, _ => by rw [if_neg (by omega)]; rfl
  | n + 1, hn => by
    show View.canon (_ :: _) y = _
    by_cases hm : y ∈ (rectS n).set
    · have e := (mem_rectS (by omega) y).mp hm
      rw [if_pos (by omega)]
      obtain ⟨x, rfl⟩ := (rectS n).exists_idx_of_mem hm
      refine (View.canon_cons_emb (rectS n) _ _ x).trans ?_
      unfold sAt
      rw [e]
      refine congrArg (sN x1 x2 lb s n) (funext fun a => ?_)
      have b0 : (x 0).val < 1 := (x 0).isLt
      have b1 : (x 1).val < 1 := (x 1).isLt
      fin_cases a
      · exact Fin.ext (show (x 0).val = 0 by omega)
      · exact Fin.ext (show (x 1).val = 0 by omega)
      · exact Fin.ext (show (x 2).val = 0 + 1 * (x 2).val by omega)
      · exact Fin.ext (show (x 3).val = 0 + 1 * (x 3).val by omega)
    · have e : headNo y ≠ n := fun h => hm ((mem_rectS (by omega) y).mpr h)
      refine (View.canon_cons_of_not_mem (pieceS (fun r => View.ld x1 (rectY r)) (fun r => View.ld x2 (rectY r)) lb n (View.ld s (rectS n))) _ hm).trans ?_
      rw [canon_piecesS L x1 x2 lb s y n (by omega)]
      by_cases h : headNo y < n
      · rw [if_pos h, if_pos (by omega)]
      · rw [if_neg h, if_neg (by omega)]

/-- Four zero offsets are the zero offset. -/
theorem hz4 : (![0, 0, 0, 0] : Fin S8x4x128x128.rank → ℕ) = fun _ => 0 := by funext a; fin_cases a <;> rfl
/-- Two zero offsets are the zero offset. -/
theorem hz2 : (![0, 0] : Fin 2 → ℕ) = fun _ => 0 := by funext a; fin_cases a <;> rfl

/-- At the first point each head finds the initial state where it reads. -/
theorem piecesA_eq (v : View sig .tc .vmem S8x4x128x128 .f32) (x1 x2 : Vec F S8x64x512 .f32) (lb : Vec F S1x512 .f32) (s : Vec F S8x4x128x128 .f32) :
    ∀ n ≤ 32, piecesA v (fun r => View.ld x1 (rectY r)) (fun r => View.ld x2 (rectY r)) lb s n =
      piecesS [⟨Rect.unit ![0, 0, 0, 0] S8x4x128x128.size inb_S8x4x128x128_S8x4x128x128_0_0_0_0, s⟩] (fun r => View.ld x1 (rectY r)) (fun r => View.ld x2 (rectY r)) lb (fun n => View.ld s (rectS n)) n
  | 0, _ => rfl
  | n + 1, hn => by
    have ih := piecesA_eq v x1 x2 lb s n (by omega)
    show pieceS _ _ _ _ _ :: _ = pieceS _ _ _ _ _ :: _
    rw [ih]
    congr 2
    rw [View.readCov_eq_canon']
    funext j
    rw [canon_piecesS _ _ _ _ _ _ _ (by omega), if_neg (by rw [(mem_rectS (by omega) _).mp ((rectS n).idx_mem j)]; omega),
      View.canon_unit_zero hz4]

/-- What is read after the pieces have been written, at a sequence's first chunk. -/
theorem readCov_piecesA (v : View sig .tc .vmem S8x4x128x128 .f32) (x1 x2 : Vec F S8x64x512 .f32) (lb : Vec F S1x512 .f32) (s : Vec F S8x4x128x128 .f32) (n : ℕ) (hn : n < 32) :
    v.readCov (piecesA v (fun r => View.ld x1 (rectY r)) (fun r => View.ld x2 (rectY r)) lb s n) (rectS n).toLoadRect = View.ld s (rectS n) := by
  rw [View.readCov_eq_canon']
  funext j
  rw [piecesA_eq _ _ _ _ _ _ (by omega), canon_piecesS _ _ _ _ _ _ _ (by omega),
    if_neg (by rw [(mem_rectS (by omega) _).mp ((rectS n).idx_mem j)]; omega), View.canon_unit_zero hz4]

/-- The output's pieces are `yAt`'s, sequence by sequence. -/
theorem canon_piecesY (x0 x1 x2 x3 : Vec F S8x64x512 .f32) (lb : Vec F S1x512 .f32) (ng : Vec F S1x128 .f32) (s : Vec F S8x4x128x128 .f32) (y : S8x64x512.Idx)
    (s' : ℕ → Vec F S1x1x128x128 .f32) (hs : ∀ n < 32, s' n = View.ld s (rectS n)) :
    View.canon (piecesY (fun r => View.ld x0 (rectY r)) (fun r => View.ld x1 (rectY r)) (fun r => View.ld x2 (rectY r)) (fun r => View.ld x3 (rectY r)) lb ng s') y =
      yAt x0 x1 x2 x3 lb ng s y := by
  have key : ∀ r < 8, ∀ x : (rectY r).shape.Idx, (pieceY (fun r => View.ld x0 (rectY r)) (fun r => View.ld x1 (rectY r)) (fun r => View.ld x2 (rectY r)) (fun r => View.ld x3 (rectY r)) lb ng s' r).2 x =
      yAt x0 x1 x2 x3 lb ng s ((rectY r).emb x) := by
    intro r hr x
    have b0 : (x 0).val < 1 := (x 0).isLt
    have e : ((rectY r).emb x 0).val = r := by show r % 8 + 1 * (x 0).val = r; omega
    unfold yAt
    rw [e]
    show chunkY _ _ _ _ lb ng (s' _) (s' _) (s' _) (s' _) x = _
    rw [hs _ (by omega), hs _ (by omega), hs _ (by omega), hs _ (by omega)]
    refine congrArg _ (funext fun a => ?_)
    fin_cases a
    · exact Fin.ext (show (x 0).val = 0 by omega)
    · exact Fin.ext (show (x 1).val = 0 + 1 * (x 1).val by omega)
    · exact Fin.ext (show (x 2).val = 0 + 1 * (x 2).val by omega)
  have hy : (y 0).val < 8 := (y 0).isLt
  have mem : ∀ r, r = (y 0).val → y ∈ (rectY r).set := by
    rintro _ rfl
    rw [Rect.mem_set_unit]
    intro a
    fin_cases a
    · show (y 0).val % 8 ≤ (y 0).val ∧ (y 0).val < (y 0).val % 8 + 1; omega
    · show 0 ≤ (y 1).val ∧ (y 1).val < 0 + 64; have : (y 1).val < 64 := (y 1).isLt; omega
    · show 0 ≤ (y 2).val ∧ (y 2).val < 0 + 512; have : (y 2).val < 512 := (y 2).isLt; omega
  refine View.canon_apply_of_pieces _ _ ?_ y ?_
  · intro p hp
    simp only [piecesY, List.mem_cons, List.not_mem_nil, or_false] at hp
    rcases hp with rfl | rfl | rfl | rfl | rfl | rfl | rfl | rfl <;> exact key _ (by omega)
  · have h8 : (y 0).val = 0 ∨ (y 0).val = 1 ∨ (y 0).val = 2 ∨ (y 0).val = 3 ∨ (y 0).val = 4 ∨ (y 0).val = 5 ∨ (y 0).val = 6 ∨ (y 0).val = 7 := by omega
    refine ⟨pieceY (fun r => View.ld x0 (rectY r)) (fun r => View.ld x1 (rectY r)) (fun r => View.ld x2 (rectY r)) (fun r => View.ld x3 (rectY r)) lb ng s' (y 0).val, ?_, mem _ rfl⟩
    unfold piecesY
    rcases h8 with h | h | h | h | h | h | h | h <;> rw [h] <;> simp

section B
variable (c : Dev nD) (i : grid0.Coords) (arg2 : Memref sig .tc .vmem S8x64x512 .f32) (harg2 : arg2.IsWhole) (arg3 : Memref sig .tc .vmem S8x64x512 .f32) (harg3 : arg3.IsWhole)
  (arg4 : Memref sig .tc .vmem S8x64x512 .f32) (harg4 : arg4.IsWhole) (arg5 : Memref sig .tc .vmem S8x64x512 .f32) (harg5 : arg5.IsWhole)
  (arg6 : Memref sig .tc .vmem S1x512 .f32) (harg6 : arg6.IsWhole) (arg7 : Memref sig .tc .vmem S1x128 .f32) (harg7 : arg7.IsWhole)
  (arg8 : Memref sig .tc .vmem S8x4x128x128 .f32) (harg8 : arg8.IsWhole) (arg9 : Memref sig .tc .vmem S8x64x512 .f32) (harg9 : arg9.IsWhole)
  (arg10 : Memref sig .tc .vmem S8x4x128x128 .f32) (harg10 : arg10.IsWhole)
  (x0 x1 x2 x3 : Vec F S8x64x512 .f32) (x4 : Vec F S1x512 .f32) (x5 : Vec F S1x128 .f32) (x6 xo8 : Vec F S8x4x128x128 .f32)

/-- The branch's output of a later chunk, from its pieces. -/
theorem out_B_7 (h) : out0_B_7 (F := F) c i arg2 harg2 arg3 harg3 arg4 harg4 arg5 harg5 arg6 harg6 arg7 harg7 arg8 harg8 arg9 harg9 arg10 harg10 h x0 x1 x2 x3 x4 x5 x6 xo8 =
    yAt x0 x1 x2 x3 x4 x5 xo8 := by
  unfold out0_B_7
  rw [View.read_writes_junk_eq_canon, runB_fst]
  simp only [View.readAt_eq_ld, Memref.IsWhole.read_unread]
  repeat rw [View.ld_unit_zero hz2]
  funext y
  exact canon_piecesY _ _ _ _ _ _ _ y _ (fun n _ => rfl)

/-- The states after a later chunk, from their pieces. -/
theorem out_B_8 (h) : out0_B_8 (F := F) c i arg2 harg2 arg3 harg3 arg4 harg4 arg5 harg5 arg6 harg6 arg7 harg7 arg8 harg8 arg9 harg9 arg10 harg10 h x0 x1 x2 x3 x4 x5 x6 xo8 =
    sAt x1 x2 x4 xo8 := by
  unfold out0_B_8
  rw [View.read_writes_junk_eq_canon, runB_snd]
  simp only [View.readAt_eq_ld, Memref.IsWhole.read_unread]
  repeat rw [View.ld_unit_zero hz2]
  funext y
  refine (canon_piecesS _ _ _ _ _ y 32 le_rfl).trans (if_pos ?_)
  have h0 : (y 0).val < 8 := (y 0).isLt
  have h1 : (y 1).val < 4 := (y 1).isLt
  unfold headNo; omega

/-- The branch's output of a first chunk, from its pieces. -/
theorem out_A_7 (h) : out0_A_7 (F := F) c i arg2 harg2 arg3 harg3 arg4 harg4 arg5 harg5 arg6 harg6 arg7 harg7 arg8 harg8 arg9 harg9 arg10 harg10 h x0 x1 x2 x3 x4 x5 x6 =
    yAt x0 x1 x2 x3 x4 x5 x6 := by
  unfold out0_A_7
  rw [View.read_writes_junk_eq_canon, runA_fst]
  simp only [View.readAt_eq_ld, Memref.IsWhole.read_unread]
  repeat rw [View.ld_unit_zero hz2]
  rw [View.ld_unit_zero hz4]
  funext y
  exact canon_piecesY _ _ _ _ _ _ _ y _ (fun n hn => readCov_piecesA _ _ _ _ _ n hn)

/-- The states after a first chunk, from their pieces. -/
theorem out_A_8 (h) : out0_A_8 (F := F) c i arg2 harg2 arg3 harg3 arg4 harg4 arg5 harg5 arg6 harg6 arg7 harg7 arg8 harg8 arg9 harg9 arg10 harg10 h x0 x1 x2 x3 x4 x5 x6 =
    sAt x1 x2 x4 x6 := by
  unfold out0_A_8
  rw [View.read_writes_junk_eq_canon, runA_snd]
  simp only [View.readAt_eq_ld, Memref.IsWhole.read_unread]
  repeat rw [View.ld_unit_zero hz2]
  rw [View.ld_unit_zero hz4, piecesA_eq _ _ _ _ _ _ le_rfl]
  funext y
  refine (canon_piecesS _ _ _ _ _ y 32 le_rfl).trans (if_pos ?_)
  have h0 : (y 0).val < 8 := (y 0).isLt
  have h1 : (y 1).val < 4 := (y 1).isLt
  unfold headNo; omega

end B

end Cert.Proof.Chunk
-- ==== Proof.Levels.lean ====
module
public import proofs.«01_k».proof.Proof.Chunk
public import Idealize.ShloMosaic.Lib.Pointwise
public import Idealize.ShloMosaic.PureOps.Ideal

@[expose] public section

set_option maxRecDepth 65536

noncomputable section

/-! # The prefix sums by doubling

Six levels double the blocks in which the logarithms of the forget gate are summed. -/

namespace Cert.Proof.Chunk

open Idealize.ShloMosaic Cert.KernelIdeal Cert.KernelIdeal.Gen

/-- A choice on a true bit. -/
theorem sel1 {α : Type} (a b : α) : Scalar.select 1#1 a b = a := rfl
/-- A choice on a false bit. -/
theorem sel0 {α : Type} (a b : α) : Scalar.select 0#1 a b = b := rfl

/-- Floor division of one number. -/
def fd (x d : BitVec 32) : BitVec 32 := fdiv S64x1 (fun _ => x) d (ix2 0 0)

/-- The program's integer division, on positions and powers of two. -/
theorem fd_ofNat : ∀ (k : Fin 7) (t : Fin 64), fd (BitVec.ofNat 32 t) (BitVec.ofNat 32 (2 ^ k.val)) = BitVec.ofNat 32 (t.val / 2 ^ k.val) := by
  decide +kernel

/-- Whether a row lies in the right half of its block of `2 m`, where `m` is the `k`-th power of two. -/
theorem right_apply : ∀ (k : Fin 6) (t : Fin 64), right (BitVec.ofNat 32 (2 ^ k.val)) (ix2 t 0) = if t.val / 2 ^ k.val % 2 = 1 then 1#1 else 0#1 := by
  decide +kernel

/-- Comparing two small numbers as words. -/
theorem cmpi_ofNat {a b : ℕ} (ha : a < 64) (hb : b < 64) : IntOp.cmpi .eq (BitVec.ofNat 32 a) (BitVec.ofNat 32 b) = if a = b then 1#1 else 0#1 := by
  have e : ∀ a b : BitVec 32, IntOp.cmpi .eq a b = if a = b then 1#1 else 0#1 := by
    intro a b; by_cases h : a = b
    · subst h; simp [IntOp.cmpi]
    · rw [if_neg h]; show BitVec.ofBool (a == b) = _; rw [beq_false_of_ne h]; rfl
  rw [e]
  congr 1
  refine propext ⟨fun e => ?_, fun e => by rw [e]⟩
  have := congrArg BitVec.toNat e
  rwa [BitVec.toNat_ofNat, BitVec.toNat_ofNat, Nat.mod_eq_of_lt (by omega), Nat.mod_eq_of_lt (by omega)] at this

/-- Whether two rows lie in one block. -/
theorem pair_apply (k : Fin 7) (t s : Fin 64) :
    pair (BitVec.ofNat 32 (2 ^ k.val)) (ix2 t s) = if t.val / 2 ^ k.val = s.val / 2 ^ k.val then 1#1 else 0#1 := by
  have h : pair (BitVec.ofNat 32 (2 ^ k.val)) (ix2 t s) = IntOp.cmpi .eq (fd (BitVec.ofNat 32 t) (BitVec.ofNat 32 (2 ^ k.val))) (fd (BitVec.ofNat 32 s) (BitVec.ofNat 32 (2 ^ k.val))) := by
    pointwise [pair, fd, fdiv, rr, cc]
  rw [h, fd_ofNat, fd_ofNat]
  exact cmpi_ofNat (lt_of_le_of_lt (Nat.div_le_self _ _) t.isLt) (lt_of_le_of_lt (Nat.div_le_self _ _) s.isLt)

/-- The sum of the first `n` numbers. -/
def P (l : ℕ → ℝ) (n : ℕ) : ℝ := ∑ s ∈ Finset.range n, l s

/-- What a level holds: within blocks of `2 ^ k` rows, each row's running sum and each block's total. -/
def Inv (k : ℕ) (l : Fin 512 → ℕ → ℝ) (cs tot : FVec Ideal S64x512 .f32) : Prop :=
  ∀ (t : Fin 64) (c : Fin 512), cs (ix2 t c) = ((P (l c) (t.val + 1) - P (l c) (2 ^ k * (t.val / 2 ^ k)) : ℝ) : EReal) ∧
    tot (ix2 t c) = ((P (l c) (2 ^ k * (t.val / 2 ^ k) + 2 ^ k) - P (l c) (2 ^ k * (t.val / 2 ^ k)) : ℝ) : EReal)

/-- The bounds of a block and of its sibling. -/
theorem bounds : ∀ (k : Fin 6) (t : Fin 64),
    (t.val / 2 ^ k.val % 2 = 1 → 2 ^ k.val * ((t.val + 64 - (BitVec.ofNat 32 (2 ^ k.val)).toNat % 64) % 64 / 2 ^ k.val) + 2 ^ k.val = 2 ^ k.val * (t.val / 2 ^ k.val)
      ∧ 2 ^ k.val * ((t.val + 64 - (BitVec.ofNat 32 (2 ^ k.val)).toNat % 64) % 64 / 2 ^ k.val) = 2 ^ (k.val + 1) * (t.val / 2 ^ (k.val + 1))
      ∧ 2 ^ k.val * (t.val / 2 ^ k.val) + 2 ^ k.val = 2 ^ (k.val + 1) * (t.val / 2 ^ (k.val + 1)) + 2 ^ (k.val + 1)) ∧
    (t.val / 2 ^ k.val % 2 ≠ 1 → 2 ^ k.val * ((t.val + 64 - (BitVec.ofNat 32 (64 - 2 ^ k.val)).toNat % 64) % 64 / 2 ^ k.val) = 2 ^ k.val * (t.val / 2 ^ k.val) + 2 ^ k.val
      ∧ 2 ^ k.val * ((t.val + 64 - (BitVec.ofNat 32 (64 - 2 ^ k.val)).toNat % 64) % 64 / 2 ^ k.val) + 2 ^ k.val = 2 ^ (k.val + 1) * (t.val / 2 ^ (k.val + 1)) + 2 ^ (k.val + 1)
      ∧ 2 ^ k.val * (t.val / 2 ^ k.val) = 2 ^ (k.val + 1) * (t.val / 2 ^ (k.val + 1))) := by
  decide +kernel

/-- The sibling block's sums, at a position and a channel. -/
theorem sib_apply (m m' : BitVec 32) (x : FVec Ideal S64x512 .f32) (t : Fin 64) (c : Fin 512) :
    sib m m' x (ix2 t c) = Scalar.select (right m (ix2 t 0)) (x (ix2 ⟨(t.val + 64 - m.toNat % 64) % 64, Nat.mod_lt _ (by decide)⟩ c))
      (x (ix2 ⟨(t.val + 64 - m'.toNat % 64) % 64, Nat.mod_lt _ (by decide)⟩ c)) := by
  pointwise [sib, rightB]

/-- A level's cumulated sums, at a position and a channel. -/
theorem csN_apply (m m' : BitVec 32) (cs x : FVec Ideal S64x512 .f32) (t : Fin 64) (c : Fin 512) :
    csN m m' cs x (ix2 t c) = Scalar.select (right m (ix2 t 0)) (cs (ix2 t c) + sib m m' x (ix2 t c)) (cs (ix2 t c)) := by
  pointwise [csN, rightB]

/-- A level's totals, at a position and a channel. -/
theorem totN_apply (m m' : BitVec 32) (x : FVec Ideal S64x512 .f32) (t : Fin 64) (c : Fin 512) :
    totN m m' x (ix2 t c) = x (ix2 t c) + sib m m' x (ix2 t c) := rfl

/-- One level doubles the blocks. -/
theorem Inv.level (k : Fin 6) {l : Fin 512 → ℕ → ℝ} {cs tot : FVec Ideal S64x512 .f32} (h : Inv k l cs tot) :
    Inv (k.val + 1) l (csN (BitVec.ofNat 32 (2 ^ k.val)) (BitVec.ofNat 32 (64 - 2 ^ k.val)) cs tot)
      (totN (BitVec.ofNat 32 (2 ^ k.val)) (BitVec.ofNat 32 (64 - 2 ^ k.val)) tot) := by
  intro t c
  obtain ⟨b1, b2⟩ := bounds k t
  rw [csN_apply, totN_apply, sib_apply, right_apply, (h t c).1, (h t c).2, (h ⟨_, _⟩ c).2, (h ⟨_, _⟩ c).2]
  by_cases hr : t.val / 2 ^ k.val % 2 = 1
  · obtain ⟨e1, e2, e3⟩ := b1 hr
    rw [e2] at e1
    simp only [if_pos hr, sel1, e2, e1, e3, ← EReal.coe_add]
    exact ⟨congrArg _ (by ring), congrArg _ (by ring)⟩
  · obtain ⟨e1, e2, e3⟩ := b2 hr
    rw [e3] at e1
    rw [e1] at e2
    simp only [if_neg hr, sel0, e1, e2, e3, ← EReal.coe_add]
    exact ⟨trivial, congrArg _ (by ring)⟩

variable {l : FVec Ideal S64x512 .f32} {lr : Fin 512 → ℕ → ℝ}

/-- Before the first level: blocks of one row. -/
theorem inv0 (h : ∀ (t : Fin 64) (c : Fin 512), l (ix2 t c) = ((lr c t.val : ℝ) : EReal)) : Inv 0 lr l l := by
  intro t c
  rw [h t c]
  have e : lr c t.val = P (lr c) (t.val + 1) - P (lr c) t.val := by
    unfold P; rw [Finset.sum_range_succ]; ring
  simp [e]

/-- What holds after the first level. -/
theorem inv1 (h : Inv 0 lr l l) : Inv 1 lr (cs1 l) (tot1 l) := h.level 0
/-- What holds after the second level. -/
theorem inv2 (h : Inv 0 lr l l) : Inv 2 lr (cs2 l) (tot2 l) := (inv1 h).level 1
/-- What holds after the third level. -/
theorem inv3 (h : Inv 0 lr l l) : Inv 3 lr (cs3 l) (tot3 l) := (inv2 h).level 2
/-- What holds after the fourth level. -/
theorem inv4 (h : Inv 0 lr l l) : Inv 4 lr (cs4 l) (tot4 l) := (inv3 h).level 3
/-- What holds after the fifth level. -/
theorem inv5 (h : Inv 0 lr l l) : Inv 5 lr (cs5 l) (tot5 l) := (inv4 h).level 4
/-- What holds after the last level. -/
theorem inv6 (h : Inv 0 lr l l) : Inv 6 lr (cs6 l) (tot6 l) := (inv5 h).level 5

/-- After the last level the running sums are those of the whole chunk. -/
theorem cs6_apply (h : Inv 0 lr l l) (t : Fin 64) (c : Fin 512) : cs6 l (ix2 t c) = ((P (lr c) (t.val + 1) : ℝ) : EReal) := by
  rw [(inv6 h t c).1, show 2 ^ 6 * (t.val / 2 ^ 6) = 0 by omega]; simp [P]

/-- After the last level the total is the sum of the whole chunk. -/
theorem tot6_apply (h : Inv 0 lr l l) (t : Fin 64) (c : Fin 512) : tot6 l (ix2 t c) = ((P (lr c) 64 : ℝ) : EReal) := by
  rw [(inv6 h t c).2, show 2 ^ 6 * (t.val / 2 ^ 6) = 0 by omega]; simp [P]

end Cert.Proof.Chunk
-- ==== Proof.Attn.lean ====
module
public import proofs.«01_k».proof.Proof.Levels

@[expose] public section

set_option maxRecDepth 65536

noncomputable section

/-! # The scores of a chunk

Each pair of an earlier and a later row is scored at exactly one level, with the decay between the two rows. -/

namespace Cert.Proof.Chunk

open Idealize.ShloMosaic Cert.KernelIdeal Cert.KernelIdeal.Gen

/-- A head's column lies in the block. -/
theorem col_lt {o : Nat} (ho : S64x512.Slices ![0, o] S64x128) (x : Fin 128) : o + x.val < 512 := by
  have := ho.2 1
  have h : o + 128 ≤ 512 := this
  omega

/-- Column `x` of the head whose columns begin at `o`. -/
def col (o : Nat) (ho : S64x512.Slices ![0, o] S64x128) (x : Fin 128) : Fin 512 := ⟨o + x.val, col_lt ho x⟩

/-- The decay from row `s` to row `t`: none where `s` comes later. -/
def dec (l : ℕ → ℝ) (t s : Fin 64) : EReal := Ideal.exp (if s.val ≤ t.val then ((P l (t.val + 1) : ℝ) : EReal) - ((P l (s.val + 1) : ℝ) : EReal) else ⊥)

/-- Whether the `k`-th level scores row `s` for row `t`. -/
def scored (k : ℕ) (t s : Fin 64) : Prop := t.val / 2 ^ (k + 1) = s.val / 2 ^ (k + 1) ∧ t.val / 2 ^ k % 2 = 1 ∧ s.val / 2 ^ k % 2 ≠ 1

instance (k : ℕ) (t s : Fin 64) : Decidable (scored k t s) := by unfold scored; infer_instance

/-- A pair is scored once if `s` is earlier, and not at all otherwise. -/
theorem scored_once : ∀ t s : Fin 64, (∑ k : Fin 6, if scored k.val t s then 1 else 0) = if s.val < t.val then 1 else 0 := by
  decide +kernel

/-- The pairs a level covers: where the query's and the key's blocks lie. -/
theorem scored_bounds : ∀ (k : Fin 6) (t s : Fin 64), scored k.val t s → 2 ^ k.val * (s.val / 2 ^ k.val) + 2 ^ k.val = 2 ^ k.val * (t.val / 2 ^ k.val) := by
  decide +kernel

/-- The exponential of a sum of real numbers. -/
theorem exp_mul_exp (a b : ℝ) : Ideal.exp (a : EReal) * Ideal.exp (b : EReal) = Ideal.exp ((a + b : ℝ) : EReal) := by
  simp only [Ideal.exp_coe, ← EReal.coe_mul, Real.exp_add]

variable {l : FVec Ideal S64x512 .f32} {lr : Fin 512 → ℕ → ℝ} (q k : FVec Ideal S64x512 .f32) (o : Nat) (ho : S64x512.Slices ![0, o] S64x128)

/-- A level's block, at a pair of positions. -/
theorem attN_apply (m d : BitVec 32) (cs tot : FVec Ideal S64x512 .f32) (a : FVec Ideal S64x64 .f32) (t s : Fin 64) :
    attN o ho m d q k cs tot a (ix2 t s) = a (ix2 t s) + Scalar.select (pair d (ix2 t s))
        (∑ x : Fin 128, Scalar.select (right m (ix2 s 0)) 0
            (Scalar.select (right m (ix2 t 0))
              (q (ix2 t (col o ho x)) * Ideal.exp (cs (ix2 t (col o ho x))) *
                (k (ix2 s (col o ho x)) * Ideal.exp (tot (ix2 s (col o ho x)) - cs (ix2 s (col o ho x)))))
              0)) 0 := by
  pointwise [attN, qm, km, rightB]
  rfl

/-- One level's scores. -/
theorem level_apply (n : Fin 6) (m d : BitVec 32) (hm : m = BitVec.ofNat 32 (2 ^ n.val)) (hd : d = BitVec.ofNat 32 (2 ^ (n.val + 1))) {cs tot : FVec Ideal S64x512 .f32} (h : Inv n.val lr cs tot) (a : FVec Ideal S64x64 .f32) (t s : Fin 64) :
    attN o ho m d q k cs tot a (ix2 t s) =
      a (ix2 t s) + if scored n.val t s then ∑ x : Fin 128, q (ix2 t (col o ho x)) * Ideal.exp ((P (lr (col o ho x)) (t.val + 1) - P (lr (col o ho x)) (s.val + 1) : ℝ) : EReal) * k (ix2 s (col o ho x)) else 0 := by
  subst hm hd
  have hp := pair_apply n.succ t s
  rw [Fin.val_succ] at hp
  rw [attN_apply, hp, right_apply, right_apply]
  congr 1
  by_cases h1 : t.val / 2 ^ (n.val + 1) = s.val / 2 ^ (n.val + 1)
  swap
  · rw [if_neg h1, sel0, if_neg (fun e => h1 e.1)]
  rw [if_pos h1, sel1]
  by_cases h2 : t.val / 2 ^ n.val % 2 = 1
  swap
  · rw [if_neg (c := scored n.val t s) (fun e => h2 e.2.1)]
    refine Finset.sum_eq_zero fun x _ => ?_
    rw [if_neg h2, sel0]
    split <;> rfl
  by_cases h3 : s.val / 2 ^ n.val % 2 = 1
  · rw [if_neg (c := scored n.val t s) (fun e => e.2.2 h3)]
    refine Finset.sum_eq_zero fun x _ => ?_
    rw [if_pos h3, sel1]
  have hs : scored n.val t s := ⟨h1, h2, h3⟩
  rw [if_pos hs, if_neg h3, if_pos h2]
  refine Finset.sum_congr rfl fun x _ => ?_
  rw [sel0, sel1, (h t _).1, (h s _).1, (h s _).2, ← EReal.coe_sub, scored_bounds n t s hs]
  rw [mul_assoc, mul_left_comm (Ideal.exp _), exp_mul_exp, mul_comm (k _), ← mul_assoc]
  congr 4
  ring

/-- The scores before the diagonal: those of the earlier rows. -/
theorem att_apply (h : Inv 0 lr l l) (t s : Fin 64) :
    att o ho q k l (ix2 t s) = if s.val < t.val then ∑ x : Fin 128, q (ix2 t (col o ho x)) * Ideal.exp ((P (lr (col o ho x)) (t.val + 1) - P (lr (col o ho x)) (s.val + 1) : ℝ) : EReal) * k (ix2 s (col o ho x)) else 0 := by
  unfold att
  rw [level_apply (lr := lr) q k o ho 5 32#32 64#32 rfl rfl (inv5 h), level_apply (lr := lr) q k o ho 4 16#32 32#32 rfl rfl (inv4 h), level_apply (lr := lr) q k o ho 3 8#32 16#32 rfl rfl (inv3 h), level_apply (lr := lr) q k o ho 2 4#32 8#32 rfl rfl (inv2 h), level_apply (lr := lr) q k o ho 1 2#32 4#32 rfl rfl (inv1 h), level_apply (lr := lr) q k o ho 0 1#32 2#32 rfl rfl h]
  have e0 : (broadcast S64x64 (Scalar.ofBits (F := Ideal) .f32 0x00000000#32) : FVec Ideal S64x64 .f32) (ix2 t s) = 0 := by pointwise
  rw [e0, zero_add]
  generalize (∑ x : Fin 128, q (ix2 t (col o ho x)) * Ideal.exp ((P (lr (col o ho x)) (t.val + 1) - P (lr (col o ho x)) (s.val + 1) : ℝ) : EReal) * k (ix2 s (col o ho x))) = A
  have e := scored_once t s
  have e2 : (∑ k : Fin 6, if scored k.val t s then A else 0) = (∑ k : Fin 6, if scored k.val t s then 1 else 0) • A := by
    rw [Finset.sum_smul]
    refine Finset.sum_congr rfl fun k _ => ?_
    split <;> simp
  rw [e, Fin.sum_univ_six] at e2
  refine e2.trans ?_
  split <;> simp

/-- The scores. -/
theorem attD_apply (h : Inv 0 lr l l) (t s : Fin 64) :
    attD o ho q k l (ix2 t s) = ∑ x : Fin 128, q (ix2 t (col o ho x)) * dec (lr (col o ho x)) t s * k (ix2 s (col o ho x)) := by
  have e : attD o ho q k l (ix2 t s) = att o ho q k l (ix2 t s) + Scalar.select (IntOp.cmpi .eq (BitVec.ofNat 32 t.val) (BitVec.ofNat 32 s.val)) (∑ x : Fin 128, q (ix2 t (col o ho x)) * k (ix2 t (col o ho x))) 0 := by
    pointwise [attD, rr, cc]
    rfl
  have e3 : IntOp.cmpi .eq (BitVec.ofNat 32 t.val) (BitVec.ofNat 32 s.val) = if t.val = s.val then 1#1 else 0#1 := cmpi_ofNat (by omega) (by omega)
  rw [e, att_apply q k o ho h, e3]
  unfold dec
  rcases lt_trichotomy s.val t.val with hl | he | hg
  · rw [if_pos hl, if_neg (by omega), sel0, add_zero]
    refine Finset.sum_congr rfl fun x _ => ?_
    rw [if_pos hl.le, EReal.coe_sub]
  · obtain rfl : s = t := Fin.ext he
    rw [if_neg (lt_irrefl _), if_pos rfl, sel1, zero_add]
    refine Finset.sum_congr rfl fun x _ => ?_
    rw [if_pos le_rfl, ← EReal.coe_sub, sub_self, Ideal.exp_coe, Real.exp_zero, EReal.coe_one, mul_one]
  · rw [if_neg (by omega), if_neg (by omega), sel0, add_zero]
    refine (Finset.sum_eq_zero fun x _ => ?_).symm
    rw [if_neg (by omega), Ideal.exp_bot, mul_zero, zero_mul]

end Cert.Proof.Chunk
-- ==== Proof.Core.lean ====
module
public import proofs.«01_k».proof.Proof.Attn

@[expose] public section

set_option maxRecDepth 65536

noncomputable section

/-! # What a head's chunk computes

The chunk's mathematics on one head, and the kernel's values read as it. -/

namespace Cert.Proof.Chunk

open Idealize.ShloMosaic Cert.KernelIdeal Cert.KernelIdeal.Gen

/-- A head's output at row `t`: what the state gives it and what the chunk's rows up to `t` give it. -/
def oSpec (q k i : Fin 64 → Fin 128 → EReal) (l : Fin 128 → ℕ → ℝ) (S : Fin 128 → Fin 128 → EReal) (t : Fin 64) (e : Fin 128) : EReal :=
  (∑ d : Fin 128, q t d * Ideal.exp ((P (l d) (t.val + 1) : ℝ) : EReal) * S d e) +
    ∑ s : Fin 64, (∑ d : Fin 128, q t d * dec (l d) t s * k s d) * i s e

/-- A head's state after the chunk. -/
def sSpec (k i : Fin 64 → Fin 128 → EReal) (l : Fin 128 → ℕ → ℝ) (S : Fin 128 → Fin 128 → EReal) (d e : Fin 128) : EReal :=
  Ideal.exp ((P (l d) 64 : ℝ) : EReal) * S d e +
    ∑ t : Fin 64, k t d * Ideal.exp (((P (l d) 64 : ℝ) : EReal) - ((P (l d) (t.val + 1) : ℝ) : EReal)) * i t e

/-- A row of a head's output, normed: divided by the root of its mean square. -/
def nSpec (x : Fin 128 → EReal) (g : EReal) (e : Fin 128) : EReal :=
  x e * Ideal.rsqrt (Ideal.div (∑ d : Fin 128, x d * x d) (Ideal.ofBits .f32 0x43000000#32) + Ideal.ofBits .f32 0x358637BD#32) * g

variable {l : FVec Ideal S64x512 .f32} {lr : Fin 512 → ℕ → ℝ} (q k i : FVec Ideal S64x512 .f32) (o : Nat) (ho : S64x512.Slices ![0, o] S64x128)

/-- A head's output, at a position and a channel. -/
theorem out_apply (h : Inv 0 lr l l) (s : Vec Ideal S1x1x128x128 .f32) (t : Fin 64) (e : Fin 128) :
    out o ho q k l i s (ix2 t e) = oSpec (fun t d => q (ix2 t (col o ho d))) (fun t d => k (ix2 t (col o ho d))) (fun t d => i (ix2 t (col o ho d)))
      (fun d => lr (col o ho d)) (fun d e => s (ix4 0 0 d e)) t e := by
  have e1 : out o ho q k l i s (ix2 t e) = (∑ x : Fin 64, attD o ho q k l (ix2 t x) * i (ix2 x (col o ho e))) +
      ∑ d : Fin 128, q (ix2 t (col o ho d)) * Ideal.exp (cs6 l (ix2 t (col o ho d))) * s (ix4 0 0 d e) := by
    pointwise [out]
    rfl
  rw [e1, add_comm]
  unfold oSpec
  congr 1
  · refine Finset.sum_congr rfl fun d _ => ?_
    rw [cs6_apply h]
  · refine Finset.sum_congr rfl fun x _ => ?_
    rw [attD_apply q k o ho h]

/-- The norm of a head's output, at a position and a channel. -/
theorem normed_apply (x : FVec Ideal S64x128 .f32) (ng : Vec Ideal S1x128 .f32) (t : Fin 64) (e : Fin 128) :
    normed x ng (ix2 t e) = nSpec (fun d => x (ix2 t d)) (ng (ix2 0 e)) e := by
  unfold nSpec
  pointwise [normed]

/-- A head's next state, at a pair of channels. -/
theorem stateN_apply (h1 : S64x512.Slices ![0, o] S1x128) (h : Inv 0 lr l l) (s : Vec Ideal S1x1x128x128 .f32) (d e : Fin 128) :
    stateN o ho h1 k l i s (ix4 0 0 d e) = sSpec (fun t d => k (ix2 t (col o ho d))) (fun t d => i (ix2 t (col o ho d)))
      (fun d => lr (col o ho d)) (fun d e => s (ix4 0 0 d e)) d e := by
  have e1 : stateN o ho h1 k l i s (ix4 0 0 d e) = (∑ x : Fin 128, Scalar.select (IntOp.cmpi .eq (BitVec.ofNat 32 d.val) (BitVec.ofNat 32 x.val)) (Ideal.exp (tot6 l (ix2 0 (col o ho x)))) 0) * s (ix4 0 0 d e) +
      ∑ t : Fin 64, k (ix2 t (col o ho d)) * Ideal.exp (tot6 l (ix2 t (col o ho d)) - cs6 l (ix2 t (col o ho d))) * i (ix2 t (col o ho e)) := by
    pointwise [stateN]
    rfl
  rw [e1]
  unfold sSpec
  congr 1
  · congr 1
    rw [Finset.sum_eq_single d]
    · rw [show IntOp.cmpi .eq (BitVec.ofNat 32 d.val) (BitVec.ofNat 32 d.val) = 1#1 by simp [IntOp.cmpi], sel1, tot6_apply h]
    · intro x _ hx
      have : IntOp.cmpi .eq (BitVec.ofNat 32 d.val) (BitVec.ofNat 32 x.val) = 0#1 := by
        have hne : BitVec.ofNat 32 d.val ≠ BitVec.ofNat 32 x.val := by
          intro e
          have := congrArg BitVec.toNat e
          rw [BitVec.toNat_ofNat, BitVec.toNat_ofNat, Nat.mod_eq_of_lt (by omega), Nat.mod_eq_of_lt (by omega)] at this
          exact hx (Fin.ext this.symm)
        show BitVec.ofBool (_ == _) = _; rw [beq_false_of_ne hne]; rfl
      rw [this, sel0]
    · intro hx; exact absurd (Finset.mem_univ _) hx
  · refine Finset.sum_congr rfl fun x _ => ?_
    rw [cs6_apply h, tot6_apply h]

/-- The gated queries, at a position and a channel. -/
theorem silu_apply (x : Vec Ideal S1x64x512 .f32) (t : Fin 64) (c : Fin 512) :
    silu x (ix2 t c) = x (ix3 0 t c) * Ideal.logistic (x (ix3 0 t c)) := by
  pointwise [silu]

/-- The keys, at a position and a channel. -/
theorem kk_apply (f : Vec Ideal S1x64x512 .f32) (lb : Vec Ideal S1x512 .f32) (t : Fin 64) (c : Fin 512) :
    kk f lb (ix2 t c) = (1 - lb (ix2 0 c)) * Ideal.logistic (-f (ix3 0 t c)) := by
  pointwise [kk]
  rw [zero_sub]

/-- The branch's output, at a position and a channel. -/
theorem gated_apply (y : Fin 4 → FVec Ideal S64x128 .f32) (g : Vec Ideal S1x64x512 .f32) (t : Fin 64) (h : Fin 4) (e : Fin 128) :
    gated (y 0) (y 1) (y 2) (y 3) g (ix3 0 t ⟨128 * h.val + e.val, by omega⟩) =
      y h (ix2 t e) * silu g (ix2 t ⟨128 * h.val + e.val, by omega⟩) := by
  pointwise [gated]
  congr 1
  have hy : ∀ (h' : Fin 4) (e' : Fin 128), h' = h → e'.val = e.val → y h' (ix2 t e') = y h (ix2 t e) := by
    rintro _ e' rfl he; rw [Fin.ext he]
  have hh : h.val = 0 ∨ h.val = 1 ∨ h.val = 2 ∨ h.val = 3 := by omega
  rcases hh with hh | hh | hh | hh
  · rw [dif_pos (by omega)]; exact hy 0 _ (Fin.ext hh.symm) (by simp [hh])
  · rw [dif_neg (by omega), dif_pos (by omega)]; exact hy 1 _ (Fin.ext hh.symm) (by simp [hh])
  · rw [dif_neg (by omega), dif_neg (by omega), dif_pos (by omega)]; exact hy 2 _ (Fin.ext hh.symm) (by simp only [hh]; omega)
  · rw [dif_neg (by omega), dif_neg (by omega), dif_neg (by omega)]; exact hy 3 _ (Fin.ext hh.symm) (by simp only [hh]; omega)

/-- Head `h`'s column `d`. -/
abbrev hcol (h : Fin 4) (d : Fin 128) : Fin 512 := ⟨128 * h.val + d.val, by omega⟩

/-- What a sequence's chunk stores to the output, read at a head's column. -/
theorem chunkY_apply (xq xf xi xg : Vec Ideal S1x64x512 .f32) (lb : Vec Ideal S1x512 .f32) (ng : Vec Ideal S1x128 .f32) (s : Fin 4 → Vec Ideal S1x1x128x128 .f32)
    (hl : ∀ (t : Fin 64) (c : Fin 512), lf xf lb (ix2 t c) = ((lr c t.val : ℝ) : EReal)) (t : Fin 64) (h : Fin 4) (e : Fin 128) :
    chunkY xq xf xi xg lb ng (s 0) (s 1) (s 2) (s 3) (ix3 0 t (hcol h e)) =
      nSpec (oSpec (fun t d => xq (ix3 0 t (hcol h d)) * Ideal.logistic (xq (ix3 0 t (hcol h d))))
        (fun t d => (1 - lb (ix2 0 (hcol h d))) * Ideal.logistic (-xf (ix3 0 t (hcol h d)))) (fun t d => xi (ix3 0 t (hcol h d)))
        (fun d => lr (hcol h d)) (fun d e => s h (ix4 0 0 d e)) t) (ng (ix2 0 e)) e
      * (xg (ix3 0 t (hcol h e)) * Ideal.logistic (xg (ix3 0 t (hcol h e)))) := by
  have hi := inv0 hl
  have hx : ∀ t c, (shapeCast S64x512 xi shapeCasts_S1x64x512_S64x512 : FVec Ideal S64x512 .f32) (ix2 t c) = xi (ix3 0 t c) := by
    intro t c; pointwise
  have key : ∀ (o : ℕ) (ho : S64x512.Slices ![0, o] S64x128), o = 128 * h.val →
      normed (out o ho (silu xq) (kk xf lb) (lf xf lb) (shapeCast S64x512 xi shapeCasts_S1x64x512_S64x512) (s h)) ng (ix2 t e) =
      nSpec (oSpec (fun t d => xq (ix3 0 t (hcol h d)) * Ideal.logistic (xq (ix3 0 t (hcol h d))))
        (fun t d => (1 - lb (ix2 0 (hcol h d))) * Ideal.logistic (-xf (ix3 0 t (hcol h d)))) (fun t d => xi (ix3 0 t (hcol h d)))
        (fun d => lr (hcol h d)) (fun d e => s h (ix4 0 0 d e)) t) (ng (ix2 0 e)) e := by
    intro o ho e'
    subst e'
    rw [normed_apply]
    congr 1
    funext d
    rw [out_apply _ _ _ _ _ hi]
    simp only [silu_apply, kk_apply, hx]
    rfl
  unfold chunkY
  refine (gated_apply ![normed (out 0 slices_S64x512_o0_0_S64x128 (silu xq) (kk xf lb) (lf xf lb) (shapeCast S64x512 xi shapeCasts_S1x64x512_S64x512) (s 0)) ng,
    normed (out 128 slices_S64x512_o0_128_S64x128 (silu xq) (kk xf lb) (lf xf lb) (shapeCast S64x512 xi shapeCasts_S1x64x512_S64x512) (s 1)) ng,
    normed (out 256 slices_S64x512_o0_256_S64x128 (silu xq) (kk xf lb) (lf xf lb) (shapeCast S64x512 xi shapeCasts_S1x64x512_S64x512) (s 2)) ng,
    normed (out 384 slices_S64x512_o0_384_S64x128 (silu xq) (kk xf lb) (lf xf lb) (shapeCast S64x512 xi shapeCasts_S1x64x512_S64x512) (s 3)) ng] xg t h e).trans ?_
  rw [silu_apply]
  congr 1
  fin_cases h
  · exact key 0 slices_S64x512_o0_0_S64x128 rfl
  · exact key 128 slices_S64x512_o0_128_S64x128 rfl
  · exact key 256 slices_S64x512_o0_256_S64x128 rfl
  · exact key 384 slices_S64x512_o0_384_S64x128 rfl

/-- What a sequence's chunk stores to a head's state. -/
theorem chunkS_apply (h : Fin 4) (o : ℕ) (ho : S64x512.Slices ![0, o] S64x128) (h1 : S64x512.Slices ![0, o] S1x128) (eo : o = 128 * h.val) (xf xi : Vec Ideal S1x64x512 .f32) (lb : Vec Ideal S1x512 .f32) (s : Vec Ideal S1x1x128x128 .f32)
    (hl : ∀ (t : Fin 64) (c : Fin 512), lf xf lb (ix2 t c) = ((lr c t.val : ℝ) : EReal)) (d e : Fin 128) :
    chunkS o ho h1 xf xi lb s (ix4 0 0 d e) =
      sSpec (fun t d => (1 - lb (ix2 0 (hcol h d))) * Ideal.logistic (-xf (ix3 0 t (hcol h d)))) (fun t d => xi (ix3 0 t (hcol h d)))
        (fun d => lr (hcol h d)) (fun d e => s (ix4 0 0 d e)) d e := by
  have hi := inv0 hl
  have hx : ∀ t c, (shapeCast S64x512 xi shapeCasts_S1x64x512_S64x512 : FVec Ideal S64x512 .f32) (ix2 t c) = xi (ix3 0 t c) := by
    intro t c; pointwise
  subst eo
  unfold chunkS
  rw [stateN_apply _ _ _ _ _ hi]
  simp only [kk_apply, hx]
  rfl

end Cert.Proof.Chunk
-- ==== Proof.LogF.lean ====
module
public import Idealize.ShloMosaic.PureOps.Ideal

@[expose] public section

noncomputable section

/-! # The logarithm of the forget gate

The kernel takes the logarithm of the gate itself; the plain form adds the two terms' logarithms under a stable
`log (exp x + exp y)`. For a real share of at most 1 they agree and are finite. -/

namespace Cert.Proof.LogF

open Idealize.ShloMosaic

/-- A stable `log (exp x + exp y)`. -/
def lae (x y : EReal) : EReal := max x y + Ideal.log1p (Ideal.exp (-(max (x - y) (-(x - y)))))

/-- Over the real numbers, the stable form of the logarithm of a sum of exponentials. -/
theorem real_lae (x y : ℝ) : max x y + Real.log (1 + Real.exp (-(max (x - y) (-(x - y))))) = Real.log (Real.exp x + Real.exp y) := by
  have key : ∀ u v : ℝ, u ≤ v → v + Real.log (1 + Real.exp (u - v)) = Real.log (Real.exp u + Real.exp v) := by
    intro u v _
    have e : Real.exp u + Real.exp v = (1 + Real.exp (u - v)) * Real.exp v := by
      rw [add_mul, one_mul, ← Real.exp_add, sub_add_cancel, add_comm]
    rw [e, Real.log_mul (by positivity) (by positivity), Real.log_exp, add_comm]
  rcases le_total x y with h | h
  · rw [max_eq_right h, max_eq_right (by linarith), ← key x y h]
    congr 4; ring
  · rw [max_eq_left h, max_eq_left (by linarith), add_comm (Real.exp x), ← key y x h]
    congr 4; ring

/-- The logarithm of a positive real number. -/
theorem log_pos {r : ℝ} (h : 0 < r) : Ideal.log (r : EReal) = (Real.log r : ℝ) := by
  rw [Ideal.log_coe, if_neg (by linarith)]

/-- The larger of two real numbers, among the extended ones. -/
theorem coe_max' (x y : ℝ) : max (x : EReal) (y : EReal) = ((max x y : ℝ) : EReal) := by
  rcases le_total x y with h | h
  · rw [max_eq_right h, max_eq_right (EReal.coe_le_coe_iff.mpr h)]
  · rw [max_eq_left h, max_eq_left (EReal.coe_le_coe_iff.mpr h)]

/-- The logarithm of a sum of exponentials, of two real numbers. -/
theorem lae_coe (x y : ℝ) : lae x y = ((Real.log (Real.exp x + Real.exp y) : ℝ) : EReal) := by
  unfold lae Ideal.log1p
  rw [← EReal.coe_sub, ← EReal.coe_neg, coe_max', coe_max', ← EReal.coe_neg, Ideal.exp_coe, ← EReal.coe_one, ← EReal.coe_add,
    log_pos (by positivity), ← EReal.coe_add, real_lae]

/-- With minus infinity on the right nothing is added. -/
theorem lae_bot (x : ℝ) : lae x ⊥ = x := by
  unfold lae Ideal.log1p
  rw [EReal.coe_sub_bot, max_eq_left bot_le, max_eq_left le_top, EReal.neg_top, Ideal.exp_bot, add_zero, ← EReal.coe_one, log_pos one_pos,
    Real.log_one, EReal.coe_zero, add_zero]

/-- With infinity on the left it is infinite. -/
theorem lae_top : lae ⊤ 0 = ⊤ := by
  unfold lae Ideal.log1p
  rw [sub_zero, max_eq_left le_top, max_eq_left le_top, EReal.neg_top, Ideal.exp_bot, add_zero, ← EReal.coe_one, log_pos one_pos,
    Real.log_one, EReal.coe_zero, add_zero]

/-- With minus infinity on the left nothing is added. -/
theorem lae_bot' : lae ⊥ 0 = 0 := by
  unfold lae Ideal.log1p
  rw [sub_zero, max_eq_right bot_le, EReal.neg_bot, max_eq_right le_top, EReal.neg_top, Ideal.exp_bot, add_zero, ← EReal.coe_one, log_pos one_pos,
    Real.log_one, EReal.coe_zero, add_zero]

/-- The logistic is a real between 0 and 1, and its logarithm is minus `log (exp (-f) + 1)`. -/
theorem logistic_real (f : EReal) : ∃ s : ℝ, 0 ≤ s ∧ Ideal.logistic f = s ∧ lae (-f) 0 = -Ideal.log s := by
  induction f with
  | bot => exact ⟨0, le_rfl, Ideal.logistic_bot, by rw [EReal.neg_bot, lae_top, Ideal.log_coe, if_pos le_rfl, EReal.neg_bot]⟩
  | top => exact ⟨1, zero_le_one, Ideal.logistic_top, by rw [EReal.neg_top, lae_bot', log_pos one_pos, Real.log_one, EReal.coe_zero, neg_zero]⟩
  | coe r =>
    refine ⟨(1 + Real.exp (-r))⁻¹, by positivity, Ideal.logistic_coe r, ?_⟩
    rw [log_pos (by positivity), Real.log_inv, EReal.coe_neg, neg_neg, ← EReal.coe_neg, ← EReal.coe_zero, lae_coe, Real.exp_zero, add_comm]

/-- The logarithm of a product of numbers that are not negative. -/
theorem log_mul_real {a b : ℝ} (ha : 0 ≤ a) (hb : 0 ≤ b) : Ideal.log (a : EReal) - -Ideal.log (b : EReal) = Ideal.log ((a * b : ℝ) : EReal) := by
  rw [sub_eq_add_neg, neg_neg]
  rcases ha.eq_or_lt with rfl | ha
  · rw [zero_mul, Ideal.log_coe, if_pos le_rfl, EReal.bot_add]
  rcases hb.eq_or_lt with rfl | hb
  · rw [mul_zero, Ideal.log_coe 0, if_pos le_rfl, EReal.add_bot]
  rw [log_pos ha, log_pos hb, log_pos (mul_pos ha hb), Real.log_mul ha.ne' hb.ne', EReal.coe_add]

/-- The kernel's form, at a positive floor `ε`. -/
def lf (ε lb f : EReal) : EReal := Ideal.log (max lb ε + (1 - lb) * Ideal.logistic f)

/-- The plain form. -/
def lfPlain (ε lb f : EReal) : EReal := lae (Ideal.log (max lb ε)) (Ideal.log1p (-lb) - lae (-f) 0)

/-- The forget gate's logarithm is finite, and the two forms agree. -/
theorem lf_eq {ε lb : ℝ} (hε : 0 < ε) (h1 : lb ≤ 1) (f : EReal) :
    lf ε lb f = (((lf ε lb f).toReal : ℝ) : EReal) ∧ lfPlain ε lb f = lf ε lb f := by
  obtain ⟨s, hs, e1, e2⟩ := logistic_real f
  have ha : 0 < max lb ε := lt_max_of_lt_right hε
  have hp : 0 ≤ (1 - lb) * s := mul_nonneg (by linarith) hs
  have k : lf ε lb f = ((Real.log (max lb ε + (1 - lb) * s) : ℝ) : EReal) := by
    unfold lf
    rw [e1, coe_max', ← EReal.coe_one, ← EReal.coe_sub, ← EReal.coe_mul, ← EReal.coe_add, log_pos (by linarith)]
  refine ⟨by rw [k, EReal.toReal_coe], ?_⟩
  rw [k]
  unfold lfPlain
  rw [e2, coe_max', log_pos ha, Ideal.log1p, ← EReal.coe_one, ← EReal.coe_neg, ← EReal.coe_add, ← sub_eq_add_neg, log_mul_real (by linarith) hs]
  rcases hp.eq_or_lt with hp | hp
  · rw [← hp, Ideal.log_coe, if_pos le_rfl, lae_bot, add_zero]
  · rw [log_pos hp, lae_coe, Real.exp_log ha, Real.exp_log hp]

end Cert.Proof.LogF
-- ==== Proof.RefSteps.lean ====
module
public import proofs.«01_k».proof.Proof.Gen.ReferenceIdeal.Run
public import proofs.«01_k».proof.Proof.Gen.ReferenceIdeal.Step
public import Idealize.ShloMosaic.Lib.Pointwise

@[expose] public section

set_option maxRecDepth 65536

noncomputable section

/-! # The plain recurrence's run, as a sequence of states

What the buffers hold before each trip of the loop is a state; one trip makes the next of it. -/

namespace Cert.Proof.RefSteps

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

/-- Before trip `j` the buffers hold the state `s`. -/
structure At (V : Valuation τ sig (Elt F)) (s : State F) (j : ℕ) : Prop where
  S : V (Proc.devRef .tc main_v67_6) = s.main_v67_6
  o : V (Proc.devRef .tc main_v67_7) = s.main_v67_7
  q : V (Proc.devRef .tc main_v67_0) = s.main_v67_0
  l : V (Proc.devRef .tc main_v67_1) = s.main_v67_1
  k : V (Proc.devRef .tc main_v67_2) = s.main_v67_2
  i : V (Proc.devRef .tc main_v67_3) = s.main_v67_3
  mask : V (Proc.devRef .tc main_v67_4) = Step.K_main_v56 (F := F)
  n : V (Proc.devRef .tc main_v67_5) = constantI S_ 32 (BitVec.ofNat 32 j)

variable {V : Valuation τ sig (Elt F)} {s : State F} {j : ℕ}

/-- The run's slice of the queries is the step's. -/
theorem At.qj (h : At V s j) : res_main_while0b_v87 V = Step.b5 j s := by
  unfold res_main_while0b_v87
  rw [h.q, h.n]
  rfl

/-- The run's slice of the keys is the step's. -/
theorem At.kj (h : At V s j) : res_main_while0b_v89 V = Step.b17 j s := by
  unfold res_main_while0b_v89
  rw [h.k, h.n]
  rfl

/-- The run's slice of the values is the step's. -/
theorem At.ij (h : At V s j) : res_main_while0b_v90 V = Step.b23 j s := by
  unfold res_main_while0b_v90
  rw [h.i, h.n]
  rfl

/-- The run's cumulated logarithms are the step's. -/
theorem At.bj (h : At V s j) : res_main_while0b_v91 V = Step.b26 j s := by
  unfold res_main_while0b_v91
  rw [h.l, h.n]
  rfl

/-- The run's last logarithms of the chunk are the step's. -/
theorem At.endj (h : At V s j) : res_main_while0b_v112 V = Step.b52 j s := by
  unfold res_main_while0b_v112
  rw [h.bj]
  rfl

/-- The state a trip leaves. -/
theorem At.stepS (h : At V s j) : step_main_v67_6 V = (step j s).main_v67_6 := by
  unfold step_main_v67_6
  rw [h.endj, h.kj, h.ij, h.bj, h.S]
  rfl

/-- The stack of outputs a trip leaves. -/
theorem At.stepO (h : At V s j) : step_main_v67_7 V = (step j s).main_v67_7 := by
  unfold step_main_v67_7
  rw [h.qj, h.kj, h.ij, h.bj, h.S, h.o, h.mask, h.n]
  rfl

/-- The counter after a trip. -/
theorem At.stepN (h : At V s j) : step_main_v67_5 V = constantI S_ 32 (BitVec.ofNat 32 (j + 1)) := by
  unfold step_main_v67_5
  rw [h.n]
  funext _
  show BitVec.ofNat 32 j + 1#32 = _
  rw [BitVec.ofNat_add]
  rfl

/-- A trip goes from a state to the next. -/
theorem At.next (h : At V s j) : At (STEP V) (step j s) (j + 1) :=
  ⟨(STEP_main_v67_6 V).trans h.stepS, (STEP_main_v67_7 V).trans h.stepO, (STEP_main_v67_0 V).trans h.q, (STEP_main_v67_1 V).trans h.l,
    (STEP_main_v67_2 V).trans h.k, (STEP_main_v67_3 V).trans h.i, (STEP_main_v67_4 V).trans h.mask, (STEP_main_v67_5 V).trans h.stepN⟩

/-- The states, from the arguments on. -/
def states (a0 : FVec F S8x2048x8448 .f32) (a1 : FVec F S512 .f32) (a3 : FVec F S8x4x128x128 .f32) : ℕ → State F
  | 0 => init a3 a0 a1
  | n + 1 => step n (states a0 a1 a3 n)

variable (m : (ℓ : Loc nD τ sig) → Buf (Elt F) ℓ) (ρ : Dev nD → PrngReg) (c : Dev nD)

/-- The states of device `c`'s arguments. -/
abbrev statesOf : ℕ → State F :=
  states (m ((c.tc : Thread nD τ).loc main_arg0)) (m ((c.tc : Thread nD τ).loc main_arg1)) (m ((c.tc : Thread nD τ).loc main_arg3))

set_option maxHeartbeats 500000 in
/-- What the operations before the loop leave is the first state. -/
theorem at_entry : At (entryContents preI m c) (statesOf m c 0) 0 := by
  constructor <;> (simp only [entryContents, afterL_cons, afterL_nil]; after_reads_simp) <;> rfl

/-- The run's memory and the states agree after every trip. -/
theorem at_trip : ∀ n, At (STEP^[n] (entryContents preI m c)) (statesOf m c n) n
  | 0 => at_entry m c
  | n + 1 => by
    rw [Function.iterate_succ_apply']
    exact (at_trip n).next

/-- The results are read off the last state, and the arguments are kept. -/
theorem run : θ_run (defs (F := F)) (onTc (τ := τ) (main (F := F))) ⟨m, fun _ => 0, ρ⟩ fun r => ∀ c : Dev nD,
    r.2.mem ((c.tc : Thread nD τ).loc main_v86) = Step.R_main_v86 (statesOf m c 32) (m ((c.tc : Thread nD τ).loc main_arg0)) (m ((c.tc : Thread nD τ).loc main_arg2))
    ∧ r.2.mem ((c.tc : Thread nD τ).loc main_v67_6) = (statesOf m c 32).main_v67_6
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) := by
  refine (θ_run _ _ _).mono (fun r h c => ?_) (Value.run m ρ)
  obtain ⟨h0, h1, h2⟩ := h c
  refine ⟨h0.trans ?_, h1.trans (at_trip m c 32).S, h2⟩
  unfold out_main_v86
  rw [(at_trip m c 32).o, iter_main_arg0 m c 32, iter_main_arg2 m c 32]
  rfl

end Cert.Proof.RefSteps
-- ==== Proof.RefVals.lean ====
module
public import proofs.«01_k».proof.Proof.RefSteps
public import proofs.«01_k».proof.Proof.LogF
public import Idealize.ShloMosaic.Lib.Pointwise

@[expose] public section

set_option maxRecDepth 65536

noncomputable section

/-! # The plain recurrence's inputs, element by element -/

namespace Cert.Proof.RefVals

open Idealize.ShloMosaic
open Cert.ReferenceIdeal Cert.ReferenceIdeal.Gen Cert.ReferenceIdeal.Step

/-- The floor under the forget gate's share. -/
abbrev floor : EReal := Ideal.ofBits .f32 0x0DA24260#32

/-- The floor is a positive real number. -/
theorem floor_pos : ∃ ε : ℝ, 0 < ε ∧ floor = (ε : EReal) := by
  refine ⟨_, ?_, by simp only [floor, Ideal.ofBits, Ideal.ieee]; rfl⟩
  norm_num
  rw [if_neg (by decide)]
  positivity

variable (a0 : FVec Ideal S8x2048x8448 .f32) (a1 : FVec Ideal S512 .f32)

/-- Token `t` of chunk `j`. -/
abbrev tok (j : Fin 32) (t : Fin 64) : Fin 2048 := ⟨64 * j.val + t.val, by omega⟩

/-- Column `d` of head `h` in the packed projections' piece that starts at `o`. -/
abbrev pcol (o : ℕ) (ho : o ≤ 7168) (h : Fin 4) (d : Fin 128) : Fin 8448 := ⟨o + (128 * h.val + d.val), by omega⟩

/-- Column `d` of head `h`. -/
abbrev hcol (h : Fin 4) (d : Fin 128) : Fin 512 := ⟨128 * h.val + d.val, by omega⟩

/-- Element of the array split into heads. -/
theorem v54_apply (b : Fin 8) (r : Fin 2048) (h : Fin 4) (d : Fin 128) :
    A_main_v54 (F := Ideal) a0 a1 (ix4 b r h d) = a0 (ix3 b r (pcol 5632 (by decide) h d)) * Ideal.logistic (a0 (ix3 b r (pcol 5632 (by decide) h d))) := by
  pointwise [A_main_v54, A_main_v53, A_main_call0_v5, A_main_call0_v3, A_main_call0_v1, A_main_call0_v0, A_main_v0, K_main_call0_v4, K_main_call0_v2, K_main_call0_cst, K_main_call0_cst_0]
  simp only [pcol, mul_comm h.val 128]
  rfl

/-- Element of the array split into heads. -/
theorem v52_apply (b : Fin 8) (r : Fin 2048) (h : Fin 4) (d : Fin 128) :
    A_main_v52 (F := Ideal) a0 a1 (ix4 b r h d) = (1 - a1 (ix1 (hcol h d))) * Ideal.logistic (-a0 (ix3 b r (pcol 6144 (by decide) h d))) := by
  pointwise [A_main_v52, A_main_v51, A_main_v50, A_main_v49, A_main_v47, A_main_v45, A_main_v44, A_main_v43, A_main_v42, A_main_v3, A_main_v4, A_main_v1, K_main_v46, K_main_v48, K_main_v41, K_main_cst_1, K_main_cst_2, K_main_cst_3]
  simp only [pcol, hcol, mul_comm h.val 128]
  rfl

/-- Element of the array split into heads. -/
theorem v40_apply (b : Fin 8) (r : Fin 2048) (h : Fin 4) (d : Fin 128) :
    A_main_v40 (F := Ideal) a0 a1 (ix4 b r h d) = LogF.lfPlain floor (a1 (ix1 (hcol h d))) (a0 (ix3 b r (pcol 6144 (by decide) h d))) := by
  pointwise [A_main_v1, A_main_v3, A_main_v4, A_main_v6, A_main_v7, A_main_v8, A_main_v9, A_main_v10, A_main_v12, A_main_v14, A_main_v15, A_main_v17, A_main_v18, A_main_v19, A_main_v20, A_main_v21, A_main_v22, A_main_v23, A_main_v24, A_main_v25, A_main_v26, A_main_v27, A_main_v28, A_main_v29, A_main_v30, A_main_v31, A_main_v32, A_main_v33, A_main_v34, A_main_v35, A_main_v36, A_main_v37, A_main_v38, A_main_v39, A_main_v40, K_main_v5, K_main_v11, K_main_v13, K_main_v16, K_main_cst, K_main_cst_0]
  simp only [ne_eq, not_true_eq_false, if_false]
  simp only [pcol, hcol, mul_comm h.val 128]
  unfold LogF.lfPlain LogF.lae
  rw [sub_zero]
  rfl

/-- Element of the array split into heads. -/
theorem v63_apply (b : Fin 8) (r : Fin 2048) (h : Fin 4) (d : Fin 128) :
    A_main_v63 (F := Ideal) a0 a1 (ix4 b r h d) = a0 (ix3 b r (pcol 6656 (by decide) h d)) := by
  pointwise [A_main_v63, A_main_v2]
  simp only [pcol, mul_comm h.val 128]

/-- An array of tokens cut into chunks, chunk first. -/
theorem stack_apply (x : FVec Ideal S8x2048x4x128 .f32) (j : Fin 32) (b : Fin 8) (h : Fin 4) (t : Fin 64) (d : Fin 128) :
    (transpose S32x8x4x64x128 [1, 0, 3, 2, 4] (shapeCast S8x32x64x4x128 x shapeCasts_S8x2048x4x128_S8x32x64x4x128) transposes_S8x32x64x4x128_S32x8x4x64x128_1_0_3_2_4) (ix5 j b h t d)
      = x (ix4 b (tok j t) h d) := by
  pointwise []
  simp only [tok, mul_comm j.val 64]

/-- Element of the chunked queries. -/
theorem q_apply (j : Fin 32) (b : Fin 8) (h : Fin 4) (t : Fin 64) (d : Fin 128) :
    A_main_v58 (F := Ideal) a0 a1 (ix5 j b h t d) =
      a0 (ix3 b (tok j t) (pcol 5632 (by decide) h d)) * Ideal.logistic (a0 (ix3 b (tok j t) (pcol 5632 (by decide) h d))) :=
  (stack_apply _ j b h t d).trans (v54_apply a0 a1 _ _ _ _)

/-- Element of the chunked logarithms. -/
theorem l_apply (j : Fin 32) (b : Fin 8) (h : Fin 4) (t : Fin 64) (d : Fin 128) :
    A_main_v60 (F := Ideal) a0 a1 (ix5 j b h t d) =
      LogF.lfPlain floor (a1 (ix1 (hcol h d))) (a0 (ix3 b (tok j t) (pcol 6144 (by decide) h d))) :=
  (stack_apply _ j b h t d).trans (v40_apply a0 a1 _ _ _ _)

/-- Element of the chunked keys. -/
theorem k_apply (j : Fin 32) (b : Fin 8) (h : Fin 4) (t : Fin 64) (d : Fin 128) :
    A_main_v62 (F := Ideal) a0 a1 (ix5 j b h t d) =
      (1 - a1 (ix1 (hcol h d))) * Ideal.logistic (-a0 (ix3 b (tok j t) (pcol 6144 (by decide) h d))) :=
  (stack_apply _ j b h t d).trans (v52_apply a0 a1 _ _ _ _)

/-- Element of the chunked values. -/
theorem i_apply (j : Fin 32) (b : Fin 8) (h : Fin 4) (t : Fin 64) (d : Fin 128) :
    A_main_v65 (F := Ideal) a0 a1 (ix5 j b h t d) = a0 (ix3 b (tok j t) (pcol 6656 (by decide) h d)) :=
  (stack_apply _ j b h t d).trans (v63_apply a0 a1 _ _ _ _)

end Cert.Proof.RefVals
-- ==== Proof.Spec.lean ====
module
public import proofs.«01_k».proof.Proof.Core
public import proofs.«01_k».proof.Proof.LogF
public import proofs.«01_k».proof.Proof.RefVals

@[expose] public section

set_option maxRecDepth 65536

noncomputable section

/-! # The recurrence, chunk by chunk, of the layer's arrays -/

namespace Cert.Proof.Hgrn

open Idealize.ShloMosaic
open Cert.Proof.Chunk (oSpec sSpec nSpec)
open Cert.Proof.RefVals (floor pcol hcol tok)

variable (z : Fin 8 → Fin 2048 → Fin 8448 → EReal) (lb : Fin 512 → EReal) (ng : Fin 128 → EReal) (s0 : Fin 8 → Fin 4 → Fin 128 → Fin 128 → EReal)

/-- Token `t` of chunk `j`, for any numbers: a chunk past the last wraps. -/
abbrev tokN (j t : ℕ) : Fin 2048 := ⟨(64 * j + t) % 2048, Nat.mod_lt _ (by decide)⟩

/-- Column `c` of the packed projections' piece that starts at `o`. -/
abbrev wcol (o : ℕ) (ho : o ≤ 7936) (c : Fin 512) : Fin 8448 := ⟨o + c.val, by omega⟩

/-- A head's queries in chunk `j`. -/
def Q (j : ℕ) (b : Fin 8) (h : Fin 4) (t : Fin 64) (d : Fin 128) : EReal :=
  z b (tokN j t.val) (wcol 5632 (by decide) (hcol h d)) * Ideal.logistic (z b (tokN j t.val) (wcol 5632 (by decide) (hcol h d)))

/-- A head's keys in chunk `j`: what the forget gate lets in. -/
def K (j : ℕ) (b : Fin 8) (h : Fin 4) (t : Fin 64) (d : Fin 128) : EReal :=
  (1 - lb (hcol h d)) * Ideal.logistic (-z b (tokN j t.val) (wcol 6144 (by decide) (hcol h d)))

/-- A head's inputs in chunk `j`. -/
def I (j : ℕ) (b : Fin 8) (h : Fin 4) (t : Fin 64) (d : Fin 128) : EReal :=
  z b (tokN j t.val) (wcol 6656 (by decide) (hcol h d))

/-- The logarithm of a column's forget gate at token `t` of chunk `j`, a real. -/
def lr (j : ℕ) (b : Fin 8) (c : Fin 512) (t : ℕ) : ℝ :=
  (LogF.lf floor (lb c) (z b (tokN j t) (wcol 6144 (by decide) c))).toReal

/-- A head's state before chunk `j`. -/
def St : ℕ → Fin 8 → Fin 4 → Fin 128 → Fin 128 → EReal
  | 0, b, h => s0 b h
  | j + 1, b, h => sSpec (K z lb j b h) (I z j b h) (fun d => lr z lb j b (hcol h d)) (St j b h)

/-- A head's output in chunk `j`. -/
def O (j : ℕ) (b : Fin 8) (h : Fin 4) : Fin 64 → Fin 128 → EReal :=
  oSpec (Q z j b h) (K z lb j b h) (I z j b h) (fun d => lr z lb j b (hcol h d)) (St z lb s0 j b h)

/-- The layer's output at token `t` of chunk `j`, head `h`, column `e`: normed by the head's root mean square and gated. -/
def Yh (j : ℕ) (b : Fin 8) (h : Fin 4) (t : Fin 64) (e : Fin 128) : EReal :=
  nSpec (O z lb s0 j b h t) (ng e) e * (z b (tokN j t.val) (wcol 7168 (by decide) (hcol h e)) * Ideal.logistic (z b (tokN j t.val) (wcol 7168 (by decide) (hcol h e))))

/-- The layer's output, by row and column. -/
def Y (b : Fin 8) (r : Fin 2048) (c : Fin 512) : EReal :=
  Yh z lb ng s0 (r.val / 64) b ⟨c.val / 128, by omega⟩ ⟨r.val % 64, by omega⟩ ⟨c.val % 128, by omega⟩

/-- The arrays' shares are reals, and at most 1. -/
def Capped : Prop := ∀ c, ∃ x : ℝ, x ≤ 1 ∧ lb c = (x : EReal)

variable {lb}

/-- The gate's logarithm is a real, and is the plain spelling's too. -/
theorem lf_real (hs : Capped lb) (c : Fin 512) (f : EReal) :
    LogF.lf floor (lb c) f = ((LogF.lf floor (lb c) f).toReal : EReal) ∧ LogF.lfPlain floor (lb c) f = LogF.lf floor (lb c) f := by
  obtain ⟨ε, hε, he⟩ := RefVals.floor_pos
  obtain ⟨x, h1, hx⟩ := hs c
  rw [he, hx]
  exact LogF.lf_eq hε h1 f

/-- A chunk's position, from plain numbers. -/
theorem tokN_eq (j : Fin 32) (t : Fin 64) : tokN j.val t.val = tok j t := Fin.ext (Nat.mod_eq_of_lt (by omega))

/-- A head's column, from plain numbers. -/
theorem wcol_eq (o : ℕ) (ho : o ≤ 7168) (h : Fin 4) (d : Fin 128) : wcol o (by omega) (hcol h d) = pcol o ho h d := rfl

end Cert.Proof.Hgrn
-- ==== Proof.Points.lean ====
module
public import proofs.«01_k».proof.Proof.PointsK
public import proofs.«01_k».proof.Proof.Spec
public import proofs.«01_k».proof.Proof.Gen.KernelIdeal.Value
public import Idealize.ShloMosaic.Lib.Pipeline.Value
public import Idealize.ShloMosaic.Lib.Pipeline.ValueKit.Geometry
public import Idealize.ShloMosaic.Lib.Pointwise

@[expose] public section

set_option maxRecDepth 65536

noncomputable section

/-! # The recurrence kernel's blocks, and what its points leave -/

namespace Cert.Proof.Points

open Idealize.ShloMosaic Idealize.ShloMosaic.TcCoe Idealize.SL.Sem
open Idealize.ShloMosaic.Pipeline (Dat)
open Cert.KernelIdeal Cert.KernelIdeal.Gen
open Cert.Proof.Chunk
open Cert.Proof.Hgrn (tokN wcol Q K I lr St O Yh Y Capped lf_real)
open Cert.Proof.RefVals (floor)

variable (m : (ℓ : Loc nD τ sig) → Buf (Elt Ideal) ℓ) (ρ : Dev nD → PrngReg)

/-- The packed projections, by batch, token and column. -/
abbrev zk (c : Dev nD) (b : Fin 8) (r : Fin 2048) (k : Fin 8448) : EReal := m ((c.tc : Thread nD τ).loc main_arg0) (ix3 b r k)
/-- The forget gate's shares. -/
abbrev lbk (c : Dev nD) (k : Fin 512) : EReal := m ((c.tc : Thread nD τ).loc main_arg1) (ix1 k)
/-- The norm's gains. -/
abbrev ngk (c : Dev nD) (e : Fin 128) : EReal := m ((c.tc : Thread nD τ).loc main_arg2) (ix1 e)
/-- The states before the first token. -/
abbrev sk (c : Dev nD) (b : Fin 8) (h : Fin 4) (d e : Fin 128) : EReal := m ((c.tc : Thread nD τ).loc main_arg3) (ix4 b h d e)

/-- The windows' block offsets at point `t`. -/
theorem idx_facts : ∀ t : Fin cfg0.N, (win0_0.index t 0 = 0 ∧ win0_0.index t 1 = t.val ∧ win0_0.index t 2 = 11)
    ∧ (win0_1.index t 0 = 0 ∧ win0_1.index t 1 = t.val ∧ win0_1.index t 2 = 12) ∧ (win0_2.index t 0 = 0 ∧ win0_2.index t 1 = t.val ∧ win0_2.index t 2 = 13)
    ∧ (win0_3.index t 0 = 0 ∧ win0_3.index t 1 = t.val ∧ win0_3.index t 2 = 14) ∧ (win0_4.index t 0 = 0 ∧ win0_4.index t 1 = 0)
    ∧ (win0_5.index t 0 = 0 ∧ win0_5.index t 1 = 0) ∧ (win0_6.index t 0 = 0 ∧ win0_6.index t 1 = 0 ∧ win0_6.index t 2 = 0 ∧ win0_6.index t 3 = 0)
    ∧ (win0_7.index t 0 = 0 ∧ win0_7.index t 1 = t.val ∧ win0_7.index t 2 = 0) := by
  show ∀ t : Fin grid0.N, _
  decide +kernel

/-- A grid point's row, as a position of the sequence. -/
theorem tokN_pt (t : Fin cfg0.N) (r : Fin 64) (h : t.val * 64 + r.val < 2048) : tokN t.val r.val = ⟨t.val * 64 + r.val, h⟩ :=
  Fin.ext (by show (64 * t.val + r.val) % 2048 = t.val * 64 + r.val; rw [Nat.mod_eq_of_lt (by omega)]; omega)

/-- Window 0's block at point `t`: tokens `64 t …` of the queries. -/
theorem blk0 (c : Dev nD) (t : Fin cfg0.N) (b : Fin 8) (r : Fin 64) (k : Fin 512) :
    X0_0 m c t (ix3 b r k) = zk m c b (tokN t.val r.val) (wcol 5632 (by decide) k) := by
  obtain ⟨f, -⟩ := idx_facts t
  have ht : t.val < 32 := t.isLt
  rw [tokN_pt t r (by omega)]
  unfold X0_0 Pipeline.Window.fill
  rw [dif_pos (moved0_0 t _)]
  blk_ext [iblk, V_main_arg0, f.1, f.2.1, f.2.2]

/-- Window 1's block at point `t`: tokens `64 t …` of the forget gates. -/
theorem blk1 (c : Dev nD) (t : Fin cfg0.N) (b : Fin 8) (r : Fin 64) (k : Fin 512) :
    X0_1 m c t (ix3 b r k) = zk m c b (tokN t.val r.val) (wcol 6144 (by decide) k) := by
  obtain ⟨-, f, -⟩ := idx_facts t
  have ht : t.val < 32 := t.isLt
  rw [tokN_pt t r (by omega)]
  unfold X0_1 Pipeline.Window.fill
  rw [dif_pos (moved0_1 t _)]
  blk_ext [iblk, V_main_arg0, f.1, f.2.1, f.2.2]

/-- Window 2's block at point `t`: tokens `64 t …` of the inputs. -/
theorem blk2 (c : Dev nD) (t : Fin cfg0.N) (b : Fin 8) (r : Fin 64) (k : Fin 512) :
    X0_2 m c t (ix3 b r k) = zk m c b (tokN t.val r.val) (wcol 6656 (by decide) k) := by
  obtain ⟨-, -, f, -⟩ := idx_facts t
  have ht : t.val < 32 := t.isLt
  rw [tokN_pt t r (by omega)]
  unfold X0_2 Pipeline.Window.fill
  rw [dif_pos (moved0_2 t _)]
  blk_ext [iblk, V_main_arg0, f.1, f.2.1, f.2.2]

/-- Window 3's block at point `t`: tokens `64 t …` of the output gates. -/
theorem blk3 (c : Dev nD) (t : Fin cfg0.N) (b : Fin 8) (r : Fin 64) (k : Fin 512) :
    X0_3 m c t (ix3 b r k) = zk m c b (tokN t.val r.val) (wcol 7168 (by decide) k) := by
  obtain ⟨-, -, -, f, -⟩ := idx_facts t
  have ht : t.val < 32 := t.isLt
  rw [tokN_pt t r (by omega)]
  unfold X0_3 Pipeline.Window.fill
  rw [dif_pos (moved0_3 t _)]
  blk_ext [iblk, V_main_arg0, f.1, f.2.1, f.2.2]

/-- The shares as the kernel's windows find them: one row. -/
theorem V_main_v0 (c : Dev nD) : V m c main_v0 = shapeCast S1x512 (m ((c.tc : Thread nD τ).loc main_arg1)) shapeCasts_S512_S1x512 := by
  simp only [V, hostOps0]
  after_reads_simp
  rfl

/-- The gains as the kernel's windows find them: one row. -/
theorem V_main_v1 (c : Dev nD) : V m c main_v1 = shapeCast S1x128 (m ((c.tc : Thread nD τ).loc main_arg2)) shapeCasts_S128_S1x128 := by
  simp only [V, hostOps0]
  after_reads_simp
  rfl

/-- Window 4's block is the shares. -/
theorem blk4 (c : Dev nD) (t : Fin cfg0.N) (k : Fin 512) : iblk m c 4 t (ix2 0 k) = lbk m c k := by
  obtain ⟨-, -, -, -, f, -⟩ := idx_facts t
  have e : iblk m c 4 t (ix2 0 k) = V m c main_v0 (ix2 0 k) := by
    blk_ext [iblk, f.1, f.2]
  rw [e, V_main_v0]
  pointwise

/-- Window 5's block is the gains. -/
theorem blk5 (c : Dev nD) (t : Fin cfg0.N) (k : Fin 128) : iblk m c 5 t (ix2 0 k) = ngk m c k := by
  obtain ⟨-, -, -, -, -, f, -⟩ := idx_facts t
  have e : iblk m c 5 t (ix2 0 k) = V m c main_v1 (ix2 0 k) := by
    blk_ext [iblk, f.1, f.2]
  rw [e, V_main_v1]
  pointwise

/-- Window 6's block is the whole array of states. -/
theorem blk6 (c : Dev nD) (t : Fin cfg0.N) (b : Fin 8) (h : Fin 4) (d e : Fin 128) : iblk m c 6 t (ix4 b h d e) = sk m c b h d e := by
  obtain ⟨-, -, -, -, -, -, f, -⟩ := idx_facts t
  blk_ext [iblk, V_main_arg3, f.1, f.2.1, f.2.2.1, f.2.2.2]

/-- An index of the output's block at point `t`, placed in the output. -/
theorem emb7 (t : Fin cfg0.N) (b : Fin 8) (r : Fin 64) (k : Fin 512) :
    ((cfg0.win 7).blk t).view.emb (ix3 b r k) = ix3 b (tokN t.val r.val) k := by
  obtain ⟨-, -, -, -, -, -, -, f⟩ := idx_facts t
  have ht : t.val < 32 := t.isLt
  rw [tokN_pt t r (by omega)]
  blk_ext [f.1, f.2.1, f.2.2]

/-- A sequence's rows of a block. -/
theorem ldY (x : Vec Ideal S8x64x512 .f32) (b : Fin 8) (r : Fin 64) (k : Fin 512) : (View.ld x (rectY b.val) : Vec Ideal S1x64x512 .f32) (ix3 (0 : Fin 1) r k) = x (ix3 b r k) := by
  show x ((rectY b.val).idx (ix3 0 r k)) = _
  congr 1
  funext a
  have := b.isLt
  fin_cases a
  · exact Fin.ext (show b.val % 8 + 0 * 1 = b.val by omega)
  · exact Fin.ext (show 0 + 1 * r.val = r.val by omega)
  · exact Fin.ext (show 0 + 1 * k.val = k.val by omega)

/-- A head's state in an array of states. -/
theorem ldS (x : Vec Ideal S8x4x128x128 .f32) (b : Fin 8) (h : Fin 4) (d e : Fin 128) : (View.ld x (rectS (4 * b.val + h.val)) : Vec Ideal S1x1x128x128 .f32) (ix4 (0 : Fin 1) (0 : Fin 1) d e) = x (ix4 b h d e) := by
  show x ((rectS (4 * b.val + h.val)).idx (ix4 0 0 d e)) = _
  congr 1
  funext a
  have := b.isLt
  have := h.isLt
  fin_cases a
  · exact Fin.ext (show (4 * b.val + h.val) / 4 % 8 + 0 * 1 = b.val by omega)
  · exact Fin.ext (show (4 * b.val + h.val) % 4 + 0 * 1 = h.val by omega)
  · exact Fin.ext (show 0 + 1 * d.val = d.val by omega)
  · exact Fin.ext (show 0 + 1 * e.val = e.val by omega)

/-- The gate's logarithm in a block, an element. -/
theorem lf_apply (f : Vec Ideal S1x64x512 .f32) (lb : Vec Ideal S1x512 .f32) (t : Fin 64) (c : Fin 512) :
    lf f lb (ix2 t c) = LogF.lf floor (lb (ix2 0 c)) (f (ix3 0 t c)) := by
  pointwise [lf]
  rfl

section
variable {z : Fin 8 → Fin 2048 → Fin 8448 → EReal} {lbs : Fin 512 → EReal} {ngs : Fin 128 → EReal} {s0 : Fin 8 → Fin 4 → Fin 128 → Fin 128 → EReal}
variable (hs : Capped lbs) (j : ℕ) (b : Fin 8) (xq xf xi xg : Vec Ideal S1x64x512 .f32) (lb : Vec Ideal S1x512 .f32) (ng : Vec Ideal S1x128 .f32)
include hs

/-- The forget gate's logarithm in a chunk is that of the sequence's position. -/
theorem lf_seq (hf : ∀ r k, xf (ix3 (0 : Fin 1) r k) = z b (tokN j r.val) (wcol 6144 (by decide) k)) (hlb : ∀ k, lb (ix2 (0 : Fin 1) k) = lbs k) (r : Fin 64) (k : Fin 512) :
    lf xf lb (ix2 r k) = ((lr z lbs j b k r.val : ℝ) : EReal) := by
  rw [lf_apply, hf, hlb]
  exact (lf_real hs _ _).1

/-- A sequence's chunk of output, from its rows of the projections and the recurrence's states. -/
theorem y_seq (hq : ∀ r k, xq (ix3 (0 : Fin 1) r k) = z b (tokN j r.val) (wcol 5632 (by decide) k)) (hf : ∀ r k, xf (ix3 (0 : Fin 1) r k) = z b (tokN j r.val) (wcol 6144 (by decide) k))
    (hi : ∀ r k, xi (ix3 (0 : Fin 1) r k) = z b (tokN j r.val) (wcol 6656 (by decide) k)) (hg : ∀ r k, xg (ix3 (0 : Fin 1) r k) = z b (tokN j r.val) (wcol 7168 (by decide) k))
    (hlb : ∀ k, lb (ix2 (0 : Fin 1) k) = lbs k) (hng : ∀ e, ng (ix2 (0 : Fin 1) e) = ngs e) (s : Fin 4 → Vec Ideal S1x1x128x128 .f32)
    (hS : ∀ h d e, s h (ix4 (0 : Fin 1) (0 : Fin 1) d e) = St z lbs s0 j b h d e) (r : Fin 64) (h : Fin 4) (e : Fin 128) :
    chunkY xq xf xi xg lb ng (s 0) (s 1) (s 2) (s 3) (ix3 0 r (hcol h e)) = Yh z lbs ngs s0 j b h r e := by
  refine (chunkY_apply xq xf xi xg lb ng s (lf_seq hs j b xf lb hf hlb) r h e).trans ?_
  simp only [hq, hf, hi, hg, hlb, hng, hS]
  rfl

/-- A head's next state, from its sequence's rows of the projections and the recurrence's state. -/
theorem s_seq (hf : ∀ r k, xf (ix3 (0 : Fin 1) r k) = z b (tokN j r.val) (wcol 6144 (by decide) k))
    (hi : ∀ r k, xi (ix3 (0 : Fin 1) r k) = z b (tokN j r.val) (wcol 6656 (by decide) k)) (hlb : ∀ k, lb (ix2 (0 : Fin 1) k) = lbs k)
    (h : Fin 4) (o : ℕ) (ho : S64x512.Slices ![0, o] S64x128) (h1 : S64x512.Slices ![0, o] S1x128) (eo : o = 128 * h.val) (s : Vec Ideal S1x1x128x128 .f32)
    (hS : ∀ d e, s (ix4 (0 : Fin 1) (0 : Fin 1) d e) = St z lbs s0 j b h d e) (d e : Fin 128) :
    chunkS o ho h1 xf xi lb s (ix4 0 0 d e) = St z lbs s0 (j + 1) b h d e := by
  refine (chunkS_apply h o ho h1 eo xf xi lb s (lf_seq hs j b xf lb hf hlb) d e).trans ?_
  simp only [hf, hi, hlb, hS]
  rfl

end

variable {m}

/-- The output a point leaves, when it finds the recurrence's state. -/
theorem y_pt {c : Dev nD} (hs : Capped (lbk m c)) (t : Fin cfg0.N) (s : Vec Ideal S8x4x128x128 .f32)
    (hS : ∀ b h d e, s (ix4 b h d e) = St (zk m c) (lbk m c) (sk m c) t.val b h d e) (b : Fin 8) (r : Fin 64) (h : Fin 4) (e : Fin 128) :
    yAt (X0_0 m c t) (X0_1 m c t) (X0_2 m c t) (X0_3 m c t) (iblk m c 4 t) (iblk m c 5 t) s (ix3 b r (hcol h e)) =
      Yh (zk m c) (lbk m c) (ngk m c) (sk m c) t.val b h r e := by
  unfold yAt
  exact y_seq hs t.val b _ _ _ _ _ _ (fun r k => (ldY _ b r k).trans (blk0 m c t b r k)) (fun r k => (ldY _ b r k).trans (blk1 m c t b r k))
    (fun r k => (ldY _ b r k).trans (blk2 m c t b r k)) (fun r k => (ldY _ b r k).trans (blk3 m c t b r k)) (blk4 m c t) (blk5 m c t)
    (fun h => View.ld s (rectS (4 * b.val + h.val))) (fun h d e => (ldS s b h d e).trans (hS b h d e)) r h e

/-- The state a point leaves, when it finds the recurrence's state. -/
theorem s_pt {c : Dev nD} (hs : Capped (lbk m c)) (t : Fin cfg0.N) (s : Vec Ideal S8x4x128x128 .f32)
    (hS : ∀ b h d e, s (ix4 b h d e) = St (zk m c) (lbk m c) (sk m c) t.val b h d e) (b : Fin 8) (h : Fin 4) (d e : Fin 128) :
    sAt (X0_1 m c t) (X0_2 m c t) (iblk m c 4 t) s (ix4 b h d e) =
      St (zk m c) (lbk m c) (sk m c) (t.val + 1) b h d e := by
  have e1 : sAt (X0_1 m c t) (X0_2 m c t) (iblk m c 4 t) s (ix4 b h d e) = sN (X0_1 m c t) (X0_2 m c t) (iblk m c 4 t) s (4 * b.val + h.val) (ix4 0 0 d e) := rfl
  have eb : (4 * b.val + h.val) / 4 = b.val := by have := h.isLt; omega
  rw [e1]
  unfold sN
  rw [eb]
  exact s_seq hs t.val b _ _ _ (fun r k => (ldY _ b r k).trans (blk1 m c t b r k)) (fun r k => (ldY _ b r k).trans (blk2 m c t b r k)) (blk4 m c t)
    h _ _ _ (by have := h.isLt; omega) _ (fun d e => (ldS s b h d e).trans (hS b h d e)) d e

/-- What the outputs' buffers hold after a point: the chunk's outputs and the states after it. -/
theorem after {c : Dev nD} (hs : Capped (lbk m c)) : ∀ (n : ℕ) (hn : n < cfg0.N),
    (∀ b r h e, (outsAt0 m c n hn).1 (ix3 b r (hcol h e)) = Yh (zk m c) (lbk m c) (ngk m c) (sk m c) n b h r e) ∧
    (∀ b h d e, (outsAt0 m c n hn).2 (ix4 b h d e) = St (zk m c) (lbk m c) (sk m c) (n + 1) b h d e)
  | 0, hn => by
    have e := outsAt0_A m c ⟨0, hn⟩ rfl
    have hS : ∀ b h d e, iblk m c 6 ⟨0, hn⟩ (ix4 b h d e) = St (zk m c) (lbk m c) (sk m c) 0 b h d e := blk6 m c ⟨0, hn⟩
    constructor
    · intro b r h e'
      rw [show outsAt0 m c 0 hn = _ from e]
      dsimp only
      rw [out_A_7]
      exact y_pt hs ⟨0, hn⟩ _ hS b r h e'
    · intro b h d e'
      rw [show outsAt0 m c 0 hn = _ from e]
      dsimp only
      rw [out_A_8]
      exact s_pt hs ⟨0, hn⟩ _ hS b h d e'
  | n + 1, hn => by
    have h32 : n + 1 < 32 := hn
    have e := outsAt0_B m c ⟨n + 1, hn⟩ (by show ¬ (n + 1) % 32 = 0; omega)
    have hS : ∀ b h d e, (outsAt0 m c n (Nat.lt_of_succ_lt hn)).2 (ix4 b h d e) = St (zk m c) (lbk m c) (sk m c) (n + 1) b h d e := (after hs n _).2
    constructor
    · intro b r h e'
      rw [show outsAt0 m c (n + 1) hn = _ from e]
      dsimp only
      rw [out_B_7]
      exact y_pt hs ⟨n + 1, hn⟩ _ hS b r h e'
    · intro b h d e'
      rw [show outsAt0 m c (n + 1) hn = _ from e]
      dsimp only
      rw [out_B_8]
      exact s_pt hs ⟨n + 1, hn⟩ _ hS b h d e'

end Cert.Proof.Points
-- ==== Proof.Cumsum.lean ====
module
public import proofs.«01_k».proof.Proof.Gen.ReferenceIdeal.Step
public import proofs.«01_k».proof.Proof.Levels
public import Idealize.ShloMosaic.Lib.Pointwise

@[expose] public section

set_option maxRecDepth 65536

noncomputable section

/-! # The plain running sum along a chunk's tokens

It is written as a window of all 64 tokens, padded with zeros before the first: the element of token `t` sums tokens `0` to `t`. -/

namespace Cert.Proof.Cumsum

open Idealize.ShloMosaic
open Cert.ReferenceIdeal Cert.ReferenceIdeal.Gen
open Cert.Proof.Chunk (P)

/-- A fold that adds is its start and the sum of the list. -/
theorem foldl_add {α : Type} (g : α → EReal) : ∀ (L : List α) (a : EReal), L.foldl (fun r n => r + g n) a = a + (L.map g).sum
  | [], a => by simp
  | x :: L, a => by rw [List.foldl_cons, foldl_add g L, List.map_cons, List.sum_cons, add_assoc]

/-- A sum of real numbers, among the extended ones. -/
theorem coe_sum {α : Type} (s : Finset α) (f : α → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The window's terms, one for each token back. -/
theorem window_sum (l : ℕ → ℝ) (t : Fin 64) : ∑ w : Fin 64, (if 63 ≤ t.val + w.val then l (t.val + w.val - 63) else 0) = P l (t.val + 1) := by
  rw [Fin.sum_univ_eq_sum_range (fun w => if 63 ≤ t.val + w then l (t.val + w - 63) else 0) 64]
  rw [show Finset.range 64 = Finset.range ((63 - t.val) + (t.val + 1)) from congrArg _ (by omega), Finset.sum_range_add, Finset.sum_eq_zero, zero_add]
  · unfold P
    refine Finset.sum_congr rfl fun x _ => ?_
    rw [if_pos (by omega)]
    congr 1; omega
  · intro x hx
    rw [if_neg (by have := Finset.mem_range.mp hx; omega)]

/-- The window's shape, and its positions: one for each token. -/
abbrev W : Shape := ⟨4, ![1, 1, 64, 1]⟩

def posEquiv : Fin 64 ≃ W.Idx where
  toFun w := ix4 0 0 w 0
  invFun i := i 2
  left_inv _ := rfl
  right_inv i := funext fun a => by
    have h0 : (i 0).val < 1 := (i 0).isLt
    have h1 : (i 1).val < 1 := (i 1).isLt
    have h3 : (i 3).val < 1 := (i 3).isLt
    fin_cases a
    · exact Fin.ext (show 0 = (i 0).val by omega)
    · exact Fin.ext (show 0 = (i 1).val by omega)
    · rfl
    · exact Fin.ext (show 0 = (i 3).val by omega)

/-- A sum over the window is a sum over its 64 positions. -/
theorem sum_positions (g : W.Idx → EReal) : ∑ i, g (W.rowMajor.symm i) = ∑ w : Fin 64, g (ix4 0 0 w 0) := by
  rw [Equiv.sum_comp W.rowMajor.symm g, ← Equiv.sum_comp posEquiv g]; rfl

/-- The window's position `j` at element `y` lies in the array. -/
abbrev In (y : S8x4x64x128.Idx) (j : W.Idx) : Prop :=
  ∀ a : Fin 4, ![0, 0, 63, 0] a ≤ (y a).val * ![1, 1, 1, 1] a + (j a).val ∧ (y a).val * ![1, 1, 1, 1] a + (j a).val - ![0, 0, 63, 0] a < ![8, 4, 64, 128] a

/-- The element of the array at that position. -/
abbrev at_ (y : S8x4x64x128.Idx) (j : W.Idx) (h : In y j) : S8x4x64x128.Idx := fun a => ⟨(y a).val * ![1, 1, 1, 1] a + (j a).val - ![0, 0, 63, 0] a, (h a).2⟩

/-- One term of the window at element `y`. -/
def term (x : S8x4x64x128.Idx → EReal) (y : S8x4x64x128.Idx) (j : W.Idx) : EReal :=
  if hin : In y j then x (at_ y j hin) else 0

/-- The windowed sum is the sum of the positions up to this one. -/
theorem cumsum_apply (x : FVec Ideal S8x4x64x128 .f32) (v : FVec Ideal S_ .f32) (hv : ∀ i, v i = (0 : EReal)) (l : ℕ → ℝ) (b : Fin 8) (h : Fin 4) (d : Fin 128)
    (hx : ∀ t : Fin 64, x (ix4 b h t d) = ((l t.val : ℝ) : EReal)) (t : Fin 64) :
    (Host.reduceWindowAdd ![1, 1, 64, 1] ![1, 1, 1, 1] ![0, 0, 63, 0] ![0, 0, 0, 0] x v reduceWindows_S8x4x64x128_S8x4x64x128_w1s1p0_0_w1s1p0_0_w64s1p63_0_w1s1p0_0 h_S_ : FVec Ideal S8x4x64x128 .f32) (ix4 b h t d)
      = ((P l (t.val + 1) : ℝ) : EReal) := by
  show Ideal.hostReduceWindowAdd (s := S8x4x64x128) ![1, 1, 64, 1] ![1, 1, 1, 1] ![0, 0, 63, 0] ![0, 0, 0, 0] reduceWindows_S8x4x64x128_S8x4x64x128_w1s1p0_0_w1s1p0_0_w64s1p63_0_w1s1p0_0 x (v _) (ix4 b h t d) = _
  unfold Ideal.hostReduceWindowAdd Host.reduceWindow
  dsimp only
  rw [hv, foldl_add, zero_add, ← Fin.sum_univ_def, ← window_sum l t, ← coe_sum]
  refine (Finset.sum_congr rfl fun i _ => ?_ : _ = ∑ i, term x (ix4 b h t d) (W.rowMajor.symm i)).trans ((sum_positions (term x (ix4 b h t d))).trans ?_)
  · split
    · next hc =>
      have hc' : In (ix4 b h t d) (W.rowMajor.symm i) := fun a => hc a
      exact (dif_pos (t := fun hin : In (ix4 b h t d) (W.rowMajor.symm i) => x (at_ _ _ hin)) hc').symm
    · next hc =>
      have hc' : ¬ In (ix4 b h t d) (W.rowMajor.symm i) := fun h' => hc (fun a => h' a)
      exact (dif_neg (e := fun _ => (0 : EReal)) (t := fun hin : In (ix4 b h t d) (W.rowMajor.symm i) => x (at_ _ _ hin)) hc').symm
  unfold term
  refine Finset.sum_congr rfl fun w _ => ?_
  by_cases hw : 63 ≤ t.val + w.val
  · rw [if_pos hw, dif_pos, ← hx ⟨t.val + w.val - 63, by omega⟩]
    · congr 1
      funext a
      fin_cases a
      · exact Fin.ext (show b.val * 1 + 0 - 0 = b.val by omega)
      · exact Fin.ext (show h.val * 1 + 0 - 0 = h.val by omega)
      · exact Fin.ext (show t.val * 1 + w.val - 63 = t.val + w.val - 63 by omega)
      · exact Fin.ext (show d.val * 1 + 0 - 0 = d.val by omega)
    · intro a
      fin_cases a
      · show 0 ≤ b.val * 1 + 0 ∧ b.val * 1 + 0 - 0 < 8; omega
      · show 0 ≤ h.val * 1 + 0 ∧ h.val * 1 + 0 - 0 < 4; omega
      · show 63 ≤ t.val * 1 + w.val ∧ t.val * 1 + w.val - 63 < 64; omega
      · show 0 ≤ d.val * 1 + 0 ∧ d.val * 1 + 0 - 0 < 128; omega
  · rw [if_neg hw, dif_neg, EReal.coe_zero]
    intro h'
    have h2 : 63 ≤ t.val * 1 + w.val := (h' 2).1
    omega

end Cert.Proof.Cumsum
-- ==== Proof.RefRun.lean ====
module
public import proofs.«01_k».proof.Proof.Spec
public import proofs.«01_k».proof.Proof.Cumsum
public import Idealize.ShloMosaic.Lib.Pipeline.Value
public import Idealize.ShloMosaic.Lib.DynamicIndex

@[expose] public section

set_option maxRecDepth 65536

noncomputable section

/-! # One trip of the plain recurrence, element by element -/

namespace Cert.Proof.RefRun

open Idealize.ShloMosaic
open Cert.ReferenceIdeal Cert.ReferenceIdeal.Gen Cert.ReferenceIdeal.Step
open Cert.Proof.Chunk (P dec oSpec sSpec nSpec)

/-- Chunk `j` of a stack. -/
theorem chunk_apply (x : FVec Ideal S32x8x4x64x128 .f32) (start : Fin 5 → Int) (j : Fin 32) (hs : ∀ a, start a = ((![j.val, 0, 0, 0, 0] : Fin 5 → ℕ) a : Int))
    (b : Fin 8) (h : Fin 4) (t : Fin 64) (d : Fin 128) :
    (shapeCast S8x4x64x128 (Host.dynamicSlice S1x8x4x64x128 x start sliceFits_S32x8x4x64x128_S1x8x4x64x128) shapeCasts_S1x8x4x64x128_S8x4x64x128) (ix4 b h t d)
      = x (ix5 j b h t d) := by
  have hoff : S32x8x4x64x128.Slices ![j.val, 0, 0, 0, 0] S1x8x4x64x128 := ⟨rfl, fun a => by
    have := j.isLt
    fin_cases a
    · show j.val + 1 ≤ 32; omega
    all_goals exact (Nat.zero_add _).le⟩
  rw [Host.dynamicSlice_eq_extractStridedSlice _ x start ![j.val, 0, 0, 0, 0] _ hoff (fun a => hs a)]
  pointwise []

/-- The starts a trip's slices are taken at. -/
theorem starts (j : Fin 32) (u0 u1 u2 u3 : IVec S_ 32) (h0 : u0 = constantI S_ 32 0#32) (h1 : u1 = constantI S_ 32 0#32) (h2 : u2 = constantI S_ 32 0#32) (h3 : u3 = constantI S_ 32 0#32) (a : Fin 5) :
    (((![(constantI S_ 32 (BitVec.ofNat 32 j.val) : IVec S_ 32), u0, u1, u2, u3] : Fin 5 → IVec S_ 32)) a (Shape.Idx.first h_S_)).toInt = ((![j.val, 0, 0, 0, 0] : Fin 5 → ℕ) a : Int) := by
  subst h0 h1 h2 h3
  have := j.isLt
  fin_cases a
  · exact toInt_ofNat_of_lt (by omega)
  all_goals rfl

variable (j : Fin 32) (s : State Ideal) (b : Fin 8) (h : Fin 4)

/-- A trip's slice of the queries. -/
theorem b5_apply (t : Fin 64) (d : Fin 128) : b5 j.val s (ix4 b h t d) = s.main_v67_0 (ix5 j b h t d) := by
  unfold b5 b4
  exact chunk_apply _ _ j (starts j _ _ _ _ rfl rfl rfl rfl) b h t d

/-- A trip's slice of the second array. -/
theorem b11_apply (t : Fin 64) (d : Fin 128) : b11 j.val s (ix4 b h t d) = s.main_v67_1 (ix5 j b h t d) := by
  unfold b11 b10
  exact chunk_apply _ _ j (starts j _ _ _ _ rfl rfl rfl rfl) b h t d

/-- A trip's slice of the third array. -/
theorem b17_apply (t : Fin 64) (d : Fin 128) : b17 j.val s (ix4 b h t d) = s.main_v67_2 (ix5 j b h t d) := by
  unfold b17 b16
  exact chunk_apply _ _ j (starts j _ _ _ _ rfl rfl rfl rfl) b h t d

/-- A trip's slice of the fourth array. -/
theorem b23_apply (t : Fin 64) (d : Fin 128) : b23 j.val s (ix4 b h t d) = s.main_v67_3 (ix5 j b h t d) := by
  unfold b23 b22
  exact chunk_apply _ _ j (starts j _ _ _ _ rfl rfl rfl rfl) b h t d

/-- The running sum of the gates' logarithms. -/
theorem b26_apply (l : ℕ → ℝ) (d : Fin 128) (hl : ∀ t : Fin 64, s.main_v67_1 (ix5 j b h t d) = ((l t.val : ℝ) : EReal)) (t : Fin 64) :
    b26 j.val s (ix4 b h t d) = ((P l (t.val + 1) : ℝ) : EReal) := by
  unfold b26
  refine Cumsum.cumsum_apply _ _ (fun i => ?_) l b h d (fun t => (b11_apply j s b h t d).trans (hl t)) t
  pointwise [b25, b24]

/-- The mask lets row `t` see row `u` when `u` is not past it. -/
theorem mask_apply (t u : Fin 64) : K_main_v56 (F := Ideal) (ix2 t u) = if u.val ≤ t.val then 1#1 else 0#1 := by
  have e : K_main_v56 (F := Ideal) (ix2 t u) = Scalar.select (IntOp.cmpi .sge (IntOp.addi (BitVec.ofNat 32 t) 0#32) (BitVec.ofNat 32 u)) 1#1 0#1 := by
    pointwise [K_main_v56, K_main_call1_v4, K_main_call1_v2, K_main_call1_v0, K_main_call1_v3, K_main_call1_v1, K_main_call1_v5, K_main_v55, K_main_c, K_main_call1_c, K_main_call1_c_0]
  rw [e]
  clear e
  revert t u
  decide +kernel

/-- The bits of minus infinity. -/
theorem neg_inf : Ideal.ofBits .f32 4286578688#32 = (⊥ : EReal) := by
  simp [Ideal.ofBits, Ideal.ieee]

/-- The decay from row `u` to row `t`. -/
theorem dec_apply (l : ℕ → ℝ) (d : Fin 128) (hl : ∀ t : Fin 64, s.main_v67_1 (ix5 j b h t d) = ((l t.val : ℝ) : EReal)) (t u : Fin 64) :
    Ideal.exp (Scalar.select (K_main_v56 (F := Ideal) (ix2 t u)) (b26 j.val s (ix4 b h t d) - b26 j.val s (ix4 b h u d)) (Ideal.ofBits .f32 4286578688#32)) = dec l t u := by
  rw [mask_apply, neg_inf, b26_apply j s b h l d hl, b26_apply j s b h l d hl]
  unfold dec
  split
  · rfl
  · rfl

/-- The trip's output. -/
theorem b51_apply (l : Fin 128 → ℕ → ℝ) (hl : ∀ (t : Fin 64) d, s.main_v67_1 (ix5 j b h t d) = ((l d t.val : ℝ) : EReal)) (t : Fin 64) (e : Fin 128) :
    b51 j.val s (ix4 b h t e) = oSpec (fun t d => s.main_v67_0 (ix5 j b h t d)) (fun t d => s.main_v67_2 (ix5 j b h t d)) (fun t d => s.main_v67_3 (ix5 j b h t d))
      l (fun d e => s.main_v67_6 (ix4 b h d e)) t e := by
  have e1 : b51 j.val s (ix4 b h t e) = ∑ x, b5 j.val s (ix4 b h t x) * Ideal.exp (b26 j.val s (ix4 b h t x)) * s.main_v67_6 (ix4 b h x e) +
      ∑ x, (∑ y, b5 j.val s (ix4 b h t y) * Ideal.exp (Scalar.select (K_main_v56 (F := Ideal) (ix2 t x)) (b26 j.val s (ix4 b h t y) - b26 j.val s (ix4 b h x y)) (Ideal.ofBits .f32 4286578688#32)) * b17 j.val s (ix4 b h x y)) * b23 j.val s (ix4 b h x e) := by
    pointwise [b51, b50, b49, b48, b47, b46, b45, b44, b43, b42, b41, b40, b39, b38, b37, b36, b35, b34, b33, b32, b31, b30, b29, b28, b27]
  rw [e1]
  unfold oSpec
  congr 1
  · refine Finset.sum_congr rfl fun d _ => ?_
    rw [b5_apply, b26_apply j s b h (l d) d (fun t => hl t d)]
  · refine Finset.sum_congr rfl fun x _ => ?_
    rw [b23_apply]
    congr 1
    refine Finset.sum_congr rfl fun d _ => ?_
    rw [b5_apply, b17_apply, dec_apply j s b h (l d) d (fun t => hl t d)]

/-- The state the trip leaves. -/
theorem b63_apply (l : Fin 128 → ℕ → ℝ) (hl : ∀ (t : Fin 64) d, s.main_v67_1 (ix5 j b h t d) = ((l d t.val : ℝ) : EReal)) (d e : Fin 128) :
    b63 j.val s (ix4 b h d e) = sSpec (fun t d => s.main_v67_2 (ix5 j b h t d)) (fun t d => s.main_v67_3 (ix5 j b h t d))
      l (fun d e => s.main_v67_6 (ix4 b h d e)) d e := by
  have e1 : b63 j.val s (ix4 b h d e) = Ideal.exp (b26 j.val s (ix4 b h 63 d)) * s.main_v67_6 (ix4 b h d e) +
      ∑ x, b17 j.val s (ix4 b h x d) * Ideal.exp (b26 j.val s (ix4 b h 63 d) - b26 j.val s (ix4 b h x d)) * b23 j.val s (ix4 b h x e) := by
    pointwise [b63, b62, b61, b60, b59, b58, b57, b56, b55, b54, b53, b52]
  rw [e1]
  unfold sSpec
  rw [b26_apply j s b h (l d) d (fun t => hl t d)]
  congr 1
  refine Finset.sum_congr rfl fun x _ => ?_
  rw [b23_apply, b17_apply, b26_apply j s b h (l d) d (fun t => hl t d)]
  rfl

/-- A start at which the block fits is not clamped. -/
theorem clamp (x : Int) (k A B : ℕ) (hx : x = (k : Int)) (hk : k + B ≤ A) : (min (max x 0) ((A - B : ℕ) : Int)).toNat = k := by omega

/-- The trip writes its output as chunk `j` of the stack and keeps the others. -/
theorem b69_apply (i : Fin 32) (t : Fin 64) (e : Fin 128) :
    b69 j.val s (ix5 i b h t e) = if i = j then b51 j.val s (ix4 b h t e) else s.main_v67_7 (ix5 i b h t e) := by
  have hoff : S32x8x4x64x128.Slices ![j.val, 0, 0, 0, 0] S1x8x4x64x128 := ⟨rfl, fun a => by
    have := j.isLt
    fin_cases a
    · show j.val + 1 ≤ 32; omega
    all_goals exact (Nat.zero_add _).le⟩
  unfold b69
  rw [Host.dynamicUpdateSlice_eq_updateSlice _ _ _ _ ![j.val, 0, 0, 0, 0] (fun a => clamp _ _ _ _ (starts j (b65 j.val s) (b66 j.val s) (b67 j.val s) (b68 j.val s) rfl rfl rfl rfl a) (hoff.2 a)) hoff]
  unfold updateSlice
  by_cases hij : i = j
  · subst hij
    rw [if_pos rfl, dif_pos]
    · pointwise [b64]
    · intro a
      have h0 := i.isLt; have h1 := b.isLt; have h2 := h.isLt; have h3 := t.isLt; have h4 := e.isLt
      fin_cases a
      · show i.val ≤ i.val ∧ i.val < i.val + 1; omega
      · show 0 ≤ b.val ∧ b.val < 0 + 8; omega
      · show 0 ≤ h.val ∧ h.val < 0 + 4; omega
      · show 0 ≤ t.val ∧ t.val < 0 + 64; omega
      · show 0 ≤ e.val ∧ e.val < 0 + 128; omega
  · rw [if_neg hij, dif_neg]
    intro hin
    have h0 : j.val ≤ i.val ∧ i.val < j.val + 1 := hin 0
    exact hij (Fin.ext (by omega))

end Cert.Proof.RefRun
-- ==== Proof.RefInv.lean ====
module
public import proofs.«01_k».proof.Proof.RefRun

@[expose] public section

set_option maxRecDepth 65536

noncomputable section

/-! # The plain recurrence computes the layer's recurrence -/

namespace Cert.Proof.RefInv

open Idealize.ShloMosaic
open Cert.ReferenceIdeal Cert.ReferenceIdeal.Gen Cert.ReferenceIdeal.Step
open Cert.Proof.Chunk (P oSpec sSpec nSpec)
open Cert.Proof.RefSteps (states)
open Cert.Proof.Hgrn
open Cert.Proof.RefVals (tok pcol hcol)

variable (a0 : FVec Ideal S8x2048x8448 .f32) (a1 : FVec Ideal S512 .f32) (a2 : FVec Ideal S128 .f32) (a3 : FVec Ideal S8x4x128x128 .f32)

/-- The packed projections, by batch, token and column. -/
abbrev zf (b : Fin 8) (r : Fin 2048) (c : Fin 8448) : EReal := a0 (ix3 b r c)
/-- The forget gate's shares. -/
abbrev lbf (c : Fin 512) : EReal := a1 (ix1 c)
/-- The norm's gains. -/
abbrev ngf (e : Fin 128) : EReal := a2 (ix1 e)
/-- The states before the first token. -/
abbrev sf (b : Fin 8) (h : Fin 4) (d e : Fin 128) : EReal := a3 (ix4 b h d e)

/-- What holds of the state before trip `n`. -/
structure Holds (s : State Ideal) (n : ℕ) : Prop where
  q : s.main_v67_0 = A_main_v58 a0 a1
  l : s.main_v67_1 = A_main_v60 a0 a1
  k : s.main_v67_2 = A_main_v62 a0 a1
  i : s.main_v67_3 = A_main_v65 a0 a1
  S : ∀ b h d e, s.main_v67_6 (ix4 b h d e) = St (zf a0) (lbf a1) (sf a3) n b h d e
  o : ∀ (j : Fin 32), j.val < n → ∀ b h t e, s.main_v67_7 (ix5 j b h t e) = O (zf a0) (lbf a1) (sf a3) j.val b h t e

variable {a0 a1 a3}

/-- The queries of the reference's chunk. -/
theorem q_eq (j : Fin 32) (b : Fin 8) (h : Fin 4) (t : Fin 64) (d : Fin 128) :
    A_main_v58 (F := Ideal) a0 a1 (ix5 j b h t d) = Q (zf a0) j.val b h t d := by
  unfold Q; rw [tokN_eq]; exact RefVals.q_apply a0 a1 j b h t d

/-- The keys of the reference's chunk. -/
theorem k_eq (j : Fin 32) (b : Fin 8) (h : Fin 4) (t : Fin 64) (d : Fin 128) :
    A_main_v62 (F := Ideal) a0 a1 (ix5 j b h t d) = K (zf a0) (lbf a1) j.val b h t d := by
  unfold K; rw [tokN_eq]; exact RefVals.k_apply a0 a1 j b h t d

/-- The values of the reference's chunk. -/
theorem i_eq (j : Fin 32) (b : Fin 8) (h : Fin 4) (t : Fin 64) (d : Fin 128) :
    A_main_v65 (F := Ideal) a0 a1 (ix5 j b h t d) = I (zf a0) j.val b h t d := by
  unfold I; rw [tokN_eq]; exact RefVals.i_apply a0 a1 j b h t d

/-- The cumulated logarithms of the reference's chunk. -/
theorem l_eq (hs : Capped (lbf a1)) (j : Fin 32) (b : Fin 8) (h : Fin 4) (t : Fin 64) (d : Fin 128) :
    A_main_v60 (F := Ideal) a0 a1 (ix5 j b h t d) = ((lr (zf a0) (lbf a1) j.val b (hcol h d) t.val : ℝ) : EReal) := by
  unfold lr
  rw [← (lf_real hs _ _).1, ← (lf_real hs _ _).2, tokN_eq]
  exact RefVals.l_apply a0 a1 j b h t d

/-- One trip keeps what holds of the state. -/
theorem holds_step (hs : Capped (lbf a1)) {s : State Ideal} {n : ℕ} (hn : n < 32) (hh : Holds a0 a1 a3 s n) : Holds a0 a1 a3 (step n s) (n + 1) := by
  have hl : ∀ b h (t : Fin 64) d, s.main_v67_1 (ix5 ⟨n, hn⟩ b h t d) = ((lr (zf a0) (lbf a1) n b (hcol h d) t.val : ℝ) : EReal) := fun b h t d => by
    rw [hh.l]; exact l_eq hs ⟨n, hn⟩ b h t d
  have hq : ∀ b h, (fun (t : Fin 64) (d : Fin 128) => s.main_v67_0 (ix5 ⟨n, hn⟩ b h t d)) = Q (zf a0) n b h := fun b h => by
    funext t d; rw [hh.q]; exact q_eq ⟨n, hn⟩ b h t d
  have hk : ∀ b h, (fun (t : Fin 64) (d : Fin 128) => s.main_v67_2 (ix5 ⟨n, hn⟩ b h t d)) = K (zf a0) (lbf a1) n b h := fun b h => by
    funext t d; rw [hh.k]; exact k_eq ⟨n, hn⟩ b h t d
  have hi : ∀ b h, (fun (t : Fin 64) (d : Fin 128) => s.main_v67_3 (ix5 ⟨n, hn⟩ b h t d)) = I (zf a0) n b h := fun b h => by
    funext t d; rw [hh.i]; exact i_eq ⟨n, hn⟩ b h t d
  have hS : ∀ b h, (fun d e => s.main_v67_6 (ix4 b h d e)) = St (zf a0) (lbf a1) (sf a3) n b h := fun b h => by
    funext d e; exact hh.S b h d e
  refine ⟨hh.q, hh.l, hh.k, hh.i, fun b h d e => ?_, fun j hj b h t e => ?_⟩
  · rw [step_main_v67_6, RefRun.b63_apply ⟨n, hn⟩ s b h _ (hl b h), hk, hi, hS]
    rfl
  · rw [step_main_v67_7, RefRun.b69_apply ⟨n, hn⟩]
    split
    · next e1 =>
      subst e1
      rw [RefRun.b51_apply ⟨n, hn⟩ s b h _ (hl b h), hq, hk, hi, hS]
      rfl
    · next e1 => exact hh.o j (by have : j.val ≠ n := fun e => e1 (Fin.ext e); omega) b h t e

/-- What holds of the state after each trip. -/
theorem holds (hs : Capped (lbf a1)) : ∀ n : ℕ, n ≤ 32 → Holds a0 a1 a3 (states a0 a1 a3 n) n
  | 0, _ => ⟨rfl, rfl, rfl, rfl, fun _ _ _ _ => rfl, fun j hj => absurd hj (Nat.not_lt_zero _)⟩
  | n + 1, hn => holds_step hs (by omega) (holds hs n (by omega))

/-- The results' last steps, element by element: a head's norm and the gate. -/
theorem R_apply (s : State Ideal) (b : Fin 8) (r : Fin 2048) (c : Fin 512) :
    R_main_v86 s a0 a2 (ix3 b r c) =
      s.main_v67_7 (ix5 ⟨r.val / 64, by omega⟩ b ⟨c.val / 128, by omega⟩ ⟨r.val % 64, by omega⟩ ⟨c.val % 128, by omega⟩) *
        Ideal.rsqrt (Ideal.div (∑ x : Fin 128, s.main_v67_7 (ix5 ⟨r.val / 64, by omega⟩ b ⟨c.val / 128, by omega⟩ ⟨r.val % 64, by omega⟩ x) *
          s.main_v67_7 (ix5 ⟨r.val / 64, by omega⟩ b ⟨c.val / 128, by omega⟩ ⟨r.val % 64, by omega⟩ x)) (Ideal.ofBits .f32 0x43000000#32) + Ideal.ofBits .f32 0x358637BD#32) *
        a2 (ix1 ⟨c.val % 128, by omega⟩) *
        (a0 (ix3 b r ⟨7168 + c.val, by omega⟩) * Ideal.div 1 (1 + Ideal.exp (-a0 (ix3 b r ⟨7168 + c.val, by omega⟩)))) := by
  pointwise [R_main_v86]

/-- The layer's output, of the last state. -/
theorem out_eq (hs : Capped (lbf a1)) (b : Fin 8) (r : Fin 2048) (c : Fin 512) :
    R_main_v86 (states a0 a1 a3 32) a0 a2 (ix3 b r c) = Y (zf a0) (lbf a1) (ngf a2) (sf a3) b r c := by
  have H := holds (a0 := a0) (a3 := a3) hs 32 le_rfl
  have ho : ∀ (x : Fin 128), (states a0 a1 a3 32).main_v67_7 (ix5 ⟨r.val / 64, by omega⟩ b ⟨c.val / 128, by omega⟩ ⟨r.val % 64, by omega⟩ x) =
      O (zf a0) (lbf a1) (sf a3) (r.val / 64) b ⟨c.val / 128, by omega⟩ ⟨r.val % 64, by omega⟩ x := fun x => H.o _ (by show r.val / 64 < 32; omega) _ _ _ _
  generalize states a0 a1 a3 32 = s at ho
  have er : tokN (r.val / 64) (r.val % 64) = r := Fin.ext (by show (64 * (r.val / 64) + r.val % 64) % 2048 = r.val; omega)
  have ec : hcol ⟨c.val / 128, by omega⟩ ⟨c.val % 128, by omega⟩ = c := Fin.ext (by show 128 * (c.val / 128) + c.val % 128 = c.val; omega)
  unfold Y Yh nSpec
  simp only [er, ec, ← ho]
  rw [R_apply]
  rfl

end Cert.Proof.RefInv
-- ==== Proof.Hgrn.lean ====
module
public import proofs.«01_k».proof.Defs
public import proofs.«01_k».proof.Proof.Points
public import proofs.«01_k».proof.Proof.RefInv
public import proofs.«01_k».proof.Proof.RefSteps
public import proofs.«01_k».proof.Pre_lb_at_most_one
public import Idealize.ShloMosaic.Lib.ReduceAll

@[expose] public section

set_option maxRecDepth 65536

noncomputable section

/-! # The recurrence kernel and the plain recurrence give equal results -/

namespace Cert.Proof.Hgrn

open Idealize.ShloMosaic Idealize.ShloMosaic.TcCoe Idealize.SL.Sem
open Idealize.ShloMosaic.Pipeline (Dat)
open Cert.KernelIdeal Cert.KernelIdeal.Gen
open Cert.Proof.Points
open Cert.Proof.RefVals (hcol)

variable (m : (ℓ : Loc nD τ sig) → Buf (Elt Ideal) ℓ) (ρ : Dev nD → PrngReg)

/-- The layer's output, of device `c`'s arguments. -/
def outArr (c : Dev nD) : FVec Ideal S8x2048x512 .f32 := fun i =>
  Y (zk m c) (lbk m c) (ngk m c) (sk m c) (i 0) (i 1) (i 2)

/-- The last states, of device `c`'s arguments. -/
def stateArr (c : Dev nD) : FVec Ideal S8x4x128x128 .f32 := fun i =>
  St (zk m c) (lbk m c) (sk m c) 32 (i 0) (i 1) (i 2) (i 3)

variable {m}

/-- The output at a token and a head's column. -/
theorem Y_tok {z : Fin 8 → Fin 2048 → Fin 8448 → EReal} {lb : Fin 512 → EReal} {ng : Fin 128 → EReal} {s0 : Fin 8 → Fin 4 → Fin 128 → Fin 128 → EReal}
    (j : ℕ) (hj : j < 32) (b : Fin 8) (r : Fin 64) (h : Fin 4) (e : Fin 128) :
    Y z lb ng s0 b (tokN j r.val) (hcol h e) = Yh z lb ng s0 j b h r e := by
  have hr := r.isLt
  have hh := h.isLt
  have he := e.isLt
  have e1 : (tokN j r.val).val = 64 * j + r.val := Nat.mod_eq_of_lt (by omega)
  unfold Y
  have q1 : (tokN j r.val).val / 64 = j := by rw [e1]; omega
  have q2 : (⟨(tokN j r.val).val % 64, by omega⟩ : Fin 64) = r := Fin.ext (by show (tokN j r.val).val % 64 = r.val; rw [e1]; omega)
  have q3 : (⟨(hcol h e).val / 128, by omega⟩ : Fin 4) = h := Fin.ext (by show (128 * h.val + e.val) / 128 = h.val; omega)
  have q4 : (⟨(hcol h e).val % 128, by omega⟩ : Fin 128) = e := Fin.ext (by show (128 * h.val + e.val) % 128 = e.val; omega)
  rw [q1, q2, q3, q4]

/-- Point `t` writes chunk `t` of the output. -/
theorem flushed_eq {c : Dev nD} (hs : Capped (lbk m c)) (t : Fin cfg0.N) :
    (dats m 0 c).flushed 7 t = ((cfg0.win 7).blk t).view.read (Elt Ideal) (outArr m c) := by
  rw [Value.flushed7]
  funext y
  have ht : t.val < 32 := t.isLt
  obtain ⟨b, r, k, rfl⟩ : ∃ (b : Fin 8) (r : Fin 64) (k : Fin 512), y = ix3 b r k :=
    ⟨y 0, y 1, y 2, funext fun a => match a with | ⟨0, _⟩ => rfl | ⟨1, _⟩ => rfl | ⟨2, _⟩ => rfl⟩
  obtain ⟨h, e, rfl⟩ : ∃ (h : Fin 4) (e : Fin 128), k = hcol h e :=
    ⟨⟨k.val / 128, by omega⟩, ⟨k.val % 128, by omega⟩, Fin.ext (by show k.val = 128 * (k.val / 128) + k.val % 128; omega)⟩
  show (outsAt0 m c t.val t.isLt).1 (ix3 b r (hcol h e)) = outArr m c (((cfg0.win 7).blk t).view.emb (ix3 b r (hcol h e)))
  rw [emb7]
  exact ((Points.after hs t.val t.isLt).1 b r h e).trans (Y_tok t.val ht b r h e).symm

/-- The output array after the run. -/
theorem final7 {c : Dev nD} (hs : Capped (lbk m c)) : (dats m 0 c).arrAt 7 cfg0.N = outArr m c :=
  Dat.arrAt_eq_of_cover (dats m 0 c) 7 _ (fun t _ => flushed_eq hs t)
    ((by decide +kernel : (cfg0.win 7).Covers).cover _ (Memref.isWhole_whole _))

/-- Only the last point writes the states back. -/
theorem last8 : ∀ t : Fin cfg0.N, (cfg0.win 8).flush t = true → t.val = 31 := by decide +kernel

/-- The states' block index is the origin at every point. -/
theorem idx8 : ∀ t : Fin cfg0.N, (cfg0.win 8).index t 0 = 0 ∧ (cfg0.win 8).index t 1 = 0 ∧ (cfg0.win 8).index t 2 = 0 ∧ (cfg0.win 8).index t 3 = 0 := by
  decide +kernel

/-- The states' block is the whole array. -/
theorem emb8 (t : Fin cfg0.N) (b : Fin 8) (h : Fin 4) (d e : Fin 128) :
    ((cfg0.win 8).blk t).view.emb (ix4 b h d e) = ix4 b h d e := by
  have f := idx8 t
  blk_ext [f.1, f.2.1, f.2.2.1, f.2.2.2]

/-- The last point writes the last states back. -/
theorem flushed8_eq {c : Dev nD} (hs : Capped (lbk m c)) (t : Fin cfg0.N) (hf : (cfg0.win 8).flush t = true) :
    (dats m 0 c).flushed 8 t = ((cfg0.win 8).blk t).view.read (Elt Ideal) (stateArr m c) := by
  rw [Value.flushed8]
  funext y
  obtain ⟨b, h, d, e, rfl⟩ : ∃ (b : Fin 8) (h : Fin 4) (d e : Fin 128), y = ix4 b h d e :=
    ⟨y 0, y 1, y 2, y 3, funext fun a => match a with | ⟨0, _⟩ => rfl | ⟨1, _⟩ => rfl | ⟨2, _⟩ => rfl | ⟨3, _⟩ => rfl⟩
  show (outsAt0 m c t.val t.isLt).2 (ix4 b h d e) = stateArr m c (((cfg0.win 8).blk t).view.emb (ix4 b h d e))
  rw [emb8]
  refine ((Points.after hs t.val t.isLt).2 b h d e).trans ?_
  rw [last8 t hf]
  rfl

/-- The states' array after the run: what the last point leaves. -/
theorem final8 {c : Dev nD} (hs : Capped (lbk m c)) : (dats m 0 c).arrAt 8 cfg0.N = stateArr m c :=
  Dat.arrAt_eq_of_cover (dats m 0 c) 8 _ (fun t hf => flushed8_eq hs t hf)
    ((by decide +kernel : (cfg0.win 8).Covers).cover _ (Memref.isWhole_whole _))

/-- The side conditions that the precondition's operations state. -/
theorem preFacts : Cert.Pre_lb_at_most_one.Facts where
  bcast_S_S512 := by decide
  reducesTo_S512_S_d0 := by decide
  h_S_ := by decide

/-- The precondition says that each share is a real of at most 1. -/
theorem capped_of_pre [hp : Cert.Pre_lb_at_most_one.Facts] (a0 : FVec Ideal S8x2048x8448 .f32) (a1 : FVec Ideal S512 .f32) (a2 : FVec Ideal S128 .f32) (a3 : FVec Ideal S8x4x128x128 .f32)
    (h : Cert.Pre_lb_at_most_one.fn (F := Ideal) a0 a1 a2 a3 = fun _ => 1#1) : Capped (fun c => a1 (ix1 c)) := by
  intro c
  haveI : Subsingleton Cert.Pre_lb_at_most_one.S_.Idx := ⟨fun a b => funext fun i => i.elim0⟩
  have h1 := Host.reduce_andi_all _ _ _ _ (fun i => i.elim0) (congrFun h (fun i => i.elim0)) (ix1 c)
  obtain ⟨hgt, hle⟩ := IntOp.andi_eq_one.mp h1
  have l0 : ⊥ < a1 (ix1 c) := by
    have q : Ideal.ofBits .f32 0xFF800000#32 < a1 (ix1 c) := (Ideal.cmp_ogt_eq_one _ _).mp hgt
    exact lt_of_le_of_lt bot_le q
  have l1 : a1 (ix1 c) ≤ (1 : EReal) := by
    have q : a1 (ix1 c) ≤ Ideal.ofBits .f32 0x3F800000#32 := (Ideal.cmp_ole_eq_one _ _).mp hle
    rwa [Ideal.ofBits_one_f32] at q
  have e : a1 (ix1 c) = ((EReal.toReal (a1 (ix1 c)) : ℝ) : EReal) :=
    (EReal.coe_toReal (ne_of_lt (lt_of_le_of_lt l1 (EReal.coe_lt_top 1))) (ne_of_gt l0)).symm
  refine ⟨EReal.toReal (a1 (ix1 c)), ?_, e⟩
  rw [e] at l1
  exact_mod_cast l1

/-- Both programs run, and their two results are the specification's. -/
theorem algebraic : Cert.algebraic_KernelIdeal_ReferenceIdeal_pre_lb_at_most_one (hKernelIdeal := Cert.KernelIdeal.Gen.facts)
    (hReferenceIdeal := Cert.ReferenceIdeal.Gen.facts) (hPre_lb_at_most_one := preFacts) := by
  intro m g m' g' hpre hargs
  have hs : ∀ c : Dev nD, Capped (lbk m c) := fun c => capped_of_pre (hp := preFacts) _ _ _ _ (hpre c)
  refine ⟨fun c => outArr m c, fun c => stateArr m c, ?_, ?_⟩
  · refine (θ_run _ _ _).mono (fun r h c => ?_) (Value.run_blocks (F := Ideal) m g)
    obtain ⟨h0, h1, h2⟩ := h c
    exact ⟨h0.trans (final7 (hs c)), h1.trans (final8 (hs c)), h2⟩
  · refine (θ_run _ _ _).mono (fun r h c => ?_) (RefSteps.run (F := Ideal) m' g')
    obtain ⟨h0, h1, h2⟩ := h c
    obtain ⟨e0, e1, e2, e3⟩ := hargs c
    have hs' : Capped (RefInv.lbf (m' ((c.tc : Thread Cert.ReferenceIdeal.nD Cert.ReferenceIdeal.τ).loc Cert.ReferenceIdeal.main_arg1))) := e1 ▸ hs c
    refine ⟨h0.trans (funext fun i => ?_), h1.trans (funext fun i => ?_), h2⟩
    · obtain ⟨b, r, k, rfl⟩ : ∃ (b : Fin 8) (r : Fin 2048) (k : Fin 512), i = ix3 b r k :=
        ⟨i 0, i 1, i 2, funext fun a => match a with | ⟨0, _⟩ => rfl | ⟨1, _⟩ => rfl | ⟨2, _⟩ => rfl⟩
      refine (RefInv.out_eq _ hs' b r k).trans ?_
      rw [e0, e1, e2, e3]
      rfl
    · obtain ⟨b, h, d, e, rfl⟩ : ∃ (b : Fin 8) (h : Fin 4) (d e : Fin 128), i = ix4 b h d e :=
        ⟨i 0, i 1, i 2, i 3, funext fun a => match a with | ⟨0, _⟩ => rfl | ⟨1, _⟩ => rfl | ⟨2, _⟩ => rfl | ⟨3, _⟩ => rfl⟩
      refine ((RefInv.holds hs' 32 le_rfl).S b h d e).trans ?_
      rw [e0, e1, e3]
      rfl

end Cert.Proof.Hgrn
-- ==== Proof.Inproj.lean ====
module
public import proofs.«01_k».proof.Defs
public import proofs.«01_k».proof.Proof.Gen.InprojIdeal.Value
public import proofs.«01_k».proof.Proof.Gen.InprojReferenceIdeal.Read
public import Idealize.ShloMosaic.Lib.Pipeline.Value
public import Idealize.ShloMosaic.Lib.Pipeline.ValueKit.Geometry
public import Idealize.ShloMosaic.Lib.Pointwise

@[expose] public section

set_option maxRecDepth 16384

noncomputable section

namespace Cert.Proof.Inproj

open Idealize.ShloMosaic Idealize.ShloMosaic.TcCoe Idealize.SL.Sem
open Idealize.ShloMosaic.Pipeline (Dat)
open Cert.InprojIdeal Cert.InprojIdeal.Gen

variable (m : (ℓ : Loc nD τ sig) → Buf (Elt Ideal) ℓ) (ρ : Dev nD → PrngReg)

/-- The product: element `(r, n)` is the sum over `k` of row `r` of the input times row `n` of the weight. -/
def prod (h : FVec Ideal S16384x1024 .bf16) (w : FVec Ideal S8448x1024 .bf16) : FVec Ideal S16384x8448 .f32 :=
  fun i => ∑ k : Fin 1024, (h (ix2 (i 0) k) : EReal) * (w (ix2 (i 1) k) : EReal)

/-- Two zero offsets are the zero offset. -/
theorem hz : (![0, 0] : Fin 2 → Nat) = fun _ => 0 := funext fun a => by fin_cases a <;> rfl

/-- The body's payload at an index: the same sum over the two blocks. -/
theorem pay_apply (a : Vec Ideal S2048x1024 .bf16) (b : Vec Ideal S1408x1024 .bf16) (r : Fin 2048) (n : Fin 1408) :
    k0_pay1 a b (ix2 r n) = ∑ k : Fin 1024, (a (ix2 r k) : EReal) * (b (ix2 n k) : EReal) := by
  pointwise [k0_pay1]

/-- The windows' block offsets at point `t`. -/
theorem idx_facts : ∀ t : Fin cfg0.N, win0_0.index t 0 = t.val % 8 ∧ win0_0.index t 1 = 0
    ∧ win0_1.index t 0 = t.val / 8 ∧ win0_1.index t 1 = 0
    ∧ win0_2.index t 0 = t.val % 8 ∧ win0_2.index t 1 = t.val / 8 :=
  (by decide +kernel : ∀ t : Fin grid0.N, win0_0.index t 0 = t.val % 8 ∧ win0_0.index t 1 = 0
    ∧ win0_1.index t 0 = t.val / 8 ∧ win0_1.index t 1 = 0
    ∧ win0_2.index t 0 = t.val % 8 ∧ win0_2.index t 1 = t.val / 8)

/-- An index of the input's block at point `t`, placed in the input. -/
theorem emb0 (t : Fin cfg0.N) (r : Fin 2048) (k : Fin 1024) (h : t.val % 8 * 2048 + r < 16384) :
    ((cfg0.win 0).blk t).view.emb (ix2 r k) = ix2 ⟨t.val % 8 * 2048 + r, h⟩ k := by
  obtain ⟨f0, f1, _⟩ := idx_facts t
  refine funext fun a => Fin.ext ?_
  match a with
  | ⟨0, _⟩ => exact (Pipeline.Window.rect_emb_val win0_0 t (ix2 r k) 0).trans (by rw [f0]; rfl)
  | ⟨1, _⟩ => exact (Pipeline.Window.rect_emb_val win0_0 t (ix2 r k) 1).trans (by rw [f1]; show 0 * 1024 + k.val = k.val; omega)

/-- An index of the weight's block at point `t`, placed in the weight. -/
theorem emb1 (t : Fin cfg0.N) (n : Fin 1408) (k : Fin 1024) (h : t.val / 8 * 1408 + n < 8448) :
    ((cfg0.win 1).blk t).view.emb (ix2 n k) = ix2 ⟨t.val / 8 * 1408 + n, h⟩ k := by
  obtain ⟨_, _, f0, f1, _⟩ := idx_facts t
  refine funext fun a => Fin.ext ?_
  match a with
  | ⟨0, _⟩ => exact (Pipeline.Window.rect_emb_val win0_1 t (ix2 n k) 0).trans (by rw [f0]; rfl)
  | ⟨1, _⟩ => exact (Pipeline.Window.rect_emb_val win0_1 t (ix2 n k) 1).trans (by rw [f1]; show 0 * 1024 + k.val = k.val; omega)

/-- An index of the product's block at point `t`, placed in the product. -/
theorem emb2 (t : Fin cfg0.N) (r : Fin 2048) (n : Fin 1408) (h : t.val % 8 * 2048 + r < 16384) (h' : t.val / 8 * 1408 + n < 8448) :
    ((cfg0.win 2).blk t).view.emb (ix2 r n) = ix2 ⟨t.val % 8 * 2048 + r, h⟩ ⟨t.val / 8 * 1408 + n, h'⟩ := by
  obtain ⟨_, _, _, _, f0, f1⟩ := idx_facts t
  refine funext fun a => Fin.ext ?_
  match a with
  | ⟨0, _⟩ => exact (Pipeline.Window.rect_emb_val win0_2 t (ix2 r n) 0).trans (by rw [f0]; rfl)
  | ⟨1, _⟩ => exact (Pipeline.Window.rect_emb_val win0_2 t (ix2 r n) 1).trans (by rw [f1]; rfl)

/-- Point `t` writes block `t` of the product. -/
theorem flushed_eq (c : Dev nD) (t : Fin cfg0.N) :
    (dats m 0 c).flushed 2 t = ((cfg0.win 2).blk t).view.read (Elt Ideal)
      (prod (m ((c : Thread nD τ).loc main_arg0)) (m ((c : Thread nD τ).loc main_arg1))) := by
  rw [Value.flushed2]
  unfold out0_2
  rw [View.canon_unit_zero hz, View.ld_unit_zero hz, View.ld_unit_zero hz]
  funext y
  have ht : t.val < 48 := t.isLt
  obtain ⟨r, n, rfl⟩ : ∃ (r : Fin 2048) (n : Fin 1408), y = ix2 r n :=
    ⟨y 0, y 1, funext fun a => match a with | ⟨0, _⟩ => rfl | ⟨1, _⟩ => rfl⟩
  have h0 : t.val % 8 * 2048 + r < 16384 := by omega
  have h1 : t.val / 8 * 1408 + n < 8448 := by omega
  show k0_pay1 (iblk m c 0 t) (iblk m c 1 t) (ix2 r n) = prod _ _ (((cfg0.win 2).blk t).view.emb (ix2 r n))
  rw [pay_apply, emb2 t r n h0 h1]
  unfold prod
  refine Finset.sum_congr rfl fun k _ => ?_
  show @HMul.hMul EReal EReal EReal _ (V m c main_arg0 (((cfg0.win 0).blk t).view.emb (ix2 r k))) (V m c main_arg1 (((cfg0.win 1).blk t).view.emb (ix2 n k))) = _
  rw [V_main_arg0, V_main_arg1, emb0 t r k h0, emb1 t n k h1]
  rfl

/-- The output array after the run is the product. -/
theorem final (c : Dev nD) : (dats m 0 c).arrAt 2 cfg0.N
    = prod (m ((c : Thread nD τ).loc main_arg0)) (m ((c : Thread nD τ).loc main_arg1)) := by
  exact Dat.arrAt_eq_of_cover (dats m 0 c) 2 _ (fun t _ => flushed_eq m c t)
    ((by decide +kernel : (cfg0.win 2).Covers).cover _ (Memref.isWhole_whole _))

/-- The reference's value is the product. -/
theorem reference_eq (h : FVec Ideal S16384x1024 .bf16) (w : FVec Ideal S8448x1024 .bf16) :
    Cert.InprojReferenceIdeal.Read.val_main_v3 (F := Ideal) h w = prod h w := by
  funext i
  rw [Cert.InprojReferenceIdeal.Read.val_main_v3_apply]
  unfold prod
  refine Finset.sum_congr rfl fun k _ => ?_
  rw [Cert.InprojReferenceIdeal.Read.val_main_v2_apply]
  refine congrArg₂ (fun a b : EReal => a * b) (congrArg h ?_) (congrArg w ?_)
  · exact funext fun a => match a with | ⟨0, _⟩ => rfl | ⟨1, _⟩ => rfl
  · exact funext fun a => match a with | ⟨0, _⟩ => rfl | ⟨1, _⟩ => rfl

/-- The kernel's projection and the plain one give equal results. -/
theorem algebraic : Cert.algebraic_InprojIdeal_InprojReferenceIdeal (hInprojIdeal := Cert.InprojIdeal.Gen.facts)
    (hInprojReferenceIdeal := Cert.InprojReferenceIdeal.Gen.facts) := by
  intro m g m' g' _ hargs
  refine ⟨fun c => prod (m ((c : Thread nD τ).loc main_arg0)) (m ((c : Thread nD τ).loc main_arg1)), ?_, ?_⟩
  · refine (θ_run _ _ _).mono (fun r h c => ?_) (Value.run_blocks m g)
    obtain ⟨h0, h1⟩ := h c
    exact ⟨h0.trans (final m c), h1⟩
  · refine (θ_run _ _ _).mono (fun r h c => ?_) (Cert.InprojReferenceIdeal.Value.run m' g')
    obtain ⟨h0, h1⟩ := h c
    refine ⟨h0.trans ((Cert.InprojReferenceIdeal.Read.val_main_v3_eq _ _).trans ((reference_eq _ _).trans ?_)), h1⟩
    rw [(hargs c).1, (hargs c).2]

end Cert.Proof.Inproj
-- ==== Proof.Merge.lean ====
module
public import proofs.«01_k».proof.Defs
public import proofs.«01_k».proof.Proof.Gen.MergeIdeal.Value
public import proofs.«01_k».proof.Proof.Gen.MergeReferenceIdeal.Read
public import Idealize.ShloMosaic.Lib.Pipeline.Value
public import Idealize.ShloMosaic.Lib.Pipeline.ValueKit.Geometry
public import Idealize.ShloMosaic.Lib.Pointwise

@[expose] public section

set_option maxRecDepth 16384

noncomputable section

namespace Cert.Proof.Merge

open Idealize.ShloMosaic Idealize.ShloMosaic.TcCoe Idealize.SL.Sem
open Idealize.ShloMosaic.Pipeline (Dat)
open Cert.MergeIdeal Cert.MergeIdeal.Gen

variable (m : (ℓ : Loc nD τ sig) → Buf (Elt Ideal) ℓ) (ρ : Dev nD → PrngReg)

/-- Two zero offsets are the zero offset. -/
theorem hz : (![0, 0] : Fin 2 → Nat) = fun _ => 0 := funext fun a => by fin_cases a <;> rfl

/-- Three zero offsets are the zero offset. -/
theorem hz3 : (![0, 0, 0] : Fin 3 → Nat) = fun _ => 0 := funext fun a => by fin_cases a <;> rfl

/-- One element of the merge: `x` plus the gate times the output projection of the gated sum of the three branches'
    projections; `zr`, `ar` … are the row's gates and branch outputs, `wa` … the weights. -/
def elem (x g : EReal) (za zb zc : Fin 1024 → EReal) (ya yb yc : Fin 512 → EReal)
    (wa wb wc : Fin 512 → Fin 1024 → EReal) (wo : Fin 1024 → EReal) : EReal :=
  x + g * ∑ k : Fin 1024,
    (Ideal.logistic (za k) * (∑ j : Fin 512, ya j * wa j k) + Ideal.logistic (zb k) * (∑ j : Fin 512, yb j * wb j k)
      + Ideal.logistic (zc k) * (∑ j : Fin 512, yc j * wc j k)) * wo k

/-- The body's payload at an index, of the blocks it loads. -/
theorem pay_apply (v0 : Vec Ideal S512x1024 .f32) (v2 : Vec Ideal S512x512 .f32) (v4 : Vec Ideal S512x1024 .bf16)
    (v7 : Vec Ideal S512x1024 .f32) (v9 : Vec Ideal S512x512 .f32) (v11 : Vec Ideal S512x1024 .bf16)
    (v15 : Vec Ideal S512x1024 .f32) (v17 : Vec Ideal S512x512 .f32) (v19 : Vec Ideal S512x1024 .bf16)
    (v27 : Vec Ideal S1024x1024 .bf16) (v23 : Vec Ideal S512x1024 .f32) (v24 : Vec Ideal S1x1x1024 .f32) (r : Fin 512) (n : Fin 1024) :
    k0_pay1 v23 (k0_pay2 v0 v2 v4 v7 v9 v11 v15 v17 v19 v27) (k0_pay3 v24) (ix2 r n)
      = elem (v23 (ix2 r n)) (v24 (ix3 0 0 n)) (fun k => v0 (ix2 r k)) (fun k => v7 (ix2 r k)) (fun k => v15 (ix2 r k))
          (fun j => v2 (ix2 r j)) (fun j => v9 (ix2 r j)) (fun j => v17 (ix2 r j))
          (fun j k => v4 (ix2 j k)) (fun j k => v11 (ix2 j k)) (fun j k => v19 (ix2 j k)) (fun k => v27 (ix2 k n)) := by
  pointwise [k0_pay1, k0_pay2, k0_pay3]
  rfl

/-- What point `t` leaves in the output's buffer: the payload of the point's blocks. -/
theorem body (c : Dev nD) (t : Fin cfg0.N) :
    outsAt0 m c t = k0_pay1 (iblk m c 0 t) (k0_pay2 (X0_4 m c t) (iblk m c 1 t) (iblk m c 8 t) (X0_5 m c t) (iblk m c 2 t) (iblk m c 9 t) (X0_6 m c t) (iblk m c 3 t) (iblk m c 10 t) (iblk m c 11 t)) (k0_pay3 (iblk m c 7 t)) := by
  unfold outsAt0 out0_A_12
  rw [View.read_writes_eq_canon _ _ _ (cover0_A_12 _ _ _ _ _ _ _ _ _ _ _ _ _ _ _ _ _ _ _ _ _ _ _ _ _ _ _ _ _ _ _ _ _ _ _ _ _ _ _ _)]
  unfold kernelRun0_A
  dsimp only [kernelRun0_A.sl.r, kernelRun0_A.sl.r_1, kernelRun0_A.sl.r_2]
  rw [View.canon_unit_zero hz]
  simp only [View.readAt_eq_ld, Memref.IsWhole.read_unread]
  repeat rw [View.ld_unit_zero hz]
  rw [View.ld_unit_zero hz3]

/-- The merge of whole arrays. -/
def merged (x : FVec Ideal S16384x1024 .f32) (ya yb yc : FVec Ideal S16384x512 .f32) (z : FVec Ideal S16384x8448 .f32)
    (g : FVec Ideal S8x1x1024 .f32) (wa wb wc : FVec Ideal S512x1024 .bf16) (wo : FVec Ideal S1024x1024 .bf16) :
    FVec Ideal S16384x1024 .f32 := fun i =>
  elem (x i) (g (ix3 ⟨(i 0).val / 2048, by have : (i 0).val < 16384 := (i 0).isLt; omega⟩ 0 (i 1)))
    (fun k => z (ix2 (i 0) ⟨k.val, by omega⟩)) (fun k => z (ix2 (i 0) ⟨1024 + k.val, by omega⟩))
    (fun k => z (ix2 (i 0) ⟨2048 + k.val, by omega⟩))
    (fun j => ya (ix2 (i 0) j)) (fun j => yb (ix2 (i 0) j)) (fun j => yc (ix2 (i 0) j))
    (fun j k => wa (ix2 j k)) (fun j k => wb (ix2 j k)) (fun j k => wc (ix2 j k)) (fun k => wo (ix2 k (i 1)))

/-- The windows' block offsets at point `t`. -/
theorem idx_facts : ∀ t : Fin cfg0.N, (win0_0.index t 0 = t.val ∧ win0_0.index t 1 = 0)
    ∧ (win0_1.index t 0 = t.val ∧ win0_1.index t 1 = 0) ∧ (win0_2.index t 0 = t.val ∧ win0_2.index t 1 = 0)
    ∧ (win0_3.index t 0 = t.val ∧ win0_3.index t 1 = 0) ∧ (win0_4.index t 0 = t.val ∧ win0_4.index t 1 = 0)
    ∧ (win0_5.index t 0 = t.val ∧ win0_5.index t 1 = 1) ∧ (win0_6.index t 0 = t.val ∧ win0_6.index t 1 = 2)
    ∧ (win0_7.index t 0 = t.val / 4 ∧ win0_7.index t 1 = 0 ∧ win0_7.index t 2 = 0)
    ∧ (win0_8.index t 0 = 0 ∧ win0_8.index t 1 = 0) ∧ (win0_9.index t 0 = 0 ∧ win0_9.index t 1 = 0)
    ∧ (win0_10.index t 0 = 0 ∧ win0_10.index t 1 = 0) ∧ (win0_11.index t 0 = 0 ∧ win0_11.index t 1 = 0)
    ∧ (win0_12.index t 0 = t.val ∧ win0_12.index t 1 = 0) := by
  show ∀ t : Fin grid0.N, _
  decide +kernel

/-- Window 0's block at point `t`: rows `512 t …` of the array. -/
theorem blk0 (c : Dev nD) (t : Fin cfg0.N) (r : Fin 512) (k : Fin 1024) (h : t.val * 512 + r < 16384) :
    iblk m c 0 t (ix2 r k) = m ((c : Thread nD τ).loc main_arg0) (ix2 ⟨t.val * 512 + r, h⟩ k) := by
  obtain ⟨f, -⟩ := idx_facts t
  blk_ext [iblk, V_main_arg0, f.1, f.2]

/-- Window 1's block at point `t`: rows `512 t …` of the array. -/
theorem blk1 (c : Dev nD) (t : Fin cfg0.N) (r : Fin 512) (k : Fin 512) (h : t.val * 512 + r < 16384) :
    iblk m c 1 t (ix2 r k) = m ((c : Thread nD τ).loc main_arg1) (ix2 ⟨t.val * 512 + r, h⟩ k) := by
  obtain ⟨-, f, -⟩ := idx_facts t
  blk_ext [iblk, V_main_arg1, f.1, f.2]

/-- Window 2's block at point `t`: rows `512 t …` of the array. -/
theorem blk2 (c : Dev nD) (t : Fin cfg0.N) (r : Fin 512) (k : Fin 512) (h : t.val * 512 + r < 16384) :
    iblk m c 2 t (ix2 r k) = m ((c : Thread nD τ).loc main_arg2) (ix2 ⟨t.val * 512 + r, h⟩ k) := by
  obtain ⟨-, -, f, -⟩ := idx_facts t
  blk_ext [iblk, V_main_arg2, f.1, f.2]

/-- Window 3's block at point `t`: rows `512 t …` of the array. -/
theorem blk3 (c : Dev nD) (t : Fin cfg0.N) (r : Fin 512) (k : Fin 512) (h : t.val * 512 + r < 16384) :
    iblk m c 3 t (ix2 r k) = m ((c : Thread nD τ).loc main_arg3) (ix2 ⟨t.val * 512 + r, h⟩ k) := by
  obtain ⟨-, -, -, f, -⟩ := idx_facts t
  blk_ext [iblk, V_main_arg3, f.1, f.2]

/-- Window 4's block at point `t`: rows `512 t …`, columns `0 …` of the projections. -/
theorem blk4 (c : Dev nD) (t : Fin cfg0.N) (r : Fin 512) (k : Fin 1024) (h : t.val * 512 + r < 16384) :
    X0_4 m c t (ix2 r k) = m ((c : Thread nD τ).loc main_arg4) (ix2 ⟨t.val * 512 + r, h⟩ ⟨k.val, by omega⟩) := by
  obtain ⟨-, -, -, -, f, -⟩ := idx_facts t
  unfold X0_4 Pipeline.Window.fill
  rw [dif_pos (moved0_4 t _)]
  blk_ext [iblk, V_main_arg4, f.1, f.2]

/-- Window 5's block at point `t`: rows `512 t …`, columns `1024 …` of the projections. -/
theorem blk5 (c : Dev nD) (t : Fin cfg0.N) (r : Fin 512) (k : Fin 1024) (h : t.val * 512 + r < 16384) :
    X0_5 m c t (ix2 r k) = m ((c : Thread nD τ).loc main_arg4) (ix2 ⟨t.val * 512 + r, h⟩ ⟨1024 + k.val, by omega⟩) := by
  obtain ⟨-, -, -, -, -, f, -⟩ := idx_facts t
  unfold X0_5 Pipeline.Window.fill
  rw [dif_pos (moved0_5 t _)]
  blk_ext [iblk, V_main_arg4, f.1, f.2]

/-- Window 6's block at point `t`: rows `512 t …`, columns `2048 …` of the projections. -/
theorem blk6 (c : Dev nD) (t : Fin cfg0.N) (r : Fin 512) (k : Fin 1024) (h : t.val * 512 + r < 16384) :
    X0_6 m c t (ix2 r k) = m ((c : Thread nD τ).loc main_arg4) (ix2 ⟨t.val * 512 + r, h⟩ ⟨2048 + k.val, by omega⟩) := by
  obtain ⟨-, -, -, -, -, -, f, -⟩ := idx_facts t
  unfold X0_6 Pipeline.Window.fill
  rw [dif_pos (moved0_6 t _)]
  blk_ext [iblk, V_main_arg4, f.1, f.2]

/-- Window 7's block at point `t`: the gates of the sequence the rows belong to. -/
theorem blk7 (c : Dev nD) (t : Fin cfg0.N) (k : Fin 1024) (h : t.val / 4 < 8) :
    iblk m c 7 t (ix3 0 0 k) = m ((c : Thread nD τ).loc main_arg5) (ix3 ⟨t.val / 4, h⟩ 0 k) := by
  obtain ⟨-, -, -, -, -, -, -, f, -⟩ := idx_facts t
  blk_ext [iblk, V_main_arg5, f.1, f.2.1, f.2.2]

/-- Window 8's block is the whole array. -/
theorem blk8 (c : Dev nD) (t : Fin cfg0.N) (r : Fin 512) (k : Fin 1024) :
    iblk m c 8 t (ix2 r k) = m ((c : Thread nD τ).loc main_arg6) (ix2 r k) := by
  obtain ⟨-, -, -, -, -, -, -, -, f, -⟩ := idx_facts t
  blk_ext [iblk, V_main_arg6, f.1, f.2]

/-- Window 9's block is the whole array. -/
theorem blk9 (c : Dev nD) (t : Fin cfg0.N) (r : Fin 512) (k : Fin 1024) :
    iblk m c 9 t (ix2 r k) = m ((c : Thread nD τ).loc main_arg7) (ix2 r k) := by
  obtain ⟨-, -, -, -, -, -, -, -, -, f, -⟩ := idx_facts t
  blk_ext [iblk, V_main_arg7, f.1, f.2]

/-- Window 10's block is the whole array. -/
theorem blk10 (c : Dev nD) (t : Fin cfg0.N) (r : Fin 512) (k : Fin 1024) :
    iblk m c 10 t (ix2 r k) = m ((c : Thread nD τ).loc main_arg8) (ix2 r k) := by
  obtain ⟨-, -, -, -, -, -, -, -, -, -, f, -⟩ := idx_facts t
  blk_ext [iblk, V_main_arg8, f.1, f.2]

/-- Window 11's block is the whole array. -/
theorem blk11 (c : Dev nD) (t : Fin cfg0.N) (r : Fin 1024) (k : Fin 1024) :
    iblk m c 11 t (ix2 r k) = m ((c : Thread nD τ).loc main_arg9) (ix2 r k) := by
  obtain ⟨-, -, -, -, -, -, -, -, -, -, -, f, -⟩ := idx_facts t
  blk_ext [iblk, V_main_arg9, f.1, f.2]

/-- The merge of the argument arrays of device `c`. -/
def mergedArgs (c : Dev nD) : FVec Ideal S16384x1024 .f32 :=
  merged (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-- An index of the output's block at point `t`, placed in the output. -/
theorem emb12 (t : Fin cfg0.N) (r : Fin 512) (n : Fin 1024) (h : t.val * 512 + r < 16384) :
    ((cfg0.win 12).blk t).view.emb (ix2 r n) = ix2 ⟨t.val * 512 + r, h⟩ n := by
  obtain ⟨-, -, -, -, -, -, -, -, -, -, -, -, f⟩ := idx_facts t
  blk_ext [f.1, f.2]

/-- Point `t` writes block `t` of the merge. -/
theorem flushed_eq (c : Dev nD) (t : Fin cfg0.N) :
    (dats m 0 c).flushed 12 t = ((cfg0.win 12).blk t).view.read (Elt Ideal) (mergedArgs m c) := by
  rw [Value.flushed12]
  funext y
  have ht : t.val < 32 := t.isLt
  obtain ⟨r, n, rfl⟩ : ∃ (r : Fin 512) (n : Fin 1024), y = ix2 r n :=
    ⟨y 0, y 1, funext fun a => match a with | ⟨0, _⟩ => rfl | ⟨1, _⟩ => rfl⟩
  have h0 : t.val * 512 + r < 16384 := by omega
  show outsAt0 m c t (ix2 r n) = mergedArgs m c (((cfg0.win 12).blk t).view.emb (ix2 r n))
  rw [body, pay_apply, emb12 t r n h0]
  simp only [blk0 m c t _ _ h0, blk1 m c t _ _ h0, blk2 m c t _ _ h0, blk3 m c t _ _ h0, blk4 m c t _ _ h0, blk5 m c t _ _ h0,
    blk6 m c t _ _ h0, blk7 m c t _ (show t.val / 4 < 8 by omega), blk8, blk9, blk10, blk11]
  have hq : (⟨(t.val * 512 + r) / 2048, by omega⟩ : Fin 8) = ⟨t.val / 4, by omega⟩ := Fin.ext (by show _ / 2048 = _ / 4; omega)
  rw [← hq]
  rfl

/-- The output array after the run is the merge. -/
theorem final (c : Dev nD) : (dats m 0 c).arrAt 12 cfg0.N = mergedArgs m c := by
  exact Dat.arrAt_eq_of_cover (dats m 0 c) 12 _ (fun t _ => flushed_eq m c t)
    ((by decide +kernel : (cfg0.win 12).Covers).cover _ (Memref.isWhole_whole _))

/-- The reference's value is the merge. -/
theorem reference_eq (x : FVec Ideal S16384x1024 .f32) (ya yb yc : FVec Ideal S16384x512 .f32) (z : FVec Ideal S16384x8448 .f32)
    (g : FVec Ideal S8x1x1024 .f32) (wa wb wc : FVec Ideal S512x1024 .bf16) (wo : FVec Ideal S1024x1024 .bf16) :
    Cert.MergeReferenceIdeal.Read.val_main_v37 (F := Ideal) x ya yb yc z g wa wb wc wo = merged x ya yb yc z g wa wb wc wo := by
  funext i
  obtain ⟨r, n, rfl⟩ : ∃ (r : Fin 16384) (n : Fin 1024), i = ix2 r n :=
    ⟨i 0, i 1, funext fun a => match a with | ⟨0, _⟩ => rfl | ⟨1, _⟩ => rfl⟩
  rw [← Cert.MergeReferenceIdeal.Read.val_main_v37_eq]
  pointwise []
  rfl

/-- The kernel's merge and the plain one give equal results. -/
theorem algebraic : Cert.algebraic_MergeIdeal_MergeReferenceIdeal (hMergeIdeal := Cert.MergeIdeal.Gen.facts)
    (hMergeReferenceIdeal := Cert.MergeReferenceIdeal.Gen.facts) := by
  intro m g m' g' _ hargs
  refine ⟨fun c => mergedArgs m c, ?_, ?_⟩
  · refine (θ_run _ _ _).mono (fun r h c => ?_) (Value.run_blocks m g)
    obtain ⟨h0, h1⟩ := h c
    exact ⟨h0.trans (final m c), h1⟩
  · refine (θ_run _ _ _).mono (fun r h c => ?_) (Cert.MergeReferenceIdeal.Value.run m' g')
    obtain ⟨h0, h1⟩ := h c
    refine ⟨h0.trans ((Cert.MergeReferenceIdeal.Read.val_main_v37_eq _ _ _ _ _ _ _ _ _ _).trans ((reference_eq _ _ _ _ _ _ _ _ _ _).trans ?_)), h1⟩
    obtain ⟨h0, h1, h2, h3, h4, h5, h6, h7, h8, h9⟩ := hargs c
    rw [h0, h1, h2, h3, h4, h5, h6, h7, h8, h9]
    rfl

end Cert.Proof.Merge
-- ==== Proof.QkBody.lean ====
module
public import proofs.«01_k».proof.Defs
public import proofs.«01_k».proof.Proof.Gen.QkropeIdeal.Value
public import Idealize.ShloMosaic.Lib.Pipeline.Value
public import Idealize.ShloMosaic.Lib.Pipeline.ValueKit.Geometry
public import Idealize.ShloMosaic.Lib.Pointwise

@[expose] public section

set_option maxRecDepth 65536

noncomputable section

namespace Cert.Proof.Qk

open Idealize.ShloMosaic Idealize.ShloMosaic.TcCoe Idealize.SL.Sem
open Cert.QkropeIdeal Cert.QkropeIdeal.Gen

/-- Two zero offsets are the zero offset. -/
theorem hz : (![0, 0] : Fin 2 → Nat) = fun _ => 0 := funext fun a => by fin_cases a <;> rfl

/-- Three zero offsets are the zero offset. -/
theorem hz3 : (![0, 0, 0] : Fin 3 → Nat) = fun _ => 0 := funext fun a => by fin_cases a <;> rfl

/-- The lanes' numbers. -/
abbrev lanes : IVec S128x128 32 := iota .tc S128x128 32 [1] iota_S128x128_d1_w32

/-- The 0/1 matrix of lanes of the same head. -/
def gm : FVec Ideal S128x128 .bf16 := k0_pay10 (F := Ideal) k0_pay6 lanes 64#32 k0_pay7 k0_pay8 k0_pay9

/-- The normed queries of a block. -/
def qn (x : Vec Ideal S1024x512 .f32) (w : Vec Ideal S1x128 .f32) : FVec Ideal S1024x512 .f32 :=
  k0_pay19 x (k0_pay4 w) gm (k0_pay11 (k0_pay5 x)) (k0_pay13 (k0_pay5 x)) (k0_pay14 (k0_pay5 x))
    (k0_pay15 (k0_pay5 x) k0_pay6 lanes 64#32 k0_pay7 k0_pay8 k0_pay9)
    (k0_pay16 (k0_pay5 x) k0_pay6 lanes 64#32 k0_pay7 k0_pay8 k0_pay9)
    (k0_pay17 (k0_pay5 x) k0_pay6 lanes 64#32 k0_pay7 k0_pay8 k0_pay9)
    (k0_pay18 (k0_pay5 x) k0_pay6 lanes 64#32 k0_pay7 k0_pay8 k0_pay9)

/-- The rotated queries of a block, of its normed ones and the angles' tables. -/
def qB (x : Vec Ideal S1024x512 .f32) (a b : Vec Ideal S1024x128 .f32) (w : Vec Ideal S1x128 .f32) : FVec Ideal S1024x512 .f32 :=
  k0_pay24 (k0_pay3 b)
    (k0_pay20 (k0_pay2 a) x (k0_pay4 w) gm (k0_pay11 (k0_pay5 x)) (k0_pay13 (k0_pay5 x)) (k0_pay14 (k0_pay5 x))
      (k0_pay15 (k0_pay5 x) k0_pay6 lanes 64#32 k0_pay7 k0_pay8 k0_pay9)
      (k0_pay16 (k0_pay5 x) k0_pay6 lanes 64#32 k0_pay7 k0_pay8 k0_pay9)
      (k0_pay17 (k0_pay5 x) k0_pay6 lanes 64#32 k0_pay7 k0_pay8 k0_pay9)
      (k0_pay18 (k0_pay5 x) k0_pay6 lanes 64#32 k0_pay7 k0_pay8 k0_pay9))
    k0_pay21 (dynamicRotate 1 480#32 none (qn x w) rotates_S1024x512_d1) (dynamicRotate 1 32#32 none (qn x w) rotates_S1024x512_d1)

/-- The normed keys of a block. -/
def kn (x : Vec Ideal S1024x128 .f32) (w : Vec Ideal S1x128 .f32) : FVec Ideal S1024x128 .f32 :=
  k0_pay31 x (k0_pay25 w) (k0_pay26 x) k0_pay27 lanes 64#32 k0_pay28 k0_pay29 k0_pay30

/-- The rotated keys of a block. -/
def kB (x a b : Vec Ideal S1024x128 .f32) (w : Vec Ideal S1x128 .f32) : FVec Ideal S1024x128 .f32 :=
  k0_pay35 (k0_pay3 b) (kn x w) (mulf (kn x w) (k0_pay2 a)) 64#32 k0_pay33 k0_pay34

/-- The rotated queries of the search. -/
def qiB (x : Vec Ideal S1024x256 .f32) (a b : Vec Ideal S1024x128 .f32) : FVec Ideal S1024x256 .f32 :=
  k0_pay39 (k0_pay3 b) x (k0_pay37 (k0_pay2 a) x) k0_pay38 224#32

/-- The normed keys of the search. -/
def kin (x : Vec Ideal S1024x128 .f32) : FVec Ideal S1024x128 .f32 :=
  k0_pay44 x (k0_pay40 x) k0_pay41 lanes 64#32 k0_pay42 k0_pay43

/-- The rotated keys of the search. -/
def kiB (x a b : Vec Ideal S1024x128 .f32) : FVec Ideal S1024x128 .f32 :=
  k0_pay49 (k0_pay3 b) (kin x) (mulf (kin x) (k0_pay2 a)) 64#32 k0_pay46 k0_pay47 k0_pay48

variable (m : (ℓ : Loc nD τ sig) → Buf (Elt Ideal) ℓ) (ρ : Dev nD → PrngReg)

/-- What point `t` leaves in output 9's buffer: the rotated queries of the point's blocks. -/
theorem body9 (c : Dev nD) (t : Fin cfg0.N) : (outsAt0 m c t).1 = qB (X0_0 m c t) (iblk m c 5 t) (iblk m c 6 t) (iblk m c 7 t) := by
  unfold outsAt0 out0_A_9
  dsimp only
  rw [View.read_writes_eq_canon _ _ _ (cover0_A_9 _ _ _ _ _ _ _ _ _ _ _ _ _ _ _ _ _ _ _ _ _ _ _ _ _ _ _ _ _ _ _ _ _ _ _ _ _ _ _ _ _ _ _ _ _ )]
  unfold kernelRun0_A
  dsimp only
  rw [View.canon_unit_zero hz]
  dsimp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28]
  simp only [View.readAt_eq_ld, Memref.IsWhole.read_unread]
  repeat rw [View.ld_unit_zero hz]
  rfl

/-- What point `t` leaves in output 10's buffer: the rotated keys, feature-major of the point's blocks. -/
theorem body10 (c : Dev nD) (t : Fin cfg0.N) : (outsAt0 m c t).2.1 = k0_pay52 (kB (iblk m c 1 t) (iblk m c 5 t) (iblk m c 6 t) (iblk m c 8 t)) := by
  unfold outsAt0 out0_A_10
  dsimp only
  rw [View.read_writes_eq_canon _ _ _ (cover0_A_10 _ _ _ _ _ _ _ _ _ _ _ _ _ _ _ _ _ _ _ _ _ _ _ _ _ _ _ _ _ _ _ _ _ _ _ _ _ _ _ _ _ _ _ _ _ )]
  unfold kernelRun0_A
  dsimp only
  rw [View.canon_unit_zero hz3]
  dsimp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28]
  simp only [View.readAt_eq_ld, Memref.IsWhole.read_unread]
  repeat rw [View.ld_unit_zero hz]
  rfl

/-- What point `t` leaves in output 11's buffer: the search's rotated queries of the point's blocks. -/
theorem body11 (c : Dev nD) (t : Fin cfg0.N) : (outsAt0 m c t).2.2.1 = qiB (iblk m c 2 t) (iblk m c 5 t) (iblk m c 6 t) := by
  unfold outsAt0 out0_A_11
  dsimp only
  rw [View.read_writes_eq_canon _ _ _ (cover0_A_11 _ _ _ _ _ _ _ _ _ _ _ _ _ _ _ _ _ _ _ _ _ _ _ _ _ _ _ _ _ _ _ _ _ _ _ _ _ _ _ _ _ _ _ _ _ )]
  unfold kernelRun0_A
  dsimp only
  rw [View.canon_unit_zero hz]
  dsimp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28]
  simp only [View.readAt_eq_ld, Memref.IsWhole.read_unread]
  repeat rw [View.ld_unit_zero hz]
  rfl

/-- What point `t` leaves in output 12's buffer: the search's rotated keys, feature-major of the point's blocks. -/
theorem body12 (c : Dev nD) (t : Fin cfg0.N) : (outsAt0 m c t).2.2.2.1 = k0_pay53 (k0_pay3 (iblk m c 6 t)) (kin (iblk m c 3 t)) (mulf (kin (iblk m c 3 t)) (k0_pay2 (iblk m c 5 t))) 64#32 k0_pay46 k0_pay47 k0_pay48 := by
  unfold outsAt0 out0_A_12
  dsimp only
  rw [View.read_writes_eq_canon _ _ _ (cover0_A_12 _ _ _ _ _ _ _ _ _ _ _ _ _ _ _ _ _ _ _ _ _ _ _ _ _ _ _ _ _ _ _ _ _ _ _ _ _ _ _ _ _ _ _ _ _ )]
  unfold kernelRun0_A
  dsimp only
  rw [View.canon_unit_zero hz3]
  dsimp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28]
  simp only [View.readAt_eq_ld, Memref.IsWhole.read_unread]
  repeat rw [View.ld_unit_zero hz]
  rfl

/-- What point `t` leaves in output 13's buffer: the values, feature-major of the point's blocks. -/
theorem body13 (c : Dev nD) (t : Fin cfg0.N) : (outsAt0 m c t).2.2.2.2.1 = k0_pay1 (k0_pay54 (iblk m c 4 t)) := by
  unfold outsAt0 out0_A_13
  dsimp only
  rw [View.read_writes_eq_canon _ _ _ (cover0_A_13 _ _ _ _ _ _ _ _ _ _ _ _ _ _ _ _ _ _ _ _ _ _ _ _ _ _ _ _ _ _ _ _ _ _ _ _ _ _ _ _ _ _ _ _ _ )]
  unfold kernelRun0_A
  dsimp only
  rw [View.canon_unit_zero hz3]
  dsimp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28]
  simp only [View.readAt_eq_ld, Memref.IsWhole.read_unread]
  repeat rw [View.ld_unit_zero hz]

/-- What point `t` leaves in output 14's buffer: the rotated keys of the point's blocks. -/
theorem body14 (c : Dev nD) (t : Fin cfg0.N) : (outsAt0 m c t).2.2.2.2.2.1 = truncf .bf16 (kB (iblk m c 1 t) (iblk m c 5 t) (iblk m c 6 t) (iblk m c 8 t)) bitsLt_bf16_f32 := by
  unfold outsAt0 out0_A_14
  dsimp only
  rw [View.read_writes_eq_canon _ _ _ (cover0_A_14 _ _ _ _ _ _ _ _ _ _ _ _ _ _ _ _ _ _ _ _ _ _ _ _ _ _ _ _ _ _ _ _ _ _ _ _ _ _ _ _ _ _ _ _ _ )]
  unfold kernelRun0_A
  dsimp only
  rw [View.canon_unit_zero hz]
  dsimp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28]
  simp only [View.readAt_eq_ld, Memref.IsWhole.read_unread]
  repeat rw [View.ld_unit_zero hz]
  rfl

/-- What point `t` leaves in output 15's buffer: the values of the point's blocks. -/
theorem body15 (c : Dev nD) (t : Fin cfg0.N) : (outsAt0 m c t).2.2.2.2.2.2.1 = k0_pay51 (iblk m c 4 t) := by
  unfold outsAt0 out0_A_15
  dsimp only
  rw [View.read_writes_eq_canon _ _ _ (cover0_A_15 _ _ _ _ _ _ _ _ _ _ _ _ _ _ _ _ _ _ _ _ _ _ _ _ _ _ _ _ _ _ _ _ _ _ _ _ _ _ _ _ _ _ _ _ _ )]
  unfold kernelRun0_A
  dsimp only
  rw [View.canon_unit_zero hz]
  simp only [View.readAt_eq_ld, Memref.IsWhole.read_unread]
  repeat rw [View.ld_unit_zero hz]

/-- What point `t` leaves in output 16's buffer: the search's rotated keys of the point's blocks. -/
theorem body16 (c : Dev nD) (t : Fin cfg0.N) : (outsAt0 m c t).2.2.2.2.2.2.2 = k0_pay50 (k0_pay3 (iblk m c 6 t)) (kin (iblk m c 3 t)) (mulf (kin (iblk m c 3 t)) (k0_pay2 (iblk m c 5 t))) 64#32 k0_pay46 k0_pay47 k0_pay48 := by
  unfold outsAt0 out0_A_16
  dsimp only
  rw [View.read_writes_eq_canon _ _ _ (cover0_A_16 _ _ _ _ _ _ _ _ _ _ _ _ _ _ _ _ _ _ _ _ _ _ _ _ _ _ _ _ _ _ _ _ _ _ _ _ _ _ _ _ _ _ _ _ _ )]
  unfold kernelRun0_A
  dsimp only
  rw [View.canon_unit_zero hz]
  dsimp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28]
  simp only [View.readAt_eq_ld, Memref.IsWhole.read_unread]
  repeat rw [View.ld_unit_zero hz]
  rfl

end Cert.Proof.Qk
-- ==== Proof.QkElem.lean ====
module
public import proofs.«01_k».proof.Proof.QkBody
public import Idealize.ShloMosaic.PureOps.Ideal.Laws

@[expose] public section

set_option maxRecDepth 65536

noncomputable section

namespace Cert.Proof.Qk

open Idealize.ShloMosaic Idealize.ShloMosaic.TcCoe Idealize.SL.Sem
open Cert.QkropeIdeal Cert.QkropeIdeal.Gen

/-- The row's group number, one word per row. -/
theorem row_group (a b : Fin 128) : k0_pay6 (ix2 a b) = BitVec.ofNat 32 (a.val / 64) := by
  pointwise [k0_pay6]
  revert a
  decide +kernel

/-- A column's group number, as the kernel computes it from the column's number. -/
def colGroup (b : Nat) : BitVec 32 :=
  Scalar.select (IntOp.andi
    (IntOp.cmpi CmpIPredicate.ne
      (IntOp.subi (BitVec.setWidth 32 (IntOp.cmpi CmpIPredicate.sgt (BitVec.ofNat 32 b) 0#32))
        (BitVec.setWidth 32 (IntOp.cmpi CmpIPredicate.slt (BitVec.ofNat 32 b) 0#32)))
      (Scalar.subi (Scalar.extui (Scalar.cmpi CmpIPredicate.sgt 64#32 0#32))
        (Scalar.extui (Scalar.cmpi CmpIPredicate.slt 64#32 0#32))))
    (IntOp.cmpi CmpIPredicate.ne (IntOp.remsi ArithUnit.vector (BitVec.ofNat 32 b) 64#32) 0#32))
  (IntOp.subi (IntOp.divsi ArithUnit.vector (BitVec.ofNat 32 b) 64#32) 1#32)
  (IntOp.divsi ArithUnit.vector (BitVec.ofNat 32 b) 64#32)

/-- A column's head, as the program's integer division finds it. -/
theorem colGroup_eq : ∀ b : Fin 128, colGroup b.val = BitVec.ofNat 32 (b.val / 64) := by decide +kernel

/-- One if two lanes are of the same head, else zero. -/
def same (a b : Fin 128) : EReal := if a.val / 64 = b.val / 64 then 1 else 0

/-- The matrix of ones and zeros that tells whether two lanes are of one head. -/
theorem gm_apply (a b : Fin 128) : gm (ix2 a b) = same a b := by
  unfold gm k0_pay10
  pointwise [row_group, k0_pay7, k0_pay8, k0_pay9]
  show FloatOps.sitofp FTy.f32 (BitVec.setWidth 32 (IntOp.cmpi CmpIPredicate.eq (BitVec.ofNat 32 (a.val / 64)) (colGroup b.val))) = _
  rw [colGroup_eq]
  unfold same
  have ha := a.isLt
  have hb := b.isLt
  have ea : a.val / 64 = 0 ∨ a.val / 64 = 1 := by omega
  have eb : b.val / 64 = 0 ∨ b.val / 64 = 1 := by omega
  rcases ea with ea | ea <;> rcases eb with eb | eb <;> rw [ea, eb]
  · rw [if_pos rfl, show BitVec.setWidth 32 (IntOp.cmpi CmpIPredicate.eq (BitVec.ofNat 32 0) (BitVec.ofNat 32 0)) = 1#32 by decide]
    show (((1#32 : BitVec 32).toInt : ℝ) : EReal) = 1
    norm_num
  · rw [if_neg (by decide), show BitVec.setWidth 32 (IntOp.cmpi CmpIPredicate.eq (BitVec.ofNat 32 0) (BitVec.ofNat 32 1)) = 0#32 by decide]
    show (((0#32 : BitVec 32).toInt : ℝ) : EReal) = 0
    norm_num
  · rw [if_neg (by decide), show BitVec.setWidth 32 (IntOp.cmpi CmpIPredicate.eq (BitVec.ofNat 32 1) (BitVec.ofNat 32 0)) = 0#32 by decide]
    show (((0#32 : BitVec 32).toInt : ℝ) : EReal) = 0
    norm_num
  · rw [if_pos rfl, show BitVec.setWidth 32 (IntOp.cmpi CmpIPredicate.eq (BitVec.ofNat 32 1) (BitVec.ofNat 32 1)) = 1#32 by decide]
    show (((1#32 : BitVec 32).toInt : ℝ) : EReal) = 1
    norm_num

/-- A sum over the lanes of one head. -/
theorem sum_same (h : Fin 128 → EReal) (n : Fin 128) :
    ∑ k, h k * same k n = ∑ j : Fin 64, h ⟨64 * (n.val / 64) + j.val, by omega⟩ := by
  have e : ∀ u : Fin 128 → EReal, ∑ k, u k = ∑ j : Fin 64, u ⟨j.val, by omega⟩ + ∑ j : Fin 64, u ⟨64 + j.val, by omega⟩ :=
    fun u => Fin.sum_univ_add (a := 64) (b := 64) u
  rw [e]
  have hn := n.isLt
  have e1 : n.val / 64 = 0 ∨ n.val / 64 = 1 := by omega
  rcases e1 with e1 | e1
  · have a1 : ∀ j : Fin 64, h ⟨j.val, by omega⟩ * same ⟨j.val, by omega⟩ n = h ⟨64 * (n.val / 64) + j.val, by omega⟩ := by
      intro j
      unfold same
      rw [if_pos (by show j.val / 64 = _; omega), mul_one]
      exact congrArg h (Fin.ext (by show j.val = 64 * (n.val / 64) + j.val; omega))
    have a2 : ∀ j : Fin 64, h ⟨64 + j.val, by omega⟩ * same ⟨64 + j.val, by omega⟩ n = 0 := by
      intro j
      unfold same
      rw [if_neg (by show ¬ (64 + j.val) / 64 = _; omega), mul_zero]
    simp only [a1, a2, Finset.sum_const_zero, add_zero]
  · have a1 : ∀ j : Fin 64, h ⟨64 + j.val, by omega⟩ * same ⟨64 + j.val, by omega⟩ n = h ⟨64 * (n.val / 64) + j.val, by omega⟩ := by
      intro j
      unfold same
      rw [if_pos (by show (64 + j.val) / 64 = _; omega), mul_one]
      exact congrArg h (Fin.ext (by show 64 + j.val = 64 * (n.val / 64) + j.val; omega))
    have a2 : ∀ j : Fin 64, h ⟨j.val, by omega⟩ * same ⟨j.val, by omega⟩ n = 0 := by
      intro j
      unfold same
      rw [if_neg (by show ¬ j.val / 64 = _; omega), mul_zero]
    simp only [a1, a2, Finset.sum_const_zero, zero_add]

/-- The sum over a lane's head that the kernel forms of a row: the sum of the values, of what the first part leaves and of
    what the second leaves. -/
def gs (f : Fin 128 → EReal) (n : Fin 128) : EReal :=
  ∑ k, f k * same k n + ∑ k, (f k - f k) * same k n + ∑ k, ((f k - f k) - (f k - f k)) * same k n

/-- Of real values it is the sum over the head. -/
theorem gs_eq (f : Fin 128 → EReal) (n : Fin 128)
    (hf : ∀ j : Fin 64, ∃ r : ℝ, f ⟨64 * (n.val / 64) + j.val, by omega⟩ = (r : EReal)) :
    gs f n = ∑ j : Fin 64, f ⟨64 * (n.val / 64) + j.val, by omega⟩ := by
  unfold gs
  rw [sum_same f, sum_same (fun k => f k - f k), sum_same (fun k => (f k - f k) - (f k - f k))]
  have z : ∀ j : Fin 64, f ⟨64 * (n.val / 64) + j.val, by omega⟩ - f ⟨64 * (n.val / 64) + j.val, by omega⟩ = 0 := by
    intro j
    obtain ⟨r, hr⟩ := hf j
    rw [hr, ← EReal.coe_sub, sub_self, EReal.coe_zero]
  simp only [z, sub_zero, Finset.sum_const_zero, add_zero]

/-- A lane is in the first half of its head. -/
theorem lane512 (r : Fin 1024) (n : Fin 512) : k0_pay21 (ix2 r n) = if n.val % 64 < 32 then 1#1 else 0#1 := by
  pointwise [k0_pay21]
  revert n
  decide +kernel

/-- Of 256 lanes, the mask of those in the first half of their head. -/
theorem lane256 (r : Fin 1024) (n : Fin 256) : k0_pay38 (ix2 r n) = if n.val % 64 < 32 then 1#1 else 0#1 := by
  pointwise [k0_pay38]
  revert n
  decide +kernel

/-- Four pieces laid side by side. -/
theorem cat4 (v0 v1 v2 v3 : FVec Ideal S1024x128 .f32) (r : Fin 1024) (n : Fin 512) :
    concatenate S1024x512 1 [⟨S1024x128, v0⟩, ⟨S1024x128, v1⟩, ⟨S1024x128, v2⟩, ⟨S1024x128, v3⟩] concatenates_S1024x128_S1024x128_S1024x128_S1024x128_S1024x512_d1 (ix2 r n)
      = (![v0, v1, v2, v3] ⟨n.val / 128, by omega⟩ : FVec Ideal S1024x128 .f32) (ix2 r ⟨n.val % 128, by omega⟩) := by
  obtain ⟨n, hn⟩ := n
  have e : n / 128 = 0 ∨ n / 128 = 1 ∨ n / 128 = 2 ∨ n / 128 = 3 := by omega
  pointwise []
  rcases e with e | e | e | e
  · rw [dif_pos (by omega)]
    simp only [e]
    exact congrArg (fun q => v0 (ix2 r q)) (Fin.ext (by show n = n % 128; omega))
  · rw [dif_neg (by omega), dif_pos (by omega)]
    simp only [e]
    exact congrArg (fun q => v1 (ix2 r q)) (Fin.ext (by show n - 128 = n % 128; omega))
  · rw [dif_neg (by omega), dif_neg (by omega), dif_pos (by omega)]
    simp only [e]
    exact congrArg (fun q => v2 (ix2 r q)) (Fin.ext (by show n - 128 - 128 = n % 128; omega))
  · rw [dif_neg (by omega), dif_neg (by omega), dif_neg (by omega)]
    simp only [e]
    exact congrArg (fun q => v3 (ix2 r q)) (Fin.ext (by show n - 128 - 128 - 128 = n % 128; omega))

/-- The kernel's three products with the 0/1 matrix, added. -/
theorem three_sums (v : FVec Ideal S1024x128 .f32) (r : Fin 1024) (n : Fin 128) :
    addf (addf (matmul dot_S1024x128_S128x128_S1024x128_1_0_0_1_n_n none (truncf .bf16 v bitsLt_bf16_f32) gm (constant S1024x128 .f32 0x00000000#32))
        (matmul dot_S1024x128_S128x128_S1024x128_1_0_0_1_n_n none (truncf .bf16 (subf v v) bitsLt_bf16_f32) gm (constant S1024x128 .f32 0x00000000#32)))
      (matmul dot_S1024x128_S128x128_S1024x128_1_0_0_1_n_n none (truncf .bf16 (subf (subf v v) (subf v v)) bitsLt_bf16_f32) gm (constant S1024x128 .f32 0x00000000#32)) (ix2 r n)
      = gs (fun k => v (ix2 r k)) n := by
  pointwise [gm_apply]
  rfl

/-- A head's norm, as the kernel forms it of a lane: `x` times the reciprocal root of the mean square of its head. -/
def nk (x : EReal) (f : Fin 128 → EReal) (n : Fin 128) : EReal :=
  x * Ideal.rsqrt (gs (fun k => f k * f k) n * Scalar.ofBits (F := Ideal) .f32 0x3C800000#32 + Scalar.ofBits (F := Ideal) .f32 0x358637BD#32)

/-- The normed keys of the search at an index. -/
theorem kin_apply (x : Vec Ideal S1024x128 .f32) (r : Fin 1024) (n : Fin 128) :
    kin x (ix2 r n) = nk (x (ix2 r n)) (fun k => x (ix2 r k)) n := by
  have e : kin x = mulf x (rsqrt (addf (mulf (addf (addf (matmul dot_S1024x128_S128x128_S1024x128_1_0_0_1_n_n none (truncf .bf16 (mulf x x) bitsLt_bf16_f32) gm (constant S1024x128 .f32 0x00000000#32))
        (matmul dot_S1024x128_S128x128_S1024x128_1_0_0_1_n_n none (truncf .bf16 (subf (mulf x x) (mulf x x)) bitsLt_bf16_f32) gm (constant S1024x128 .f32 0x00000000#32)))
      (matmul dot_S1024x128_S128x128_S1024x128_1_0_0_1_n_n none (truncf .bf16 (subf (subf (mulf x x) (mulf x x)) (subf (mulf x x) (mulf x x))) bitsLt_bf16_f32) gm (constant S1024x128 .f32 0x00000000#32)))
      (broadcast S1024x128 (Scalar.ofBits .f32 0x3C800000#32))) (broadcast S1024x128 (Scalar.ofBits .f32 0x358637BD#32)))) := rfl
  rw [e]
  exact congrArg (fun z => x (ix2 r n) * Ideal.rsqrt (z * Scalar.ofBits (F := Ideal) .f32 0x3C800000#32 + Scalar.ofBits (F := Ideal) .f32 0x358637BD#32)) (three_sums (mulf x x) r n)

/-- The normed keys at an index. -/
theorem kn_apply (x : Vec Ideal S1024x128 .f32) (w : Vec Ideal S1x128 .f32) (r : Fin 1024) (n : Fin 128) :
    kn x w (ix2 r n) = nk (x (ix2 r n)) (fun k => x (ix2 r k)) n * w (ix2 0 n) := by
  have e : kn x w = mulf (kin x) (broadcastTo S1024x128 (k0_pay25 w) broadcasts_S1x128_S1024x128) := rfl
  rw [e, ← kin_apply]
  generalize kin x = y
  pointwise [k0_pay25]

/-- The three sums of one piece of 128 lanes. -/
def sums (o : Nat) (hs : S1024x512.Slices ![0, o] S1024x128) (v : FVec Ideal S1024x512 .f32) : FVec Ideal S1024x128 .f32 :=
  addf (addf (matmul dot_S1024x128_S128x128_S1024x128_1_0_0_1_n_n none (extractStridedSlice S1024x128 ![0, o] (truncf .bf16 v bitsLt_bf16_f32) hs) gm (constant S1024x128 .f32 0x00000000#32))
        (matmul dot_S1024x128_S128x128_S1024x128_1_0_0_1_n_n none (extractStridedSlice S1024x128 ![0, o] (k0_pay13 v) hs) gm (constant S1024x128 .f32 0x00000000#32)))
      (matmul dot_S1024x128_S128x128_S1024x128_1_0_0_1_n_n none (extractStridedSlice S1024x128 ![0, o] (k0_pay14 v) hs) gm (constant S1024x128 .f32 0x00000000#32))

/-- Three products with the 0/1 matrix, added, at an index. -/
theorem dots3 (a b c : FVec Ideal S1024x128 .bf16) (r : Fin 1024) (n : Fin 128) :
    addf (addf (matmul dot_S1024x128_S128x128_S1024x128_1_0_0_1_n_n none a gm (constant S1024x128 .f32 0x00000000#32))
        (matmul dot_S1024x128_S128x128_S1024x128_1_0_0_1_n_n none b gm (constant S1024x128 .f32 0x00000000#32)))
      (matmul dot_S1024x128_S128x128_S1024x128_1_0_0_1_n_n none c gm (constant S1024x128 .f32 0x00000000#32)) (ix2 r n)
      = ∑ k, (a (ix2 r k) : EReal) * same k n + ∑ k, (b (ix2 r k) : EReal) * same k n + ∑ k, (c (ix2 r k) : EReal) * same k n := by
  pointwise [gm_apply]

/-- A slice of 128 lanes at an index. -/
theorem slice_at (o : Nat) (ho : o ≤ 384) (hs : S1024x512.Slices ![0, o] S1024x128) (v : FVec Ideal S1024x512 .bf16) (r : Fin 1024) (k : Fin 128) :
    extractStridedSlice S1024x128 ![0, o] v hs (ix2 r k) = v (ix2 r ⟨o + k.val, by omega⟩) := by
  refine congrArg v ?_
  funext a
  fin_cases a
  · exact Fin.ext (by show 0 + r.val = r.val; omega)
  · rfl

/-- They are the three sums of the slice. -/
theorem sums_apply (o : Nat) (ho : o ≤ 384) (hs : S1024x512.Slices ![0, o] S1024x128) (v : FVec Ideal S1024x512 .f32) (r : Fin 1024) (n : Fin 128) :
    sums o hs v (ix2 r n) = gs (fun k => v (ix2 r ⟨o + k.val, by omega⟩)) n := by
  unfold sums
  rw [dots3]
  simp only [slice_at o ho hs]
  rfl

/-- The normed queries at an index. -/
theorem qn_apply (x : Vec Ideal S1024x512 .f32) (w : Vec Ideal S1x128 .f32) (r : Fin 1024) (n : Fin 512) :
    qn x w (ix2 r n) = nk (x (ix2 r n)) (fun k => x (ix2 r ⟨128 * (n.val / 128) + k.val, by omega⟩)) ⟨n.val % 128, by omega⟩ * w (ix2 0 ⟨n.val % 128, by omega⟩) := by
  have e : qn x w = mulf (mulf x (rsqrt (addf (mulf
      (concatenate S1024x512 1 [⟨S1024x128, sums 0 slices_S1024x512_o0_0_S1024x128 (mulf x x)⟩, ⟨S1024x128, sums 128 slices_S1024x512_o0_128_S1024x128 (mulf x x)⟩, ⟨S1024x128, sums 256 slices_S1024x512_o0_256_S1024x128 (mulf x x)⟩, ⟨S1024x128, sums 384 slices_S1024x512_o0_384_S1024x128 (mulf x x)⟩] concatenates_S1024x128_S1024x128_S1024x128_S1024x128_S1024x512_d1)
      (broadcast S1024x512 (Scalar.ofBits .f32 0x3C800000#32))) (broadcast S1024x512 (Scalar.ofBits .f32 0x358637BD#32)))))
      (broadcastTo S1024x512 (concatenate S1x512 1 [⟨S1x128, k0_pay4 w⟩, ⟨S1x128, k0_pay4 w⟩, ⟨S1x128, k0_pay4 w⟩, ⟨S1x128, k0_pay4 w⟩] concatenates_S1x128_S1x128_S1x128_S1x128_S1x512_d1) broadcasts_S1x512_S1024x512) := rfl
  rw [e]
  have hw : broadcastTo S1024x512 (concatenate S1x512 1 [⟨S1x128, k0_pay4 w⟩, ⟨S1x128, k0_pay4 w⟩, ⟨S1x128, k0_pay4 w⟩, ⟨S1x128, k0_pay4 w⟩] concatenates_S1x128_S1x128_S1x128_S1x128_S1x512_d1) broadcasts_S1x512_S1024x512 (ix2 r n)
      = w (ix2 0 ⟨n.val % 128, by omega⟩) := by
    obtain ⟨n, hn⟩ := n
    have e : n / 128 = 0 ∨ n / 128 = 1 ∨ n / 128 = 2 ∨ n / 128 = 3 := by omega
    pointwise [k0_pay4]
    rcases e with e | e | e | e
    · rw [dif_pos (by omega)]
      exact congrArg (fun q => w (ix2 0 q)) (Fin.ext (by show n = n % 128; omega))
    · rw [dif_neg (by omega), dif_pos (by omega)]
      exact congrArg (fun q => w (ix2 0 q)) (Fin.ext (by show n - 128 = n % 128; omega))
    · rw [dif_neg (by omega), dif_neg (by omega), dif_pos (by omega)]
      exact congrArg (fun q => w (ix2 0 q)) (Fin.ext (by show n - 128 - 128 = n % 128; omega))
    · rw [dif_neg (by omega), dif_neg (by omega), dif_neg (by omega)]
      exact congrArg (fun q => w (ix2 0 q)) (Fin.ext (by show n - 128 - 128 - 128 = n % 128; omega))
  have hs : concatenate S1024x512 1 [⟨S1024x128, sums 0 slices_S1024x512_o0_0_S1024x128 (mulf x x)⟩, ⟨S1024x128, sums 128 slices_S1024x512_o0_128_S1024x128 (mulf x x)⟩, ⟨S1024x128, sums 256 slices_S1024x512_o0_256_S1024x128 (mulf x x)⟩, ⟨S1024x128, sums 384 slices_S1024x512_o0_384_S1024x128 (mulf x x)⟩] concatenates_S1024x128_S1024x128_S1024x128_S1024x128_S1024x512_d1 (ix2 r n)
      = gs (fun k => x (ix2 r ⟨128 * (n.val / 128) + k.val, by omega⟩) * x (ix2 r ⟨128 * (n.val / 128) + k.val, by omega⟩)) ⟨n.val % 128, by omega⟩ := by
    rw [cat4]
    have e4 : ∀ (i : Fin 4) (k : Fin 128), (![sums 0 slices_S1024x512_o0_0_S1024x128 (mulf x x), sums 128 slices_S1024x512_o0_128_S1024x128 (mulf x x), sums 256 slices_S1024x512_o0_256_S1024x128 (mulf x x), sums 384 slices_S1024x512_o0_384_S1024x128 (mulf x x)] : Fin 4 → FVec Ideal S1024x128 .f32) i (ix2 r k)
        = gs (fun k => (mulf x x : FVec Ideal S1024x512 .f32) (ix2 r ⟨128 * i.val + k.val, by omega⟩)) k := by
      intro i k
      fin_cases i
      · exact sums_apply 0 (by omega) _ _ r k
      · exact sums_apply 128 (by omega) _ _ r k
      · exact sums_apply 256 (by omega) _ _ r k
      · exact sums_apply 384 (by omega) _ _ r k
    exact e4 _ _
  unfold nk
  rw [← hs, ← hw]
  rfl

end Cert.Proof.Qk
-- ==== Proof.QkRot.lean ====
module
public import proofs.«01_k».proof.Proof.QkElem

@[expose] public section

set_option maxRecDepth 65536

noncomputable section

namespace Cert.Proof.Qk

open Idealize.ShloMosaic Idealize.ShloMosaic.TcCoe Idealize.SL.Sem
open Cert.QkropeIdeal Cert.QkropeIdeal.Gen

/-- A head's 64 values rotated by the angles whose cosines and sines are `c` and `s`. -/
def rope (y : Fin 64 → EReal) (c s : Fin 32 → EReal) (d : Fin 64) : EReal :=
  if h : d.val < 32 then y d * c ⟨d.val, h⟩ - y ⟨d.val + 32, by omega⟩ * s ⟨d.val, h⟩
  else y d * c ⟨d.val - 32, by omega⟩ + y ⟨d.val - 32, by omega⟩ * s ⟨d.val - 32, by omega⟩

/-- The kernel's form of a rotated lane: its value times the cosine plus its partner's times the signed sine. -/
theorem rope_lane (y : Fin 64 → EReal) (c s : Fin 32 → EReal) (d : Fin 64) (x p q u v : EReal) (hx : x = y d)
    (hp : ∀ h : d.val < 32, p = y ⟨d.val + 32, by omega⟩) (hq : 32 ≤ d.val → q = y ⟨d.val - 32, by omega⟩)
    (hu : u = c ⟨d.val % 32, by omega⟩) (hv : v = if d.val < 32 then - s ⟨d.val % 32, by omega⟩ else s ⟨d.val % 32, by omega⟩) :
    x * u + (if d.val < 32 then p else q) * v = rope y c s d := by
  subst hx hu hv
  unfold rope
  by_cases h : d.val < 32
  · rw [dif_pos h, if_pos h, if_pos h, hp h, mul_neg, ← sub_eq_add_neg]
    have e : (⟨d.val % 32, by omega⟩ : Fin 32) = ⟨d.val, h⟩ := Fin.ext (Nat.mod_eq_of_lt h)
    rw [e]
  · rw [dif_neg h, if_neg h, if_neg h, hq (by omega)]
    have e : (⟨d.val % 32, by omega⟩ : Fin 32) = ⟨d.val - 32, by omega⟩ := Fin.ext (by show d.val % 32 = d.val - 32; omega)
    rw [e]

/-- A choice by a comparison's bit. -/
theorem select_ite {p : Prop} [Decidable p] (a b : EReal) : Scalar.select (if p then 1#1 else 0#1) a b = if p then a else b := by
  by_cases h : p <;> simp [h, Scalar.select]

/-- A head of a row. -/
abbrev hd {N : Nat} (f : Fin N → EReal) (n : Fin N) (hN : 64 ∣ N) (d : Fin 64) : EReal :=
  f ⟨64 * (n.val / 64) + d.val, by obtain ⟨k, rfl⟩ := hN; omega⟩

/-- A rotated row of 512 lanes. -/
theorem rot512 (y : FVec Ideal S1024x512 .f32) (a b : Vec Ideal S1024x128 .f32) (c s : Fin 32 → EReal) (r : Fin 1024) (n : Fin 512)
    (ha : ∀ l : Fin 128, a (ix2 r l) = c ⟨l.val % 32, by omega⟩)
    (hb : ∀ l : Fin 128, b (ix2 r l) = if l.val % 64 < 32 then - s ⟨l.val % 32, by omega⟩ else s ⟨l.val % 32, by omega⟩) :
    k0_pay24 (k0_pay3 b)
      (mulf y (concatenate S1024x512 1 [⟨S1024x128, k0_pay2 a⟩, ⟨S1024x128, k0_pay2 a⟩, ⟨S1024x128, k0_pay2 a⟩, ⟨S1024x128, k0_pay2 a⟩] concatenates_S1024x128_S1024x128_S1024x128_S1024x128_S1024x512_d1))
      k0_pay21 (dynamicRotate 1 480#32 none y rotates_S1024x512_d1) (dynamicRotate 1 32#32 none y rotates_S1024x512_d1) (ix2 r n)
      = rope (hd (fun n => y (ix2 r n)) n (by decide)) c s ⟨n.val % 64, by omega⟩ := by
  have e4 : ∀ z : FVec Ideal S1024x128 .f32, concatenate S1024x512 1 [⟨S1024x128, z⟩, ⟨S1024x128, z⟩, ⟨S1024x128, z⟩, ⟨S1024x128, z⟩] concatenates_S1024x128_S1024x128_S1024x128_S1024x128_S1024x512_d1 (ix2 r n)
      = z (ix2 r ⟨n.val % 128, by omega⟩) := by
    intro z
    rw [cat4]
    have : ∀ i : Fin 4, (![z, z, z, z] : Fin 4 → FVec Ideal S1024x128 .f32) i = z := by intro i; fin_cases i <;> rfl
    rw [this]
  have e1 : dynamicRotate 1 480#32 none y rotates_S1024x512_d1 (ix2 r n) = y (ix2 r ⟨(n.val + 32) % 512, by omega⟩) := by
    pointwise []
    exact congrArg (fun q => y (ix2 r q)) (Fin.ext (by show (n.val + 512 - 480) % 512 = (n.val + 32) % 512; omega))
  have e2 : dynamicRotate 1 32#32 none y rotates_S1024x512_d1 (ix2 r n) = y (ix2 r ⟨(n.val + 480) % 512, by omega⟩) := by
    pointwise []
    exact congrArg (fun q => y (ix2 r q)) (Fin.ext (by show (n.val + 512 - 32) % 512 = (n.val + 480) % 512; omega))
  have e : ∀ A B P Q : FVec Ideal S1024x512 .f32, (addf (mulf y A) (mulf (select k0_pay21 P Q) B) : FVec Ideal S1024x512 .f32) (ix2 r n)
      = y (ix2 r n) * A (ix2 r n) + Scalar.select (k0_pay21 (ix2 r n)) (P (ix2 r n)) (Q (ix2 r n)) * B (ix2 r n) := fun _ _ _ _ => rfl
  unfold k0_pay24
  refine (e _ _ _ _).trans ?_
  rw [e4, e4, e1, e2, lane512, select_ite]
  have h2 : k0_pay2 a (ix2 r ⟨n.val % 128, by omega⟩) = a (ix2 r ⟨n.val % 128, by omega⟩) := by pointwise [k0_pay2]
  have h3 : k0_pay3 b (ix2 r ⟨n.val % 128, by omega⟩) = b (ix2 r ⟨n.val % 128, by omega⟩) := by pointwise [k0_pay3]
  rw [h2, h3, ha, hb]
  refine rope_lane (hd (fun n => y (ix2 r n)) n (by decide)) c s ⟨n.val % 64, by omega⟩ _ _ _ _ _ ?_ ?_ ?_ ?_ ?_
  · exact congrArg (fun q => y (ix2 r q)) (Fin.ext (by show n.val = 64 * (n.val / 64) + n.val % 64; omega))
  · intro h
    have h : n.val % 64 < 32 := h
    exact congrArg (fun q => y (ix2 r q)) (Fin.ext (by show (n.val + 32) % 512 = 64 * (n.val / 64) + (n.val % 64 + 32); omega))
  · intro h
    have h : 32 ≤ n.val % 64 := h
    exact congrArg (fun q => y (ix2 r q)) (Fin.ext (by show (n.val + 480) % 512 = 64 * (n.val / 64) + (n.val % 64 - 32); omega))
  · exact congrArg c (Fin.ext (by show n.val % 128 % 32 = n.val % 64 % 32; omega))
  · have i1 : (⟨n.val % 128 % 32, by omega⟩ : Fin 32) = ⟨n.val % 64 % 32, by omega⟩ := Fin.ext (by show n.val % 128 % 32 = n.val % 64 % 32; omega)
    have i2 : (n.val % 128 % 64 < 32) = (n.val % 64 < 32) := by rw [show n.val % 128 % 64 = n.val % 64 by omega]
    show (if n.val % 128 % 64 < 32 then _ else _) = if n.val % 64 < 32 then _ else _
    simp only [i1, i2]

/-- A rotated row of 256 lanes. -/
theorem rot256 (y : Vec Ideal S1024x256 .f32) (a b : Vec Ideal S1024x128 .f32) (c s : Fin 32 → EReal) (r : Fin 1024) (n : Fin 256)
    (ha : ∀ l : Fin 128, a (ix2 r l) = c ⟨l.val % 32, by omega⟩)
    (hb : ∀ l : Fin 128, b (ix2 r l) = if l.val % 64 < 32 then - s ⟨l.val % 32, by omega⟩ else s ⟨l.val % 32, by omega⟩) :
    qiB y a b (ix2 r n) = rope (hd (fun n => y (ix2 r n)) n (by decide)) c s ⟨n.val % 64, by omega⟩ := by
  have e2' : ∀ z : FVec Ideal S1024x128 .f32, concatenate S1024x256 1 [⟨S1024x128, z⟩, ⟨S1024x128, z⟩] concatenates_S1024x128_S1024x128_S1024x256_d1 (ix2 r n)
      = z (ix2 r ⟨n.val % 128, by omega⟩) := by
    intro z
    obtain ⟨n, hn⟩ := n
    have e : n / 128 = 0 ∨ n / 128 = 1 := by omega
    pointwise []
    rcases e with e | e
    · rw [dif_pos (by omega)]
      exact congrArg (fun q => z (ix2 r q)) (Fin.ext (by show n = n % 128; omega))
    · rw [dif_neg (by omega)]
      exact congrArg (fun q => z (ix2 r q)) (Fin.ext (by show n - 128 = n % 128; omega))
  have e1 : dynamicRotate 1 224#32 none y rotates_S1024x256_d1 (ix2 r n) = y (ix2 r ⟨(n.val + 32) % 256, by omega⟩) := by
    pointwise []
    exact congrArg (fun q => y (ix2 r q)) (Fin.ext (by show (n.val + 256 - 224) % 256 = (n.val + 32) % 256; omega))
  have e2 : dynamicRotate 1 32#32 none y rotates_S1024x256_d1 (ix2 r n) = y (ix2 r ⟨(n.val + 224) % 256, by omega⟩) := by
    pointwise []
    exact congrArg (fun q => y (ix2 r q)) (Fin.ext (by show (n.val + 256 - 32) % 256 = (n.val + 224) % 256; omega))
  have e : ∀ A B P Q : FVec Ideal S1024x256 .f32, (addf (mulf y A) (mulf (select k0_pay38 P Q) B) : FVec Ideal S1024x256 .f32) (ix2 r n)
      = y (ix2 r n) * A (ix2 r n) + Scalar.select (k0_pay38 (ix2 r n)) (P (ix2 r n)) (Q (ix2 r n)) * B (ix2 r n) := fun _ _ _ _ => rfl
  unfold qiB k0_pay39 k0_pay37
  refine (e _ _ _ _).trans ?_
  rw [e2', e2', e1, e2, lane256, select_ite]
  have h2 : k0_pay2 a (ix2 r ⟨n.val % 128, by omega⟩) = a (ix2 r ⟨n.val % 128, by omega⟩) := by pointwise [k0_pay2]
  have h3 : k0_pay3 b (ix2 r ⟨n.val % 128, by omega⟩) = b (ix2 r ⟨n.val % 128, by omega⟩) := by pointwise [k0_pay3]
  rw [h2, h3, ha, hb]
  refine rope_lane (hd (fun n => y (ix2 r n)) n (by decide)) c s ⟨n.val % 64, by omega⟩ _ _ _ _ _ ?_ ?_ ?_ ?_ ?_
  · exact congrArg (fun q => y (ix2 r q)) (Fin.ext (by show n.val = 64 * (n.val / 64) + n.val % 64; omega))
  · intro h
    have h : n.val % 64 < 32 := h
    exact congrArg (fun q => y (ix2 r q)) (Fin.ext (by show (n.val + 32) % 256 = 64 * (n.val / 64) + (n.val % 64 + 32); omega))
  · intro h
    have h : 32 ≤ n.val % 64 := h
    exact congrArg (fun q => y (ix2 r q)) (Fin.ext (by show (n.val + 224) % 256 = 64 * (n.val / 64) + (n.val % 64 - 32); omega))
  · exact congrArg c (Fin.ext (by show n.val % 128 % 32 = n.val % 64 % 32; omega))
  · have i1 : (⟨n.val % 128 % 32, by omega⟩ : Fin 32) = ⟨n.val % 64 % 32, by omega⟩ := Fin.ext (by show n.val % 128 % 32 = n.val % 64 % 32; omega)
    have i2 : (n.val % 128 % 64 < 32) = (n.val % 64 < 32) := by rw [show n.val % 128 % 64 = n.val % 64 by omega]
    show (if n.val % 128 % 64 < 32 then _ else _) = if n.val % 64 < 32 then _ else _
    simp only [i1, i2]

/-- The bits that say which half of its head a lane is in, as the keys' payload forms them. -/
def lane128 : IVec S1024x128 1 :=
  cmpi .slt (select (andi (xori (cmpi .slt k0_pay33 (broadcast S1024x128 0#32)) (broadcastTo S1024x128 (broadcast S1024x128 (Scalar.cmpi .slt 64#32 0#32)) broadcasts_S1024x128_S1024x128)) (cmpi .ne k0_pay33 k0_pay34))
    (addi k0_pay33 (broadcast S1024x128 64#32)) k0_pay33) (broadcast S1024x128 32#32)

/-- Of 128 lanes, the mask of those in the first half of their head. -/
theorem lane128_apply (r : Fin 1024) (n : Fin 128) : lane128 (ix2 r n) = if n.val % 64 < 32 then 1#1 else 0#1 := by
  pointwise [lane128, k0_pay33, k0_pay34]
  revert n
  decide +kernel

/-- A rotated row of 128 lanes. -/
theorem rot128 (y : FVec Ideal S1024x128 .f32) (a b : Vec Ideal S1024x128 .f32) (c s : Fin 32 → EReal) (r : Fin 1024) (n : Fin 128)
    (ha : ∀ l : Fin 128, a (ix2 r l) = c ⟨l.val % 32, by omega⟩)
    (hb : ∀ l : Fin 128, b (ix2 r l) = if l.val % 64 < 32 then - s ⟨l.val % 32, by omega⟩ else s ⟨l.val % 32, by omega⟩) :
    (addf (mulf y (k0_pay2 a)) (mulf (select lane128 (dynamicRotate 1 96#32 none y rotates_S1024x128_d1) (dynamicRotate 1 32#32 none y rotates_S1024x128_d1)) (k0_pay3 b)) : FVec Ideal S1024x128 .f32) (ix2 r n)
      = rope (hd (fun n => y (ix2 r n)) n (by decide)) c s ⟨n.val % 64, by omega⟩ := by
  have e1 : dynamicRotate 1 96#32 none y rotates_S1024x128_d1 (ix2 r n) = y (ix2 r ⟨(n.val + 32) % 128, by omega⟩) := by
    pointwise []
    exact congrArg (fun q => y (ix2 r q)) (Fin.ext (by show (n.val + 128 - 96) % 128 = (n.val + 32) % 128; omega))
  have e2 : dynamicRotate 1 32#32 none y rotates_S1024x128_d1 (ix2 r n) = y (ix2 r ⟨(n.val + 96) % 128, by omega⟩) := by
    pointwise []
    exact congrArg (fun q => y (ix2 r q)) (Fin.ext (by show (n.val + 128 - 32) % 128 = (n.val + 96) % 128; omega))
  have e : ∀ A B P Q : FVec Ideal S1024x128 .f32, (addf (mulf y A) (mulf (select lane128 P Q) B) : FVec Ideal S1024x128 .f32) (ix2 r n)
      = y (ix2 r n) * A (ix2 r n) + Scalar.select (lane128 (ix2 r n)) (P (ix2 r n)) (Q (ix2 r n)) * B (ix2 r n) := fun _ _ _ _ => rfl
  refine (e _ _ _ _).trans ?_
  rw [e1, e2, lane128_apply, select_ite]
  have h2 : k0_pay2 a (ix2 r n) = a (ix2 r n) := by pointwise [k0_pay2]
  have h3 : k0_pay3 b (ix2 r n) = b (ix2 r n) := by pointwise [k0_pay3]
  rw [h2, h3, ha, hb]
  refine rope_lane (hd (fun n => y (ix2 r n)) n (by decide)) c s ⟨n.val % 64, by omega⟩ _ _ _ _ _ ?_ ?_ ?_ ?_ ?_
  · exact congrArg (fun q => y (ix2 r q)) (Fin.ext (by show n.val = 64 * (n.val / 64) + n.val % 64; omega))
  · intro h
    have h : n.val % 64 < 32 := h
    exact congrArg (fun q => y (ix2 r q)) (Fin.ext (by show (n.val + 32) % 128 = 64 * (n.val / 64) + (n.val % 64 + 32); omega))
  · intro h
    have h : 32 ≤ n.val % 64 := h
    exact congrArg (fun q => y (ix2 r q)) (Fin.ext (by show (n.val + 96) % 128 = 64 * (n.val / 64) + (n.val % 64 - 32); omega))
  · exact congrArg c (Fin.ext (by show n.val % 32 = n.val % 64 % 32; omega))
  · have i1 : (⟨n.val % 32, by omega⟩ : Fin 32) = ⟨n.val % 64 % 32, by omega⟩ := Fin.ext (by show n.val % 32 = n.val % 64 % 32; omega)
    show (if n.val % 64 < 32 then _ else _) = if n.val % 64 < 32 then _ else _
    simp only [i1]

/-- A head's norm: each value times the reciprocal root of the mean square. -/
def nrm (f : Fin 64 → EReal) (d : Fin 64) : EReal :=
  f d * Ideal.rsqrt (Ideal.div (∑ j, f j * f j) (Scalar.ofBits (F := Ideal) .f32 0x42800000#32) + Scalar.ofBits (F := Ideal) .f32 0x358637BD#32)

/-- The bits of 1/64. -/
theorem bits_inv : Ideal.ofBits .f32 0x3C800000#32 = (((64 : ℝ)⁻¹ : ℝ) : EReal) := by
  simp [Ideal.ofBits, Ideal.ieee, -EReal.coe_mul]
  norm_num

/-- The bits of 64. -/
theorem bits_64 : Ideal.ofBits .f32 0x42800000#32 = ((64 : ℝ) : EReal) := by
  simp [Ideal.ofBits, Ideal.ieee, -EReal.coe_mul]
  norm_num

/-- Times 1/64 is divided by 64. -/
theorem mul_inv64 (x : EReal) : x * Scalar.ofBits (F := Ideal) .f32 0x3C800000#32 = Ideal.div x (Scalar.ofBits (F := Ideal) .f32 0x42800000#32) := by
  show x * Ideal.ofBits .f32 0x3C800000#32 = Ideal.div x (Ideal.ofBits .f32 0x42800000#32)
  rw [bits_inv, bits_64]
  rw [Ideal.div_coe (by norm_num : (64 : ℝ) ≠ 0), one_div]

/-- The kernel's norm of a lane is the head's, when the head's values are real. -/
theorem nk_eq (f : Fin 128 → EReal) (n : Fin 128) (h : ∀ j, ∃ x : ℝ, hd f n (by decide) j = (x : EReal)) :
    nk (f n) f n = nrm (hd f n (by decide)) ⟨n.val % 64, by omega⟩ := by
  unfold nk nrm
  rw [gs_eq, mul_inv64]
  · have e : f n = hd f n (by decide) ⟨n.val % 64, by omega⟩ := congrArg f (Fin.ext (by show n.val = 64 * (n.val / 64) + n.val % 64; omega))
    rw [← e]
  · intro j
    obtain ⟨x, hx⟩ := h j
    have hx : f ⟨64 * (n.val / 64) + j.val, by omega⟩ = (x : EReal) := hx
    exact ⟨x * x, by rw [hx, EReal.coe_mul]⟩

end Cert.Proof.Qk
-- ==== Proof.QkPoints.lean ====
module
public import proofs.«01_k».proof.Proof.QkRot
public import proofs.«01_k».proof.Proof.Gen.QkropeReferenceIdeal.Read

@[expose] public section

set_option maxRecDepth 65536

noncomputable section

namespace Cert.Proof.Qk

open Idealize.ShloMosaic Idealize.ShloMosaic.TcCoe Idealize.SL.Sem
open Idealize.ShloMosaic.Pipeline (Dat)
open Cert.QkropeIdeal Cert.QkropeIdeal.Gen

/-- The cosines of a position's angles. -/
def cs (p : Fin 2048) (d : Fin 32) : EReal := Cert.QkropeReferenceIdeal.Read.val_main_v13 (F := Ideal) (ix2 p d)

/-- The sines of a position's angles. -/
def sn (p : Fin 2048) (d : Fin 32) : EReal := Cert.QkropeReferenceIdeal.Read.val_main_v15 (F := Ideal) (ix2 p d)

/-- A head of a row of the projection: the 64 columns at `o`. -/
def head (z : FVec Ideal S16384x8448 .f32) (p : Fin 16384) (o : Nat) (h : o + 64 ≤ 8448) : Fin 64 → EReal := fun d => z (ix2 p ⟨o + d.val, by omega⟩)

/-- A row's position in its sequence. -/
def pos (p : Fin 16384) : Fin 2048 := ⟨p.val % 2048, by omega⟩

/-- The rotated normed queries. -/
def qE (z : FVec Ideal S16384x8448 .f32) (g : FVec Ideal S64 .f32) (p : Fin 16384) (n : Fin 512) : EReal :=
  rope (fun d => nrm (head z p (4608 + 64 * (n.val / 64)) (by omega)) d * g (ix1 d)) (cs (pos p)) (sn (pos p)) ⟨n.val % 64, by omega⟩

/-- The rotated normed keys. -/
def kE (z : FVec Ideal S16384x8448 .f32) (g : FVec Ideal S64 .f32) (p : Fin 16384) (n : Fin 128) : EReal :=
  rope (fun d => nrm (head z p (7936 + 64 * (n.val / 64)) (by omega)) d * g (ix1 d)) (cs (pos p)) (sn (pos p)) ⟨n.val % 64, by omega⟩

/-- The rotated queries of the search. -/
def qiE (z : FVec Ideal S16384x8448 .f32) (p : Fin 16384) (n : Fin 256) : EReal :=
  rope (head z p (7680 + 64 * (n.val / 64)) (by omega)) (cs (pos p)) (sn (pos p)) ⟨n.val % 64, by omega⟩

/-- The rotated normed keys of the search. -/
def kiE (z : FVec Ideal S16384x8448 .f32) (p : Fin 16384) (n : Fin 64) : EReal :=
  rope (fun d => nrm (head z p 8192 (by omega)) d) (cs (pos p)) (sn (pos p)) n

/-- The values. -/
def vE (z : FVec Ideal S16384x8448 .f32) (p : Fin 16384) (n : Fin 128) : EReal := z (ix2 p ⟨8064 + n.val, by omega⟩)

/-- A position of a sequence as a row. -/
def row (b : Fin 8) (u : Fin 2048) : Fin 16384 := ⟨b.val * 2048 + u.val, by omega⟩

/-- The columns that a norm reads are real. -/
def Real3 (z : FVec Ideal S16384x8448 .f32) : Prop :=
  (∀ (p : Fin 16384) (k : Fin 512), ∃ x : ℝ, z (ix2 p ⟨4608 + k.val, by omega⟩) = (x : EReal))
  ∧ (∀ (p : Fin 16384) (k : Fin 128), ∃ x : ℝ, z (ix2 p ⟨7936 + k.val, by omega⟩) = (x : EReal))
  ∧ (∀ (p : Fin 16384) (k : Fin 64), ∃ x : ℝ, z (ix2 p ⟨8192 + k.val, by omega⟩) = (x : EReal))

variable (m : (ℓ : Loc nD τ sig) → Buf (Elt Ideal) ℓ) (ρ : Dev nD → PrngReg)

/-- The table of cosines the kernel's windows find. -/
theorem V_main_v13 (c : Dev nD) : V m c main_v13 = Cert.QkropeReferenceIdeal.Read.val_main_v13 (F := Ideal) := by
  simp only [V, hostOps0]
  after_reads_simp
  rfl

/-- Two tables side by side, then laid out twice. -/
def tile2 (a b : FVec Ideal S2048x32 .f32) : FVec Ideal S2048x128 .f32 :=
  shapeCast S2048x128 (broadcastInDim S1x2048x2x64 ![0, 1, 2, 3] bcast_S1x2048x1x64_S1x2048x2x64_0_1_2_3
    (shapeCast S1x2048x1x64 (concatenate S2048x64 1 [⟨S2048x32, a⟩, ⟨S2048x32, b⟩] concatenates_S2048x32_S2048x32_S2048x64_d1 : FVec Ideal S2048x64 .f32) shapeCasts_S2048x64_S1x2048x1x64 : FVec Ideal S1x2048x1x64 .f32)
      : FVec Ideal S1x2048x2x64 .f32) shapeCasts_S1x2048x2x64_S2048x128

/-- Its elements. -/
theorem tile2_apply (a b : FVec Ideal S2048x32 .f32) (p : Fin 2048) (l : Fin 128) :
    tile2 a b (ix2 p l) = if l.val % 64 < 32 then a (ix2 p ⟨l.val % 32, by omega⟩) else b (ix2 p ⟨l.val % 32, by omega⟩) := by
  unfold tile2
  obtain ⟨l, hl⟩ := l
  pointwise []
  by_cases h : l % 64 < 32
  · rw [dif_pos (by omega), if_pos h]
    exact congrArg (fun q => a (ix2 p q)) (Fin.ext (by show l % 64 = l % 32; omega))
  · rw [dif_neg (by omega), if_neg h]
    exact congrArg (fun q => b (ix2 p q)) (Fin.ext (by show l % 64 - 32 = l % 32; omega))

/-- The first table of the windows. -/
theorem V_main_v20 (c : Dev nD) : V m c main_v20 = tile2 (Cert.QkropeReferenceIdeal.Read.val_main_v13 (F := Ideal)) (Cert.QkropeReferenceIdeal.Read.val_main_v13 (F := Ideal)) := by
  simp only [V, hostOps0]
  after_reads_simp
  rfl

/-- The second table of the windows. -/
theorem V_main_v23 (c : Dev nD) : V m c main_v23 = tile2 (Host.negf (Cert.QkropeReferenceIdeal.Read.val_main_v15 (F := Ideal))) (Cert.QkropeReferenceIdeal.Read.val_main_v15 (F := Ideal)) := by
  simp only [V, hostOps0]
  after_reads_simp
  rfl

/-- A row of 64 gains laid out twice. -/
def tileG (g : FVec Ideal S64 .f32) : FVec Ideal S1x128 .f32 :=
  shapeCast S1x128 (shapeCast S128 (broadcastInDim S2x64 ![0, 1] bcast_S1x64_S2x64_0_1 (shapeCast S1x64 g shapeCasts_S64_S1x64 : FVec Ideal S1x64 .f32) : FVec Ideal S2x64 .f32) shapeCasts_S2x64_S128 : FVec Ideal S128 .f32) shapeCasts_S128_S1x128

/-- Its elements. -/
theorem tileG_apply (g : FVec Ideal S64 .f32) (l : Fin 128) : tileG g (ix2 0 l) = g (ix1 ⟨l.val % 64, by omega⟩) := by
  unfold tileG
  pointwise []

/-- The queries' gains as the windows find them. -/
theorem V_main_v27 (c : Dev nD) : V m c main_v27 = tileG (m ((c.tc : Thread nD τ).loc main_arg1)) := by
  simp only [V, hostOps0]
  after_reads_simp
  rfl

/-- The keys' gains as the windows find them. -/
theorem V_main_v31 (c : Dev nD) : V m c main_v31 = tileG (m ((c.tc : Thread nD τ).loc main_arg2)) := by
  simp only [V, hostOps0]
  after_reads_simp
  rfl

/-- The windows' block offsets at point `t`. -/
theorem idx_facts : ∀ t : Fin cfg0.N, (win0_0.index t 0 = t.val ∧ win0_0.index t 1 = 9)
    ∧ (win0_1.index t 0 = t.val ∧ win0_1.index t 1 = 62) ∧ (win0_2.index t 0 = t.val ∧ win0_2.index t 1 = 30)
    ∧ (win0_3.index t 0 = t.val ∧ win0_3.index t 1 = 64) ∧ (win0_4.index t 0 = t.val ∧ win0_4.index t 1 = 63)
    ∧ (win0_5.index t 0 = t.val % 2 ∧ win0_5.index t 1 = 0) ∧ (win0_6.index t 0 = t.val % 2 ∧ win0_6.index t 1 = 0)
    ∧ (win0_7.index t 0 = 0 ∧ win0_7.index t 1 = 0) ∧ (win0_8.index t 0 = 0 ∧ win0_8.index t 1 = 0) := by
  show ∀ t : Fin grid0.N, _
  decide +kernel

/-- The outputs' block offsets at point `t`. -/
theorem out_facts : ∀ t : Fin cfg0.N, (win0_9.index t 0 = t.val ∧ win0_9.index t 1 = 0)
    ∧ (win0_10.index t 0 = t.val / 2 ∧ win0_10.index t 1 = 0 ∧ win0_10.index t 2 = t.val % 2)
    ∧ (win0_11.index t 0 = t.val ∧ win0_11.index t 1 = 0)
    ∧ (win0_12.index t 0 = t.val / 2 ∧ win0_12.index t 1 = 0 ∧ win0_12.index t 2 = t.val % 2)
    ∧ (win0_13.index t 0 = t.val / 2 ∧ win0_13.index t 1 = 0 ∧ win0_13.index t 2 = t.val % 2)
    ∧ (win0_14.index t 0 = t.val ∧ win0_14.index t 1 = 0) ∧ (win0_15.index t 0 = t.val ∧ win0_15.index t 1 = 0)
    ∧ (win0_16.index t 0 = t.val ∧ win0_16.index t 1 = 0) := by
  show ∀ t : Fin grid0.N, _
  decide +kernel

/-- Window 0's block at point `t`: rows `1024 t …`, the queries' columns. -/
theorem blk0 (c : Dev nD) (t : Fin cfg0.N) (r : Fin 1024) (k : Fin 512) (h : t.val * 1024 + r < 16384) :
    X0_0 m c t (ix2 r k) = m ((c : Thread nD τ).loc main_arg0) (ix2 ⟨t.val * 1024 + r, h⟩ ⟨4608 + k.val, by omega⟩) := by
  obtain ⟨f, -⟩ := idx_facts t
  unfold X0_0 Pipeline.Window.fill
  rw [dif_pos (moved0_0 t _)]
  blk_ext [iblk, V_main_arg0, f.1, f.2]

/-- Window 1's block at point `t`: rows `1024 t …`, the keys' columns. -/
theorem blk1 (c : Dev nD) (t : Fin cfg0.N) (r : Fin 1024) (k : Fin 128) (h : t.val * 1024 + r < 16384) :
    iblk m c 1 t (ix2 r k) = m ((c : Thread nD τ).loc main_arg0) (ix2 ⟨t.val * 1024 + r, h⟩ ⟨7936 + k.val, by omega⟩) := by
  obtain ⟨-, f, -⟩ := idx_facts t
  blk_ext [iblk, V_main_arg0, f.1, f.2]

/-- Window 2's block at point `t`: rows `1024 t …`, the search queries' columns. -/
theorem blk2 (c : Dev nD) (t : Fin cfg0.N) (r : Fin 1024) (k : Fin 256) (h : t.val * 1024 + r < 16384) :
    iblk m c 2 t (ix2 r k) = m ((c : Thread nD τ).loc main_arg0) (ix2 ⟨t.val * 1024 + r, h⟩ ⟨7680 + k.val, by omega⟩) := by
  obtain ⟨-, -, f, -⟩ := idx_facts t
  blk_ext [iblk, V_main_arg0, f.1, f.2]

/-- Window 3's block at point `t`: rows `1024 t …`, the search keys' columns and the next 64. -/
theorem blk3 (c : Dev nD) (t : Fin cfg0.N) (r : Fin 1024) (k : Fin 128) (h : t.val * 1024 + r < 16384) :
    iblk m c 3 t (ix2 r k) = m ((c : Thread nD τ).loc main_arg0) (ix2 ⟨t.val * 1024 + r, h⟩ ⟨8192 + k.val, by omega⟩) := by
  obtain ⟨-, -, -, f, -⟩ := idx_facts t
  blk_ext [iblk, V_main_arg0, f.1, f.2]

/-- Window 4's block at point `t`: rows `1024 t …`, the values' columns. -/
theorem blk4 (c : Dev nD) (t : Fin cfg0.N) (r : Fin 1024) (k : Fin 128) (h : t.val * 1024 + r < 16384) :
    iblk m c 4 t (ix2 r k) = m ((c : Thread nD τ).loc main_arg0) (ix2 ⟨t.val * 1024 + r, h⟩ ⟨8064 + k.val, by omega⟩) := by
  obtain ⟨-, -, -, -, f, -⟩ := idx_facts t
  blk_ext [iblk, V_main_arg0, f.1, f.2]

/-- Window 5's block at point `t`: the cosines of its rows' positions. -/
theorem blk5 (c : Dev nD) (t : Fin cfg0.N) (r : Fin 1024) (l : Fin 128) :
    iblk m c 5 t (ix2 r l) = cs ⟨t.val % 2 * 1024 + r.val, by omega⟩ ⟨l.val % 32, by omega⟩ := by
  obtain ⟨-, -, -, -, -, f, -⟩ := idx_facts t
  have e : iblk m c 5 t (ix2 r l) = V m c main_v20 (ix2 ⟨t.val % 2 * 1024 + r.val, by omega⟩ l) := by
    blk_ext [iblk, f.1, f.2]
  rw [e, V_main_v20, tile2_apply, ite_self]
  rfl

/-- Window 6's block at point `t`: the signed sines of its rows' positions. -/
theorem blk6 (c : Dev nD) (t : Fin cfg0.N) (r : Fin 1024) (l : Fin 128) :
    iblk m c 6 t (ix2 r l) = if l.val % 64 < 32 then - sn ⟨t.val % 2 * 1024 + r.val, by omega⟩ ⟨l.val % 32, by omega⟩ else sn ⟨t.val % 2 * 1024 + r.val, by omega⟩ ⟨l.val % 32, by omega⟩ := by
  obtain ⟨-, -, -, -, -, -, f, -⟩ := idx_facts t
  have e : iblk m c 6 t (ix2 r l) = V m c main_v23 (ix2 ⟨t.val % 2 * 1024 + r.val, by omega⟩ l) := by
    blk_ext [iblk, f.1, f.2]
  rw [e, V_main_v23, tile2_apply]
  rfl

/-- Window 7's block is the queries' gains. -/
theorem blk7 (c : Dev nD) (t : Fin cfg0.N) (l : Fin 128) :
    iblk m c 7 t (ix2 0 l) = m ((c : Thread nD τ).loc main_arg1) (ix1 ⟨l.val % 64, by omega⟩) := by
  obtain ⟨-, -, -, -, -, -, -, f, -⟩ := idx_facts t
  have e : iblk m c 7 t (ix2 0 l) = V m c main_v27 (ix2 0 l) := by
    blk_ext [iblk, f.1, f.2]
  rw [e, V_main_v27, tileG_apply]

/-- Window 8's block is the keys' gains. -/
theorem blk8 (c : Dev nD) (t : Fin cfg0.N) (l : Fin 128) :
    iblk m c 8 t (ix2 0 l) = m ((c : Thread nD τ).loc main_arg2) (ix1 ⟨l.val % 64, by omega⟩) := by
  obtain ⟨-, -, -, -, -, -, -, -, f⟩ := idx_facts t
  have e : iblk m c 8 t (ix2 0 l) = V m c main_v31 (ix2 0 l) := by
    blk_ext [iblk, f.1, f.2]
  rw [e, V_main_v31, tileG_apply]

end Cert.Proof.Qk
-- ==== Proof.QkFinal.lean ====
module
public import proofs.«01_k».proof.Proof.QkPoints

@[expose] public section

set_option maxRecDepth 65536

noncomputable section

namespace Cert.Proof.Qk

open Idealize.ShloMosaic Idealize.ShloMosaic.TcCoe Idealize.SL.Sem
open Idealize.ShloMosaic.Pipeline (Dat)
open Cert.QkropeIdeal Cert.QkropeIdeal.Gen

variable (m : (ℓ : Loc nD τ sig) → Buf (Elt Ideal) ℓ) (ρ : Dev nD → PrngReg)

/-- The projection. -/
abbrev zA (c : Dev nD) : FVec Ideal S16384x8448 .f32 := m ((c : Thread nD τ).loc main_arg0)

/-- The queries' gains. -/
abbrev qgA (c : Dev nD) : FVec Ideal S64 .f32 := m ((c : Thread nD τ).loc main_arg1)

/-- The keys' gains. -/
abbrev kgA (c : Dev nD) : FVec Ideal S64 .f32 := m ((c : Thread nD τ).loc main_arg2)

/-- A row of point `t`. -/
def rowT (t : Fin cfg0.N) (r : Fin 1024) : Fin 16384 := ⟨t.val * 1024 + r.val, by have : t.val < 16 := t.isLt; omega⟩

/-- Its position. -/
theorem pos_rowT (t : Fin cfg0.N) (r : Fin 1024) : pos (rowT t r) = ⟨t.val % 2 * 1024 + r.val, by omega⟩ :=
  Fin.ext (by show (t.val * 1024 + r.val) % 2048 = t.val % 2 * 1024 + r.val; omega)

/-- The rotated queries of point `t`. -/
theorem qB_at (c : Dev nD) (hf : Real3 (zA m c)) (t : Fin cfg0.N) (r : Fin 1024) (n : Fin 512) :
    qB (X0_0 m c t) (iblk m c 5 t) (iblk m c 6 t) (iblk m c 7 t) (ix2 r n) = qE (zA m c) (qgA m c) (rowT t r) n := by
  have ht : t.val < 16 := t.isLt
  have e : ∀ x a b w, qB x a b w = k0_pay24 (k0_pay3 b)
      (mulf (qn x w) (concatenate S1024x512 1 [⟨S1024x128, k0_pay2 a⟩, ⟨S1024x128, k0_pay2 a⟩, ⟨S1024x128, k0_pay2 a⟩, ⟨S1024x128, k0_pay2 a⟩] concatenates_S1024x128_S1024x128_S1024x128_S1024x128_S1024x512_d1))
      k0_pay21 (dynamicRotate 1 480#32 none (qn x w) rotates_S1024x512_d1) (dynamicRotate 1 32#32 none (qn x w) rotates_S1024x512_d1) := fun _ _ _ _ => rfl
  rw [e, rot512 _ _ _ (cs (pos (rowT t r))) (sn (pos (rowT t r))) r n (fun l => by rw [pos_rowT, blk5]) (fun l => by rw [pos_rowT, blk6])]
  unfold qE
  refine congrArg (fun f => rope f _ _ _) (funext fun d => ?_)
  show qn _ _ (ix2 r ⟨64 * (n.val / 64) + d.val, _⟩) = _
  rw [qn_apply, blk7]
  have hn : ∀ k : Fin 128, X0_0 m c t (ix2 r ⟨128 * ((64 * (n.val / 64) + d.val) / 128) + k.val, by omega⟩) = zA m c (ix2 (rowT t r) ⟨4608 + (128 * (n.val / 128) + k.val), by omega⟩) := by
    intro k
    rw [blk0 m c t r _ (by omega)]
    exact congrArg (fun q => zA m c (ix2 (rowT t r) q)) (Fin.ext (by show 4608 + (128 * ((64 * (n.val / 64) + d.val) / 128) + k.val) = 4608 + (128 * (n.val / 128) + k.val); omega))
  have h1 : X0_0 m c t (ix2 r ⟨64 * (n.val / 64) + d.val, by omega⟩) = (fun k : Fin 128 => X0_0 m c t (ix2 r ⟨128 * ((64 * (n.val / 64) + d.val) / 128) + k.val, by omega⟩)) ⟨(64 * (n.val / 64) + d.val) % 128, by omega⟩ :=
    congrArg (fun q => X0_0 m c t (ix2 r q)) (Fin.ext (by show 64 * (n.val / 64) + d.val = 128 * ((64 * (n.val / 64) + d.val) / 128) + (64 * (n.val / 64) + d.val) % 128; omega))
  rw [h1]
  change nk ((fun k : Fin 128 => (X0_0 m c t (ix2 r ⟨128 * ((64 * (n.val / 64) + d.val) / 128) + k.val, by omega⟩) : EReal)) ⟨(64 * (n.val / 64) + d.val) % 128, by omega⟩)
    (fun k : Fin 128 => (X0_0 m c t (ix2 r ⟨128 * ((64 * (n.val / 64) + d.val) / 128) + k.val, by omega⟩) : EReal)) ⟨(64 * (n.val / 64) + d.val) % 128, by omega⟩ * _ = _
  rw [nk_eq (fun k : Fin 128 => (X0_0 m c t (ix2 r ⟨128 * ((64 * (n.val / 64) + d.val) / 128) + k.val, by omega⟩) : EReal))]
  · congr 1
    · have i1 : (⟨(64 * (n.val / 64) + d.val) % 128 % 64, by omega⟩ : Fin 64) = d := Fin.ext (by show (64 * (n.val / 64) + d.val) % 128 % 64 = d.val; omega)
      show nrm _ ⟨(64 * (n.val / 64) + d.val) % 128 % 64, _⟩ = _
      rw [i1]
      refine congrArg (fun f => nrm f d) (funext fun j => ?_)
      refine (hn _).trans ?_
      exact congrArg (fun q => zA m c (ix2 (rowT t r) q)) (Fin.ext (by
        show 4608 + (128 * (n.val / 128) + (64 * ((64 * (n.val / 64) + d.val) % 128 / 64) + j.val)) = 4608 + 64 * (n.val / 64) + j.val; omega))
    · exact congrArg (fun q => qgA m c (ix1 q)) (Fin.ext (by show (64 * (n.val / 64) + d.val) % 128 % 64 = d.val; omega))
  · intro j
    refine ⟨_, (hn _).trans (Exists.choose_spec (hf.1 (rowT t r) ⟨128 * (n.val / 128) + (64 * ((64 * (n.val / 64) + d.val) % 128 / 64) + j.val), by omega⟩))⟩

/-- The rotated keys of point `t`. -/
theorem kB_at (c : Dev nD) (hf : Real3 (zA m c)) (t : Fin cfg0.N) (r : Fin 1024) (n : Fin 128) :
    kB (iblk m c 1 t) (iblk m c 5 t) (iblk m c 6 t) (iblk m c 8 t) (ix2 r n) = kE (zA m c) (kgA m c) (rowT t r) n := by
  have ht : t.val < 16 := t.isLt
  have e : ∀ x a b w, kB x a b w = addf (mulf (kn x w) (k0_pay2 a)) (mulf (select lane128 (dynamicRotate 1 96#32 none (kn x w) rotates_S1024x128_d1) (dynamicRotate 1 32#32 none (kn x w) rotates_S1024x128_d1)) (k0_pay3 b)) := fun _ _ _ _ => rfl
  rw [e, rot128 _ _ _ (cs (pos (rowT t r))) (sn (pos (rowT t r))) r n (fun l => by rw [pos_rowT, blk5]) (fun l => by rw [pos_rowT, blk6])]
  unfold kE
  refine congrArg (fun f => rope f _ _ _) (funext fun d => ?_)
  show kn _ _ (ix2 r ⟨64 * (n.val / 64) + d.val, _⟩) = _
  have hn : ∀ k : Fin 128, iblk m c 1 t (ix2 r k) = zA m c (ix2 (rowT t r) ⟨7936 + k.val, by omega⟩) := fun k => blk1 m c t r k (by omega)
  rw [kn_apply, blk8, nk_eq (fun k : Fin 128 => (iblk m c 1 t (ix2 r k) : EReal))]
  · congr 1
    · have i1 : (⟨(64 * (n.val / 64) + d.val) % 64, by omega⟩ : Fin 64) = d := Fin.ext (by show (64 * (n.val / 64) + d.val) % 64 = d.val; omega)
      show nrm _ ⟨(64 * (n.val / 64) + d.val) % 64, _⟩ = _
      rw [i1]
      refine congrArg (fun f => nrm f d) (funext fun j => ?_)
      refine (hn _).trans ?_
      exact congrArg (fun q => zA m c (ix2 (rowT t r) q)) (Fin.ext (by
        show 7936 + (64 * ((64 * (n.val / 64) + d.val) / 64) + j.val) = 7936 + 64 * (n.val / 64) + j.val; omega))
    · exact congrArg (fun q => kgA m c (ix1 q)) (Fin.ext (by show (64 * (n.val / 64) + d.val) % 64 = d.val; omega))
  · intro j
    exact ⟨_, (hn _).trans (Exists.choose_spec (hf.2.1 (rowT t r) _))⟩

/-- The rotated search queries of point `t`. -/
theorem qiB_at (c : Dev nD) (t : Fin cfg0.N) (r : Fin 1024) (n : Fin 256) :
    qiB (iblk m c 2 t) (iblk m c 5 t) (iblk m c 6 t) (ix2 r n) = qiE (zA m c) (rowT t r) n := by
  have ht : t.val < 16 := t.isLt
  rw [rot256 _ _ _ (cs (pos (rowT t r))) (sn (pos (rowT t r))) r n (fun l => by rw [pos_rowT, blk5]) (fun l => by rw [pos_rowT, blk6])]
  unfold qiE
  refine congrArg (fun f => rope f _ _ _) (funext fun d => ?_)
  refine (blk2 m c t r _ (by omega)).trans ?_
  exact congrArg (fun q => zA m c (ix2 (rowT t r) q)) (Fin.ext (by show 7680 + (64 * (n.val / 64) + d.val) = 7680 + 64 * (n.val / 64) + d.val; omega))

/-- The rotated search keys of point `t`: the first head of the block. -/
theorem kiB_at (c : Dev nD) (hf : Real3 (zA m c)) (t : Fin cfg0.N) (r : Fin 1024) (n : Fin 64) :
    kiB (iblk m c 3 t) (iblk m c 5 t) (iblk m c 6 t) (ix2 r ⟨n.val, by omega⟩) = kiE (zA m c) (rowT t r) n := by
  have ht : t.val < 16 := t.isLt
  have e : ∀ x a b, kiB x a b = addf (mulf (kin x) (k0_pay2 a)) (mulf (select lane128 (dynamicRotate 1 96#32 none (kin x) rotates_S1024x128_d1) (dynamicRotate 1 32#32 none (kin x) rotates_S1024x128_d1)) (k0_pay3 b)) := fun _ _ _ => rfl
  rw [e, rot128 _ _ _ (cs (pos (rowT t r))) (sn (pos (rowT t r))) r _ (fun l => by rw [pos_rowT, blk5]) (fun l => by rw [pos_rowT, blk6])]
  unfold kiE
  have i0 : (⟨n.val % 64, by omega⟩ : Fin 64) = n := Fin.ext (by show n.val % 64 = n.val; omega)
  show rope _ _ _ ⟨n.val % 64, _⟩ = _
  rw [i0]
  refine congrArg (fun f => rope f _ _ _) (funext fun d => ?_)
  show kin _ (ix2 r ⟨64 * (n.val / 64) + d.val, _⟩) = _
  have hn : ∀ k : Fin 128, iblk m c 3 t (ix2 r k) = zA m c (ix2 (rowT t r) ⟨8192 + k.val, by omega⟩) := fun k => blk3 m c t r k (by omega)
  rw [kin_apply, nk_eq (fun k : Fin 128 => (iblk m c 3 t (ix2 r k) : EReal))]
  · have i1 : (⟨(64 * (n.val / 64) + d.val) % 64, by omega⟩ : Fin 64) = d := Fin.ext (by show (64 * (n.val / 64) + d.val) % 64 = d.val; omega)
    show nrm _ ⟨(64 * (n.val / 64) + d.val) % 64, _⟩ = _
    rw [i1]
    refine congrArg (fun f => nrm f d) (funext fun j => ?_)
    refine (hn _).trans ?_
    exact congrArg (fun q => zA m c (ix2 (rowT t r) q)) (Fin.ext (by
      show 8192 + (64 * ((64 * (n.val / 64) + d.val) / 64) + j.val) = 8192 + j.val; omega))
  · intro j
    refine ⟨_, (hn _).trans ((congrArg (fun q => zA m c (ix2 (rowT t r) q)) (Fin.ext ?_)).trans (Exists.choose_spec (hf.2.2 (rowT t r) j)))⟩
    show 8192 + (64 * ((64 * (n.val / 64) + d.val) / 64) + j.val) = 8192 + j.val
    omega

/-- The eight results, of the projection and the gains. -/
def o0 (z : FVec Ideal S16384x8448 .f32) (g : FVec Ideal S64 .f32) : FVec Ideal S16384x512 .f32 := fun i => qE z g (i 0) (i 1)

/-- The keys, a sequence's positions along the lanes. -/
def o1 (z : FVec Ideal S16384x8448 .f32) (g : FVec Ideal S64 .f32) : FVec Ideal S8x128x2048 .f32 := fun i => kE z g (row (i 0) (i 2)) (i 1)

/-- The search's queries. -/
def o2 (z : FVec Ideal S16384x8448 .f32) : FVec Ideal S16384x256 .f32 := fun i => qiE z (i 0) (i 1)

/-- The search's keys, a sequence's positions along the lanes. -/
def o3 (z : FVec Ideal S16384x8448 .f32) : FVec Ideal S8x64x2048 .f32 := fun i => kiE z (row (i 0) (i 2)) (i 1)

/-- The values, a sequence's positions along the lanes. -/
def o4 (z : FVec Ideal S16384x8448 .f32) : FVec Ideal S8x128x2048 .f32 := fun i => vE z (row (i 0) (i 2)) (i 1)

/-- The keys in rows. -/
def o5 (z : FVec Ideal S16384x8448 .f32) (g : FVec Ideal S64 .f32) : FVec Ideal S16384x128 .bf16 := fun i => kE z g (i 0) (i 1)

/-- The values in rows. -/
def o6 (z : FVec Ideal S16384x8448 .f32) : FVec Ideal S16384x128 .bf16 := fun i => vE z (i 0) (i 1)

/-- The search's keys in rows. -/
def o7 (z : FVec Ideal S16384x8448 .f32) : FVec Ideal S16384x64 .bf16 := fun i => kiE z (i 0) (i 1)

/-- A row of point `t` by its sequence and position. -/
theorem row_eq (t : Fin cfg0.N) (r : Fin 1024) : row ⟨t.val / 2, by have : t.val < 16 := t.isLt; omega⟩ ⟨t.val % 2 * 1024 + r.val, by omega⟩ = rowT t r :=
  Fin.ext (by show t.val / 2 * 2048 + (t.val % 2 * 1024 + r.val) = t.val * 1024 + r.val; omega)

/-- An index of output 9's block at point `t`, placed in the output. -/
theorem emb9 (t : Fin cfg0.N) (r : Fin 1024) (n : Fin 512) : ((cfg0.win 9).blk t).view.emb (ix2 r n) = ix2 (rowT t r) n := by
  obtain ⟨f, -⟩ := out_facts t
  unfold rowT
  blk_ext [f.1, f.2]

/-- Point `t` writes block `t` of the result. -/
theorem flushed_eq9 (c : Dev nD) (hf : Real3 (zA m c)) (t : Fin cfg0.N) :
    (dats m 0 c).flushed 9 t = ((cfg0.win 9).blk t).view.read (Elt Ideal) (o0 (zA m c) (qgA m c)) := by
  rw [Value.flushed9]
  funext y
  obtain ⟨r, n, rfl⟩ : ∃ (r : Fin 1024) (n : Fin 512), y = ix2 r n :=
    ⟨y 0, y 1, funext fun a => match a with | ⟨0, _⟩ => rfl | ⟨1, _⟩ => rfl⟩
  show (outsAt0 m c t).1 (ix2 r n) = (o0 (zA m c) (qgA m c)) (((cfg0.win 9).blk t).view.emb (ix2 r n))
  rw [body9, emb9]
  exact qB_at m c hf t r n

/-- The output array after the run. -/
theorem final9 (c : Dev nD) (hf : Real3 (zA m c)) : (dats m 0 c).arrAt 9 cfg0.N = o0 (zA m c) (qgA m c) := by
  exact Dat.arrAt_eq_of_cover (dats m 0 c) 9 _ (fun t _ => flushed_eq9 m c hf t)
    ((by decide +kernel : (cfg0.win 9).Covers).cover _ (Memref.isWhole_whole _))

/-- An index of output 10's block at point `t`, placed in the output. -/
theorem emb10 (t : Fin cfg0.N) (n : Fin 128) (r : Fin 1024) : ((cfg0.win 10).blk t).view.emb (ix3 0 n r)
    = ix3 ⟨t.val / 2, by have : t.val < 16 := t.isLt; omega⟩ n ⟨t.val % 2 * 1024 + r.val, by omega⟩ := by
  obtain ⟨-, f, -⟩ := out_facts t
  blk_ext [f.1, f.2.1, f.2.2]

/-- Point `t` writes block `t` of the result. -/
theorem flushed_eq10 (c : Dev nD) (hf : Real3 (zA m c)) (t : Fin cfg0.N) :
    (dats m 0 c).flushed 10 t = ((cfg0.win 10).blk t).view.read (Elt Ideal) (o1 (zA m c) (kgA m c)) := by
  rw [Value.flushed10]
  funext y
  obtain ⟨n, r, rfl⟩ : ∃ (n : Fin 128) (r : Fin 1024), y = ix3 0 n r :=
    ⟨y 1, y 2, funext fun a => match a with | ⟨0, _⟩ => Fin.ext (by have : (y 0).val < 1 := (y 0).isLt; show (y 0).val = 0; omega) | ⟨1, _⟩ => rfl | ⟨2, _⟩ => rfl⟩
  show (outsAt0 m c t).2.1 (ix3 0 n r) = (o1 (zA m c) (kgA m c)) (((cfg0.win 10).blk t).view.emb (ix3 0 n r))
  rw [body10, emb10]
  have e : ∀ v : FVec Ideal S1024x128 .f32, k0_pay52 v (ix3 0 n r) = v (ix2 r n) := by
    intro v
    pointwise [k0_pay52]
  rw [e, kB_at m c hf]
  exact congrArg (fun p => kE (zA m c) (kgA m c) p n) (row_eq t r).symm

/-- The output array after the run. -/
theorem final10 (c : Dev nD) (hf : Real3 (zA m c)) : (dats m 0 c).arrAt 10 cfg0.N = o1 (zA m c) (kgA m c) := by
  exact Dat.arrAt_eq_of_cover (dats m 0 c) 10 _ (fun t _ => flushed_eq10 m c hf t)
    ((by decide +kernel : (cfg0.win 10).Covers).cover _ (Memref.isWhole_whole _))

/-- An index of output 11's block at point `t`, placed in the output. -/
theorem emb11 (t : Fin cfg0.N) (r : Fin 1024) (n : Fin 256) : ((cfg0.win 11).blk t).view.emb (ix2 r n) = ix2 (rowT t r) n := by
  obtain ⟨-, -, f, -⟩ := out_facts t
  unfold rowT
  blk_ext [f.1, f.2]

/-- Point `t` writes block `t` of the result. -/
theorem flushed_eq11 (c : Dev nD) (t : Fin cfg0.N) :
    (dats m 0 c).flushed 11 t = ((cfg0.win 11).blk t).view.read (Elt Ideal) (o2 (zA m c)) := by
  rw [Value.flushed11]
  funext y
  obtain ⟨r, n, rfl⟩ : ∃ (r : Fin 1024) (n : Fin 256), y = ix2 r n :=
    ⟨y 0, y 1, funext fun a => match a with | ⟨0, _⟩ => rfl | ⟨1, _⟩ => rfl⟩
  show (outsAt0 m c t).2.2.1 (ix2 r n) = (o2 (zA m c)) (((cfg0.win 11).blk t).view.emb (ix2 r n))
  rw [body11, emb11]
  exact qiB_at m c t r n

/-- The output array after the run. -/
theorem final11 (c : Dev nD) : (dats m 0 c).arrAt 11 cfg0.N = o2 (zA m c) := by
  exact Dat.arrAt_eq_of_cover (dats m 0 c) 11 _ (fun t _ => flushed_eq11 m c t)
    ((by decide +kernel : (cfg0.win 11).Covers).cover _ (Memref.isWhole_whole _))

/-- An index of output 12's block at point `t`, placed in the output. -/
theorem emb12 (t : Fin cfg0.N) (n : Fin 64) (r : Fin 1024) : ((cfg0.win 12).blk t).view.emb (ix3 0 n r)
    = ix3 ⟨t.val / 2, by have : t.val < 16 := t.isLt; omega⟩ n ⟨t.val % 2 * 1024 + r.val, by omega⟩ := by
  obtain ⟨-, -, -, f, -⟩ := out_facts t
  blk_ext [f.1, f.2.1, f.2.2]

/-- Point `t` writes block `t` of the result. -/
theorem flushed_eq12 (c : Dev nD) (hf : Real3 (zA m c)) (t : Fin cfg0.N) :
    (dats m 0 c).flushed 12 t = ((cfg0.win 12).blk t).view.read (Elt Ideal) (o3 (zA m c)) := by
  rw [Value.flushed12]
  funext y
  obtain ⟨n, r, rfl⟩ : ∃ (n : Fin 64) (r : Fin 1024), y = ix3 0 n r :=
    ⟨y 1, y 2, funext fun a => match a with | ⟨0, _⟩ => Fin.ext (by have : (y 0).val < 1 := (y 0).isLt; show (y 0).val = 0; omega) | ⟨1, _⟩ => rfl | ⟨2, _⟩ => rfl⟩
  show (outsAt0 m c t).2.2.2.1 (ix3 0 n r) = (o3 (zA m c)) (((cfg0.win 12).blk t).view.emb (ix3 0 n r))
  rw [body12, emb12]
  have e : ∀ v : FVec Ideal S1024x128 .f32, shapeCast S1x64x1024 (extractStridedSlice S64x1024 ![0, 0] (transpose S128x1024 [1, 0] v transposes_S1024x128_p1_0_S128x1024) slices_S128x1024_o0_0_S64x1024) shapeCasts_S64x1024_S1x64x1024 (ix3 0 n r) = v (ix2 r ⟨n.val, by omega⟩) := by
    intro v
    pointwise []
  refine (e (kiB (iblk m c 3 t) (iblk m c 5 t) (iblk m c 6 t))).trans ?_
  rw [kiB_at m c hf]
  exact congrArg (fun p => kiE (zA m c) p n) (row_eq t r).symm

/-- The output array after the run. -/
theorem final12 (c : Dev nD) (hf : Real3 (zA m c)) : (dats m 0 c).arrAt 12 cfg0.N = o3 (zA m c) := by
  exact Dat.arrAt_eq_of_cover (dats m 0 c) 12 _ (fun t _ => flushed_eq12 m c hf t)
    ((by decide +kernel : (cfg0.win 12).Covers).cover _ (Memref.isWhole_whole _))

/-- An index of output 13's block at point `t`, placed in the output. -/
theorem emb13 (t : Fin cfg0.N) (n : Fin 128) (r : Fin 1024) : ((cfg0.win 13).blk t).view.emb (ix3 0 n r)
    = ix3 ⟨t.val / 2, by have : t.val < 16 := t.isLt; omega⟩ n ⟨t.val % 2 * 1024 + r.val, by omega⟩ := by
  obtain ⟨-, -, -, -, f, -⟩ := out_facts t
  blk_ext [f.1, f.2.1, f.2.2]

/-- Point `t` writes block `t` of the result. -/
theorem flushed_eq13 (c : Dev nD) (t : Fin cfg0.N) :
    (dats m 0 c).flushed 13 t = ((cfg0.win 13).blk t).view.read (Elt Ideal) (o4 (zA m c)) := by
  rw [Value.flushed13]
  funext y
  obtain ⟨n, r, rfl⟩ : ∃ (n : Fin 128) (r : Fin 1024), y = ix3 0 n r :=
    ⟨y 1, y 2, funext fun a => match a with | ⟨0, _⟩ => Fin.ext (by have : (y 0).val < 1 := (y 0).isLt; show (y 0).val = 0; omega) | ⟨1, _⟩ => rfl | ⟨2, _⟩ => rfl⟩
  show (outsAt0 m c t).2.2.2.2.1 (ix3 0 n r) = (o4 (zA m c)) (((cfg0.win 13).blk t).view.emb (ix3 0 n r))
  rw [body13, emb13]
  have e : ∀ v : FVec Ideal S1024x128 .f32, k0_pay1 (k0_pay54 v) (ix3 0 n r) = v (ix2 r n) := by
    intro v
    pointwise [k0_pay1, k0_pay54]
  rw [e, blk4 m c t r n (by have : t.val < 16 := t.isLt; omega)]
  exact congrArg (fun p => vE (zA m c) p n) (row_eq t r).symm

/-- The output array after the run. -/
theorem final13 (c : Dev nD) : (dats m 0 c).arrAt 13 cfg0.N = o4 (zA m c) := by
  exact Dat.arrAt_eq_of_cover (dats m 0 c) 13 _ (fun t _ => flushed_eq13 m c t)
    ((by decide +kernel : (cfg0.win 13).Covers).cover _ (Memref.isWhole_whole _))

/-- An index of output 14's block at point `t`, placed in the output. -/
theorem emb14 (t : Fin cfg0.N) (r : Fin 1024) (n : Fin 128) : ((cfg0.win 14).blk t).view.emb (ix2 r n) = ix2 (rowT t r) n := by
  obtain ⟨-, -, -, -, -, f, -⟩ := out_facts t
  unfold rowT
  blk_ext [f.1, f.2]

/-- Point `t` writes block `t` of the result. -/
theorem flushed_eq14 (c : Dev nD) (hf : Real3 (zA m c)) (t : Fin cfg0.N) :
    (dats m 0 c).flushed 14 t = ((cfg0.win 14).blk t).view.read (Elt Ideal) (o5 (zA m c) (kgA m c)) := by
  rw [Value.flushed14]
  funext y
  obtain ⟨r, n, rfl⟩ : ∃ (r : Fin 1024) (n : Fin 128), y = ix2 r n :=
    ⟨y 0, y 1, funext fun a => match a with | ⟨0, _⟩ => rfl | ⟨1, _⟩ => rfl⟩
  show (outsAt0 m c t).2.2.2.2.2.1 (ix2 r n) = (o5 (zA m c) (kgA m c)) (((cfg0.win 14).blk t).view.emb (ix2 r n))
  rw [body14, emb14]
  exact kB_at m c hf t r n

/-- The output array after the run. -/
theorem final14 (c : Dev nD) (hf : Real3 (zA m c)) : (dats m 0 c).arrAt 14 cfg0.N = o5 (zA m c) (kgA m c) := by
  exact Dat.arrAt_eq_of_cover (dats m 0 c) 14 _ (fun t _ => flushed_eq14 m c hf t)
    ((by decide +kernel : (cfg0.win 14).Covers).cover _ (Memref.isWhole_whole _))

/-- An index of output 15's block at point `t`, placed in the output. -/
theorem emb15 (t : Fin cfg0.N) (r : Fin 1024) (n : Fin 128) : ((cfg0.win 15).blk t).view.emb (ix2 r n) = ix2 (rowT t r) n := by
  obtain ⟨-, -, -, -, -, -, f, -⟩ := out_facts t
  unfold rowT
  blk_ext [f.1, f.2]

/-- Point `t` writes block `t` of the result. -/
theorem flushed_eq15 (c : Dev nD) (t : Fin cfg0.N) :
    (dats m 0 c).flushed 15 t = ((cfg0.win 15).blk t).view.read (Elt Ideal) (o6 (zA m c)) := by
  rw [Value.flushed15]
  funext y
  obtain ⟨r, n, rfl⟩ : ∃ (r : Fin 1024) (n : Fin 128), y = ix2 r n :=
    ⟨y 0, y 1, funext fun a => match a with | ⟨0, _⟩ => rfl | ⟨1, _⟩ => rfl⟩
  show (outsAt0 m c t).2.2.2.2.2.2.1 (ix2 r n) = (o6 (zA m c)) (((cfg0.win 15).blk t).view.emb (ix2 r n))
  rw [body15, emb15]
  exact blk4 m c t r n (by have : t.val < 16 := t.isLt; omega)

/-- The output array after the run. -/
theorem final15 (c : Dev nD) : (dats m 0 c).arrAt 15 cfg0.N = o6 (zA m c) := by
  exact Dat.arrAt_eq_of_cover (dats m 0 c) 15 _ (fun t _ => flushed_eq15 m c t)
    ((by decide +kernel : (cfg0.win 15).Covers).cover _ (Memref.isWhole_whole _))

/-- An index of output 16's block at point `t`, placed in the output. -/
theorem emb16 (t : Fin cfg0.N) (r : Fin 1024) (n : Fin 64) : ((cfg0.win 16).blk t).view.emb (ix2 r n) = ix2 (rowT t r) n := by
  obtain ⟨-, -, -, -, -, -, -, f⟩ := out_facts t
  unfold rowT
  blk_ext [f.1, f.2]

/-- Point `t` writes block `t` of the result. -/
theorem flushed_eq16 (c : Dev nD) (hf : Real3 (zA m c)) (t : Fin cfg0.N) :
    (dats m 0 c).flushed 16 t = ((cfg0.win 16).blk t).view.read (Elt Ideal) (o7 (zA m c)) := by
  rw [Value.flushed16]
  funext y
  obtain ⟨r, n, rfl⟩ : ∃ (r : Fin 1024) (n : Fin 64), y = ix2 r n :=
    ⟨y 0, y 1, funext fun a => match a with | ⟨0, _⟩ => rfl | ⟨1, _⟩ => rfl⟩
  show (outsAt0 m c t).2.2.2.2.2.2.2 (ix2 r n) = (o7 (zA m c)) (((cfg0.win 16).blk t).view.emb (ix2 r n))
  rw [body16, emb16]
  have e : ∀ v : FVec Ideal S1024x128 .f32, (truncf .bf16 (extractStridedSlice S1024x64 ![0, 0] v slices_S1024x128_o0_0_S1024x64 : FVec Ideal S1024x64 .f32) bitsLt_bf16_f32 : FVec Ideal S1024x64 .bf16) (ix2 r n) = v (ix2 r ⟨n.val, by omega⟩) := by
    intro v
    pointwise []
  exact (e (kiB (iblk m c 3 t) (iblk m c 5 t) (iblk m c 6 t))).trans (kiB_at m c hf t r n)

/-- The output array after the run. -/
theorem final16 (c : Dev nD) (hf : Real3 (zA m c)) : (dats m 0 c).arrAt 16 cfg0.N = o7 (zA m c) := by
  exact Dat.arrAt_eq_of_cover (dats m 0 c) 16 _ (fun t _ => flushed_eq16 m c hf t)
    ((by decide +kernel : (cfg0.win 16).Covers).cover _ (Memref.isWhole_whole _))

end Cert.Proof.Qk
-- ==== Proof.QkRef.lean ====
module
public import proofs.«01_k».proof.Proof.QkPoints

@[expose] public section

set_option maxRecDepth 65536

noncomputable section

namespace Cert.Proof.Qk

open Idealize.ShloMosaic Idealize.ShloMosaic.TcCoe
open Cert.QkropeReferenceIdeal Cert.QkropeReferenceIdeal.Gen Cert.QkropeReferenceIdeal.Read

variable (z : FVec Ideal S16384x8448 .f32) (g : FVec Ideal S64 .f32)

/-- The reference's queries. -/
theorem v18_at (b : Fin 8) (u : Fin 2048) (h : Fin 8) (d : Fin 64) :
    val_main_v18 (F := Ideal) z (ix4 b u h d) = head z (row b u) (4608 + 64 * h.val) (by omega) d := by
  have hu : u.val < 2048 := u.isLt
  have hd : d.val < 64 := d.isLt
  have hh : h.val < 8 := h.isLt
  have hb : b.val < 8 := b.isLt
  rw [val_main_v18_apply, val_main_v17_apply]
  refine congrArg z (funext fun a => ?_)
  match a with
  | ⟨0, _⟩ => exact Fin.ext (by show _ = b.val * 2048 + u.val; simp only []; dsimp; omega)
  | ⟨1, _⟩ => exact Fin.ext (by show _ = (4608 + 64 * h.val) + d.val; dsimp; omega)

/-- The reference's normed queries. -/
theorem v31_at (b : Fin 8) (u : Fin 2048) (h : Fin 8) (d : Fin 64) :
    val_main_v31 (F := Ideal) z g (ix4 b u h d) = nrm (head z (row b u) (4608 + 64 * h.val) (by omega)) d * g (ix1 d) := by
  have e : ∀ k : Fin 64, idx_main_v20 (idx_main_v21 (idx_main_v27 (ix4 b u h d))) k = ix4 b u h k := fun k =>
    funext fun a => match a with | ⟨0, _⟩ => rfl | ⟨1, _⟩ => rfl | ⟨2, _⟩ => rfl | ⟨3, _⟩ => rfl
  simp only [val_main_v31_apply, val_main_v30_apply, val_main_v29_apply, val_main_v28_apply, val_main_v27_apply, val_main_v26_apply, val_main_v25_apply, val_main_v24_apply, val_main_v23_apply, val_main_v22_apply, val_main_v21_apply, val_main_v20_apply, val_main_v19_apply, val_main_cst_1_apply, val_main_cst_2_apply, val_main_cst_3_apply, e, v18_at]
  have e1 : idx_main_v29 (idx_main_v30 (ix4 b u h d)) = ix1 d := funext fun a => match a with | ⟨0, _⟩ => rfl
  rw [e1]
  show _ * Ideal.rsqrt (Ideal.div (Ideal.ofBits .f32 0x00000000#32 + _) _ + _) * _ = _
  rw [Ideal.ofBits_zero_f32, zero_add]
  rfl

/-- The reference's rotated queries. -/
theorem v44_at (b : Fin 8) (u : Fin 2048) (h : Fin 8) (d : Fin 64) :
    val_main_v44 (F := Ideal) z g (ix4 b u h d) = rope (fun d => val_main_v31 (F := Ideal) z g (ix4 b u h d)) (cs u) (sn u) d := by
  have lo : ∀ k : Fin 32, val_main_v32 (F := Ideal) z g (ix4 b u h k) = val_main_v31 (F := Ideal) z g (ix4 b u h ⟨k.val, by omega⟩) := by
    intro k
    rw [val_main_v32_apply]
    refine congrArg _ (funext fun a => ?_)
    match a with
    | ⟨0, _⟩ => exact Fin.ext (by simp)
    | ⟨1, _⟩ => exact Fin.ext (by simp)
    | ⟨2, _⟩ => exact Fin.ext (by simp)
    | ⟨3, _⟩ => exact Fin.ext (by simp)
  have hi : ∀ k : Fin 32, val_main_v33 (F := Ideal) z g (ix4 b u h k) = val_main_v31 (F := Ideal) z g (ix4 b u h ⟨k.val + 32, by omega⟩) := by
    intro k
    rw [val_main_v33_apply]
    refine congrArg _ (funext fun a => ?_)
    match a with
    | ⟨0, _⟩ => exact Fin.ext (by simp)
    | ⟨1, _⟩ => exact Fin.ext (by simp)
    | ⟨2, _⟩ => exact Fin.ext (by simp)
    | ⟨3, _⟩ => exact Fin.ext (by simp [Nat.add_comm])
  have c1 : ∀ k : Fin 32, val_main_v34 (F := Ideal) (ix4 b u h k) = cs u k := by
    intro k
    rw [val_main_v34_apply, val_main_v14_apply]
    exact congrArg _ (funext fun a => match a with | ⟨0, _⟩ => rfl | ⟨1, _⟩ => rfl)
  have s1 : ∀ k : Fin 32, val_main_v36 (F := Ideal) (ix4 b u h k) = sn u k := by
    intro k
    rw [val_main_v36_apply, val_main_v16_apply]
    exact congrArg _ (funext fun a => match a with | ⟨0, _⟩ => rfl | ⟨1, _⟩ => rfl)
  have c2 : ∀ k : Fin 32, val_main_v39 (F := Ideal) (ix4 b u h k) = cs u k := by
    intro k
    rw [val_main_v39_apply, val_main_v14_apply]
    exact congrArg _ (funext fun a => match a with | ⟨0, _⟩ => rfl | ⟨1, _⟩ => rfl)
  have s2 : ∀ k : Fin 32, val_main_v41 (F := Ideal) (ix4 b u h k) = sn u k := by
    intro k
    rw [val_main_v41_apply, val_main_v16_apply]
    exact congrArg _ (funext fun a => match a with | ⟨0, _⟩ => rfl | ⟨1, _⟩ => rfl)
  have f1 : ∀ k : Fin 32, val_main_v38 (F := Ideal) z g (ix4 b u h k) = val_main_v31 (F := Ideal) z g (ix4 b u h ⟨k.val, by omega⟩) * cs u k - val_main_v31 (F := Ideal) z g (ix4 b u h ⟨k.val + 32, by omega⟩) * sn u k := by
    intro k
    rw [val_main_v38_apply, val_main_v35_apply, val_main_v37_apply, lo, hi, c1, s1]
    rfl
  have f2 : ∀ k : Fin 32, val_main_v43 (F := Ideal) z g (ix4 b u h k) = val_main_v31 (F := Ideal) z g (ix4 b u h ⟨k.val + 32, by omega⟩) * cs u k + val_main_v31 (F := Ideal) z g (ix4 b u h ⟨k.val, by omega⟩) * sn u k := by
    intro k
    rw [val_main_v43_apply, val_main_v40_apply, val_main_v42_apply, lo, hi, c2, s2]
    rfl
  unfold val_main_v44
  have ec : ∀ p q : FVec Ideal S8x2048x8x32 .f32, (concatenate S8x2048x8x64 3 [⟨S8x2048x8x32, p⟩, ⟨S8x2048x8x32, q⟩] concatenates_S8x2048x8x32_S8x2048x8x32_S8x2048x8x64_d3 : FVec Ideal S8x2048x8x64 .f32) (ix4 b u h d)
      = if hd : d.val < 32 then p (ix4 b u h ⟨d.val, hd⟩) else q (ix4 b u h ⟨d.val - 32, by omega⟩) := by
    intro p q
    pointwise []
  rw [ec]
  unfold rope
  by_cases hd : d.val < 32
  · rw [dif_pos hd, dif_pos hd, f1]
  · rw [dif_neg hd, dif_neg hd, f2]
    have i : (⟨d.val - 32 + 32, by omega⟩ : Fin 64) = d := Fin.ext (by show d.val - 32 + 32 = d.val; omega)
    rw [i]

/-- The reference's keys. -/
theorem v46_at (b : Fin 8) (u : Fin 2048) (h : Fin 2) (d : Fin 64) :
    val_main_v46 (F := Ideal) z (ix4 b u h d) = head z (row b u) (7936 + 64 * h.val) (by omega) d := by
  have hu : u.val < 2048 := u.isLt
  have hd : d.val < 64 := d.isLt
  have hh : h.val < 2 := h.isLt
  have hb : b.val < 8 := b.isLt
  rw [val_main_v46_apply, val_main_v45_apply]
  refine congrArg z (funext fun a => ?_)
  match a with
  | ⟨0, _⟩ => exact Fin.ext (by show _ = b.val * 2048 + u.val; simp only []; dsimp; omega)
  | ⟨1, _⟩ => exact Fin.ext (by show _ = (7936 + 64 * h.val) + d.val; dsimp; omega)

/-- The reference's normed keys. -/
theorem v59_at (b : Fin 8) (u : Fin 2048) (h : Fin 2) (d : Fin 64) :
    val_main_v59 (F := Ideal) z g (ix4 b u h d) = nrm (head z (row b u) (7936 + 64 * h.val) (by omega)) d * g (ix1 d) := by
  have e : ∀ k : Fin 64, idx_main_v48 (idx_main_v49 (idx_main_v55 (ix4 b u h d))) k = ix4 b u h k := fun k =>
    funext fun a => match a with | ⟨0, _⟩ => rfl | ⟨1, _⟩ => rfl | ⟨2, _⟩ => rfl | ⟨3, _⟩ => rfl
  simp only [val_main_v59_apply, val_main_v58_apply, val_main_v57_apply, val_main_v56_apply, val_main_v55_apply, val_main_v54_apply, val_main_v53_apply, val_main_v52_apply, val_main_v51_apply, val_main_v50_apply, val_main_v49_apply, val_main_v48_apply, val_main_v47_apply, val_main_cst_4_apply, val_main_cst_5_apply, val_main_cst_6_apply, e, v46_at]
  have e1 : idx_main_v57 (idx_main_v58 (ix4 b u h d)) = ix1 d := funext fun a => match a with | ⟨0, _⟩ => rfl
  rw [e1]
  show _ * Ideal.rsqrt (Ideal.div (Ideal.ofBits .f32 0x00000000#32 + _) _ + _) * _ = _
  rw [Ideal.ofBits_zero_f32, zero_add]
  rfl

/-- The reference's rotated keys. -/
theorem v72_at (b : Fin 8) (u : Fin 2048) (h : Fin 2) (d : Fin 64) :
    val_main_v72 (F := Ideal) z g (ix4 b u h d) = rope (fun d => val_main_v59 (F := Ideal) z g (ix4 b u h d)) (cs u) (sn u) d := by
  have lo : ∀ k : Fin 32, val_main_v60 (F := Ideal) z g (ix4 b u h k) = val_main_v59 (F := Ideal) z g (ix4 b u h ⟨k.val, by omega⟩) := by
    intro k
    rw [val_main_v60_apply]
    refine congrArg _ (funext fun a => ?_)
    match a with
    | ⟨0, _⟩ => exact Fin.ext (by simp)
    | ⟨1, _⟩ => exact Fin.ext (by simp)
    | ⟨2, _⟩ => exact Fin.ext (by simp)
    | ⟨3, _⟩ => exact Fin.ext (by simp)
  have hi : ∀ k : Fin 32, val_main_v61 (F := Ideal) z g (ix4 b u h k) = val_main_v59 (F := Ideal) z g (ix4 b u h ⟨k.val + 32, by omega⟩) := by
    intro k
    rw [val_main_v61_apply]
    refine congrArg _ (funext fun a => ?_)
    match a with
    | ⟨0, _⟩ => exact Fin.ext (by simp)
    | ⟨1, _⟩ => exact Fin.ext (by simp)
    | ⟨2, _⟩ => exact Fin.ext (by simp)
    | ⟨3, _⟩ => exact Fin.ext (by simp [Nat.add_comm])
  have c1 : ∀ k : Fin 32, val_main_v62 (F := Ideal) (ix4 b u h k) = cs u k := by
    intro k
    rw [val_main_v62_apply, val_main_v14_apply]
    exact congrArg _ (funext fun a => match a with | ⟨0, _⟩ => rfl | ⟨1, _⟩ => rfl)
  have s1 : ∀ k : Fin 32, val_main_v64 (F := Ideal) (ix4 b u h k) = sn u k := by
    intro k
    rw [val_main_v64_apply, val_main_v16_apply]
    exact congrArg _ (funext fun a => match a with | ⟨0, _⟩ => rfl | ⟨1, _⟩ => rfl)
  have c2 : ∀ k : Fin 32, val_main_v67 (F := Ideal) (ix4 b u h k) = cs u k := by
    intro k
    rw [val_main_v67_apply, val_main_v14_apply]
    exact congrArg _ (funext fun a => match a with | ⟨0, _⟩ => rfl | ⟨1, _⟩ => rfl)
  have s2 : ∀ k : Fin 32, val_main_v69 (F := Ideal) (ix4 b u h k) = sn u k := by
    intro k
    rw [val_main_v69_apply, val_main_v16_apply]
    exact congrArg _ (funext fun a => match a with | ⟨0, _⟩ => rfl | ⟨1, _⟩ => rfl)
  have f1 : ∀ k : Fin 32, val_main_v66 (F := Ideal) z g (ix4 b u h k) = val_main_v59 (F := Ideal) z g (ix4 b u h ⟨k.val, by omega⟩) * cs u k - val_main_v59 (F := Ideal) z g (ix4 b u h ⟨k.val + 32, by omega⟩) * sn u k := by
    intro k
    rw [val_main_v66_apply, val_main_v63_apply, val_main_v65_apply, lo, hi, c1, s1]
    rfl
  have f2 : ∀ k : Fin 32, val_main_v71 (F := Ideal) z g (ix4 b u h k) = val_main_v59 (F := Ideal) z g (ix4 b u h ⟨k.val + 32, by omega⟩) * cs u k + val_main_v59 (F := Ideal) z g (ix4 b u h ⟨k.val, by omega⟩) * sn u k := by
    intro k
    rw [val_main_v71_apply, val_main_v68_apply, val_main_v70_apply, lo, hi, c2, s2]
    rfl
  unfold val_main_v72
  have ec : ∀ p q : FVec Ideal S8x2048x2x32 .f32, (concatenate S8x2048x2x64 3 [⟨S8x2048x2x32, p⟩, ⟨S8x2048x2x32, q⟩] concatenates_S8x2048x2x32_S8x2048x2x32_S8x2048x2x64_d3 : FVec Ideal S8x2048x2x64 .f32) (ix4 b u h d)
      = if hd : d.val < 32 then p (ix4 b u h ⟨d.val, hd⟩) else q (ix4 b u h ⟨d.val - 32, by omega⟩) := by
    intro p q
    pointwise []
  rw [ec]
  unfold rope
  by_cases hd : d.val < 32
  · rw [dif_pos hd, dif_pos hd, f1]
  · rw [dif_neg hd, dif_neg hd, f2]
    have i : (⟨d.val - 32 + 32, by omega⟩ : Fin 64) = d := Fin.ext (by show d.val - 32 + 32 = d.val; omega)
    rw [i]

/-- The reference's values. -/
theorem v74_at (b : Fin 8) (u : Fin 2048) (h : Fin 2) (d : Fin 64) :
    val_main_v74 (F := Ideal) z (ix4 b u h d) = head z (row b u) (8064 + 64 * h.val) (by omega) d := by
  have hu : u.val < 2048 := u.isLt
  have hd : d.val < 64 := d.isLt
  have hh : h.val < 2 := h.isLt
  have hb : b.val < 8 := b.isLt
  rw [val_main_v74_apply, val_main_v73_apply]
  refine congrArg z (funext fun a => ?_)
  match a with
  | ⟨0, _⟩ => exact Fin.ext (by show _ = b.val * 2048 + u.val; simp only []; dsimp; omega)
  | ⟨1, _⟩ => exact Fin.ext (by show _ = (8064 + 64 * h.val) + d.val; dsimp; omega)

/-- The reference's search queries. -/
theorem v76_at (b : Fin 8) (u : Fin 2048) (h : Fin 4) (d : Fin 64) :
    val_main_v76 (F := Ideal) z (ix4 b u h d) = head z (row b u) (7680 + 64 * h.val) (by omega) d := by
  have hu : u.val < 2048 := u.isLt
  have hd : d.val < 64 := d.isLt
  have hh : h.val < 4 := h.isLt
  have hb : b.val < 8 := b.isLt
  rw [val_main_v76_apply, val_main_v75_apply]
  refine congrArg z (funext fun a => ?_)
  match a with
  | ⟨0, _⟩ => exact Fin.ext (by show _ = b.val * 2048 + u.val; simp only []; dsimp; omega)
  | ⟨1, _⟩ => exact Fin.ext (by show _ = (7680 + 64 * h.val) + d.val; dsimp; omega)

/-- The reference's rotated search queries. -/
theorem v89_at (b : Fin 8) (u : Fin 2048) (h : Fin 4) (d : Fin 64) :
    val_main_v89 (F := Ideal) z (ix4 b u h d) = rope (fun d => val_main_v76 (F := Ideal) z (ix4 b u h d)) (cs u) (sn u) d := by
  have lo : ∀ k : Fin 32, val_main_v77 (F := Ideal) z (ix4 b u h k) = val_main_v76 (F := Ideal) z (ix4 b u h ⟨k.val, by omega⟩) := by
    intro k
    rw [val_main_v77_apply]
    refine congrArg _ (funext fun a => ?_)
    match a with
    | ⟨0, _⟩ => exact Fin.ext (by simp)
    | ⟨1, _⟩ => exact Fin.ext (by simp)
    | ⟨2, _⟩ => exact Fin.ext (by simp)
    | ⟨3, _⟩ => exact Fin.ext (by simp)
  have hi : ∀ k : Fin 32, val_main_v78 (F := Ideal) z (ix4 b u h k) = val_main_v76 (F := Ideal) z (ix4 b u h ⟨k.val + 32, by omega⟩) := by
    intro k
    rw [val_main_v78_apply]
    refine congrArg _ (funext fun a => ?_)
    match a with
    | ⟨0, _⟩ => exact Fin.ext (by simp)
    | ⟨1, _⟩ => exact Fin.ext (by simp)
    | ⟨2, _⟩ => exact Fin.ext (by simp)
    | ⟨3, _⟩ => exact Fin.ext (by simp [Nat.add_comm])
  have c1 : ∀ k : Fin 32, val_main_v79 (F := Ideal) (ix4 b u h k) = cs u k := by
    intro k
    rw [val_main_v79_apply, val_main_v14_apply]
    exact congrArg _ (funext fun a => match a with | ⟨0, _⟩ => rfl | ⟨1, _⟩ => rfl)
  have s1 : ∀ k : Fin 32, val_main_v81 (F := Ideal) (ix4 b u h k) = sn u k := by
    intro k
    rw [val_main_v81_apply, val_main_v16_apply]
    exact congrArg _ (funext fun a => match a with | ⟨0, _⟩ => rfl | ⟨1, _⟩ => rfl)
  have c2 : ∀ k : Fin 32, val_main_v84 (F := Ideal) (ix4 b u h k) = cs u k := by
    intro k
    rw [val_main_v84_apply, val_main_v14_apply]
    exact congrArg _ (funext fun a => match a with | ⟨0, _⟩ => rfl | ⟨1, _⟩ => rfl)
  have s2 : ∀ k : Fin 32, val_main_v86 (F := Ideal) (ix4 b u h k) = sn u k := by
    intro k
    rw [val_main_v86_apply, val_main_v16_apply]
    exact congrArg _ (funext fun a => match a with | ⟨0, _⟩ => rfl | ⟨1, _⟩ => rfl)
  have f1 : ∀ k : Fin 32, val_main_v83 (F := Ideal) z (ix4 b u h k) = val_main_v76 (F := Ideal) z (ix4 b u h ⟨k.val, by omega⟩) * cs u k - val_main_v76 (F := Ideal) z (ix4 b u h ⟨k.val + 32, by omega⟩) * sn u k := by
    intro k
    rw [val_main_v83_apply, val_main_v80_apply, val_main_v82_apply, lo, hi, c1, s1]
    rfl
  have f2 : ∀ k : Fin 32, val_main_v88 (F := Ideal) z (ix4 b u h k) = val_main_v76 (F := Ideal) z (ix4 b u h ⟨k.val + 32, by omega⟩) * cs u k + val_main_v76 (F := Ideal) z (ix4 b u h ⟨k.val, by omega⟩) * sn u k := by
    intro k
    rw [val_main_v88_apply, val_main_v85_apply, val_main_v87_apply, lo, hi, c2, s2]
    rfl
  unfold val_main_v89
  have ec : ∀ p q : FVec Ideal S8x2048x4x32 .f32, (concatenate S8x2048x4x64 3 [⟨S8x2048x4x32, p⟩, ⟨S8x2048x4x32, q⟩] concatenates_S8x2048x4x32_S8x2048x4x32_S8x2048x4x64_d3 : FVec Ideal S8x2048x4x64 .f32) (ix4 b u h d)
      = if hd : d.val < 32 then p (ix4 b u h ⟨d.val, hd⟩) else q (ix4 b u h ⟨d.val - 32, by omega⟩) := by
    intro p q
    pointwise []
  rw [ec]
  unfold rope
  by_cases hd : d.val < 32
  · rw [dif_pos hd, dif_pos hd, f1]
  · rw [dif_neg hd, dif_neg hd, f2]
    have i : (⟨d.val - 32 + 32, by omega⟩ : Fin 64) = d := Fin.ext (by show d.val - 32 + 32 = d.val; omega)
    rw [i]

/-- The reference's search keys. -/
theorem v91_at (b : Fin 8) (u : Fin 2048) (h : Fin 1) (d : Fin 64) :
    val_main_v91 (F := Ideal) z (ix4 b u h d) = head z (row b u) 8192 (by omega) d := by
  have hu : u.val < 2048 := u.isLt
  have hd : d.val < 64 := d.isLt
  have hh : h.val < 1 := h.isLt
  have hb : b.val < 8 := b.isLt
  rw [val_main_v91_apply, val_main_v90_apply]
  refine congrArg z (funext fun a => ?_)
  match a with
  | ⟨0, _⟩ => exact Fin.ext (by show _ = b.val * 2048 + u.val; simp only []; dsimp; omega)
  | ⟨1, _⟩ => exact Fin.ext (by show _ = 8192 + d.val; dsimp; omega)

/-- The reference's normed search keys. -/
theorem v101_at (b : Fin 8) (u : Fin 2048) (h : Fin 1) (d : Fin 64) :
    val_main_v101 (F := Ideal) z (ix4 b u h d) = nrm (head z (row b u) 8192 (by omega)) d := by
  have e : ∀ k : Fin 64, idx_main_v93 (idx_main_v94 (idx_main_v100 (ix4 b u h d))) k = ix4 b u h k := fun k =>
    funext fun a => match a with | ⟨0, _⟩ => rfl | ⟨1, _⟩ => rfl | ⟨2, _⟩ => Subsingleton.elim (α := Fin 1) _ _ | ⟨3, _⟩ => rfl
  simp only [val_main_v101_apply, val_main_v100_apply, val_main_v99_apply, val_main_v98_apply, val_main_v97_apply, val_main_v96_apply, val_main_v95_apply, val_main_v94_apply, val_main_v93_apply, val_main_v92_apply, val_main_cst_7_apply, val_main_cst_8_apply, val_main_cst_9_apply, e, v91_at]
  show _ * Ideal.rsqrt (Ideal.div (Ideal.ofBits .f32 0x00000000#32 + _) _ + _) = _
  rw [Ideal.ofBits_zero_f32, zero_add]
  rfl

/-- The reference's rotated search keys. -/
theorem v114_at (b : Fin 8) (u : Fin 2048) (h : Fin 1) (d : Fin 64) :
    val_main_v114 (F := Ideal) z (ix4 b u h d) = rope (fun d => val_main_v101 (F := Ideal) z (ix4 b u h d)) (cs u) (sn u) d := by
  have lo : ∀ k : Fin 32, val_main_v102 (F := Ideal) z (ix4 b u h k) = val_main_v101 (F := Ideal) z (ix4 b u h ⟨k.val, by omega⟩) := by
    intro k
    rw [val_main_v102_apply]
    refine congrArg _ (funext fun a => ?_)
    match a with
    | ⟨0, _⟩ => exact Fin.ext (by simp)
    | ⟨1, _⟩ => exact Fin.ext (by simp)
    | ⟨2, _⟩ => exact Fin.ext (by simp)
    | ⟨3, _⟩ => exact Fin.ext (by simp)
  have hi : ∀ k : Fin 32, val_main_v103 (F := Ideal) z (ix4 b u h k) = val_main_v101 (F := Ideal) z (ix4 b u h ⟨k.val + 32, by omega⟩) := by
    intro k
    rw [val_main_v103_apply]
    refine congrArg _ (funext fun a => ?_)
    match a with
    | ⟨0, _⟩ => exact Fin.ext (by simp)
    | ⟨1, _⟩ => exact Fin.ext (by simp)
    | ⟨2, _⟩ => exact Fin.ext (by simp)
    | ⟨3, _⟩ => exact Fin.ext (by simp [Nat.add_comm])
  have c1 : ∀ k : Fin 32, val_main_v104 (F := Ideal) (ix4 b u h k) = cs u k := by
    intro k
    rw [val_main_v104_apply, val_main_v14_apply]
    exact congrArg _ (funext fun a => match a with | ⟨0, _⟩ => rfl | ⟨1, _⟩ => rfl)
  have s1 : ∀ k : Fin 32, val_main_v106 (F := Ideal) (ix4 b u h k) = sn u k := by
    intro k
    rw [val_main_v106_apply, val_main_v16_apply]
    exact congrArg _ (funext fun a => match a with | ⟨0, _⟩ => rfl | ⟨1, _⟩ => rfl)
  have c2 : ∀ k : Fin 32, val_main_v109 (F := Ideal) (ix4 b u h k) = cs u k := by
    intro k
    rw [val_main_v109_apply, val_main_v14_apply]
    exact congrArg _ (funext fun a => match a with | ⟨0, _⟩ => rfl | ⟨1, _⟩ => rfl)
  have s2 : ∀ k : Fin 32, val_main_v111 (F := Ideal) (ix4 b u h k) = sn u k := by
    intro k
    rw [val_main_v111_apply, val_main_v16_apply]
    exact congrArg _ (funext fun a => match a with | ⟨0, _⟩ => rfl | ⟨1, _⟩ => rfl)
  have f1 : ∀ k : Fin 32, val_main_v108 (F := Ideal) z (ix4 b u h k) = val_main_v101 (F := Ideal) z (ix4 b u h ⟨k.val, by omega⟩) * cs u k - val_main_v101 (F := Ideal) z (ix4 b u h ⟨k.val + 32, by omega⟩) * sn u k := by
    intro k
    rw [val_main_v108_apply, val_main_v105_apply, val_main_v107_apply, lo, hi, c1, s1]
    rfl
  have f2 : ∀ k : Fin 32, val_main_v113 (F := Ideal) z (ix4 b u h k) = val_main_v101 (F := Ideal) z (ix4 b u h ⟨k.val + 32, by omega⟩) * cs u k + val_main_v101 (F := Ideal) z (ix4 b u h ⟨k.val, by omega⟩) * sn u k := by
    intro k
    rw [val_main_v113_apply, val_main_v110_apply, val_main_v112_apply, lo, hi, c2, s2]
    rfl
  unfold val_main_v114
  have ec : ∀ p q : FVec Ideal S8x2048x1x32 .f32, (concatenate S8x2048x1x64 3 [⟨S8x2048x1x32, p⟩, ⟨S8x2048x1x32, q⟩] concatenates_S8x2048x1x32_S8x2048x1x32_S8x2048x1x64_d3 : FVec Ideal S8x2048x1x64 .f32) (ix4 b u h d)
      = if hd : d.val < 32 then p (ix4 b u h ⟨d.val, hd⟩) else q (ix4 b u h ⟨d.val - 32, by omega⟩) := by
    intro p q
    pointwise []
    rw [show h = 0 from Subsingleton.elim _ _]
  rw [ec]
  unfold rope
  by_cases hd : d.val < 32
  · rw [dif_pos hd, dif_pos hd, f1]
  · rw [dif_neg hd, dif_neg hd, f2]
    have i : (⟨d.val - 32 + 32, by omega⟩ : Fin 64) = d := Fin.ext (by show d.val - 32 + 32 = d.val; omega)
    rw [i]

/-- The position of a sequence's row. -/
theorem pos_row (b : Fin 8) (u : Fin 2048) : pos (row b u) = u :=
  Fin.ext (by show (b.val * 2048 + u.val) % 2048 = u.val; omega)

/-- Every row is a position of a sequence. -/
theorem row_surj (p : Fin 16384) : ∃ (b : Fin 8) (u : Fin 2048), p = row b u :=
  ⟨⟨p.val / 2048, by omega⟩, ⟨p.val % 2048, by omega⟩, Fin.ext (by show p.val = p.val / 2048 * 2048 + p.val % 2048; omega)⟩

/-- The element the kernel's result is compared with. -/
theorem v44_E (b : Fin 8) (u : Fin 2048) (n : Fin 512) :
    val_main_v44 (F := Ideal) z g (ix4 b u ⟨n.val / 64, by omega⟩ ⟨n.val % 64, by omega⟩) = qE z g (row b u) n := by
  rw [v44_at]
  unfold qE
  simp only [v31_at, pos_row]

/-- The element the kernel's result is compared with. -/
theorem v72_E (b : Fin 8) (u : Fin 2048) (n : Fin 128) :
    val_main_v72 (F := Ideal) z g (ix4 b u ⟨n.val / 64, by omega⟩ ⟨n.val % 64, by omega⟩) = kE z g (row b u) n := by
  rw [v72_at]
  unfold kE
  simp only [v59_at, pos_row]

/-- The element the kernel's result is compared with. -/
theorem v89_E (b : Fin 8) (u : Fin 2048) (n : Fin 256) :
    val_main_v89 (F := Ideal) z (ix4 b u ⟨n.val / 64, by omega⟩ ⟨n.val % 64, by omega⟩) = qiE z (row b u) n := by
  rw [v89_at]
  unfold qiE
  simp only [v76_at, pos_row]

/-- The element the kernel's result is compared with. -/
theorem v114_E (b : Fin 8) (u : Fin 2048) (n : Fin 64) :
    val_main_v114 (F := Ideal) z (ix4 b u ⟨n.val / 64, by omega⟩ ⟨n.val % 64, by omega⟩) = kiE z (row b u) n := by
  rw [v114_at]
  unfold kiE
  simp only [v101_at, pos_row]
  rw [show (⟨n.val % 64, by omega⟩ : Fin 64) = n from Fin.ext (by show n.val % 64 = n.val; omega)]

/-- The reference's values at an index. -/
theorem v74_E (b : Fin 8) (u : Fin 2048) (n : Fin 128) :
    val_main_v74 (F := Ideal) z (ix4 b u ⟨n.val / 64, by omega⟩ ⟨n.val % 64, by omega⟩) = vE z (row b u) n := by
  rw [v74_at]
  exact congrArg (fun q => z (ix2 (row b u) q)) (Fin.ext (by show 8064 + 64 * (n.val / 64) + n.val % 64 = 8064 + n.val; omega))

/-- Result 0 of the reference. -/
theorem ref0 : val_main_v116 (F := Ideal) z g = fun i => qE z g (i 0) (i 1) := by
  funext i
  obtain ⟨p, n, rfl⟩ : ∃ (p : Fin 16384) (n : Fin 512), i = ix2 p n :=
    ⟨i 0, i 1, funext fun a => match a with | ⟨0, _⟩ => rfl | ⟨1, _⟩ => rfl⟩
  obtain ⟨b, u, rfl⟩ := row_surj p
  have e : idx_main_v116 (ix2 (row b u) n) = ix4 b u ⟨n.val / 64, by omega⟩ ⟨n.val % 64, by omega⟩ := by
    funext a
    have hu : u.val < 2048 := u.isLt
    have hn : n.val < 512 := n.isLt
    have hb : b.val < 8 := b.isLt
    match a with
    | ⟨0, _⟩ => exact Fin.ext (by show ((b.val * 2048 + u.val) * 512 + n.val) / 1048576 = b.val; omega)
    | ⟨1, _⟩ => exact Fin.ext (by show ((b.val * 2048 + u.val) * 512 + n.val) / 512 % 2048 = u.val; omega)
    | ⟨2, _⟩ => exact Fin.ext (by show ((b.val * 2048 + u.val) * 512 + n.val) / 64 % 8 = n.val / 64; omega)
    | ⟨3, _⟩ => exact Fin.ext (by show ((b.val * 2048 + u.val) * 512 + n.val) % 64 = n.val % 64; omega)
  rw [val_main_v116_apply, e]
  exact v44_E z g b u n

/-- Result 2 of the reference. -/
theorem ref2 : val_main_v119 (F := Ideal) z = fun i => qiE z (i 0) (i 1) := by
  funext i
  obtain ⟨p, n, rfl⟩ : ∃ (p : Fin 16384) (n : Fin 256), i = ix2 p n :=
    ⟨i 0, i 1, funext fun a => match a with | ⟨0, _⟩ => rfl | ⟨1, _⟩ => rfl⟩
  obtain ⟨b, u, rfl⟩ := row_surj p
  have e : idx_main_v119 (ix2 (row b u) n) = ix4 b u ⟨n.val / 64, by omega⟩ ⟨n.val % 64, by omega⟩ := by
    funext a
    have hu : u.val < 2048 := u.isLt
    have hn : n.val < 256 := n.isLt
    have hb : b.val < 8 := b.isLt
    match a with
    | ⟨0, _⟩ => exact Fin.ext (by show ((b.val * 2048 + u.val) * 256 + n.val) / 524288 = b.val; omega)
    | ⟨1, _⟩ => exact Fin.ext (by show ((b.val * 2048 + u.val) * 256 + n.val) / 256 % 2048 = u.val; omega)
    | ⟨2, _⟩ => exact Fin.ext (by show ((b.val * 2048 + u.val) * 256 + n.val) / 64 % 4 = n.val / 64; omega)
    | ⟨3, _⟩ => exact Fin.ext (by show ((b.val * 2048 + u.val) * 256 + n.val) % 64 = n.val % 64; omega)
  rw [val_main_v119_apply, e]
  exact v89_E z b u n

/-- Result 5 of the reference. -/
theorem ref5 : val_main_v124 (F := Ideal) z g = fun i => kE z g (i 0) (i 1) := by
  funext i
  obtain ⟨p, n, rfl⟩ : ∃ (p : Fin 16384) (n : Fin 128), i = ix2 p n :=
    ⟨i 0, i 1, funext fun a => match a with | ⟨0, _⟩ => rfl | ⟨1, _⟩ => rfl⟩
  obtain ⟨b, u, rfl⟩ := row_surj p
  have e : idx_main_v123 (ix2 (row b u) n) = ix4 b u ⟨n.val / 64, by omega⟩ ⟨n.val % 64, by omega⟩ := by
    funext a
    have hu : u.val < 2048 := u.isLt
    have hn : n.val < 128 := n.isLt
    have hb : b.val < 8 := b.isLt
    match a with
    | ⟨0, _⟩ => exact Fin.ext (by show ((b.val * 2048 + u.val) * 128 + n.val) / 262144 = b.val; omega)
    | ⟨1, _⟩ => exact Fin.ext (by show ((b.val * 2048 + u.val) * 128 + n.val) / 128 % 2048 = u.val; omega)
    | ⟨2, _⟩ => exact Fin.ext (by show ((b.val * 2048 + u.val) * 128 + n.val) / 64 % 2 = n.val / 64; omega)
    | ⟨3, _⟩ => exact Fin.ext (by show ((b.val * 2048 + u.val) * 128 + n.val) % 64 = n.val % 64; omega)
  rw [val_main_v124_apply, val_main_v123_apply, e]
  exact v72_E z g b u n

/-- Result 6 of the reference. -/
theorem ref6 : val_main_v126 (F := Ideal) z = fun i => vE z (i 0) (i 1) := by
  funext i
  obtain ⟨p, n, rfl⟩ : ∃ (p : Fin 16384) (n : Fin 128), i = ix2 p n :=
    ⟨i 0, i 1, funext fun a => match a with | ⟨0, _⟩ => rfl | ⟨1, _⟩ => rfl⟩
  obtain ⟨b, u, rfl⟩ := row_surj p
  have e : idx_main_v125 (ix2 (row b u) n) = ix4 b u ⟨n.val / 64, by omega⟩ ⟨n.val % 64, by omega⟩ := by
    funext a
    have hu : u.val < 2048 := u.isLt
    have hn : n.val < 128 := n.isLt
    have hb : b.val < 8 := b.isLt
    match a with
    | ⟨0, _⟩ => exact Fin.ext (by show ((b.val * 2048 + u.val) * 128 + n.val) / 262144 = b.val; omega)
    | ⟨1, _⟩ => exact Fin.ext (by show ((b.val * 2048 + u.val) * 128 + n.val) / 128 % 2048 = u.val; omega)
    | ⟨2, _⟩ => exact Fin.ext (by show ((b.val * 2048 + u.val) * 128 + n.val) / 64 % 2 = n.val / 64; omega)
    | ⟨3, _⟩ => exact Fin.ext (by show ((b.val * 2048 + u.val) * 128 + n.val) % 64 = n.val % 64; omega)
  rw [val_main_v126_apply, val_main_v125_apply, e]
  exact v74_E z b u n

/-- Result 1 of the reference. -/
theorem ref1 : val_main_v118 (F := Ideal) z g = fun i => kE z g (row (i 0) (i 2)) (i 1) := by
  funext i
  obtain ⟨b, n, u, rfl⟩ : ∃ (b : Fin 8) (n : Fin 128) (u : Fin 2048), i = ix3 b n u :=
    ⟨i 0, i 1, i 2, funext fun a => match a with | ⟨0, _⟩ => rfl | ⟨1, _⟩ => rfl | ⟨2, _⟩ => rfl⟩
  have e : idx_main_v117 (idx_main_v118 (ix3 b n u)) = ix4 b u ⟨n.val / 64, by omega⟩ ⟨n.val % 64, by omega⟩ := by
    funext a
    have hu : u.val < 2048 := u.isLt
    have hn : n.val < 128 := n.isLt
    have hb : b.val < 8 := b.isLt
    match a with
    | ⟨0, _⟩ => exact Fin.ext (by show ((b.val * 2048 + u.val) * 128 + n.val) / 262144 = b.val; omega)
    | ⟨1, _⟩ => exact Fin.ext (by show ((b.val * 2048 + u.val) * 128 + n.val) / 128 % 2048 = u.val; omega)
    | ⟨2, _⟩ => exact Fin.ext (by show ((b.val * 2048 + u.val) * 128 + n.val) / 64 % 2 = n.val / 64; omega)
    | ⟨3, _⟩ => exact Fin.ext (by show ((b.val * 2048 + u.val) * 128 + n.val) % 64 = n.val % 64; omega)
  rw [val_main_v118_apply, val_main_v117_apply, e]
  exact v72_E z g b u n

/-- Result 3 of the reference. -/
theorem ref3 : val_main_v120 (F := Ideal) z = fun i => kiE z (row (i 0) (i 2)) (i 1) := by
  funext i
  obtain ⟨b, n, u, rfl⟩ : ∃ (b : Fin 8) (n : Fin 64) (u : Fin 2048), i = ix3 b n u :=
    ⟨i 0, i 1, i 2, funext fun a => match a with | ⟨0, _⟩ => rfl | ⟨1, _⟩ => rfl | ⟨2, _⟩ => rfl⟩
  have e : idx_main_v115 (idx_main_v120 (ix3 b n u)) = ix4 b u ⟨n.val / 64, by omega⟩ ⟨n.val % 64, by omega⟩ := by
    funext a
    have hu : u.val < 2048 := u.isLt
    have hn : n.val < 64 := n.isLt
    have hb : b.val < 8 := b.isLt
    match a with
    | ⟨0, _⟩ => exact Fin.ext (by show ((b.val * 2048 + u.val) * 64 + n.val) / 131072 = b.val; omega)
    | ⟨1, _⟩ => exact Fin.ext (by show ((b.val * 2048 + u.val) * 64 + n.val) / 64 % 2048 = u.val; omega)
    | ⟨2, _⟩ => exact Subsingleton.elim (α := Fin 1) _ _
    | ⟨3, _⟩ => exact Fin.ext (by show ((b.val * 2048 + u.val) * 64 + n.val) % 64 = n.val % 64; omega)
  rw [val_main_v120_apply, val_main_v115_apply, e]
  exact v114_E z b u n

/-- Result 4 of the reference. -/
theorem ref4 : val_main_v122 (F := Ideal) z = fun i => vE z (row (i 0) (i 2)) (i 1) := by
  funext i
  obtain ⟨b, n, u, rfl⟩ : ∃ (b : Fin 8) (n : Fin 128) (u : Fin 2048), i = ix3 b n u :=
    ⟨i 0, i 1, i 2, funext fun a => match a with | ⟨0, _⟩ => rfl | ⟨1, _⟩ => rfl | ⟨2, _⟩ => rfl⟩
  have e : idx_main_v121 (idx_main_v122 (ix3 b n u)) = ix4 b u ⟨n.val / 64, by omega⟩ ⟨n.val % 64, by omega⟩ := by
    funext a
    have hu : u.val < 2048 := u.isLt
    have hn : n.val < 128 := n.isLt
    have hb : b.val < 8 := b.isLt
    match a with
    | ⟨0, _⟩ => exact Fin.ext (by show ((b.val * 2048 + u.val) * 128 + n.val) / 262144 = b.val; omega)
    | ⟨1, _⟩ => exact Fin.ext (by show ((b.val * 2048 + u.val) * 128 + n.val) / 128 % 2048 = u.val; omega)
    | ⟨2, _⟩ => exact Fin.ext (by show ((b.val * 2048 + u.val) * 128 + n.val) / 64 % 2 = n.val / 64; omega)
    | ⟨3, _⟩ => exact Fin.ext (by show ((b.val * 2048 + u.val) * 128 + n.val) % 64 = n.val % 64; omega)
  rw [val_main_v122_apply, val_main_v121_apply, e]
  exact v74_E z b u n

/-- Result 7 of the reference. -/
theorem ref7 : val_main_v128 (F := Ideal) z = fun i => kiE z (i 0) (i 1) := by
  funext i
  obtain ⟨p, n, rfl⟩ : ∃ (p : Fin 16384) (n : Fin 64), i = ix2 p n :=
    ⟨i 0, i 1, funext fun a => match a with | ⟨0, _⟩ => rfl | ⟨1, _⟩ => rfl⟩
  obtain ⟨b, u, rfl⟩ := row_surj p
  have e1 : idx_main_v127 (ix2 (row b u) n) = ix3 b u n := by
    funext a
    have hu : u.val < 2048 := u.isLt
    have hn : n.val < 64 := n.isLt
    have hb : b.val < 8 := b.isLt
    match a with
    | ⟨0, _⟩ => exact Fin.ext (by show ((b.val * 2048 + u.val) * 64 + n.val) / 131072 = b.val; omega)
    | ⟨1, _⟩ => exact Fin.ext (by show ((b.val * 2048 + u.val) * 64 + n.val) / 64 % 2048 = u.val; omega)
    | ⟨2, _⟩ => exact Fin.ext (by show ((b.val * 2048 + u.val) * 64 + n.val) % 64 = n.val; omega)
  have e : idx_main_v115 (ix3 b u n) = ix4 b u ⟨n.val / 64, by omega⟩ ⟨n.val % 64, by omega⟩ := by
    funext a
    have hu : u.val < 2048 := u.isLt
    have hn : n.val < 64 := n.isLt
    have hb : b.val < 8 := b.isLt
    match a with
    | ⟨0, _⟩ => exact Fin.ext (by show ((b.val * 2048 + u.val) * 64 + n.val) / 131072 = b.val; omega)
    | ⟨1, _⟩ => exact Fin.ext (by show ((b.val * 2048 + u.val) * 64 + n.val) / 64 % 2048 = u.val; omega)
    | ⟨2, _⟩ => exact Subsingleton.elim (α := Fin 1) _ _
    | ⟨3, _⟩ => exact Fin.ext (by show ((b.val * 2048 + u.val) * 64 + n.val) % 64 = n.val % 64; omega)
  rw [val_main_v128_apply, val_main_v127_apply, e1, val_main_v115_apply, e]
  exact v114_E z b u n

end Cert.Proof.Qk
-- ==== Proof.Qkrope.lean ====
module
public import proofs.«01_k».proof.Proof.QkFinal
public import proofs.«01_k».proof.Proof.QkRef
public import proofs.«01_k».proof.Proof.Gen.Pre_qk_is_finite
public import Idealize.ShloMosaic.Lib.ReduceAll

@[expose] public section

set_option maxRecDepth 65536

noncomputable section

namespace Cert.Proof.Qk

open Idealize.ShloMosaic Idealize.ShloMosaic.TcCoe Idealize.SL.Sem
open Cert.QkropeIdeal Cert.QkropeIdeal.Gen

/-- The bits of infinity. -/
theorem bits_inf : Ideal.ofBits .f32 0x7F800000#32 = (⊤ : EReal) := by
  simp [Ideal.ofBits, Ideal.ieee]

/-- A number whose size is below infinity is real. -/
theorem real_of_abs (x : EReal) (h : Ideal.cmp .olt (max x (-x)) (Ideal.ofBits .f32 0x7F800000#32) = 1#1) : ∃ y : ℝ, x = (y : EReal) := by
  have q := (Ideal.cmp_olt_eq_one _ _).mp h
  rw [bits_inf] at q
  obtain ⟨q1, q2⟩ := max_lt_iff.mp q
  have ht : x ≠ ⊤ := ne_of_lt q1
  have hb : x ≠ ⊥ := by
    rintro rfl
    simp at q2
  exact ⟨x.toReal, (EReal.coe_toReal ht hb).symm⟩

/-- The precondition says that the columns a norm reads are real. -/
theorem real_of_pre [hp : Cert.Pre_qk_is_finite.Facts] (a0 : FVec Ideal S16384x8448 .f32) (a1 a2 : FVec Ideal S64 .f32)
    (h : Cert.Pre_qk_is_finite.fn (F := Ideal) a0 a1 a2 = fun _ => 1#1) : Real3 a0 := by
  haveI : Subsingleton Cert.Pre_qk_is_finite.S_.Idx := ⟨fun a b => funext fun i => i.elim0⟩
  have h0 := congrFun h (fun i => i.elim0)
  obtain ⟨h01, h2⟩ := IntOp.andi_eq_one.mp h0
  obtain ⟨h0, h1⟩ := IntOp.andi_eq_one.mp h01
  refine ⟨fun p k => ?_, fun p k => ?_, fun p k => ?_⟩
  · have q := Host.reduce_andi_all _ _ _ _ (fun i => i.elim0) h0 (ix2 p k)
    have e : (extractStridedSlice Cert.Pre_qk_is_finite.S16384x512 ![0, 4608] a0 Cert.Pre_qk_is_finite.Facts.slices_S16384x8448_S16384x512_0_4608) (ix2 p k) = a0 (ix2 p ⟨4608 + k.val, by omega⟩) := by pointwise []
    exact e ▸ real_of_abs _ q
  · have q := Host.reduce_andi_all _ _ _ _ (fun i => i.elim0) h1 (ix2 p k)
    have e : (extractStridedSlice Cert.Pre_qk_is_finite.S16384x128 ![0, 7936] a0 Cert.Pre_qk_is_finite.Facts.slices_S16384x8448_S16384x128_0_7936) (ix2 p k) = a0 (ix2 p ⟨7936 + k.val, by omega⟩) := by pointwise []
    exact e ▸ real_of_abs _ q
  · have q := Host.reduce_andi_all _ _ _ _ (fun i => i.elim0) h2 (ix2 p k)
    have e : (extractStridedSlice Cert.Pre_qk_is_finite.S16384x64 ![0, 8192] a0 Cert.Pre_qk_is_finite.Facts.slices_S16384x8448_S16384x64_0_8192) (ix2 p k) = a0 (ix2 p ⟨8192 + k.val, by omega⟩) := by pointwise []
    exact e ▸ real_of_abs _ q

/-- Both programs run, and their eight results are equal. -/
theorem algebraic : Cert.algebraic_QkropeIdeal_QkropeReferenceIdeal_pre_qk_is_finite (hQkropeIdeal := Cert.QkropeIdeal.Gen.facts)
    (hQkropeReferenceIdeal := Cert.QkropeReferenceIdeal.Gen.facts) (hPre_qk_is_finite := Cert.Pre_qk_is_finite.Gen.facts) := by
  intro m g m' g' hpre hargs
  have hf : ∀ c : Dev nD, Real3 (zA m c) := fun c => real_of_pre (hp := Cert.Pre_qk_is_finite.Gen.facts) _ _ _ (hpre c)
  refine ⟨fun c => o0 (zA m c) (qgA m c), fun c => o1 (zA m c) (kgA m c), fun c => o2 (zA m c), fun c => o3 (zA m c), fun c => o4 (zA m c),
    fun c => o5 (zA m c) (kgA m c), fun c => o6 (zA m c), fun c => o7 (zA m c), ?_, ?_⟩
  · refine (θ_run _ _ _).mono (fun r h c => ?_) (Value.run_blocks (F := Ideal) m g)
    obtain ⟨h0, h1, h2, h3, h4, h5, h6, h7, h8⟩ := h c
    exact ⟨h0.trans (final9 m c (hf c)), h1.trans (final10 m c (hf c)), h2.trans (final11 m c), h3.trans (final12 m c (hf c)),
      h4.trans (final13 m c), h5.trans (final14 m c (hf c)), h6.trans (final15 m c), h7.trans (final16 m c (hf c)), h8⟩
  · refine (θ_run _ _ _).mono (fun r h c => ?_) (Cert.QkropeReferenceIdeal.Value.run (F := Ideal) m' g')
    obtain ⟨h0, h1, h2, h3, h4, h5, h6, h7, h8⟩ := h c
    obtain ⟨e0, e1, e2⟩ := hargs c
    refine ⟨h0.trans ?_, h1.trans ?_, h2.trans ?_, h3.trans ?_, h4.trans ?_, h5.trans ?_, h6.trans ?_, h7.trans ?_, h8⟩
    · rw [Cert.QkropeReferenceIdeal.Read.val_main_v116_eq, ref0, e0, e1]; rfl
    · rw [Cert.QkropeReferenceIdeal.Read.val_main_v118_eq, ref1, e0, e2]; rfl
    · refine (Cert.QkropeReferenceIdeal.Read.val_main_v119_eq _).trans ?_
      rw [ref2, e0]; rfl
    · rw [Cert.QkropeReferenceIdeal.Read.val_main_v120_eq, ref3, e0]; rfl
    · refine (Cert.QkropeReferenceIdeal.Read.val_main_v122_eq _).trans ?_
      rw [ref4, e0]; rfl
    · rw [Cert.QkropeReferenceIdeal.Read.val_main_v124_eq, ref5, e0, e2]; rfl
    · refine (Cert.QkropeReferenceIdeal.Read.val_main_v126_eq _).trans ?_
      rw [ref6, e0]; rfl
    · rw [Cert.QkropeReferenceIdeal.Read.val_main_v128_eq, ref7, e0]; rfl

end Cert.Proof.Qk
-- ==== Proof.CvElem.lean ====
module
public import proofs.«01_k».proof.Proof.Gen.ConvIdeal.Skeleton
public import Idealize.ShloMosaic.Lib.Pointwise

@[expose] public section

set_option maxRecDepth 65536

noncomputable section

/-! # The convolution's body, element by element -/

namespace Cert.Proof.Cv

open Idealize.ShloMosaic Idealize.ShloMosaic.TcCoe
open Cert.ConvIdeal Cert.ConvIdeal.Gen

/-- Payload 12 of the body, at an element. -/
theorem pay12_apply (v50 : FVec Ideal S512x512 .f32) (v51 : Vec Ideal S1x512x512 .f32) (v53 : Vec Ideal S1x512 .f32) (v58 : Vec Ideal S1x512x512 .f32) (v60 : Vec Ideal S1x512 .f32) (v65 : Vec Ideal S1x512x512 .f32) (v67 : Vec Ideal S1x512 .f32) (v72 : Vec Ideal S1x512x512 .f32) (v74 : Vec Ideal S1x512 .f32) (v79 : Vec Ideal S1x512x512 .f32) (v81 : Vec Ideal S1x512 .f32) (r n : Fin 512) :
    k0_pay12 v50 v51 v53 v58 v60 v65 v67 v72 v74 v79 v81 (ix2 r n) = v50 (ix2 r n) + v53 (ix2 0 n) * v51 (ix3 0 r n) + v60 (ix2 0 n) * v58 (ix3 0 r n) + v67 (ix2 0 n) * v65 (ix3 0 r n) + v74 (ix2 0 n) * v72 (ix3 0 r n) + v81 (ix2 0 n) * v79 (ix3 0 r n) := by
  unfold k0_pay12
  pointwise []

/-- Payload 13 of the body, at an element. -/
theorem pay13_apply (v85 : FVec Ideal S512x512 .f32) (v86 : Vec Ideal S1x512x512 .f32) (v88 : Vec Ideal S1x512 .f32) (v93 : Vec Ideal S512x512 .f32) (v94 : Vec Ideal S1x512 .f32) (v99 : Vec Ideal S1x512x512 .f32) (v101 : Vec Ideal S1x512 .f32) (v106 : Vec Ideal S1x512x512 .f32) (v108 : Vec Ideal S1x512 .f32) (v113 : Vec Ideal S1x512x512 .f32) (v115 : Vec Ideal S1x512 .f32) (r n : Fin 512) :
    k0_pay13 v85 v86 v88 v93 v94 v99 v101 v106 v108 v113 v115 (ix2 r n) = v85 (ix2 r n) + v88 (ix2 0 n) * v86 (ix3 0 r n) + v94 (ix2 0 n) * v93 (ix2 r n) + v101 (ix2 0 n) * v99 (ix3 0 r n) + v108 (ix2 0 n) * v106 (ix3 0 r n) + v115 (ix2 0 n) * v113 (ix3 0 r n) := by
  unfold k0_pay13
  pointwise []

/-- Payload 14 of the body, at an element. -/
theorem pay14_apply (v119 : FVec Ideal S512x512 .f32) (v120 : Vec Ideal S1x512x512 .f32) (v122 : Vec Ideal S1x512 .f32) (v127 : Vec Ideal S1x512x512 .f32) (v129 : Vec Ideal S1x512 .f32) (v134 : Vec Ideal S1x512x512 .f32) (v136 : Vec Ideal S1x512 .f32) (v141 : Vec Ideal S1x512x512 .f32) (v143 : Vec Ideal S1x512 .f32) (v148 : Vec Ideal S512x512 .f32) (v149 : Vec Ideal S1x512 .f32) (r n : Fin 512) :
    k0_pay14 v119 v120 v122 v127 v129 v134 v136 v141 v143 v148 v149 (ix2 r n) = v119 (ix2 r n) + v122 (ix2 0 n) * v120 (ix3 0 r n) + v129 (ix2 0 n) * v127 (ix3 0 r n) + v136 (ix2 0 n) * v134 (ix3 0 r n) + v143 (ix2 0 n) * v141 (ix3 0 r n) + v149 (ix2 0 n) * v148 (ix2 r n) := by
  unfold k0_pay14
  pointwise []

/-- Payload 15 of the body, at an element. -/
theorem pay15_apply (v154 : Vec Ideal S1x512x512 .f32) (r n : Fin 512) :
    k0_pay15 v154 (ix2 r n) = v154 (ix3 0 r n) := by
  unfold k0_pay15
  pointwise []

/-- Payload 16 of the body, at an element. -/
theorem pay16_apply (v153 : FVec Ideal S512x512 .f32) (v155 : FVec Ideal S512x512 .f32) (v156 : Vec Ideal S1x512 .f32) (v161 : Vec Ideal S1x512x512 .f32) (v163 : Vec Ideal S1x512 .f32) (v168 : Vec Ideal S1x512x512 .f32) (v170 : Vec Ideal S1x512 .f32) (v175 : Vec Ideal S1x512x512 .f32) (v177 : Vec Ideal S1x512 .f32) (v182 : Vec Ideal S1x512x512 .f32) (v184 : Vec Ideal S1x512 .f32) (r n : Fin 512) :
    k0_pay16 v153 v155 v156 v161 v163 v168 v170 v175 v177 v182 v184 (ix2 r n) = v153 (ix2 r n) + v156 (ix2 0 n) * v155 (ix2 r n) + v163 (ix2 0 n) * v161 (ix3 0 r n) + v170 (ix2 0 n) * v168 (ix3 0 r n) + v177 (ix2 0 n) * v175 (ix3 0 r n) + v184 (ix2 0 n) * v182 (ix3 0 r n) := by
  unfold k0_pay16
  pointwise []

/-- Payload 17 of the body, at an element. -/
theorem pay17_apply (v189 : Vec Ideal S1x512x512 .f32) (r n : Fin 512) :
    k0_pay17 v189 (ix2 r n) = v189 (ix3 0 r n) := by
  unfold k0_pay17
  pointwise []

/-- Payload 18 of the body, at an element. -/
theorem pay18_apply (v188 : FVec Ideal S512x512 .f32) (v190 : FVec Ideal S512x512 .f32) (v191 : Vec Ideal S1x512 .f32) (v196 : Vec Ideal S1x512x512 .f32) (v198 : Vec Ideal S1x512 .f32) (v203 : Vec Ideal S512x512 .f32) (v204 : Vec Ideal S1x512 .f32) (v209 : Vec Ideal S1x512x512 .f32) (v211 : Vec Ideal S1x512 .f32) (v216 : Vec Ideal S1x512x512 .f32) (v218 : Vec Ideal S1x512 .f32) (r n : Fin 512) :
    k0_pay18 v188 v190 v191 v196 v198 v203 v204 v209 v211 v216 v218 (ix2 r n) = v188 (ix2 r n) + v191 (ix2 0 n) * v190 (ix2 r n) + v198 (ix2 0 n) * v196 (ix3 0 r n) + v204 (ix2 0 n) * v203 (ix2 r n) + v211 (ix2 0 n) * v209 (ix3 0 r n) + v218 (ix2 0 n) * v216 (ix3 0 r n) := by
  unfold k0_pay18
  pointwise []

/-- Payload 19 of the body, at an element. -/
theorem pay19_apply (v223 : Vec Ideal S1x512x512 .f32) (r n : Fin 512) :
    k0_pay19 v223 (ix2 r n) = v223 (ix3 0 r n) := by
  unfold k0_pay19
  pointwise []

/-- Payload 20 of the body, at an element. -/
theorem pay20_apply (v222 : FVec Ideal S512x512 .f32) (v224 : FVec Ideal S512x512 .f32) (v225 : Vec Ideal S1x512 .f32) (v230 : Vec Ideal S1x512x512 .f32) (v232 : Vec Ideal S1x512 .f32) (v237 : Vec Ideal S1x512x512 .f32) (v239 : Vec Ideal S1x512 .f32) (v244 : Vec Ideal S1x512x512 .f32) (v246 : Vec Ideal S1x512 .f32) (v251 : Vec Ideal S1x512x512 .f32) (v253 : Vec Ideal S1x512 .f32) (r n : Fin 512) :
    k0_pay20 v222 v224 v225 v230 v232 v237 v239 v244 v246 v251 v253 (ix2 r n) = v222 (ix2 r n) + v225 (ix2 0 n) * v224 (ix2 r n) + v232 (ix2 0 n) * v230 (ix3 0 r n) + v239 (ix2 0 n) * v237 (ix3 0 r n) + v246 (ix2 0 n) * v244 (ix3 0 r n) + v253 (ix2 0 n) * v251 (ix3 0 r n) := by
  unfold k0_pay20
  pointwise []

/-- Payload 21 of the body, at an element. -/
theorem pay21_apply (v259 : Vec Ideal S1x512 .f32) (r n : Fin 512) :
    k0_pay21 v259 (ix2 r n) = v259 (ix2 0 n) := by
  unfold k0_pay21
  pointwise []

/-- The carried rows at the head of the buffer: the state at a sequence's first tile, the rows before the tile later. -/
theorem pay2_apply (i : grid0.Coords) (a b c : Vec Ideal S1x32x512 .f32) (r : Fin 32) (n : Fin 512) :
    k0_pay2 i a b c (ix2 r n) = if (i 1).val = 0 then c (ix3 0 r n) else a (ix3 0 r n) * Ideal.logistic (b (ix3 0 r n)) := by
  have h4 : (i 1).val < 4 := (i 1).isLt
  unfold k0_pay2
  by_cases h : (i 1).val = 0
  · rw [if_pos h]
    have e : Scalar.cmpi .eq (BitVec.ofNat 32 (i 1).val) 0#32 = 1#1 := by rw [h]; rfl
    rw [e]
    pointwise []
  · rw [if_neg h]
    have e : Scalar.cmpi .eq (BitVec.ofNat 32 (i 1).val) 0#32 = 0#1 := by
      have : (i 1).val = 1 ∨ (i 1).val = 2 ∨ (i 1).val = 3 := by omega
      rcases this with h | h | h <;> rw [h] <;> rfl
    rw [e]
    pointwise []

/-- The tile's own rows. -/
theorem pay3_apply (a b : Vec Ideal S1x512x512 .f32) (r n : Fin 512) :
    k0_pay3 a b (ix2 r n) = a (ix3 0 r n) * Ideal.logistic (b (ix3 0 r n)) := by
  unfold k0_pay3
  pointwise []

/-- The mean over the channels. -/
def mean (f : Fin 512 → EReal) : EReal := Ideal.div (∑ k, f k) (Ideal.ofBits .f32 0x44000000#32)

/-- The norm over the channels. -/
def lnorm (f : Fin 512 → EReal) (g b : EReal) (n : Fin 512) : EReal :=
  (f n - mean f) * Ideal.rsqrt (mean (fun k => (f k - mean f) * (f k - mean f)) + Ideal.ofBits .f32 0x358637BD#32) * g + b

/-- A swish. -/
def swish (x : EReal) : EReal := x * Ideal.logistic x

/-- The last payload: the norm of the taps' sum, its swish, and the gate's. -/
theorem pay22_apply (v257 : FVec Ideal S512x512 .f32) (v258 : Vec Ideal S512x512 .f32) (v261 : FVec Ideal S512x512 .f32) (v264 : Vec Ideal S1x512x512 .f32)
    (v266 v268 v270 : Vec Ideal S1x512 .f32) (r n : Fin 512) :
    k0_pay22 v257 v258 v261 v264 v266 v268 v270 (ix3 0 r n) =
      swish (lnorm (fun k => v257 (ix2 r k) + v261 (ix2 r k) * v258 (ix2 r k) + v266 (ix2 0 k)) (v268 (ix2 0 n)) (v270 (ix2 0 n)) n) * swish (v264 (ix3 0 r n)) := by
  unfold k0_pay22
  pointwise []
  rfl

end Cert.Proof.Cv
-- ==== Proof.CvBody.lean ====
module
public import proofs.«01_k».proof.Proof.CvElem
public import proofs.«01_k».proof.Proof.Gen.ConvIdeal.Value

@[expose] public section

set_option maxRecDepth 65536

noncomputable section

/-! # What the convolution's body stores

The body lays a tile's rows after the 32 rows before them, keeps seven copies shifted by one row each, and adds up the 31
taps, each from the copy that starts on a multiple of eight rows. -/

namespace Cert.Proof.Cv

open Idealize.ShloMosaic Idealize.ShloMosaic.TcCoe
open Cert.ConvIdeal Cert.ConvIdeal.Gen

section Terms
variable {F : FTy → Type} [FloatOps F]

/-- A tap's weights lie in the padded weights. -/
theorem inbW (j : Nat) : ∀ a, (![j % 32, 0] : Fin 2 → Nat) a + S1x512.size a ≤ S32x512.size a := by
  intro a; have := Nat.mod_lt j (show 0 < 32 by decide)
  fin_cases a <;> simp [S1x512, S32x512] <;> omega

/-- A tile's window lies in the buffer. -/
theorem inbF (k : Nat) : ∀ a, (![k % 33, 0] : Fin 2 → Nat) a + S512x512.size a ≤ S544x512.size a := by
  intro a; have := Nat.mod_lt k (show 0 < 33 by decide)
  fin_cases a <;> simp [S512x512, S544x512] <;> omega

/-- A shifted copy's rows lie in the buffer. -/
theorem inbF' (k : Nat) : ∀ a, (![k % 9, 0] : Fin 2 → Nat) a + S536x512.size a ≤ S544x512.size a := by
  intro a; have := Nat.mod_lt k (show 0 < 9 by decide)
  fin_cases a <;> simp [S536x512, S544x512] <;> omega

/-- A copy lies among the copies. -/
theorem inbG (q : Nat) : ∀ a, (![q % 7, 0, 0] : Fin 3 → Nat) a + S1x536x512.size a ≤ S7x536x512.size a := by
  intro a; have := Nat.mod_lt q (show 0 < 7 by decide)
  fin_cases a <;> simp [S1x536x512, S7x536x512] <;> omega

/-- A tile's window of a copy lies in it. -/
theorem inbG' (q k : Nat) : ∀ a, (![q % 7, k % 25, 0] : Fin 3 → Nat) a + S1x512x512.size a ≤ S7x536x512.size a := by
  intro a; have := Nat.mod_lt q (show 0 < 7 by decide); have := Nat.mod_lt k (show 0 < 25 by decide)
  fin_cases a <;> simp [S1x512x512, S7x536x512] <;> omega

/-- Tap `j`'s weights. -/
abbrev rectW (j : Nat) : Rect S32x512 := Rect.unit ![j % 32, 0] S1x512.size (inbW j)
/-- A tile of rows of the buffer, from row `k`. -/
abbrev rectF (k : Nat) : Rect S544x512 := Rect.unit ![k % 33, 0] S512x512.size (inbF k)
/-- The rows a copy holds, from row `k`. -/
abbrev rectF' (k : Nat) : Rect S544x512 := Rect.unit ![k % 9, 0] S536x512.size (inbF' k)
/-- Copy `q`. -/
abbrev rectG (q : Nat) : Rect S7x536x512 := Rect.unit ![q % 7, 0, 0] S1x536x512.size (inbG q)
/-- A tile of rows of copy `q`, from row `k`. -/
abbrev rectG' (q k : Nat) : Rect S7x536x512 := Rect.unit ![q % 7, k % 25, 0] S1x512x512.size (inbG' q k)

/-- The two pieces of the buffer, last first. -/
def piecesF (i : grid0.Coords) (x0 x1 : Vec F S1x512x512 .f32) (x3 x4 x5 : Vec F S1x32x512 .f32) : List (View.Piece (Elt F) S544x512 .f32) :=
  [⟨Rect.unit ![32, 0] S512x512.size inb_S544x512_S512x512_32_0, k0_pay3 x0 x1⟩, ⟨Rect.unit ![0, 0] S32x512.size inb_S544x512_S32x512_0_0, k0_pay2 i x3 x4 x5⟩]

/-- A copy's piece. -/
def pieceG (q : Nat) (w : Vec F S1x536x512 .f32) : View.Piece (Elt F) S7x536x512 .f32 := ⟨rectG q, w⟩

/-- The copies' pieces, last first. -/
def piecesG (v : View sig .tc .vmem S544x512 .f32) (L : List (View.Piece (Elt F) S544x512 .f32)) : List (View.Piece (Elt F) S7x536x512 .f32) :=
  [pieceG 6 (k0_pay10 (v.readCov L (rectF' 7).toLoadRect)), pieceG 5 (k0_pay9 (v.readCov L (rectF' 6).toLoadRect)), pieceG 4 (k0_pay8 (v.readCov L (rectF' 5).toLoadRect)), pieceG 3 (k0_pay7 (v.readCov L (rectF' 4).toLoadRect)), pieceG 2 (k0_pay6 (v.readCov L (rectF' 3).toLoadRect)), pieceG 1 (k0_pay5 (v.readCov L (rectF' 2).toLoadRect)), pieceG 0 (k0_pay4 (v.readCov L (rectF' 1).toLoadRect))]

/-- The tile's result, from the windows. -/
def tileY (f : ℕ → Vec F S512x512 .f32) (g : ℕ → ℕ → Vec F S1x512x512 .f32) (w : ℕ → Vec F S1x512 .f32) (x2 : Vec F S1x512x512 .f32) (x7 x8 x9 : Vec F S1x512 .f32) : Vec F S1x512x512 .f32 :=
  k0_pay22 (k0_pay20 (k0_pay18 (k0_pay16 (k0_pay14 (k0_pay13 (k0_pay12 k0_pay11 (g 1 0) (w 0) (g 2 0) (w 1) (g 3 0) (w 2) (g 4 0) (w 3) (g 5 0) (w 4)) (g 6 0) (w 5) (f 8) (w 6) (g 0 8) (w 7) (g 1 8) (w 8) (g 2 8) (w 9)) (g 3 8) (w 10) (g 4 8) (w 11) (g 5 8) (w 12) (g 6 8) (w 13) (f 16) (w 14)) (k0_pay15 (g 0 16)) (w 15) (g 1 16) (w 16) (g 2 16) (w 17) (g 3 16) (w 18) (g 4 16) (w 19)) (k0_pay17 (g 5 16)) (w 20) (g 6 16) (w 21) (f 24) (w 22) (g 0 24) (w 23) (g 1 24) (w 24)) (k0_pay19 (g 2 24)) (w 25) (g 3 24) (w 26) (g 4 24) (w 27) (g 5 24) (w 28) (g 6 24) (w 29)) (f 32) (k0_pay21 (w 30)) x2 x7 x8 x9

/-- The tile's result, from the buffers' pieces. -/
def tileOf (v : View sig .tc .vmem S544x512 .f32) (v' : View sig .tc .vmem S7x536x512 .f32) (L : List (View.Piece (Elt F) S544x512 .f32)) (w : ℕ → Vec F S1x512 .f32) (x2 : Vec F S1x512x512 .f32) (x7 x8 x9 : Vec F S1x512 .f32) : Vec F S1x512x512 .f32 :=
  tileY (fun k => v.readCov L (rectF k).toLoadRect) (fun q k => v'.readCov (piecesG v L) (rectG' q k).toLoadRect) w x2 x7 x8 x9

section B
variable (c : Dev nD) (i : grid0.Coords) (arg2 : Memref sig .tc .vmem S1x512x512 .f32) (harg2 : arg2.IsWhole) (arg3 : Memref sig .tc .vmem S1x512x512 .f32) (harg3 : arg3.IsWhole) (arg4 : Memref sig .tc .vmem S1x512x512 .f32) (harg4 : arg4.IsWhole) (arg5 : Memref sig .tc .vmem S1x32x512 .f32) (harg5 : arg5.IsWhole) (arg6 : Memref sig .tc .vmem S1x32x512 .f32) (harg6 : arg6.IsWhole) (arg7 : Memref sig .tc .vmem S1x32x512 .f32) (harg7 : arg7.IsWhole) (arg8 : Memref sig .tc .vmem S32x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512x512 .f32) (harg12 : arg12.IsWhole) (arg13 : Memref sig .tc .vmem S1x32x512 .f32) (harg13 : arg13.IsWhole) (arg14 : Memref sig .tc .vmem S544x512 .f32) (harg14 : arg14.IsWhole) (arg15 : Memref sig .tc .vmem S7x536x512 .f32) (harg15 : arg15.IsWhole)
  (x0 x1 x2 : Vec F S1x512x512 .f32) (x3 x4 x5 : Vec F S1x32x512 .f32) (x6 : Vec F S32x512 .f32) (x7 x8 x9 : Vec F S1x512 .f32)

/-- The piece stored to the result. -/
theorem runA_fst (h) :
    (kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15 h x0 x1 x2 x3 x4 x5 x6 x7 x8 x9).1 =
    [⟨Rect.unit ![0, 0, 0] S1x512x512.size inb_S1x512x512_S1x512x512_0_0_0, tileOf arg14.view arg15.view (piecesF i (arg2.view.readAt (Elt F) (Rect.unit (s := S1x512x512) ![0, 0, 0] S1x512x512.size inb_S1x512x512_S1x512x512_0_0_0).toLoadRect (harg2.unread x0)) (arg3.view.readAt (Elt F) (Rect.unit (s := S1x512x512) ![0, 0, 0] S1x512x512.size inb_S1x512x512_S1x512x512_0_0_0).toLoadRect (harg3.unread x1)) (arg5.view.readAt (Elt F) (Rect.unit (s := S1x32x512) ![0, 0, 0] S1x32x512.size inb_S1x32x512_S1x32x512_0_0_0).toLoadRect (harg5.unread x3)) (arg6.view.readAt (Elt F) (Rect.unit (s := S1x32x512) ![0, 0, 0] S1x32x512.size inb_S1x32x512_S1x32x512_0_0_0).toLoadRect (harg6.unread x4)) (arg7.view.readAt (Elt F) (Rect.unit (s := S1x32x512) ![0, 0, 0] S1x32x512.size inb_S1x32x512_S1x32x512_0_0_0).toLoadRect (harg7.unread x5))) (fun j => arg8.view.readAt (Elt F) (rectW j).toLoadRect (harg8.unread x6)) (arg4.view.readAt (Elt F) (Rect.unit (s := S1x512x512) ![0, 0, 0] S1x512x512.size inb_S1x512x512_S1x512x512_0_0_0).toLoadRect (harg4.unread x2)) (arg9.view.readAt (Elt F) (Rect.unit (s := S1x512) ![0, 0] S1x512.size inb_S1x512_S1x512_0_0).toLoadRect (harg9.unread x7)) (arg10.view.readAt (Elt F) (Rect.unit (s := S1x512) ![0, 0] S1x512.size inb_S1x512_S1x512_0_0).toLoadRect (harg10.unread x8)) (arg11.view.readAt (Elt F) (Rect.unit (s := S1x512) ![0, 0] S1x512.size inb_S1x512_S1x512_0_0).toLoadRect (harg11.unread x9))⟩] := by
  sl_kernel_rfl

/-- The piece stored to the result. -/
theorem runB_fst (h) :
    (kernelRun0_B (F := F) c i arg2 harg2 arg3 harg3 arg4 harg4 arg5 harg5 arg6 harg6 arg7 harg7 arg8 harg8 arg9 harg9 arg10 harg10 arg11 harg11 arg12 harg12 arg13 harg13 arg14 harg14 arg15 harg15 h x0 x1 x2 x3 x4 x5 x6 x7 x8 x9).1 =
    [⟨Rect.unit ![0, 0, 0] S1x512x512.size inb_S1x512x512_S1x512x512_0_0_0, tileOf arg14.view arg15.view (piecesF i (arg2.view.readAt (Elt F) (Rect.unit (s := S1x512x512) ![0, 0, 0] S1x512x512.size inb_S1x512x512_S1x512x512_0_0_0).toLoadRect (harg2.unread x0)) (arg3.view.readAt (Elt F) (Rect.unit (s := S1x512x512) ![0, 0, 0] S1x512x512.size inb_S1x512x512_S1x512x512_0_0_0).toLoadRect (harg3.unread x1)) (arg5.view.readAt (Elt F) (Rect.unit (s := S1x32x512) ![0, 0, 0] S1x32x512.size inb_S1x32x512_S1x32x512_0_0_0).toLoadRect (harg5.unread x3)) (arg6.view.readAt (Elt F) (Rect.unit (s := S1x32x512) ![0, 0, 0] S1x32x512.size inb_S1x32x512_S1x32x512_0_0_0).toLoadRect (harg6.unread x4)) (arg7.view.readAt (Elt F) (Rect.unit (s := S1x32x512) ![0, 0, 0] S1x32x512.size inb_S1x32x512_S1x32x512_0_0_0).toLoadRect (harg7.unread x5))) (fun j => arg8.view.readAt (Elt F) (rectW j).toLoadRect (harg8.unread x6)) (arg4.view.readAt (Elt F) (Rect.unit (s := S1x512x512) ![0, 0, 0] S1x512x512.size inb_S1x512x512_S1x512x512_0_0_0).toLoadRect (harg4.unread x2)) (arg9.view.readAt (Elt F) (Rect.unit (s := S1x512) ![0, 0] S1x512.size inb_S1x512_S1x512_0_0).toLoadRect (harg9.unread x7)) (arg10.view.readAt (Elt F) (Rect.unit (s := S1x512) ![0, 0] S1x512.size inb_S1x512_S1x512_0_0).toLoadRect (harg10.unread x8)) (arg11.view.readAt (Elt F) (Rect.unit (s := S1x512) ![0, 0] S1x512.size inb_S1x512_S1x512_0_0).toLoadRect (harg11.unread x9))⟩] := by
  sl_kernel_rfl

/-- The piece stored to the carried rows. -/
theorem runB_snd (h) :
    (kernelRun0_B (F := F) c i arg2 harg2 arg3 harg3 arg4 harg4 arg5 harg5 arg6 harg6 arg7 harg7 arg8 harg8 arg9 harg9 arg10 harg10 arg11 harg11 arg12 harg12 arg13 harg13 arg14 harg14 arg15 harg15 h x0 x1 x2 x3 x4 x5 x6 x7 x8 x9).2.1 =
    [⟨Rect.unit ![0, 0, 0] S1x32x512.size inb_S1x32x512_S1x32x512_0_0_0, k0_pay1 (arg14.view.readCov (piecesF i (arg2.view.readAt (Elt F) (Rect.unit (s := S1x512x512) ![0, 0, 0] S1x512x512.size inb_S1x512x512_S1x512x512_0_0_0).toLoadRect (harg2.unread x0)) (arg3.view.readAt (Elt F) (Rect.unit (s := S1x512x512) ![0, 0, 0] S1x512x512.size inb_S1x512x512_S1x512x512_0_0_0).toLoadRect (harg3.unread x1)) (arg5.view.readAt (Elt F) (Rect.unit (s := S1x32x512) ![0, 0, 0] S1x32x512.size inb_S1x32x512_S1x32x512_0_0_0).toLoadRect (harg5.unread x3)) (arg6.view.readAt (Elt F) (Rect.unit (s := S1x32x512) ![0, 0, 0] S1x32x512.size inb_S1x32x512_S1x32x512_0_0_0).toLoadRect (harg6.unread x4)) (arg7.view.readAt (Elt F) (Rect.unit (s := S1x32x512) ![0, 0, 0] S1x32x512.size inb_S1x32x512_S1x32x512_0_0_0).toLoadRect (harg7.unread x5))) (Rect.unit (s := S544x512) ![512, 0] S32x512.size inb_S544x512_S32x512_512_0).toLoadRect)⟩] := by
  sl_kernel_rfl

/-- Two zero offsets are the zero offset. -/
theorem hz2 : (![0, 0] : Fin 2 → ℕ) = fun _ => 0 := by funext a; fin_cases a <;> rfl
/-- Three zero offsets are the zero offset. -/
theorem hz3 : (![0, 0, 0] : Fin 3 → ℕ) = fun _ => 0 := by funext a; fin_cases a <;> rfl

/-- The result's block, from the input blocks. -/
theorem out_A_10 (h) : out0_A_10 (F := F) c i arg2 harg2 arg3 harg3 arg4 harg4 arg5 harg5 arg6 harg6 arg7 harg7 arg8 harg8 arg9 harg9 arg10 harg10 arg11 harg11 arg12 harg12 arg13 harg13 arg14 harg14 arg15 harg15 h x0 x1 x2 x3 x4 x5 x6 x7 x8 x9 =
    tileOf arg14.view arg15.view (piecesF i x0 x1 x3 x4 x5) (fun j => View.ld x6 (rectW j)) x2 x7 x8 x9 := by
  unfold out0_A_10
  rw [View.read_writes_junk_eq_canon, runA_fst]
  simp only [View.readAt_eq_ld, Memref.IsWhole.read_unread]
  repeat rw [View.ld_unit_zero (S := S1x512) hz2]
  repeat rw [View.ld_unit_zero hz3]
  exact View.canon_unit_zero (Val := Elt F) (S := S1x512x512) (e := .f32) hz3 _ _

/-- The result's block, from the input blocks. -/
theorem out_B_10 (h) : out0_B_10 (F := F) c i arg2 harg2 arg3 harg3 arg4 harg4 arg5 harg5 arg6 harg6 arg7 harg7 arg8 harg8 arg9 harg9 arg10 harg10 arg11 harg11 arg12 harg12 arg13 harg13 arg14 harg14 arg15 harg15 h x0 x1 x2 x3 x4 x5 x6 x7 x8 x9 =
    tileOf arg14.view arg15.view (piecesF i x0 x1 x3 x4 x5) (fun j => View.ld x6 (rectW j)) x2 x7 x8 x9 := by
  unfold out0_B_10
  rw [View.read_writes_junk_eq_canon, runB_fst]
  simp only [View.readAt_eq_ld, Memref.IsWhole.read_unread]
  repeat rw [View.ld_unit_zero (S := S1x512) hz2]
  repeat rw [View.ld_unit_zero hz3]
  exact View.canon_unit_zero (Val := Elt F) (S := S1x512x512) (e := .f32) hz3 _ _

/-- The carried rows' block, from the input blocks. -/
theorem out_B_11 (h) : out0_B_11 (F := F) c i arg2 harg2 arg3 harg3 arg4 harg4 arg5 harg5 arg6 harg6 arg7 harg7 arg8 harg8 arg9 harg9 arg10 harg10 arg11 harg11 arg12 harg12 arg13 harg13 arg14 harg14 arg15 harg15 h x0 x1 x2 x3 x4 x5 x6 x7 x8 x9 =
    k0_pay1 (arg14.view.readCov (piecesF i x0 x1 x3 x4 x5) (Rect.unit (s := S544x512) ![512, 0] S32x512.size inb_S544x512_S32x512_512_0).toLoadRect) := by
  unfold out0_B_11
  rw [View.read_writes_junk_eq_canon, runB_snd]
  simp only [View.readAt_eq_ld, Memref.IsWhole.read_unread]
  repeat rw [View.ld_unit_zero hz3]
  exact View.canon_unit_zero (Val := Elt F) (S := S1x32x512) hz3 _ _

end B

end Terms

end Cert.Proof.Cv
-- ==== Proof.CvTile.lean ====
module
public import proofs.«01_k».proof.Proof.CvBody

@[expose] public section

set_option maxRecDepth 65536

noncomputable section

/-! # The convolution's tile, element by element -/

namespace Cert.Proof.Cv

open Idealize.ShloMosaic Idealize.ShloMosaic.TcCoe
open Cert.ConvIdeal Cert.ConvIdeal.Gen

/-- The sum of the first `n` terms, in their order, from zero. -/
def taps (g : ℕ → EReal) : ℕ → EReal
  | 0 => 0
  | n + 1 => taps g n + g n

/-- Row `k` of the buffer: the 32 carried rows, then the tile's. -/
def fAt (i : grid0.Coords) (x0 x1 : Vec Ideal S1x512x512 .f32) (x3 x4 x5 : Vec Ideal S1x32x512 .f32) (k : ℕ) (n : Fin 512) : EReal :=
  if k < 32 then
    if (i 1).val = 0 then x5 (ix3 0 ⟨k % 32, Nat.mod_lt _ (by decide)⟩ n)
    else x3 (ix3 0 ⟨k % 32, Nat.mod_lt _ (by decide)⟩ n) * Ideal.logistic (x4 (ix3 0 ⟨k % 32, Nat.mod_lt _ (by decide)⟩ n))
  else x0 (ix3 0 ⟨(k - 32) % 512, Nat.mod_lt _ (by decide)⟩ n) * Ideal.logistic (x1 (ix3 0 ⟨(k - 32) % 512, Nat.mod_lt _ (by decide)⟩ n))

section T
variable (i : grid0.Coords) (x0 x1 : Vec Ideal S1x512x512 .f32) (x3 x4 x5 : Vec Ideal S1x32x512 .f32)

/-- The buffer's contents are its rows. -/
theorem canon_F (y : S544x512.Idx) : View.canon (piecesF i x0 x1 x3 x4 x5) y = fAt i x0 x1 x3 x4 x5 (y 0).val (y 1) := by
  refine View.canon_apply_of_pieces (Val := Elt Ideal) (e := .f32) (fun y : S544x512.Idx => fAt i x0 x1 x3 x4 x5 (y 0).val (y 1)) _ ?_ y ?_
  · intro p hp
    simp only [piecesF, List.mem_cons, List.not_mem_nil, or_false] at hp
    rcases hp with rfl | rfl
    · intro x
      have h0 : (x 0).val < 512 := (x 0).isLt
      rw [show x = ix2 (x 0) (x 1) from by funext a; fin_cases a <;> rfl]
      refine (pay3_apply x0 x1 (x 0) (x 1)).trans ?_
      have e : fAt i x0 x1 x3 x4 x5 (32 + 1 * (x 0).val) (x 1) = x0 (ix3 0 (x 0) (x 1)) * Ideal.logistic (x1 (ix3 0 (x 0) (x 1))) := by
        unfold fAt
        rw [if_neg (by omega), show (⟨(32 + 1 * (x 0).val - 32) % 512, Nat.mod_lt _ (by decide)⟩ : Fin 512) = x 0 from Fin.ext (by show (32 + 1 * (x 0).val - 32) % 512 = (x 0).val; omega)]
      refine e.symm.trans ?_
      refine congrArg (fAt i x0 x1 x3 x4 x5 (32 + 1 * (x 0).val)) (Fin.ext ?_)
      show (x 1).val = 0 + 1 * (x 1).val; omega
    · intro x
      have h0 : (x 0).val < 32 := (x 0).isLt
      rw [show x = ix2 (x 0) (x 1) from by funext a; fin_cases a <;> rfl]
      refine (pay2_apply i x3 x4 x5 (x 0) (x 1)).trans ?_
      have e : fAt i x0 x1 x3 x4 x5 (0 + 1 * (x 0).val) (x 1) = if (i 1).val = 0 then x5 (ix3 0 (x 0) (x 1)) else x3 (ix3 0 (x 0) (x 1)) * Ideal.logistic (x4 (ix3 0 (x 0) (x 1))) := by
        unfold fAt
        rw [if_pos (by omega), show (⟨(0 + 1 * (x 0).val) % 32, Nat.mod_lt _ (by decide)⟩ : Fin 32) = x 0 from Fin.ext (by show (0 + 1 * (x 0).val) % 32 = (x 0).val; omega)]
      refine e.symm.trans ?_
      refine congrArg (fAt i x0 x1 x3 x4 x5 (0 + 1 * (x 0).val)) (Fin.ext ?_)
      show (x 1).val = 0 + 1 * (x 1).val; omega
  · have h0 : (y 0).val < 544 := (y 0).isLt
    have h1 : (y 1).val < 512 := (y 1).isLt
    by_cases h : (y 0).val < 32
    · refine ⟨⟨Rect.unit ![0, 0] S32x512.size inb_S544x512_S32x512_0_0, k0_pay2 i x3 x4 x5⟩, by simp [piecesF], ?_⟩
      rw [Rect.mem_set_unit]
      intro a
      fin_cases a
      · show 0 ≤ (y 0).val ∧ (y 0).val < 0 + 32; omega
      · show 0 ≤ (y 1).val ∧ (y 1).val < 0 + 512; omega
    · refine ⟨⟨Rect.unit ![32, 0] S512x512.size inb_S544x512_S512x512_32_0, k0_pay3 x0 x1⟩, by simp [piecesF], ?_⟩
      rw [Rect.mem_set_unit]
      intro a
      fin_cases a
      · show 32 ≤ (y 0).val ∧ (y 0).val < 32 + 512; omega
      · show 0 ≤ (y 1).val ∧ (y 1).val < 0 + 512; omega

variable (v : View sig .tc .vmem S544x512 .f32) (v' : View sig .tc .vmem S7x536x512 .f32)

/-- A tile of the buffer, read. -/
theorem readF (k : ℕ) (hk : k < 33) (r n : Fin 512) :
    v.readCov (piecesF i x0 x1 x3 x4 x5) (rectF k).toLoadRect (ix2 r n) = fAt i x0 x1 x3 x4 x5 (r.val + k) n := by
  rw [View.readCov_eq_canon']
  refine (canon_F i x0 x1 x3 x4 x5 _).trans ?_
  rw [show (((rectF k).toLoadRect.idx (ix2 r n)) 0).val = r.val + k from by show k % 33 + 1 * r.val = r.val + k; omega]
  refine congrArg (fAt i x0 x1 x3 x4 x5 (r.val + k)) (Fin.ext ?_)
  show 0 + 1 * n.val = n.val; omega

/-- A copy's rows, read. -/
theorem readF' (k : ℕ) (hk : k < 9) (r : Fin 536) (n : Fin 512) :
    v.readCov (piecesF i x0 x1 x3 x4 x5) (rectF' k).toLoadRect (ix2 r n) = fAt i x0 x1 x3 x4 x5 (r.val + k) n := by
  rw [View.readCov_eq_canon']
  refine (canon_F i x0 x1 x3 x4 x5 _).trans ?_
  rw [show (((rectF' k).toLoadRect.idx (ix2 r n)) 0).val = r.val + k from by show k % 9 + 1 * r.val = r.val + k; omega]
  refine congrArg (fAt i x0 x1 x3 x4 x5 (r.val + k)) (Fin.ext ?_)
  show 0 + 1 * n.val = n.val; omega

/-- The last 32 rows, read. -/
theorem readT (r : Fin 32) (n : Fin 512) :
    v.readCov (piecesF i x0 x1 x3 x4 x5) (Rect.unit (s := S544x512) ![512, 0] S32x512.size inb_S544x512_S32x512_512_0).toLoadRect (ix2 r n) = fAt i x0 x1 x3 x4 x5 (r.val + 512) n := by
  rw [View.readCov_eq_canon']
  refine (canon_F i x0 x1 x3 x4 x5 _).trans ?_
  rw [show (((Rect.unit (s := S544x512) ![512, 0] S32x512.size inb_S544x512_S32x512_512_0).toLoadRect.idx (ix2 r n)) 0).val = r.val + 512 from by show 512 + 1 * r.val = r.val + 512; omega]
  refine congrArg (fAt i x0 x1 x3 x4 x5 (r.val + 512)) (Fin.ext ?_)
  show 0 + 1 * n.val = n.val; omega

/-- A copy's payload holds the rows it reads. -/
theorem copy_apply (w : Vec Ideal S536x512 .f32) (a : Fin 1) (r : Fin 536) (n : Fin 512) :
    shapeCast S1x536x512 w shapeCasts_S536x512_S1x536x512 (ix3 a r n) = w (ix2 r n) := by
  pointwise []

/-- Copy `q` holds the buffer's rows from row `q + 1`. -/
theorem canon_G (y : S7x536x512.Idx) :
    View.canon (piecesG v (piecesF i x0 x1 x3 x4 x5)) y = fAt i x0 x1 x3 x4 x5 ((y 1).val + ((y 0).val + 1)) (y 2) := by
  have key : ∀ q < 7, ∀ x : (rectG q).shape.Idx,
      shapeCast S1x536x512 (v.readCov (piecesF i x0 x1 x3 x4 x5) (rectF' (q + 1)).toLoadRect) shapeCasts_S536x512_S1x536x512 x =
        fAt i x0 x1 x3 x4 x5 (((rectG q).emb x 1).val + (((rectG q).emb x 0).val + 1)) ((rectG q).emb x 2) := by
    intro q hq x
    have h0 : (x 0).val < 1 := (x 0).isLt
    have h1 : (x 1).val < 536 := (x 1).isLt
    conv_lhs => rw [show x = ix3 (x 0) (x 1) (x 2) from by funext a; fin_cases a <;> rfl]
    refine (copy_apply _ (x 0) (x 1) (x 2)).trans ((readF' i x0 x1 x3 x4 x5 v (q + 1) (by omega) (x 1) (x 2)).trans ?_)
    rw [show ((rectG q).emb x 1).val + (((rectG q).emb x 0).val + 1) = (x 1).val + (q + 1) from by
      show 0 + 1 * (x 1).val + (q % 7 + 1 * (x 0).val + 1) = (x 1).val + (q + 1); omega]
    refine congrArg (fAt i x0 x1 x3 x4 x5 ((x 1).val + (q + 1))) (Fin.ext ?_)
    show (x 2).val = 0 + 1 * (x 2).val; omega
  have hy : (y 0).val < 7 := (y 0).isLt
  have mem : ∀ q, q = (y 0).val → y ∈ (rectG q).set := by
    rintro _ rfl
    rw [Rect.mem_set_unit]
    intro a
    fin_cases a
    · show (y 0).val % 7 ≤ (y 0).val ∧ (y 0).val < (y 0).val % 7 + 1; omega
    · show 0 ≤ (y 1).val ∧ (y 1).val < 0 + 536; have : (y 1).val < 536 := (y 1).isLt; omega
    · show 0 ≤ (y 2).val ∧ (y 2).val < 0 + 512; have : (y 2).val < 512 := (y 2).isLt; omega
  refine View.canon_apply_of_pieces (Val := Elt Ideal) (e := .f32) (fun y : S7x536x512.Idx => fAt i x0 x1 x3 x4 x5 ((y 1).val + ((y 0).val + 1)) (y 2)) _ ?_ y ?_
  · intro p hp
    simp only [piecesG, List.mem_cons, List.not_mem_nil, or_false] at hp
    rcases hp with rfl | rfl | rfl | rfl | rfl | rfl | rfl <;> exact key _ (by omega)
  · refine ⟨pieceG (y 0).val (shapeCast S1x536x512 (v.readCov (piecesF i x0 x1 x3 x4 x5) (rectF' ((y 0).val + 1)).toLoadRect) shapeCasts_S536x512_S1x536x512), ?_, mem _ rfl⟩
    have h7 : (y 0).val = 0 ∨ (y 0).val = 1 ∨ (y 0).val = 2 ∨ (y 0).val = 3 ∨ (y 0).val = 4 ∨ (y 0).val = 5 ∨ (y 0).val = 6 := by omega
    unfold piecesG k0_pay4 k0_pay5 k0_pay6 k0_pay7 k0_pay8 k0_pay9 k0_pay10
    rcases h7 with h | h | h | h | h | h | h <;> rw [h] <;> simp

/-- A tile of a copy, read. -/
theorem readG (q k : ℕ) (hq : q < 7) (hk : k < 25) (r n : Fin 512) :
    v'.readCov (piecesG v (piecesF i x0 x1 x3 x4 x5)) (rectG' q k).toLoadRect (ix3 0 r n) = fAt i x0 x1 x3 x4 x5 (r.val + (k + (q + 1))) n := by
  rw [View.readCov_eq_canon']
  refine (canon_G i x0 x1 x3 x4 x5 v _).trans ?_
  rw [show (((rectG' q k).toLoadRect.idx (ix3 0 r n)) 1).val + ((((rectG' q k).toLoadRect.idx (ix3 0 r n)) 0).val + 1) = r.val + (k + (q + 1)) from by
    show k % 25 + 1 * r.val + (q % 7 + 1 * 0 + 1) = r.val + (k + (q + 1)); omega]
  refine congrArg (fAt i x0 x1 x3 x4 x5 (r.val + (k + (q + 1)))) (Fin.ext ?_)
  show 0 + 1 * n.val = n.val; omega

end T

/-- The tile's element: the norm of the taps, its swish, and the gate's. -/
theorem tileY_apply (f : ℕ → Vec Ideal S512x512 .f32) (g : ℕ → ℕ → Vec Ideal S1x512x512 .f32) (w : ℕ → Vec Ideal S1x512 .f32) (x2 : Vec Ideal S1x512x512 .f32) (x7 x8 x9 : Vec Ideal S1x512 .f32)
    (h : ℕ → Fin 512 → EReal) (hf : ∀ k < 33, ∀ r n : Fin 512, f k (ix2 r n) = h (r.val + k) n)
    (hg : ∀ q < 7, ∀ k < 25, ∀ r n : Fin 512, g q k (ix3 0 r n) = h (r.val + (k + (q + 1))) n) (r n : Fin 512) :
    tileY f g w x2 x7 x8 x9 (ix3 0 r n) =
      swish (lnorm (fun k => taps (fun j => w j (ix2 0 k) * h (r.val + (j + 2)) k) 31 + x7 (ix2 0 k)) (x8 (ix2 0 n)) (x9 (ix2 0 n)) n) * swish (x2 (ix3 0 r n)) := by
  unfold tileY
  rw [pay22_apply]
  congr 3
  funext k
  congr 1
  simp only [pay20_apply, pay19_apply, pay18_apply, pay17_apply, pay16_apply, pay15_apply, pay14_apply, pay13_apply, pay12_apply, pay21_apply, taps]
  have h0 : (k0_pay11 (F := Ideal)) (ix2 r k) = 0 := by
    unfold k0_pay11
    exact Ideal.ofBits_zero_f32
  rw [h0]
  simp only [hf _ (show (8:ℕ) < 33 by decide), hf _ (show (16:ℕ) < 33 by decide), hf _ (show (24:ℕ) < 33 by decide), hf _ (show (32:ℕ) < 33 by decide)]
  simp only [hg 0 (by decide) _ (show (8:ℕ) < 25 by decide), hg 0 (by decide) _ (show (16:ℕ) < 25 by decide), hg 0 (by decide) _ (show (24:ℕ) < 25 by decide),
    hg 1 (by decide) _ (show (0:ℕ) < 25 by decide), hg 2 (by decide) _ (show (0:ℕ) < 25 by decide), hg 3 (by decide) _ (show (0:ℕ) < 25 by decide), hg 4 (by decide) _ (show (0:ℕ) < 25 by decide), hg 5 (by decide) _ (show (0:ℕ) < 25 by decide), hg 6 (by decide) _ (show (0:ℕ) < 25 by decide),
    hg 1 (by decide) _ (show (8:ℕ) < 25 by decide), hg 2 (by decide) _ (show (8:ℕ) < 25 by decide), hg 3 (by decide) _ (show (8:ℕ) < 25 by decide), hg 4 (by decide) _ (show (8:ℕ) < 25 by decide), hg 5 (by decide) _ (show (8:ℕ) < 25 by decide), hg 6 (by decide) _ (show (8:ℕ) < 25 by decide),
    hg 1 (by decide) _ (show (16:ℕ) < 25 by decide), hg 2 (by decide) _ (show (16:ℕ) < 25 by decide), hg 3 (by decide) _ (show (16:ℕ) < 25 by decide), hg 4 (by decide) _ (show (16:ℕ) < 25 by decide), hg 5 (by decide) _ (show (16:ℕ) < 25 by decide), hg 6 (by decide) _ (show (16:ℕ) < 25 by decide),
    hg 1 (by decide) _ (show (24:ℕ) < 25 by decide), hg 2 (by decide) _ (show (24:ℕ) < 25 by decide), hg 3 (by decide) _ (show (24:ℕ) < 25 by decide), hg 4 (by decide) _ (show (24:ℕ) < 25 by decide), hg 5 (by decide) _ (show (24:ℕ) < 25 by decide), hg 6 (by decide) _ (show (24:ℕ) < 25 by decide)]

/-- The carried rows' payload, at an element. -/
theorem pay1_apply (w : Vec Ideal S32x512 .f32) (r : Fin 32) (n : Fin 512) : k0_pay1 w (ix3 0 r n) = w (ix2 r n) := by
  unfold k0_pay1
  pointwise []

/-- The tile of the blocks, at an element. -/
theorem tileOf_apply (i : grid0.Coords) (x0 x1 x2 : Vec Ideal S1x512x512 .f32) (x3 x4 x5 : Vec Ideal S1x32x512 .f32) (w : ℕ → Vec Ideal S1x512 .f32) (x7 x8 x9 : Vec Ideal S1x512 .f32)
    (v : View sig .tc .vmem S544x512 .f32) (v' : View sig .tc .vmem S7x536x512 .f32) (r n : Fin 512) :
    tileOf v v' (piecesF i x0 x1 x3 x4 x5) w x2 x7 x8 x9 (ix3 0 r n) =
      swish (lnorm (fun k => taps (fun j => w j (ix2 0 k) * fAt i x0 x1 x3 x4 x5 (r.val + (j + 2)) k) 31 + x7 (ix2 0 k)) (x8 (ix2 0 n)) (x9 (ix2 0 n)) n) * swish (x2 (ix3 0 r n)) :=
  tileY_apply _ _ w x2 x7 x8 x9 (fAt i x0 x1 x3 x4 x5) (fun k hk r n => readF i x0 x1 x3 x4 x5 v k hk r n) (fun q hq k hk r n => readG i x0 x1 x3 x4 x5 v v' q k hq hk r n) r n

end Cert.Proof.Cv
-- ==== Proof.CvRef.lean ====
module
public import proofs.«01_k».proof.Proof.CvTile
public import proofs.«01_k».proof.Proof.Gen.ConvReferenceIdeal.Read

@[expose] public section

set_option maxRecDepth 65536

noncomputable section

/-! # The convolution's reference, element by element -/

namespace Cert.Proof.Cv

open Idealize.ShloMosaic Idealize.ShloMosaic.TcCoe
open Cert.ConvReferenceIdeal Cert.ConvReferenceIdeal.Gen Cert.ConvReferenceIdeal.Read

/-- The gated input of the convolution. -/
def uAt (z : FVec Ideal S8x2048x8448 .f32) (b : Fin 8) (s : Fin 2048) (n : Fin 512) : EReal :=
  z (ix3 b s ⟨3072 + n.val, by omega⟩) * Ideal.logistic (z (ix3 b s ⟨3584 + n.val, by omega⟩))

/-- The sequence with the state's 30 last rows before it. -/
def fullAt (z : FVec Ideal S8x2048x8448 .f32) (st : FVec Ideal S8x32x512 .f32) (b : Fin 8) (k : ℕ) (n : Fin 512) : EReal :=
  if k < 30 then st (ix3 b ⟨(k + 2) % 32, Nat.mod_lt _ (by decide)⟩ n) else uAt z b ⟨(k - 30) % 2048, Nat.mod_lt _ (by decide)⟩ n

/-- The convolution branch's result. -/
def cvY (z : FVec Ideal S8x2048x8448 .f32) (st : FVec Ideal S8x32x512 .f32) (w : FVec Ideal S31x512 .f32) (bd lg lb : FVec Ideal S512 .f32) : FVec Ideal S8x2048x512 .f32 := fun i =>
  swish (lnorm (fun k => taps (fun j => w (ix2 ⟨j % 31, Nat.mod_lt _ (by decide)⟩ k) * fullAt z st (i 0) ((i 1).val + j) k) 31 + bd (ix1 k)) (lg (ix1 (i 2))) (lb (ix1 (i 2))) (i 2))
    * swish (z (ix3 (i 0) (i 1) ⟨4096 + (i 2).val, by have : (i 2).val < 512 := (i 2).isLt; omega⟩))

/-- The carried rows. -/
def cvT (z : FVec Ideal S8x2048x8448 .f32) (st : FVec Ideal S8x32x512 .f32) : FVec Ideal S8x32x512 .f32 := fun i => fullAt z st (i 0) ((i 1).val + 2046) (i 2)

variable (z : FVec Ideal S8x2048x8448 .f32) (st : FVec Ideal S8x32x512 .f32) (w : FVec Ideal S31x512 .f32) (bd lg lb : FVec Ideal S512 .f32)

/-- The reference's gated input. -/
theorem u_at (b : Fin 8) (s : Fin 2048) (n : Fin 512) : val_main_v9 (F := Ideal) z (ix3 b s n) = uAt z b s n := by
  pointwise [val_main_v9, val_main_v8, val_main_v7, val_main_v6, val_main_v5, val_main_v4, val_main_v3, val_main_v1, val_main_v0, val_main_cst, val_main_cst_0]
  rfl

/-- The reference's sequence with the state's rows before it. -/
theorem full_at (b : Fin 8) (k : Fin 2078) (n : Fin 512) : val_main_v11 (F := Ideal) z st (ix3 b k n) = fullAt z st b k.val n := by
  obtain ⟨k, hk⟩ := k
  unfold fullAt
  by_cases h : k < 30
  · rw [if_pos h]
    unfold val_main_v11
    refine (concatenate_pair_apply_left (t := S8x2078x512) (s₁ := S8x30x512) (s₂ := S8x2048x512) 1 (val_main_v10 (F := Ideal) st) (val_main_v9 (F := Ideal) z) concatenates_S8x30x512_S8x2048x512_S8x2078x512_d1 (ix3 b ⟨k, hk⟩ n) rfl (ix3 b ⟨k, h⟩ n) (fun a => ?_)).trans ?_
    · match a with
      | ⟨0, _⟩ => rfl
      | ⟨1, _⟩ => rfl
      | ⟨2, _⟩ => rfl
    · rw [val_main_v10_apply]
      refine congrArg st (funext fun a => ?_)
      match a with
      | ⟨0, _⟩ => exact Fin.ext (by rfl)
      | ⟨1, _⟩ => exact Fin.ext (by show 2 + k = (k + 2) % 32; omega)
      | ⟨2, _⟩ => exact Fin.ext (by rfl)
  · rw [if_neg h]
    unfold val_main_v11
    refine (concatenate_pair_apply_right (t := S8x2078x512) (s₁ := S8x30x512) (s₂ := S8x2048x512) 1 (val_main_v10 (F := Ideal) st) (val_main_v9 (F := Ideal) z) concatenates_S8x30x512_S8x2048x512_S8x2078x512_d1 (ix3 b ⟨k, hk⟩ n) rfl rfl (ix3 b ⟨(k - 30) % 2048, Nat.mod_lt _ (by decide)⟩ n) (fun a ha => ?_) ?_).trans (u_at z b _ n)
    · match a with
      | ⟨0, _⟩ => rfl
      | ⟨1, _⟩ => exact absurd rfl ha
      | ⟨2, _⟩ => rfl
    · show (k - 30) % 2048 + 30 = k; omega

/-- The reference's tap 0. -/
theorem tap0_at (b : Fin 8) (s : Fin 2048) (n : Fin 512) :
    val_main_v17 (F := Ideal) z st w (ix3 b s n) = w (ix2 ⟨0 % 31, Nat.mod_lt _ (by decide)⟩ n) * fullAt z st b (s.val + 0) n := by
  rw [← full_at z st b ⟨s.val + 0, by omega⟩ n]
  pointwise [val_main_v17, val_main_v16, val_main_v15, val_main_v14, val_main_v13, val_main_v12]

/-- The reference's tap 1. -/
theorem tap1_at (b : Fin 8) (s : Fin 2048) (n : Fin 512) :
    val_main_v25 (F := Ideal) z st w (ix3 b s n) = w (ix2 ⟨1 % 31, Nat.mod_lt _ (by decide)⟩ n) * fullAt z st b (s.val + 1) n := by
  rw [← full_at z st b ⟨s.val + 1, by omega⟩ n]
  pointwise [val_main_v25, val_main_v24, val_main_v23, val_main_v22, val_main_v21, val_main_v20]
  rw [show (⟨1 + s.val, by omega⟩ : Fin 2078) = ⟨s.val + 1, by omega⟩ from Fin.ext (Nat.add_comm _ _)]

/-- The reference's tap 2. -/
theorem tap2_at (b : Fin 8) (s : Fin 2048) (n : Fin 512) :
    val_main_v32 (F := Ideal) z st w (ix3 b s n) = w (ix2 ⟨2 % 31, Nat.mod_lt _ (by decide)⟩ n) * fullAt z st b (s.val + 2) n := by
  rw [← full_at z st b ⟨s.val + 2, by omega⟩ n]
  pointwise [val_main_v32, val_main_v31, val_main_v30, val_main_v29, val_main_v28, val_main_v27]
  rw [show (⟨2 + s.val, by omega⟩ : Fin 2078) = ⟨s.val + 2, by omega⟩ from Fin.ext (Nat.add_comm _ _)]

/-- The reference's tap 3. -/
theorem tap3_at (b : Fin 8) (s : Fin 2048) (n : Fin 512) :
    val_main_v39 (F := Ideal) z st w (ix3 b s n) = w (ix2 ⟨3 % 31, Nat.mod_lt _ (by decide)⟩ n) * fullAt z st b (s.val + 3) n := by
  rw [← full_at z st b ⟨s.val + 3, by omega⟩ n]
  pointwise [val_main_v39, val_main_v38, val_main_v37, val_main_v36, val_main_v35, val_main_v34]
  rw [show (⟨3 + s.val, by omega⟩ : Fin 2078) = ⟨s.val + 3, by omega⟩ from Fin.ext (Nat.add_comm _ _)]

/-- The reference's tap 4. -/
theorem tap4_at (b : Fin 8) (s : Fin 2048) (n : Fin 512) :
    val_main_v46 (F := Ideal) z st w (ix3 b s n) = w (ix2 ⟨4 % 31, Nat.mod_lt _ (by decide)⟩ n) * fullAt z st b (s.val + 4) n := by
  rw [← full_at z st b ⟨s.val + 4, by omega⟩ n]
  pointwise [val_main_v46, val_main_v45, val_main_v44, val_main_v43, val_main_v42, val_main_v41]
  rw [show (⟨4 + s.val, by omega⟩ : Fin 2078) = ⟨s.val + 4, by omega⟩ from Fin.ext (Nat.add_comm _ _)]

/-- The reference's tap 5. -/
theorem tap5_at (b : Fin 8) (s : Fin 2048) (n : Fin 512) :
    val_main_v53 (F := Ideal) z st w (ix3 b s n) = w (ix2 ⟨5 % 31, Nat.mod_lt _ (by decide)⟩ n) * fullAt z st b (s.val + 5) n := by
  rw [← full_at z st b ⟨s.val + 5, by omega⟩ n]
  pointwise [val_main_v53, val_main_v52, val_main_v51, val_main_v50, val_main_v49, val_main_v48]
  rw [show (⟨5 + s.val, by omega⟩ : Fin 2078) = ⟨s.val + 5, by omega⟩ from Fin.ext (Nat.add_comm _ _)]

/-- The reference's tap 6. -/
theorem tap6_at (b : Fin 8) (s : Fin 2048) (n : Fin 512) :
    val_main_v60 (F := Ideal) z st w (ix3 b s n) = w (ix2 ⟨6 % 31, Nat.mod_lt _ (by decide)⟩ n) * fullAt z st b (s.val + 6) n := by
  rw [← full_at z st b ⟨s.val + 6, by omega⟩ n]
  pointwise [val_main_v60, val_main_v59, val_main_v58, val_main_v57, val_main_v56, val_main_v55]
  rw [show (⟨6 + s.val, by omega⟩ : Fin 2078) = ⟨s.val + 6, by omega⟩ from Fin.ext (Nat.add_comm _ _)]

/-- The reference's tap 7. -/
theorem tap7_at (b : Fin 8) (s : Fin 2048) (n : Fin 512) :
    val_main_v67 (F := Ideal) z st w (ix3 b s n) = w (ix2 ⟨7 % 31, Nat.mod_lt _ (by decide)⟩ n) * fullAt z st b (s.val + 7) n := by
  rw [← full_at z st b ⟨s.val + 7, by omega⟩ n]
  pointwise [val_main_v67, val_main_v66, val_main_v65, val_main_v64, val_main_v63, val_main_v62]
  rw [show (⟨7 + s.val, by omega⟩ : Fin 2078) = ⟨s.val + 7, by omega⟩ from Fin.ext (Nat.add_comm _ _)]

/-- The reference's tap 8. -/
theorem tap8_at (b : Fin 8) (s : Fin 2048) (n : Fin 512) :
    val_main_v74 (F := Ideal) z st w (ix3 b s n) = w (ix2 ⟨8 % 31, Nat.mod_lt _ (by decide)⟩ n) * fullAt z st b (s.val + 8) n := by
  rw [← full_at z st b ⟨s.val + 8, by omega⟩ n]
  pointwise [val_main_v74, val_main_v73, val_main_v72, val_main_v71, val_main_v70, val_main_v69]
  rw [show (⟨8 + s.val, by omega⟩ : Fin 2078) = ⟨s.val + 8, by omega⟩ from Fin.ext (Nat.add_comm _ _)]

/-- The reference's tap 9. -/
theorem tap9_at (b : Fin 8) (s : Fin 2048) (n : Fin 512) :
    val_main_v81 (F := Ideal) z st w (ix3 b s n) = w (ix2 ⟨9 % 31, Nat.mod_lt _ (by decide)⟩ n) * fullAt z st b (s.val + 9) n := by
  rw [← full_at z st b ⟨s.val + 9, by omega⟩ n]
  pointwise [val_main_v81, val_main_v80, val_main_v79, val_main_v78, val_main_v77, val_main_v76]
  rw [show (⟨9 + s.val, by omega⟩ : Fin 2078) = ⟨s.val + 9, by omega⟩ from Fin.ext (Nat.add_comm _ _)]

/-- The reference's tap 10. -/
theorem tap10_at (b : Fin 8) (s : Fin 2048) (n : Fin 512) :
    val_main_v88 (F := Ideal) z st w (ix3 b s n) = w (ix2 ⟨10 % 31, Nat.mod_lt _ (by decide)⟩ n) * fullAt z st b (s.val + 10) n := by
  rw [← full_at z st b ⟨s.val + 10, by omega⟩ n]
  pointwise [val_main_v88, val_main_v87, val_main_v86, val_main_v85, val_main_v84, val_main_v83]
  rw [show (⟨10 + s.val, by omega⟩ : Fin 2078) = ⟨s.val + 10, by omega⟩ from Fin.ext (Nat.add_comm _ _)]

/-- The reference's tap 11. -/
theorem tap11_at (b : Fin 8) (s : Fin 2048) (n : Fin 512) :
    val_main_v95 (F := Ideal) z st w (ix3 b s n) = w (ix2 ⟨11 % 31, Nat.mod_lt _ (by decide)⟩ n) * fullAt z st b (s.val + 11) n := by
  rw [← full_at z st b ⟨s.val + 11, by omega⟩ n]
  pointwise [val_main_v95, val_main_v94, val_main_v93, val_main_v92, val_main_v91, val_main_v90]
  rw [show (⟨11 + s.val, by omega⟩ : Fin 2078) = ⟨s.val + 11, by omega⟩ from Fin.ext (Nat.add_comm _ _)]

/-- The reference's tap 12. -/
theorem tap12_at (b : Fin 8) (s : Fin 2048) (n : Fin 512) :
    val_main_v102 (F := Ideal) z st w (ix3 b s n) = w (ix2 ⟨12 % 31, Nat.mod_lt _ (by decide)⟩ n) * fullAt z st b (s.val + 12) n := by
  rw [← full_at z st b ⟨s.val + 12, by omega⟩ n]
  pointwise [val_main_v102, val_main_v101, val_main_v100, val_main_v99, val_main_v98, val_main_v97]
  rw [show (⟨12 + s.val, by omega⟩ : Fin 2078) = ⟨s.val + 12, by omega⟩ from Fin.ext (Nat.add_comm _ _)]

/-- The reference's tap 13. -/
theorem tap13_at (b : Fin 8) (s : Fin 2048) (n : Fin 512) :
    val_main_v109 (F := Ideal) z st w (ix3 b s n) = w (ix2 ⟨13 % 31, Nat.mod_lt _ (by decide)⟩ n) * fullAt z st b (s.val + 13) n := by
  rw [← full_at z st b ⟨s.val + 13, by omega⟩ n]
  pointwise [val_main_v109, val_main_v108, val_main_v107, val_main_v106, val_main_v105, val_main_v104]
  rw [show (⟨13 + s.val, by omega⟩ : Fin 2078) = ⟨s.val + 13, by omega⟩ from Fin.ext (Nat.add_comm _ _)]

/-- The reference's tap 14. -/
theorem tap14_at (b : Fin 8) (s : Fin 2048) (n : Fin 512) :
    val_main_v116 (F := Ideal) z st w (ix3 b s n) = w (ix2 ⟨14 % 31, Nat.mod_lt _ (by decide)⟩ n) * fullAt z st b (s.val + 14) n := by
  rw [← full_at z st b ⟨s.val + 14, by omega⟩ n]
  pointwise [val_main_v116, val_main_v115, val_main_v114, val_main_v113, val_main_v112, val_main_v111]
  rw [show (⟨14 + s.val, by omega⟩ : Fin 2078) = ⟨s.val + 14, by omega⟩ from Fin.ext (Nat.add_comm _ _)]

/-- The reference's tap 15. -/
theorem tap15_at (b : Fin 8) (s : Fin 2048) (n : Fin 512) :
    val_main_v123 (F := Ideal) z st w (ix3 b s n) = w (ix2 ⟨15 % 31, Nat.mod_lt _ (by decide)⟩ n) * fullAt z st b (s.val + 15) n := by
  rw [← full_at z st b ⟨s.val + 15, by omega⟩ n]
  pointwise [val_main_v123, val_main_v122, val_main_v121, val_main_v120, val_main_v119, val_main_v118]
  rw [show (⟨15 + s.val, by omega⟩ : Fin 2078) = ⟨s.val + 15, by omega⟩ from Fin.ext (Nat.add_comm _ _)]

/-- The reference's tap 16. -/
theorem tap16_at (b : Fin 8) (s : Fin 2048) (n : Fin 512) :
    val_main_v130 (F := Ideal) z st w (ix3 b s n) = w (ix2 ⟨16 % 31, Nat.mod_lt _ (by decide)⟩ n) * fullAt z st b (s.val + 16) n := by
  rw [← full_at z st b ⟨s.val + 16, by omega⟩ n]
  pointwise [val_main_v130, val_main_v129, val_main_v128, val_main_v127, val_main_v126, val_main_v125]
  rw [show (⟨16 + s.val, by omega⟩ : Fin 2078) = ⟨s.val + 16, by omega⟩ from Fin.ext (Nat.add_comm _ _)]

/-- The reference's tap 17. -/
theorem tap17_at (b : Fin 8) (s : Fin 2048) (n : Fin 512) :
    val_main_v137 (F := Ideal) z st w (ix3 b s n) = w (ix2 ⟨17 % 31, Nat.mod_lt _ (by decide)⟩ n) * fullAt z st b (s.val + 17) n := by
  rw [← full_at z st b ⟨s.val + 17, by omega⟩ n]
  pointwise [val_main_v137, val_main_v136, val_main_v135, val_main_v134, val_main_v133, val_main_v132]
  rw [show (⟨17 + s.val, by omega⟩ : Fin 2078) = ⟨s.val + 17, by omega⟩ from Fin.ext (Nat.add_comm _ _)]

/-- The reference's tap 18. -/
theorem tap18_at (b : Fin 8) (s : Fin 2048) (n : Fin 512) :
    val_main_v144 (F := Ideal) z st w (ix3 b s n) = w (ix2 ⟨18 % 31, Nat.mod_lt _ (by decide)⟩ n) * fullAt z st b (s.val + 18) n := by
  rw [← full_at z st b ⟨s.val + 18, by omega⟩ n]
  pointwise [val_main_v144, val_main_v143, val_main_v142, val_main_v141, val_main_v140, val_main_v139]
  rw [show (⟨18 + s.val, by omega⟩ : Fin 2078) = ⟨s.val + 18, by omega⟩ from Fin.ext (Nat.add_comm _ _)]

/-- The reference's tap 19. -/
theorem tap19_at (b : Fin 8) (s : Fin 2048) (n : Fin 512) :
    val_main_v151 (F := Ideal) z st w (ix3 b s n) = w (ix2 ⟨19 % 31, Nat.mod_lt _ (by decide)⟩ n) * fullAt z st b (s.val + 19) n := by
  rw [← full_at z st b ⟨s.val + 19, by omega⟩ n]
  pointwise [val_main_v151, val_main_v150, val_main_v149, val_main_v148, val_main_v147, val_main_v146]
  rw [show (⟨19 + s.val, by omega⟩ : Fin 2078) = ⟨s.val + 19, by omega⟩ from Fin.ext (Nat.add_comm _ _)]

/-- The reference's tap 20. -/
theorem tap20_at (b : Fin 8) (s : Fin 2048) (n : Fin 512) :
    val_main_v158 (F := Ideal) z st w (ix3 b s n) = w (ix2 ⟨20 % 31, Nat.mod_lt _ (by decide)⟩ n) * fullAt z st b (s.val + 20) n := by
  rw [← full_at z st b ⟨s.val + 20, by omega⟩ n]
  pointwise [val_main_v158, val_main_v157, val_main_v156, val_main_v155, val_main_v154, val_main_v153]
  rw [show (⟨20 + s.val, by omega⟩ : Fin 2078) = ⟨s.val + 20, by omega⟩ from Fin.ext (Nat.add_comm _ _)]

/-- The reference's tap 21. -/
theorem tap21_at (b : Fin 8) (s : Fin 2048) (n : Fin 512) :
    val_main_v165 (F := Ideal) z st w (ix3 b s n) = w (ix2 ⟨21 % 31, Nat.mod_lt _ (by decide)⟩ n) * fullAt z st b (s.val + 21) n := by
  rw [← full_at z st b ⟨s.val + 21, by omega⟩ n]
  pointwise [val_main_v165, val_main_v164, val_main_v163, val_main_v162, val_main_v161, val_main_v160]
  rw [show (⟨21 + s.val, by omega⟩ : Fin 2078) = ⟨s.val + 21, by omega⟩ from Fin.ext (Nat.add_comm _ _)]

/-- The reference's tap 22. -/
theorem tap22_at (b : Fin 8) (s : Fin 2048) (n : Fin 512) :
    val_main_v172 (F := Ideal) z st w (ix3 b s n) = w (ix2 ⟨22 % 31, Nat.mod_lt _ (by decide)⟩ n) * fullAt z st b (s.val + 22) n := by
  rw [← full_at z st b ⟨s.val + 22, by omega⟩ n]
  pointwise [val_main_v172, val_main_v171, val_main_v170, val_main_v169, val_main_v168, val_main_v167]
  rw [show (⟨22 + s.val, by omega⟩ : Fin 2078) = ⟨s.val + 22, by omega⟩ from Fin.ext (Nat.add_comm _ _)]

/-- The reference's tap 23. -/
theorem tap23_at (b : Fin 8) (s : Fin 2048) (n : Fin 512) :
    val_main_v179 (F := Ideal) z st w (ix3 b s n) = w (ix2 ⟨23 % 31, Nat.mod_lt _ (by decide)⟩ n) * fullAt z st b (s.val + 23) n := by
  rw [← full_at z st b ⟨s.val + 23, by omega⟩ n]
  pointwise [val_main_v179, val_main_v178, val_main_v177, val_main_v176, val_main_v175, val_main_v174]
  rw [show (⟨23 + s.val, by omega⟩ : Fin 2078) = ⟨s.val + 23, by omega⟩ from Fin.ext (Nat.add_comm _ _)]

/-- The reference's tap 24. -/
theorem tap24_at (b : Fin 8) (s : Fin 2048) (n : Fin 512) :
    val_main_v186 (F := Ideal) z st w (ix3 b s n) = w (ix2 ⟨24 % 31, Nat.mod_lt _ (by decide)⟩ n) * fullAt z st b (s.val + 24) n := by
  rw [← full_at z st b ⟨s.val + 24, by omega⟩ n]
  pointwise [val_main_v186, val_main_v185, val_main_v184, val_main_v183, val_main_v182, val_main_v181]
  rw [show (⟨24 + s.val, by omega⟩ : Fin 2078) = ⟨s.val + 24, by omega⟩ from Fin.ext (Nat.add_comm _ _)]

/-- The reference's tap 25. -/
theorem tap25_at (b : Fin 8) (s : Fin 2048) (n : Fin 512) :
    val_main_v193 (F := Ideal) z st w (ix3 b s n) = w (ix2 ⟨25 % 31, Nat.mod_lt _ (by decide)⟩ n) * fullAt z st b (s.val + 25) n := by
  rw [← full_at z st b ⟨s.val + 25, by omega⟩ n]
  pointwise [val_main_v193, val_main_v192, val_main_v191, val_main_v190, val_main_v189, val_main_v188]
  rw [show (⟨25 + s.val, by omega⟩ : Fin 2078) = ⟨s.val + 25, by omega⟩ from Fin.ext (Nat.add_comm _ _)]

/-- The reference's tap 26. -/
theorem tap26_at (b : Fin 8) (s : Fin 2048) (n : Fin 512) :
    val_main_v200 (F := Ideal) z st w (ix3 b s n) = w (ix2 ⟨26 % 31, Nat.mod_lt _ (by decide)⟩ n) * fullAt z st b (s.val + 26) n := by
  rw [← full_at z st b ⟨s.val + 26, by omega⟩ n]
  pointwise [val_main_v200, val_main_v199, val_main_v198, val_main_v197, val_main_v196, val_main_v195]
  rw [show (⟨26 + s.val, by omega⟩ : Fin 2078) = ⟨s.val + 26, by omega⟩ from Fin.ext (Nat.add_comm _ _)]

/-- The reference's tap 27. -/
theorem tap27_at (b : Fin 8) (s : Fin 2048) (n : Fin 512) :
    val_main_v207 (F := Ideal) z st w (ix3 b s n) = w (ix2 ⟨27 % 31, Nat.mod_lt _ (by decide)⟩ n) * fullAt z st b (s.val + 27) n := by
  rw [← full_at z st b ⟨s.val + 27, by omega⟩ n]
  pointwise [val_main_v207, val_main_v206, val_main_v205, val_main_v204, val_main_v203, val_main_v202]
  rw [show (⟨27 + s.val, by omega⟩ : Fin 2078) = ⟨s.val + 27, by omega⟩ from Fin.ext (Nat.add_comm _ _)]

/-- The reference's tap 28. -/
theorem tap28_at (b : Fin 8) (s : Fin 2048) (n : Fin 512) :
    val_main_v214 (F := Ideal) z st w (ix3 b s n) = w (ix2 ⟨28 % 31, Nat.mod_lt _ (by decide)⟩ n) * fullAt z st b (s.val + 28) n := by
  rw [← full_at z st b ⟨s.val + 28, by omega⟩ n]
  pointwise [val_main_v214, val_main_v213, val_main_v212, val_main_v211, val_main_v210, val_main_v209]
  rw [show (⟨28 + s.val, by omega⟩ : Fin 2078) = ⟨s.val + 28, by omega⟩ from Fin.ext (Nat.add_comm _ _)]

/-- The reference's tap 29. -/
theorem tap29_at (b : Fin 8) (s : Fin 2048) (n : Fin 512) :
    val_main_v221 (F := Ideal) z st w (ix3 b s n) = w (ix2 ⟨29 % 31, Nat.mod_lt _ (by decide)⟩ n) * fullAt z st b (s.val + 29) n := by
  rw [← full_at z st b ⟨s.val + 29, by omega⟩ n]
  pointwise [val_main_v221, val_main_v220, val_main_v219, val_main_v218, val_main_v217, val_main_v216]
  rw [show (⟨29 + s.val, by omega⟩ : Fin 2078) = ⟨s.val + 29, by omega⟩ from Fin.ext (Nat.add_comm _ _)]

/-- The reference's tap 30. -/
theorem tap30_at (b : Fin 8) (s : Fin 2048) (n : Fin 512) :
    val_main_v228 (F := Ideal) z st w (ix3 b s n) = w (ix2 ⟨30 % 31, Nat.mod_lt _ (by decide)⟩ n) * fullAt z st b (s.val + 30) n := by
  rw [← full_at z st b ⟨s.val + 30, by omega⟩ n]
  pointwise [val_main_v228, val_main_v227, val_main_v226, val_main_v225, val_main_v224, val_main_v223]
  rw [show (⟨30 + s.val, by omega⟩ : Fin 2078) = ⟨s.val + 30, by omega⟩ from Fin.ext (Nat.add_comm _ _)]

/-- The reference's sum of the taps. -/
theorem sum_at (b : Fin 8) (s : Fin 2048) (n : Fin 512) :
    val_main_v229 (F := Ideal) z st w (ix3 b s n) = taps (fun j => w (ix2 ⟨j % 31, Nat.mod_lt _ (by decide)⟩ n) * fullAt z st b (s.val + j) n) 31 := by
  have h0 : val_main_v18 (F := Ideal) (ix3 b s n) = 0 := by
    rw [val_main_v18_apply]
    exact Ideal.ofBits_zero_f32
  simp only [val_main_v229_apply, val_main_v222_apply, val_main_v215_apply, val_main_v208_apply, val_main_v201_apply, val_main_v194_apply, val_main_v187_apply, val_main_v180_apply, val_main_v173_apply, val_main_v166_apply, val_main_v159_apply, val_main_v152_apply, val_main_v145_apply, val_main_v138_apply, val_main_v131_apply, val_main_v124_apply, val_main_v117_apply, val_main_v110_apply, val_main_v103_apply, val_main_v96_apply, val_main_v89_apply, val_main_v82_apply, val_main_v75_apply, val_main_v68_apply, val_main_v61_apply, val_main_v54_apply, val_main_v47_apply, val_main_v40_apply, val_main_v33_apply, val_main_v26_apply, val_main_v19_apply, tap0_at, tap1_at, tap2_at, tap3_at, tap4_at, tap5_at, tap6_at, tap7_at, tap8_at, tap9_at, tap10_at, tap11_at, tap12_at, tap13_at, tap14_at, tap15_at, tap16_at, tap17_at, tap18_at, tap19_at, tap20_at, tap21_at, tap22_at, tap23_at, tap24_at, tap25_at, tap26_at, tap27_at, tap28_at, tap29_at, tap30_at, h0, taps]
  rfl

/-- The reference's convolution with its bias. -/
theorem conv_at (b : Fin 8) (s : Fin 2048) (n : Fin 512) :
    val_main_v232 (F := Ideal) z st w bd (ix3 b s n) = taps (fun j => w (ix2 ⟨j % 31, Nat.mod_lt _ (by decide)⟩ n) * fullAt z st b (s.val + j) n) 31 + bd (ix1 n) := by
  rw [← sum_at]
  pointwise [val_main_v232, val_main_v231, val_main_v230]

/-- The reference's norm. -/
theorem norm_at (b : Fin 8) (s : Fin 2048) (n : Fin 512) :
    val_main_v256 (F := Ideal) z st w bd lg lb (ix3 b s n) = lnorm (fun k => val_main_v232 (F := Ideal) z st w bd (ix3 b s k)) (lg (ix1 n)) (lb (ix1 n)) n := by
  pointwise [val_main_v256, val_main_v255, val_main_v254, val_main_v253, val_main_v252, val_main_v251, val_main_v250, val_main_v249, val_main_v248, val_main_v247, val_main_v246, val_main_v245, val_main_v244, val_main_v243, val_main_v242, val_main_v241, val_main_v240, val_main_v239, val_main_v238, val_main_v237, val_main_v236, val_main_v235, val_main_v234, val_main_v233, val_main_cst_2, val_main_cst_3, val_main_cst_4, val_main_cst_5, val_main_cst_6]
  rfl

/-- The reference's result. -/
theorem refY : val_main_v259 (F := Ideal) z st w bd lg lb = cvY z st w bd lg lb := by
  funext i
  obtain ⟨b, s, n, rfl⟩ : ∃ (b : Fin 8) (s : Fin 2048) (n : Fin 512), i = ix3 b s n :=
    ⟨i 0, i 1, i 2, funext fun a => match a with | ⟨0, _⟩ => rfl | ⟨1, _⟩ => rfl | ⟨2, _⟩ => rfl⟩
  show _ = swish (lnorm (fun k => taps (fun j => w (ix2 ⟨j % 31, Nat.mod_lt _ (by decide)⟩ k) * fullAt z st b (s.val + j) k) 31 + bd (ix1 k)) (lg (ix1 n)) (lb (ix1 n)) n) * swish (z (ix3 b s ⟨4096 + n.val, by omega⟩))
  have e := norm_at z st w bd lg lb b s n
  simp only [conv_at] at e
  rw [← e]
  pointwise [val_main_v259, val_main_v258, val_main_v257, val_main_v2, val_main_call0_v5, val_main_call0_v4, val_main_call0_v3, val_main_call0_v2, val_main_call0_v1, val_main_call0_v0, val_main_call1_v5, val_main_call1_v4, val_main_call1_v3, val_main_call1_v2, val_main_call1_v1, val_main_call1_v0, val_main_call0_cst, val_main_call0_cst_0, val_main_call1_cst, val_main_call1_cst_0]
  rfl

/-- The reference's carried rows. -/
theorem refT : val_main_v260 (F := Ideal) z st = cvT z st := by
  funext i
  obtain ⟨b, r, n, rfl⟩ : ∃ (b : Fin 8) (r : Fin 32) (n : Fin 512), i = ix3 b r n :=
    ⟨i 0, i 1, i 2, funext fun a => match a with | ⟨0, _⟩ => rfl | ⟨1, _⟩ => rfl | ⟨2, _⟩ => rfl⟩
  have hr' : r.val < 32 := r.isLt
  rw [val_main_v260_apply]
  refine Eq.trans (congrArg _ (funext fun a => ?_)) (full_at z st b ⟨r.val + 2046, by omega⟩ n)
  match a with
  | ⟨0, _⟩ => exact Fin.ext (by rfl)
  | ⟨1, _⟩ => exact Fin.ext (by show 2046 + r.val = r.val + 2046; omega)
  | ⟨2, _⟩ => exact Fin.ext (by rfl)

end Cert.Proof.Cv
-- ==== Proof.CvPoints.lean ====
module
public import proofs.«01_k».proof.Proof.CvTile
public import proofs.«01_k».proof.Proof.CvRef
public import proofs.«01_k».proof.Proof.Gen.ConvIdeal.Value
public import Idealize.ShloMosaic.Lib.KernelVsHost
public import Idealize.ShloMosaic.Lib.Pipeline.Value
public import Idealize.ShloMosaic.Lib.Pipeline.ValueKit.Geometry
public import Idealize.ShloMosaic.Lib.Pointwise

@[expose] public section

set_option maxRecDepth 65536

noncomputable section

/-! # The convolution's blocks at a grid point -/

namespace Cert.Proof.Cv

open Idealize.ShloMosaic Idealize.ShloMosaic.TcCoe Idealize.SL.Sem
open Idealize.ShloMosaic.Pipeline (Dat)
open Cert.ConvIdeal Cert.ConvIdeal.Gen

variable (m : (ℓ : Loc nD τ sig) → Buf (Elt Ideal) ℓ) (ρ : Dev nD → PrngReg)

/-- The projection. -/
abbrev zA (c : Dev nD) : FVec Ideal S8x2048x8448 .f32 := m ((c.tc : Thread nD τ).loc main_arg0)

/-- The carried rows. -/
abbrev stA (c : Dev nD) : FVec Ideal S8x32x512 .f32 := m ((c.tc : Thread nD τ).loc main_arg1)

/-- The taps' weights. -/
abbrev wA (c : Dev nD) : FVec Ideal S31x512 .f32 := m ((c.tc : Thread nD τ).loc main_arg2)

/-- The bias. -/
abbrev bdA (c : Dev nD) : FVec Ideal S512 .f32 := m ((c.tc : Thread nD τ).loc main_arg3)

/-- The norm's gains. -/
abbrev lgA (c : Dev nD) : FVec Ideal S512 .f32 := m ((c.tc : Thread nD τ).loc main_arg4)

/-- The norm's offsets. -/
abbrev lbA (c : Dev nD) : FVec Ideal S512 .f32 := m ((c.tc : Thread nD τ).loc main_arg5)

/-- The weights the windows find: one row more than the taps. -/
theorem V_w (c : Dev nD) (j : Fin 31) (n : Fin 512) : V m c main_v0 (ix2 ⟨j.val, by omega⟩ n) = wA m c (ix2 j n) := by
  have e : V m c main_v0 = pad S32x512 ![0, 0] ![1, 0] ![0, 0] (wA m c) (sitofp (F := Ideal) .f32 (constantI S_ 32 0#32)) pads_S31x512_S32x512_010_000 h_S_ := by
    simp only [V, hostOps0, hostOps0_1, hostOps0_2]
    after_reads_simp
    rfl
  rw [e]
  refine pad_apply_of_inside _ _ _ _ _ _ _ _ (ix2 j n) (fun a => ?_)
  match a with
  | ⟨0, _⟩ => show j.val = 0 + j.val * (0 + 1); omega
  | ⟨1, _⟩ => show n.val = 0 + n.val * (0 + 1); omega

/-- The bias as the windows find it. -/
theorem V_b (c : Dev nD) : V m c main_v1 = shapeCast S1x512 (bdA m c) shapeCasts_S512_S1x512 := by
  simp only [V, hostOps0, hostOps0_1, hostOps0_2]
  after_reads_simp
  rfl

/-- The gains as the windows find them. -/
theorem V_g (c : Dev nD) : V m c main_v2 = shapeCast S1x512 (lgA m c) shapeCasts_S512_S1x512 := by
  simp only [V, hostOps0, hostOps0_1, hostOps0_2]
  after_reads_simp
  rfl

/-- The offsets as the windows find them. -/
theorem V_o (c : Dev nD) : V m c main_v3 = shapeCast S1x512 (lbA m c) shapeCasts_S512_S1x512 := by
  simp only [V, hostOps0, hostOps0_1, hostOps0_2]
  after_reads_simp
  rfl

/-- A row of 512 laid out as one row of a matrix. -/
theorem row_apply (x : FVec Ideal S512 .f32) (n : Fin 512) : shapeCast S1x512 x shapeCasts_S512_S1x512 (ix2 0 n) = x (ix1 n) := by
  pointwise []

/-- The windows' block offsets at point `t`. -/
theorem idx_facts : ∀ t : Fin cfg0.N, (win0_0.index t 0 = t.val / 4 ∧ win0_0.index t 1 = t.val % 4 ∧ win0_0.index t 2 = 6)
    ∧ (win0_1.index t 0 = t.val / 4 ∧ win0_1.index t 1 = t.val % 4 ∧ win0_1.index t 2 = 7)
    ∧ (win0_2.index t 0 = t.val / 4 ∧ win0_2.index t 1 = t.val % 4 ∧ win0_2.index t 2 = 8)
    ∧ (win0_3.index t 0 = t.val / 4 ∧ win0_3.index t 1 = 16 * (t.val % 4) - 1 ∧ win0_3.index t 2 = 6)
    ∧ (win0_4.index t 0 = t.val / 4 ∧ win0_4.index t 1 = 16 * (t.val % 4) - 1 ∧ win0_4.index t 2 = 7)
    ∧ (win0_5.index t 0 = t.val / 4 ∧ win0_5.index t 1 = 0 ∧ win0_5.index t 2 = 0)
    ∧ (win0_6.index t 0 = 0 ∧ win0_6.index t 1 = 0) ∧ (win0_7.index t 0 = 0 ∧ win0_7.index t 1 = 0)
    ∧ (win0_8.index t 0 = 0 ∧ win0_8.index t 1 = 0) ∧ (win0_9.index t 0 = 0 ∧ win0_9.index t 1 = 0) := by
  show ∀ t : Fin grid0.N, _
  decide +kernel

/-- The outputs' block offsets at point `t`, and its tile. -/
theorem out_facts : ∀ t : Fin cfg0.N, (win0_10.index t 0 = t.val / 4 ∧ win0_10.index t 1 = t.val % 4 ∧ win0_10.index t 2 = 0)
    ∧ (win0_11.index t 0 = t.val / 4 ∧ win0_11.index t 1 = 0 ∧ win0_11.index t 2 = 0) ∧ ((grid0.coords t) 1).val = t.val % 4 := by
  show ∀ t : Fin grid0.N, _
  decide +kernel

/-- A point's sequence. -/
def bT (t : Fin cfg0.N) : Fin 8 := ⟨t.val / 4, by have : t.val < 32 := t.isLt; omega⟩

/-- A row of a point's tile. -/
def sT (t : Fin cfg0.N) (r : Fin 512) : Fin 2048 := ⟨t.val % 4 * 512 + r.val, by omega⟩

/-- Window 0's block: the tile's rows of the value columns. -/
theorem blk0 (c : Dev nD) (t : Fin cfg0.N) (r n : Fin 512) : X0_0 m c t (ix3 0 r n) = zA m c (ix3 (bT t) (sT t r) ⟨3072 + n.val, by omega⟩) := by
  obtain ⟨f, -⟩ := idx_facts t
  unfold X0_0 Pipeline.Window.fill bT sT
  rw [dif_pos (moved0_0 t _)]
  blk_ext [iblk, V_main_arg0, f.1, f.2.1, f.2.2]

/-- Window 1's block: the tile's rows of the gate columns. -/
theorem blk1 (c : Dev nD) (t : Fin cfg0.N) (r n : Fin 512) : X0_1 m c t (ix3 0 r n) = zA m c (ix3 (bT t) (sT t r) ⟨3584 + n.val, by omega⟩) := by
  obtain ⟨-, f, -⟩ := idx_facts t
  unfold X0_1 Pipeline.Window.fill bT sT
  rw [dif_pos (moved0_1 t _)]
  blk_ext [iblk, V_main_arg0, f.1, f.2.1, f.2.2]

/-- Window 2's block: the tile's rows of the output gate's columns. -/
theorem blk2 (c : Dev nD) (t : Fin cfg0.N) (r n : Fin 512) : X0_2 m c t (ix3 0 r n) = zA m c (ix3 (bT t) (sT t r) ⟨4096 + n.val, by omega⟩) := by
  obtain ⟨-, -, f, -⟩ := idx_facts t
  unfold X0_2 Pipeline.Window.fill bT sT
  rw [dif_pos (moved0_2 t _)]
  blk_ext [iblk, V_main_arg0, f.1, f.2.1, f.2.2]

/-- Window 3's block: the 32 rows before the tile, or the first. -/
theorem blk3 (c : Dev nD) (t : Fin cfg0.N) (r : Fin 32) (n : Fin 512) :
    X0_3 m c t (ix3 0 r n) = zA m c (ix3 (bT t) ⟨(16 * (t.val % 4) - 1) * 32 + r.val, by omega⟩ ⟨3072 + n.val, by omega⟩) := by
  obtain ⟨-, -, -, f, -⟩ := idx_facts t
  unfold X0_3 Pipeline.Window.fill bT
  rw [dif_pos (moved0_3 t _)]
  blk_ext [iblk, V_main_arg0, f.1, f.2.1, f.2.2]

/-- Window 4's block: those rows' gates. -/
theorem blk4 (c : Dev nD) (t : Fin cfg0.N) (r : Fin 32) (n : Fin 512) :
    X0_4 m c t (ix3 0 r n) = zA m c (ix3 (bT t) ⟨(16 * (t.val % 4) - 1) * 32 + r.val, by omega⟩ ⟨3584 + n.val, by omega⟩) := by
  obtain ⟨-, -, -, -, f, -⟩ := idx_facts t
  unfold X0_4 Pipeline.Window.fill bT
  rw [dif_pos (moved0_4 t _)]
  blk_ext [iblk, V_main_arg0, f.1, f.2.1, f.2.2]

/-- Window 5's block: the sequence's carried rows. -/
theorem blk5 (c : Dev nD) (t : Fin cfg0.N) (r : Fin 32) (n : Fin 512) : iblk m c 5 t (ix3 0 r n) = stA m c (ix3 (bT t) r n) := by
  obtain ⟨-, -, -, -, -, f, -⟩ := idx_facts t
  unfold bT
  blk_ext [iblk, V_main_arg1, f.1, f.2.1, f.2.2]

/-- Window 6's block: the weights. -/
theorem blk6 (c : Dev nD) (t : Fin cfg0.N) (r : Fin 32) (n : Fin 512) : iblk m c 6 t (ix2 r n) = V m c main_v0 (ix2 r n) := by
  obtain ⟨-, -, -, -, -, -, f, -⟩ := idx_facts t
  blk_ext [iblk, f.1, f.2]

/-- Window 7's block: the bias. -/
theorem blk7 (c : Dev nD) (t : Fin cfg0.N) (n : Fin 512) : iblk m c 7 t (ix2 0 n) = bdA m c (ix1 n) := by
  obtain ⟨-, -, -, -, -, -, -, f, -⟩ := idx_facts t
  rw [← row_apply (bdA m c) n, ← V_b]
  blk_ext [iblk, f.1, f.2]

/-- Window 8's block: the norm's gains. -/
theorem blk8 (c : Dev nD) (t : Fin cfg0.N) (n : Fin 512) : iblk m c 8 t (ix2 0 n) = lgA m c (ix1 n) := by
  obtain ⟨-, -, -, -, -, -, -, -, f, -⟩ := idx_facts t
  rw [← row_apply (lgA m c) n, ← V_g]
  blk_ext [iblk, f.1, f.2]

/-- Window 9's block: the norm's offsets. -/
theorem blk9 (c : Dev nD) (t : Fin cfg0.N) (n : Fin 512) : iblk m c 9 t (ix2 0 n) = lbA m c (ix1 n) := by
  obtain ⟨-, -, -, -, -, -, -, -, -, f⟩ := idx_facts t
  rw [← row_apply (lbA m c) n, ← V_o]
  blk_ext [iblk, f.1, f.2]

/-- The rows a tile reads are the sequence's, from its start's 30 before. -/
theorem fAt_eq (c : Dev nD) (t : Fin cfg0.N) (k : ℕ) (hk : k < 542) (n : Fin 512) :
    fAt (grid0.coords t) (X0_0 m c t) (X0_1 m c t) (X0_3 m c t) (X0_4 m c t) (iblk m c 5 t) (k + 2) n
      = fullAt (zA m c) (stA m c) (bT t) (t.val % 4 * 512 + k) n := by
  obtain ⟨-, -, f⟩ := out_facts t
  unfold fAt fullAt
  by_cases h : k + 2 < 32
  · rw [if_pos h]
    by_cases h0 : t.val % 4 = 0
    · rw [if_pos (f.trans h0), if_pos (by omega), blk5]
      exact congrArg (fun q => stA m c (ix3 (bT t) q n)) (Fin.ext (by show (k + 2) % 32 = (t.val % 4 * 512 + k + 2) % 32; omega))
    · rw [if_neg (fun e => h0 (f.symm.trans e)), if_neg (by omega), blk3, blk4]
      have e : (⟨(16 * (t.val % 4) - 1) * 32 + (k + 2) % 32, by omega⟩ : Fin 2048) = ⟨(t.val % 4 * 512 + k - 30) % 2048, Nat.mod_lt _ (by decide)⟩ :=
        Fin.ext (by show (16 * (t.val % 4) - 1) * 32 + (k + 2) % 32 = (t.val % 4 * 512 + k - 30) % 2048; omega)
      unfold uAt
      rw [← e]
  · rw [if_neg h, if_neg (by omega), blk0, blk1]
    have e : sT t ⟨(k + 2 - 32) % 512, Nat.mod_lt _ (by decide)⟩ = ⟨(t.val % 4 * 512 + k - 30) % 2048, Nat.mod_lt _ (by decide)⟩ :=
      Fin.ext (by show t.val % 4 * 512 + (k + 2 - 32) % 512 = (t.val % 4 * 512 + k - 30) % 2048; omega)
    unfold uAt
    rw [← e]

end Cert.Proof.Cv
-- ==== Proof.CvFinal.lean ====
module
public import proofs.«01_k».proof.Proof.CvPoints

@[expose] public section

set_option maxRecDepth 65536

noncomputable section

/-! # The convolution's results after the run -/

namespace Cert.Proof.Cv

open Idealize.ShloMosaic Idealize.ShloMosaic.TcCoe Idealize.SL.Sem
open Idealize.ShloMosaic.Pipeline (Dat)
open Cert.ConvIdeal Cert.ConvIdeal.Gen

variable (m : (ℓ : Loc nD τ sig) → Buf (Elt Ideal) ℓ) (ρ : Dev nD → PrngReg)

/-- A sum of taps depends on its terms alone. -/
theorem taps_congr (g h : ℕ → EReal) : ∀ n : ℕ, (∀ j, j < n → g j = h j) → taps g n = taps h n
  | 0, _ => rfl
  | n + 1, e => by
    show taps g n + g n = taps h n + h n
    rw [taps_congr g h n (fun j hj => e j (by omega)), e n (by omega)]

/-- Row `j` of the weights' block. -/
theorem w_at (c : Dev nD) (t : Fin cfg0.N) (j : ℕ) (hj : j < 31) (k : Fin 512) :
    View.ld (iblk m c 6 t) (rectW j) (ix2 0 k) = wA m c (ix2 ⟨j % 31, Nat.mod_lt _ (by decide)⟩ k) := by
  have e := blk6 m c t ⟨j, by omega⟩ k
  have e2 := V_w m c ⟨j, hj⟩ k
  have hm : (⟨j % 31, Nat.mod_lt _ (by decide)⟩ : Fin 31) = ⟨j, hj⟩ := Fin.ext (Nat.mod_eq_of_lt hj)
  rw [hm, ← e2, ← e]
  refine congrArg (iblk m c 6 t) (funext fun a => ?_)
  match a with
  | ⟨0, _⟩ => exact Fin.ext (by show j % 32 + 1 * 0 = j; omega)
  | ⟨1, _⟩ => exact Fin.ext (by show 0 + 1 * k.val = k.val; omega)

/-- The tile of point `t`, of the projection, the carried rows and the weights. -/
theorem tile_at (c : Dev nD) (t : Fin cfg0.N) (v : View sig .tc .vmem S544x512 .f32) (v' : View sig .tc .vmem S7x536x512 .f32) (r n : Fin 512) :
    tileOf v v' (piecesF (grid0.coords t) (X0_0 m c t) (X0_1 m c t) (X0_3 m c t) (X0_4 m c t) (iblk m c 5 t)) (fun j => View.ld (iblk m c 6 t) (rectW j)) (X0_2 m c t)
        (iblk m c 7 t) (iblk m c 8 t) (iblk m c 9 t) (ix3 0 r n)
      = cvY (zA m c) (stA m c) (wA m c) (bdA m c) (lgA m c) (lbA m c) (ix3 (bT t) (sT t r) n) := by
  rw [tileOf_apply, blk8, blk9, blk2]
  show _ = swish (lnorm (fun k => taps (fun j => wA m c (ix2 ⟨j % 31, Nat.mod_lt _ (by decide)⟩ k) * fullAt (zA m c) (stA m c) (bT t) ((sT t r).val + j) k) 31 + bdA m c (ix1 k)) (lgA m c (ix1 n)) (lbA m c (ix1 n)) n)
    * swish (zA m c (ix3 (bT t) (sT t r) ⟨4096 + n.val, by omega⟩))
  refine congrArg (fun f => swish (lnorm f (lgA m c (ix1 n)) (lbA m c (ix1 n)) n) * swish (zA m c (ix3 (bT t) (sT t r) ⟨4096 + n.val, by omega⟩))) (funext fun k => ?_)
  rw [blk7]
  refine congrArg (fun s => s + bdA m c (ix1 k)) (taps_congr _ _ 31 fun j hj => ?_)
  beta_reduce
  rw [w_at m c t j hj k, ← Nat.add_assoc, fAt_eq m c t (r.val + j) (by omega) k, ← Nat.add_assoc]
  rfl

/-- An index of output 10's block at point `t`, placed in the output. -/
theorem emb10 (t : Fin cfg0.N) (r n : Fin 512) : ((cfg0.win 10).blk t).view.emb (ix3 0 r n) = ix3 (bT t) (sT t r) n := by
  obtain ⟨f, -⟩ := out_facts t
  unfold bT sT
  blk_ext [f.1, f.2.1, f.2.2]

/-- An index of output 11's block at point `t`, placed in the output. -/
theorem emb11 (t : Fin cfg0.N) (r : Fin 32) (n : Fin 512) : ((cfg0.win 11).blk t).view.emb (ix3 0 r n) = ix3 (bT t) r n := by
  obtain ⟨-, f, -⟩ := out_facts t
  unfold bT
  blk_ext [f.1, f.2.1, f.2.2]

/-- Point `t` writes its tile of the result. -/
theorem flushed_eq10 (c : Dev nD) (t : Fin cfg0.N) :
    (dats m 0 c).flushed 10 t = ((cfg0.win 10).blk t).view.read (Elt Ideal) (cvY (zA m c) (stA m c) (wA m c) (bdA m c) (lgA m c) (lbA m c)) := by
  by_cases h0 : t.val % 4 = 3
  · rw [Value.flushed10_B m c t h0, out_B_10]
    funext y
    obtain ⟨r, n, rfl⟩ : ∃ (r n : Fin 512), y = ix3 0 r n :=
      ⟨y 1, y 2, funext fun a => match a with | ⟨0, _⟩ => Fin.ext (by have : (y 0).val < 1 := (y 0).isLt; show (y 0).val = 0; omega) | ⟨1, _⟩ => rfl | ⟨2, _⟩ => rfl⟩
    refine (tile_at m c t _ _ r n).trans ?_
    exact congrArg (cvY (zA m c) (stA m c) (wA m c) (bdA m c) (lgA m c) (lbA m c)) (emb10 t r n).symm
  · rw [Value.flushed10_A m c t h0, out_A_10]
    funext y
    obtain ⟨r, n, rfl⟩ : ∃ (r n : Fin 512), y = ix3 0 r n :=
      ⟨y 1, y 2, funext fun a => match a with | ⟨0, _⟩ => Fin.ext (by have : (y 0).val < 1 := (y 0).isLt; show (y 0).val = 0; omega) | ⟨1, _⟩ => rfl | ⟨2, _⟩ => rfl⟩
    refine (tile_at m c t _ _ r n).trans ?_
    exact congrArg (cvY (zA m c) (stA m c) (wA m c) (bdA m c) (lgA m c) (lbA m c)) (emb10 t r n).symm

/-- The output array after the run. -/
theorem final10 (c : Dev nD) : (dats m 0 c).arrAt 10 cfg0.N = cvY (zA m c) (stA m c) (wA m c) (bdA m c) (lgA m c) (lbA m c) := by
  exact Dat.arrAt_eq_of_cover (dats m 0 c) 10 _ (fun t _ => flushed_eq10 m c t)
    ((by decide +kernel : (cfg0.win 10).Covers).cover _ (Memref.isWhole_whole _))

/-- A sequence's last tile writes its last rows. -/
theorem flushed_eq11 (c : Dev nD) (t : Fin cfg0.N) (h0 : t.val % 4 = 3) :
    (dats m 0 c).flushed 11 t = ((cfg0.win 11).blk t).view.read (Elt Ideal) (cvT (zA m c) (stA m c)) := by
  rw [Value.flushed11_B m c t h0, out_B_11]
  funext y
  obtain ⟨r, n, rfl⟩ : ∃ (r : Fin 32) (n : Fin 512), y = ix3 0 r n :=
    ⟨y 1, y 2, funext fun a => match a with | ⟨0, _⟩ => Fin.ext (by have : (y 0).val < 1 := (y 0).isLt; show (y 0).val = 0; omega) | ⟨1, _⟩ => rfl | ⟨2, _⟩ => rfl⟩
  refine Eq.trans ?_ (congrArg (cvT (zA m c) (stA m c)) (emb11 t r n).symm)
  refine (pay1_apply _ r n).trans ?_
  refine (readT _ _ _ _ _ _ _ r n).trans ?_
  refine (fAt_eq m c t (r.val + 510) (by omega) n).trans ?_
  refine congrArg (fun k => fullAt (zA m c) (stA m c) (bT t) k n) ?_
  show t.val % 4 * 512 + (r.val + 510) = r.val + 2046
  omega

/-- The carried rows' array after the run. -/
theorem final11 (c : Dev nD) : (dats m 0 c).arrAt 11 cfg0.N = cvT (zA m c) (stA m c) := by
  exact Dat.arrAt_eq_of_cover (dats m 0 c) 11 _ (fun t hf => flushed_eq11 m c t ((flush0_11 t).mp hf))
    ((by decide +kernel : (cfg0.win 11).Covers).cover _ (Memref.isWhole_whole _))

end Cert.Proof.Cv
-- ==== Proof.Conv.lean ====
module
public import proofs.«01_k».proof.Defs
public import proofs.«01_k».proof.Proof.CvFinal
public import proofs.«01_k».proof.Proof.Gen.ConvReferenceIdeal.Run

@[expose] public section

set_option maxRecDepth 65536

noncomputable section

/-! # The convolution: the kernel's results are the reference's -/

namespace Cert.Proof.Cv

open Idealize.ShloMosaic Idealize.ShloMosaic.TcCoe Idealize.SL.Sem
open Idealize.ShloMosaic.Pipeline (Dat)
open Cert.ConvIdeal Cert.ConvIdeal.Gen

/-- Both programs run, and their two results are equal. -/
theorem algebraic : Cert.algebraic_ConvIdeal_ConvReferenceIdeal (hConvIdeal := Cert.ConvIdeal.Gen.facts)
    (hConvReferenceIdeal := Cert.ConvReferenceIdeal.Gen.facts) := by
  intro m g m' g' _ hargs
  refine ⟨fun c => cvY (zA m c) (stA m c) (wA m c) (bdA m c) (lgA m c) (lbA m c), fun c => cvT (zA m c) (stA m c), ?_, ?_⟩
  · refine (θ_run _ _ _).mono (fun r h c => ?_) (Value.run_blocks (F := Ideal) m g)
    obtain ⟨h0, h1, h2⟩ := h c
    exact ⟨h0.trans (final10 m c), h1.trans (final11 m c), h2⟩
  · refine (θ_run _ _ _).mono (fun r h c => ?_) (Cert.ConvReferenceIdeal.Value.run (F := Ideal) m' g')
    obtain ⟨h0, h1, h2⟩ := h c
    obtain ⟨e0, e1, e2, e3, e4, e5⟩ := hargs c
    refine ⟨h0.trans ((Cert.ConvReferenceIdeal.Read.val_main_v259_eq _).trans ((refY _ _ _ _ _ _).trans ?_)),
      h1.trans ((Cert.ConvReferenceIdeal.Read.val_main_v260_eq _).trans ((refT _ _).trans ?_)), h2⟩
    · show cvY (m' ((c.tc : Thread Cert.ConvReferenceIdeal.nD Cert.ConvReferenceIdeal.τ).loc Cert.ConvReferenceIdeal.main_arg0)) (m' ((c.tc : Thread Cert.ConvReferenceIdeal.nD Cert.ConvReferenceIdeal.τ).loc Cert.ConvReferenceIdeal.main_arg1)) (m' ((c.tc : Thread Cert.ConvReferenceIdeal.nD Cert.ConvReferenceIdeal.τ).loc Cert.ConvReferenceIdeal.main_arg2)) (m' ((c.tc : Thread Cert.ConvReferenceIdeal.nD Cert.ConvReferenceIdeal.τ).loc Cert.ConvReferenceIdeal.main_arg3)) (m' ((c.tc : Thread Cert.ConvReferenceIdeal.nD Cert.ConvReferenceIdeal.τ).loc Cert.ConvReferenceIdeal.main_arg4)) (m' ((c.tc : Thread Cert.ConvReferenceIdeal.nD Cert.ConvReferenceIdeal.τ).loc Cert.ConvReferenceIdeal.main_arg5)) = _
      rw [e0, e1, e2, e3, e4, e5]
    · show cvT (m' ((c.tc : Thread Cert.ConvReferenceIdeal.nD Cert.ConvReferenceIdeal.τ).loc Cert.ConvReferenceIdeal.main_arg0)) (m' ((c.tc : Thread Cert.ConvReferenceIdeal.nD Cert.ConvReferenceIdeal.τ).loc Cert.ConvReferenceIdeal.main_arg1)) = _
      rw [e0, e1]

end Cert.Proof.Cv
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Step
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.InprojIdeal.Value
public import proofs.«01_k».proof.Proof.Gen.InprojReferenceIdeal
public import proofs.«01_k».proof.Proof.Gen.InprojReferenceIdeal.Run
public import proofs.«01_k».proof.Proof.Gen.InprojReferenceIdeal.Read
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeReferenceIdeal
public import proofs.«01_k».proof.Proof.Gen.MergeReferenceIdeal.Run
public import proofs.«01_k».proof.Proof.Gen.MergeReferenceIdeal.Read
public import proofs.«01_k».proof.Proof.Gen.Qkrope
public import proofs.«01_k».proof.Proof.Gen.Qkrope.Skeleton
public import proofs.«01_k».proof.Proof.Gen.Qkrope.Launch
public import proofs.«01_k».proof.Proof.Gen.Qkrope.Points
public import proofs.«01_k».proof.Proof.Gen.Qkrope.Frame
public import proofs.«01_k».proof.Proof.Gen.QkropeIdeal
public import proofs.«01_k».proof.Proof.Gen.QkropeIdeal.Skeleton
public import proofs.«01_k».proof.Proof.Gen.QkropeIdeal.Launch
public import proofs.«01_k».proof.Proof.Gen.QkropeIdeal.Points
public import proofs.«01_k».proof.Proof.Gen.QkropeIdeal.Frame
public import proofs.«01_k».proof.Proof.Gen.QkropeIdeal.Value
public import proofs.«01_k».proof.Proof.Gen.QkropeReferenceIdeal
public import proofs.«01_k».proof.Proof.Gen.QkropeReferenceIdeal.Run
public import proofs.«01_k».proof.Proof.Gen.QkropeReferenceIdeal.Read
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvIdeal.Value
public import proofs.«01_k».proof.Proof.Gen.ConvReferenceIdeal
public import proofs.«01_k».proof.Proof.Gen.ConvReferenceIdeal.Run
public import proofs.«01_k».proof.Proof.Gen.ConvReferenceIdeal.Read
public import proofs.«01_k».proof.Proof.Gen.Pre_lb_at_most_one
public import proofs.«01_k».proof.Proof.Gen.Pre_qk_is_finite
public import proofs.«01_k».proof.Proof.Hgrn
public import proofs.«01_k».proof.Proof.Inproj
public import proofs.«01_k».proof.Proof.Merge
public import proofs.«01_k».proof.Proof.Qkrope
public import proofs.«01_k».proof.Proof.Conv
public import Idealize.ShloMosaic.Adequacy
public import Idealize.ShloMosaic.Init

@[expose] public section

noncomputable section

namespace Cert.Proof

open Idealize.ShloMosaic Idealize.SL.Sem

/-- The reference of the recurrence runs, keeps its arguments and leaves every counter at zero. -/
theorem frame_reference : Cert.quiescent_ReferenceIdeal (hReferenceIdeal := Cert.ReferenceIdeal.Gen.facts) := fun m ρ _ =>
  (θ_run _ _ _).mono (fun r h => ⟨fun c => (h c).2.2, sem_eq_zero_of_no_sems (by decide) r.2⟩)
    (Cert.ReferenceIdeal.Value.run (F := Ideal) m ρ)

/-- The reference of the projection runs, keeps its arguments and leaves every counter at zero. -/
theorem frame_inprojReference : Cert.quiescent_InprojReferenceIdeal (hInprojReferenceIdeal := Cert.InprojReferenceIdeal.Gen.facts) := fun m ρ _ =>
  (θ_run _ _ _).mono (fun r h => ⟨fun c => (h c).2, sem_eq_zero_of_no_sems (by decide) r.2⟩)
    (Cert.InprojReferenceIdeal.Value.run (F := Ideal) m ρ)

/-- The reference of the merge runs, keeps its arguments and leaves every counter at zero. -/
theorem frame_mergeReference : Cert.quiescent_MergeReferenceIdeal (hMergeReferenceIdeal := Cert.MergeReferenceIdeal.Gen.facts) := fun m ρ _ =>
  (θ_run _ _ _).mono (fun r h => ⟨fun c => (h c).2, sem_eq_zero_of_no_sems (by decide) r.2⟩)
    (Cert.MergeReferenceIdeal.Value.run (F := Ideal) m ρ)

/-- The recurrence's reference, under the precondition on the shares. -/
theorem frame_reference_capped : Cert.quiescent_ReferenceIdeal_pre_lb_at_most_one (hReferenceIdeal := Cert.ReferenceIdeal.Gen.facts)
    (hPre_lb_at_most_one := Hgrn.preFacts) := fun m ρ _ =>
  (θ_run _ _ _).mono (fun r h => ⟨fun c => (h c).2.2, sem_eq_zero_of_no_sems (by decide) r.2⟩)
    (Cert.ReferenceIdeal.Value.run (F := Ideal) m ρ)

/-- The reference of the queries and keys runs, keeps its arguments and leaves every counter at zero. -/
theorem frame_qkropeReference : Cert.quiescent_QkropeReferenceIdeal (hQkropeReferenceIdeal := Cert.QkropeReferenceIdeal.Gen.facts) := fun m ρ _ =>
  (θ_run _ _ _).mono (fun r h => ⟨fun c => (h c).2.2.2.2.2.2.2.2, sem_eq_zero_of_no_sems (by decide) r.2⟩)
    (Cert.QkropeReferenceIdeal.Value.run (F := Ideal) m ρ)

/-- The queries' and keys' reference, under the precondition on the projection's columns. -/
theorem frame_qkropeReference_finite : Cert.quiescent_QkropeReferenceIdeal_pre_qk_is_finite
    (hQkropeReferenceIdeal := Cert.QkropeReferenceIdeal.Gen.facts) (hPre_qk_is_finite := Cert.Pre_qk_is_finite.Gen.facts) := fun m ρ _ =>
  (θ_run _ _ _).mono (fun r h => ⟨fun c => (h c).2.2.2.2.2.2.2.2, sem_eq_zero_of_no_sems (by decide) r.2⟩)
    (Cert.QkropeReferenceIdeal.Value.run (F := Ideal) m ρ)

/-- The reference of the convolution runs, keeps its arguments and leaves every counter at zero. -/
theorem frame_convReference : Cert.quiescent_ConvReferenceIdeal (hConvReferenceIdeal := Cert.ConvReferenceIdeal.Gen.facts) := fun m ρ _ =>
  (θ_run _ _ _).mono (fun r h => ⟨fun c => (h c).2.2, sem_eq_zero_of_no_sems (by decide) r.2⟩)
    (Cert.ConvReferenceIdeal.Value.run (F := Ideal) m ρ)

/-- The certificate. -/
theorem claim : Cert.Claim := ⟨Cert.Kernel.Gen.facts, Cert.KernelIdeal.Gen.facts, Cert.ReferenceIdeal.Gen.facts,
  Cert.Inproj.Gen.facts, Cert.InprojIdeal.Gen.facts, Cert.InprojReferenceIdeal.Gen.facts,
  Cert.Merge.Gen.facts, Cert.MergeIdeal.Gen.facts, Cert.MergeReferenceIdeal.Gen.facts,
  Cert.Qkrope.Gen.facts, Cert.QkropeIdeal.Gen.facts, Cert.QkropeReferenceIdeal.Gen.facts,
  Cert.Conv.Gen.facts, Cert.ConvIdeal.Gen.facts, Cert.ConvReferenceIdeal.Gen.facts, Hgrn.preFacts, Cert.Pre_qk_is_finite.Gen.facts,
  fun m ρ _ => Cert.Kernel.Gen.frame m ρ, fun m ρ _ => Cert.KernelIdeal.Gen.frame m ρ, fun m ρ _ => Cert.KernelIdeal.Gen.frame m ρ,
  frame_reference, frame_reference_capped,
  fun m ρ _ => Cert.Inproj.Gen.frame m ρ, fun m ρ _ => Cert.InprojIdeal.Gen.frame m ρ, frame_inprojReference,
  fun m ρ _ => Cert.Merge.Gen.frame m ρ, fun m ρ _ => Cert.MergeIdeal.Gen.frame m ρ, frame_mergeReference,
  fun m ρ _ => Cert.Qkrope.Gen.frame m ρ, fun m ρ _ => Cert.QkropeIdeal.Gen.frame m ρ, fun m ρ _ => Cert.QkropeIdeal.Gen.frame m ρ,
  frame_qkropeReference, frame_qkropeReference_finite,
  fun m ρ _ => Cert.Conv.Gen.frame m ρ, fun m ρ _ => Cert.ConvIdeal.Gen.frame m ρ, frame_convReference,
  trivial, Hgrn.algebraic, trivial, Inproj.algebraic, trivial, Merge.algebraic, trivial, Qk.algebraic,
  trivial, Cv.algebraic⟩

end Cert.Proof

end
